-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_heads_finite [hPre_heads_finite : Cert.Pre_heads_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_heads_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14)) (m ((c.tc : Thread Cert.Kernel3Ideal.nD Cert.Kernel3Ideal.τ).loc Cert.Kernel3Ideal.main_arg15)) (m ((c.tc : Thread Cert.Kernel3Ideal.nD Cert.Kernel3Ideal.τ).loc Cert.Kernel3Ideal.main_arg16)) (m ((c.tc : Thread Cert.Kernel3Ideal.nD Cert.Kernel3Ideal.τ).loc Cert.Kernel3Ideal.main_arg17)) (m ((c.tc : Thread Cert.Kernel3Ideal.nD Cert.Kernel3Ideal.τ).loc Cert.Kernel3Ideal.main_arg18)) (m ((c.tc : Thread Cert.Kernel3Ideal.nD Cert.Kernel3Ideal.τ).loc Cert.Kernel3Ideal.main_arg19)) (m ((c.tc : Thread Cert.Kernel3Ideal.nD Cert.Kernel3Ideal.τ).loc Cert.Kernel3Ideal.main_arg20))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_heads_finite [hPre_heads_finite : Cert.Pre_heads_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_heads_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14)) (m ((c.tc : Thread Cert.Reference3Ideal.nD Cert.Reference3Ideal.τ).loc Cert.Reference3Ideal.main_arg15)) (m ((c.tc : Thread Cert.Reference3Ideal.nD Cert.Reference3Ideal.τ).loc Cert.Reference3Ideal.main_arg16)) (m ((c.tc : Thread Cert.Reference3Ideal.nD Cert.Reference3Ideal.τ).loc Cert.Reference3Ideal.main_arg17)) (m ((c.tc : Thread Cert.Reference3Ideal.nD Cert.Reference3Ideal.τ).loc Cert.Reference3Ideal.main_arg18)) (m ((c.tc : Thread Cert.Reference3Ideal.nD Cert.Reference3Ideal.τ).loc Cert.Reference3Ideal.main_arg19)) (m ((c.tc : Thread Cert.Reference3Ideal.nD Cert.Reference3Ideal.τ).loc Cert.Reference3Ideal.main_arg20))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_inputs_finite [hPre_inputs_finite : Cert.Pre_inputs_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_inputs_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_inputs_finite [hPre_inputs_finite : Cert.Pre_inputs_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_inputs_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16)
      ∧ r.2.mem ((c.tc : Thread Cert.Kernel3.nD Cert.Kernel3.τ).loc Cert.Kernel3.main_arg17) = m ((c.tc : Thread Cert.Kernel3.nD Cert.Kernel3.τ).loc Cert.Kernel3.main_arg17)
      ∧ r.2.mem ((c.tc : Thread Cert.Kernel3.nD Cert.Kernel3.τ).loc Cert.Kernel3.main_arg18) = m ((c.tc : Thread Cert.Kernel3.nD Cert.Kernel3.τ).loc Cert.Kernel3.main_arg18)
      ∧ r.2.mem ((c.tc : Thread Cert.Kernel3.nD Cert.Kernel3.τ).loc Cert.Kernel3.main_arg19) = m ((c.tc : Thread Cert.Kernel3.nD Cert.Kernel3.τ).loc Cert.Kernel3.main_arg19)
      ∧ r.2.mem ((c.tc : Thread Cert.Kernel3.nD Cert.Kernel3.τ).loc Cert.Kernel3.main_arg20) = m ((c.tc : Thread Cert.Kernel3.nD Cert.Kernel3.τ).loc Cert.Kernel3.main_arg20))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
      ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
      ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18)
      ∧ r.2.mem ((c.tc : Thread Cert.Kernel3Ideal.nD Cert.Kernel3Ideal.τ).loc Cert.Kernel3Ideal.main_arg19) = m ((c.tc : Thread Cert.Kernel3Ideal.nD Cert.Kernel3Ideal.τ).loc Cert.Kernel3Ideal.main_arg19)
      ∧ r.2.mem ((c.tc : Thread Cert.Kernel3Ideal.nD Cert.Kernel3Ideal.τ).loc Cert.Kernel3Ideal.main_arg20) = m ((c.tc : Thread Cert.Kernel3Ideal.nD Cert.Kernel3Ideal.τ).loc Cert.Kernel3Ideal.main_arg20))
      ∧ r.2.sem = fun _ => 0)

def quiescent_Kernel3Ideal_pre_heads_finite [hKernel3Ideal : Cert.Kernel3Ideal.Facts] [hPre_heads_finite : Cert.Pre_heads_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_heads_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
      ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
      ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18)
      ∧ r.2.mem ((c.tc : Thread Cert.Kernel3Ideal.nD Cert.Kernel3Ideal.τ).loc Cert.Kernel3Ideal.main_arg19) = m ((c.tc : Thread Cert.Kernel3Ideal.nD Cert.Kernel3Ideal.τ).loc Cert.Kernel3Ideal.main_arg19)
      ∧ r.2.mem ((c.tc : Thread Cert.Kernel3Ideal.nD Cert.Kernel3Ideal.τ).loc Cert.Kernel3Ideal.main_arg20) = m ((c.tc : Thread Cert.Kernel3Ideal.nD Cert.Kernel3Ideal.τ).loc Cert.Kernel3Ideal.main_arg20))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16)
      ∧ r.2.mem ((c.tc : Thread Cert.Reference3Ideal.nD Cert.Reference3Ideal.τ).loc Cert.Reference3Ideal.main_arg17) = m ((c.tc : Thread Cert.Reference3Ideal.nD Cert.Reference3Ideal.τ).loc Cert.Reference3Ideal.main_arg17)
      ∧ r.2.mem ((c.tc : Thread Cert.Reference3Ideal.nD Cert.Reference3Ideal.τ).loc Cert.Reference3Ideal.main_arg18) = m ((c.tc : Thread Cert.Reference3Ideal.nD Cert.Reference3Ideal.τ).loc Cert.Reference3Ideal.main_arg18)
      ∧ r.2.mem ((c.tc : Thread Cert.Reference3Ideal.nD Cert.Reference3Ideal.τ).loc Cert.Reference3Ideal.main_arg19) = m ((c.tc : Thread Cert.Reference3Ideal.nD Cert.Reference3Ideal.τ).loc Cert.Reference3Ideal.main_arg19)
      ∧ r.2.mem ((c.tc : Thread Cert.Reference3Ideal.nD Cert.Reference3Ideal.τ).loc Cert.Reference3Ideal.main_arg20) = m ((c.tc : Thread Cert.Reference3Ideal.nD Cert.Reference3Ideal.τ).loc Cert.Reference3Ideal.main_arg20))
      ∧ r.2.sem = fun _ => 0)

def quiescent_Reference3Ideal_pre_heads_finite [hReference3Ideal : Cert.Reference3Ideal.Facts] [hPre_heads_finite : Cert.Pre_heads_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_heads_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16)
      ∧ r.2.mem ((c.tc : Thread Cert.Reference3Ideal.nD Cert.Reference3Ideal.τ).loc Cert.Reference3Ideal.main_arg17) = m ((c.tc : Thread Cert.Reference3Ideal.nD Cert.Reference3Ideal.τ).loc Cert.Reference3Ideal.main_arg17)
      ∧ r.2.mem ((c.tc : Thread Cert.Reference3Ideal.nD Cert.Reference3Ideal.τ).loc Cert.Reference3Ideal.main_arg18) = m ((c.tc : Thread Cert.Reference3Ideal.nD Cert.Reference3Ideal.τ).loc Cert.Reference3Ideal.main_arg18)
      ∧ r.2.mem ((c.tc : Thread Cert.Reference3Ideal.nD Cert.Reference3Ideal.τ).loc Cert.Reference3Ideal.main_arg19) = m ((c.tc : Thread Cert.Reference3Ideal.nD Cert.Reference3Ideal.τ).loc Cert.Reference3Ideal.main_arg19)
      ∧ r.2.mem ((c.tc : Thread Cert.Reference3Ideal.nD Cert.Reference3Ideal.τ).loc Cert.Reference3Ideal.main_arg20) = m ((c.tc : Thread Cert.Reference3Ideal.nD Cert.Reference3Ideal.τ).loc Cert.Reference3Ideal.main_arg20))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_inputs_finite [hKernel4Ideal : Cert.Kernel4Ideal.Facts] [hPre_inputs_finite : Cert.Pre_inputs_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_inputs_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_inputs_finite [hReference4Ideal : Cert.Reference4Ideal.Facts] [hPre_inputs_finite : Cert.Pre_inputs_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_inputs_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v200) = v0 c
          ∧ r.2.mem ((c.tc : Thread Cert.ReferenceIdeal.nD Cert.ReferenceIdeal.τ).loc Cert.ReferenceIdeal.main_v207) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v74) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal_pre_heads_finite [hKernel3Ideal : Cert.Kernel3Ideal.Facts] [hReference3Ideal : Cert.Reference3Ideal.Facts] [hPre_heads_finite : Cert.Pre_heads_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_heads_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)
      ∧ m' ((c.tc : Thread Cert.Reference3Ideal.nD Cert.Reference3Ideal.τ).loc Cert.Reference3Ideal.main_arg17) = m ((c.tc : Thread Cert.Kernel3Ideal.nD Cert.Kernel3Ideal.τ).loc Cert.Kernel3Ideal.main_arg17)
      ∧ m' ((c.tc : Thread Cert.Reference3Ideal.nD Cert.Reference3Ideal.τ).loc Cert.Reference3Ideal.main_arg18) = m ((c.tc : Thread Cert.Kernel3Ideal.nD Cert.Kernel3Ideal.τ).loc Cert.Kernel3Ideal.main_arg18)
      ∧ m' ((c.tc : Thread Cert.Reference3Ideal.nD Cert.Reference3Ideal.τ).loc Cert.Reference3Ideal.main_arg19) = m ((c.tc : Thread Cert.Kernel3Ideal.nD Cert.Kernel3Ideal.τ).loc Cert.Kernel3Ideal.main_arg19)
      ∧ m' ((c.tc : Thread Cert.Reference3Ideal.nD Cert.Reference3Ideal.τ).loc Cert.Reference3Ideal.main_arg20) = m ((c.tc : Thread Cert.Kernel3Ideal.nD Cert.Kernel3Ideal.τ).loc Cert.Kernel3Ideal.main_arg20)) →
    ∃ (v0 : (c : Dev Cert.Kernel3Ideal.nD) → Buf (Elt Ideal) ((c.tc : Thread Cert.Kernel3Ideal.nD Cert.Kernel3Ideal.τ).loc Cert.Kernel3Ideal.main_v23)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v23) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
          ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
          ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18)
          ∧ r.2.mem ((c.tc : Thread Cert.Kernel3Ideal.nD Cert.Kernel3Ideal.τ).loc Cert.Kernel3Ideal.main_arg19) = m ((c.tc : Thread Cert.Kernel3Ideal.nD Cert.Kernel3Ideal.τ).loc Cert.Kernel3Ideal.main_arg19)
          ∧ r.2.mem ((c.tc : Thread Cert.Kernel3Ideal.nD Cert.Kernel3Ideal.τ).loc Cert.Kernel3Ideal.main_arg20) = m ((c.tc : Thread Cert.Kernel3Ideal.nD Cert.Kernel3Ideal.τ).loc Cert.Kernel3Ideal.main_arg20))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v174) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16)
          ∧ r.2.mem ((c.tc : Thread Cert.Reference3Ideal.nD Cert.Reference3Ideal.τ).loc Cert.Reference3Ideal.main_arg17) = m' ((c.tc : Thread Cert.Reference3Ideal.nD Cert.Reference3Ideal.τ).loc Cert.Reference3Ideal.main_arg17)
          ∧ r.2.mem ((c.tc : Thread Cert.Reference3Ideal.nD Cert.Reference3Ideal.τ).loc Cert.Reference3Ideal.main_arg18) = m' ((c.tc : Thread Cert.Reference3Ideal.nD Cert.Reference3Ideal.τ).loc Cert.Reference3Ideal.main_arg18)
          ∧ r.2.mem ((c.tc : Thread Cert.Reference3Ideal.nD Cert.Reference3Ideal.τ).loc Cert.Reference3Ideal.main_arg19) = m' ((c.tc : Thread Cert.Reference3Ideal.nD Cert.Reference3Ideal.τ).loc Cert.Reference3Ideal.main_arg19)
          ∧ r.2.mem ((c.tc : Thread Cert.Reference3Ideal.nD Cert.Reference3Ideal.τ).loc Cert.Reference3Ideal.main_arg20) = m' ((c.tc : Thread Cert.Reference3Ideal.nD Cert.Reference3Ideal.τ).loc Cert.Reference3Ideal.main_arg20))

def preserves_Kernel4_Kernel4Ideal : Prop :=
  True

def algebraic_Kernel4Ideal_Reference4Ideal_pre_inputs_finite [hKernel4Ideal : Cert.Kernel4Ideal.Facts] [hReference4Ideal : Cert.Reference4Ideal.Facts] [hPre_inputs_finite : Cert.Pre_inputs_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_inputs_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v8_0)) (v1 : (c : Dev Cert.Kernel4Ideal.nD) → Buf (Elt Ideal) ((c.tc : Thread Cert.Kernel4Ideal.nD Cert.Kernel4Ideal.τ).loc Cert.Kernel4Ideal.main_v8_1)) (v2 : (c : Dev Cert.Kernel4Ideal.nD) → Buf (Elt Ideal) ((c.tc : Thread Cert.Kernel4Ideal.nD Cert.Kernel4Ideal.τ).loc Cert.Kernel4Ideal.main_v8_2)) (v3 : (c : Dev Cert.Kernel4Ideal.nD) → Buf (Elt Ideal) ((c.tc : Thread Cert.Kernel4Ideal.nD Cert.Kernel4Ideal.τ).loc Cert.Kernel4Ideal.main_v8_3)) (v4 : (c : Dev Cert.Kernel4Ideal.nD) → Buf (Elt Ideal) ((c.tc : Thread Cert.Kernel4Ideal.nD Cert.Kernel4Ideal.τ).loc Cert.Kernel4Ideal.main_v8_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8_0) = v0 c
          ∧ r.2.mem ((c.tc : Thread Cert.Kernel4Ideal.nD Cert.Kernel4Ideal.τ).loc Cert.Kernel4Ideal.main_v8_1) = v1 c
          ∧ r.2.mem ((c.tc : Thread Cert.Kernel4Ideal.nD Cert.Kernel4Ideal.τ).loc Cert.Kernel4Ideal.main_v8_2) = v2 c
          ∧ r.2.mem ((c.tc : Thread Cert.Kernel4Ideal.nD Cert.Kernel4Ideal.τ).loc Cert.Kernel4Ideal.main_v8_3) = v3 c
          ∧ r.2.mem ((c.tc : Thread Cert.Kernel4Ideal.nD Cert.Kernel4Ideal.τ).loc Cert.Kernel4Ideal.main_v8_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v173) = v0 c
          ∧ r.2.mem ((c.tc : Thread Cert.Reference4Ideal.nD Cert.Reference4Ideal.τ).loc Cert.Reference4Ideal.main_v169) = v1 c
          ∧ r.2.mem ((c.tc : Thread Cert.Reference4Ideal.nD Cert.Reference4Ideal.τ).loc Cert.Reference4Ideal.main_v170) = v2 c
          ∧ r.2.mem ((c.tc : Thread Cert.Reference4Ideal.nD Cert.Reference4Ideal.τ).loc Cert.Reference4Ideal.main_v174) = v3 c
          ∧ r.2.mem ((c.tc : Thread Cert.Reference4Ideal.nD Cert.Reference4Ideal.τ).loc Cert.Reference4Ideal.main_v175) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_heads_finite : Cert.Pre_heads_finite.Facts) (hPre_inputs_finite : Cert.Pre_inputs_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_heads_finite (hKernel3Ideal := hKernel3Ideal) (hPre_heads_finite := hPre_heads_finite)
    ∧ quiescent_Reference3Ideal (hReference3Ideal := hReference3Ideal)
    ∧ quiescent_Reference3Ideal_pre_heads_finite (hReference3Ideal := hReference3Ideal) (hPre_heads_finite := hPre_heads_finite)
    ∧ quiescent_Kernel4 (hKernel4 := hKernel4)
    ∧ quiescent_Kernel4Ideal (hKernel4Ideal := hKernel4Ideal)
    ∧ quiescent_Kernel4Ideal_pre_inputs_finite (hKernel4Ideal := hKernel4Ideal) (hPre_inputs_finite := hPre_inputs_finite)
    ∧ quiescent_Reference4Ideal (hReference4Ideal := hReference4Ideal)
    ∧ quiescent_Reference4Ideal_pre_inputs_finite (hReference4Ideal := hReference4Ideal) (hPre_inputs_finite := hPre_inputs_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_heads_finite (hKernel3Ideal := hKernel3Ideal) (hReference3Ideal := hReference3Ideal) (hPre_heads_finite := hPre_heads_finite)
    ∧ preserves_Kernel4_Kernel4Ideal
    ∧ algebraic_Kernel4Ideal_Reference4Ideal_pre_inputs_finite (hKernel4Ideal := hKernel4Ideal) (hReference4Ideal := hReference4Ideal) (hPre_inputs_finite := hPre_inputs_finite)
-- ==== Pre_heads_finite.lean ====
abbrev S4x4352x1024 : Shape := ⟨3, ![4, 4352, 1024]⟩
abbrev S4x4352x3456 : Shape := ⟨3, ![4, 4352, 3456]⟩
abbrev S4x4352x2048 : Shape := ⟨3, ![4, 4352, 2048]⟩
abbrev S4x2x9x1024 : Shape := ⟨4, ![4, 2, 9, 1024]⟩
abbrev S1x16x64 : Shape := ⟨3, ![1, 16, 64]⟩
abbrev S1x1024 : Shape := ⟨2, ![1, 1024]⟩
abbrev S1x128x1024 : Shape := ⟨3, ![1, 128, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1024 : Shape := ⟨1, ![1024]⟩
abbrev S4x4096x1024 : Shape := ⟨3, ![4, 4096, 1024]⟩
abbrev S_ : Shape := ⟨0, ![]⟩
abbrev S1x1x1024 : Shape := ⟨3, ![1, 1, 1024]⟩

class Facts : Prop where
  slices_S4x4352x1024_S4x4096x1024_0_256_0 : S4x4352x1024.Slices ![0, 256, 0] S4x4096x1024
  bitsLt_bf16_f32 : FTy.bits .bf16 < FTy.bits .f32
  bcast_S_S4x4096x1024 : S_.BroadcastsInDim S4x4096x1024 (![] : Fin 0 → Fin S4x4096x1024.rank)
  slices_S4x4352x3456_S4x4096x1024_0_256_0 : S4x4352x3456.Slices ![0, 256, 0] S4x4096x1024
  slices_S4x4352x3456_S4x4096x1024_0_256_1024 : S4x4352x3456.Slices ![0, 256, 1024] S4x4096x1024
  shapeCasts_S1x16x64_S1x1x1024 : S1x16x64.ShapeCasts S1x1x1024
  bcast_S_S1x1x1024 : S_.BroadcastsInDim S1x1x1024 (![] : Fin 0 → Fin S1x1x1024.rank)
  bcast_S1x1x1024_S4x4096x1024_0_1_2 : S1x1x1024.BroadcastsInDim S4x4096x1024 (![0, 1, 2] : Fin 3 → Fin S4x4096x1024.rank)

variable [Facts]

def fn_part1 {F : FTy → Type} [FloatOps F] (main_arg9 : FVec F S1x16x64 .f32) (main_v16 : IVec S4x4096x1024 1) (main_v19 : FVec F S4x4096x1024 .f32) (main_cst_2 : FVec F S_ .f32) : IVec S4x4096x1024 1 :=
  let main_v20 : FVec F S4x4096x1024 .f32 := broadcastInDim S4x4096x1024 ![] bcast_S_S4x4096x1024 main_cst_2
  let main_v21 : IVec S4x4096x1024 1 := cmpf .olt main_v19 main_v20
  let main_v22 : IVec S4x4096x1024 1 := andi main_v16 main_v21
  let main_v23 : FVec F S1x1x1024 .f32 := shapeCast S1x1x1024 main_arg9 shapeCasts_S1x16x64_S1x1x1024
  let main_v24 : FVec F S1x1x1024 .f32 := Host.absf main_v23
  let main_cst_3 : FVec F S_ .f32 := constant S_ .f32 0x7F800000#32
  let main_v25 : FVec F S1x1x1024 .f32 := broadcastInDim S1x1x1024 ![] bcast_S_S1x1x1024 main_cst_3
  let main_v26 : IVec S1x1x1024 1 := cmpf .olt main_v24 main_v25
  let main_v27 : IVec S4x4096x1024 1 := broadcastInDim S4x4096x1024 ![0, 1, 2] bcast_S1x1x1024_S4x4096x1024_0_1_2 main_v26
  let main_v28 : IVec S4x4096x1024 1 := andi main_v22 main_v27
  main_v28

def fn {F : FTy → Type} [FloatOps F] (main_arg0 : FVec F S4x4352x1024 .bf16) (main_arg1 : FVec F S4x4352x1024 .bf16) (main_arg2 : FVec F S4x4352x3456 .bf16) (main_arg3 : FVec F S4x4352x1024 .f32) (main_arg4 : FVec F S4x4352x1024 .f32) (main_arg5 : FVec F S4x4352x1024 .bf16) (main_arg6 : FVec F S4x4352x2048 .bf16) (main_arg7 : FVec F S4x4352x1024 .f32) (main_arg8 : FVec F S4x2x9x1024 .f32) (main_arg9 : FVec F S1x16x64 .f32) (main_arg10 : FVec F S1x1024 .f32) (main_arg11 : FVec F S1x1024 .f32) (main_arg12 : FVec F S1x128x1024 .f32) (main_arg13 : FVec F S1x1024x1024 .f32) (main_arg14 : FVec F S1x1024x1024 .f32) (main_arg15 : FVec F S1x1024x1024 .f32) (main_arg16 : FVec F S1x1024 .f32) (main_arg17 : FVec F S1x1024x2816 .f32) (main_arg18 : FVec F S1x1024x2816 .f32) (main_arg19 : FVec F S1x2816x1024 .f32) (main_arg20 : FVec F S1024 .f32) : IVec S4x4096x1024 1 :=
  let main_v0 : FVec F S4x4096x1024 .bf16 := (extractStridedSlice S4x4096x1024 ![0, 256, 0] · slices_S4x4352x1024_S4x4096x1024_0_256_0) main_arg0
  let main_v1 : FVec F S4x4096x1024 .f32 := (extf .f32 · bitsLt_bf16_f32) main_v0
  let main_v2 : FVec F S4x4096x1024 .f32 := Host.absf main_v1
  let main_cst : FVec F S_ .f32 := constant S_ .f32 0x7F800000#32
  let main_v3 : FVec F S4x4096x1024 .f32 := broadcastInDim S4x4096x1024 ![] bcast_S_S4x4096x1024 main_cst
  let main_v4 : IVec S4x4096x1024 1 := cmpf .olt main_v2 main_v3
  let main_v5 : FVec F S4x4096x1024 .bf16 := (extractStridedSlice S4x4096x1024 ![0, 256, 0] · slices_S4x4352x1024_S4x4096x1024_0_256_0) main_arg1
  let main_v6 : FVec F S4x4096x1024 .f32 := (extf .f32 · bitsLt_bf16_f32) main_v5
  let main_v7 : FVec F S4x4096x1024 .f32 := Host.absf main_v6
  let main_cst_0 : FVec F S_ .f32 := constant S_ .f32 0x7F800000#32
  let main_v8 : FVec F S4x4096x1024 .f32 := broadcastInDim S4x4096x1024 ![] bcast_S_S4x4096x1024 main_cst_0
  let main_v9 : IVec S4x4096x1024 1 := cmpf .olt main_v7 main_v8
  let main_v10 : IVec S4x4096x1024 1 := andi main_v4 main_v9
  let main_v11 : FVec F S4x4096x1024 .bf16 := (extractStridedSlice S4x4096x1024 ![0, 256, 0] · slices_S4x4352x3456_S4x4096x1024_0_256_0) main_arg2
  let main_v12 : FVec F S4x4096x1024 .f32 := (extf .f32 · bitsLt_bf16_f32) main_v11
  let main_v13 : FVec F S4x4096x1024 .f32 := Host.absf main_v12
  let main_cst_1 : FVec F S_ .f32 := constant S_ .f32 0x7F800000#32
  let main_v14 : FVec F S4x4096x1024 .f32 := broadcastInDim S4x4096x1024 ![] bcast_S_S4x4096x1024 main_cst_1
  let main_v15 : IVec S4x4096x1024 1 := cmpf .olt main_v13 main_v14
  let main_v16 : IVec S4x4096x1024 1 := andi main_v10 main_v15
  let main_v17 : FVec F S4x4096x1024 .bf16 := (extractStridedSlice S4x4096x1024 ![0, 256, 1024] · slices_S4x4352x3456_S4x4096x1024_0_256_1024) main_arg2
  let main_v18 : FVec F S4x4096x1024 .f32 := (extf .f32 · bitsLt_bf16_f32) main_v17
  let main_v19 : FVec F S4x4096x1024 .f32 := Host.absf main_v18
  let main_cst_2 : FVec F S_ .f32 := constant S_ .f32 0x7F800000#32
  fn_part1 (F := F) main_arg9 main_v16 main_v19 main_cst_2
-- ==== Pre_inputs_finite.lean ====
abbrev S4x4352x1024 : Shape := ⟨3, ![4, 4352, 1024]⟩
abbrev S4x2x9x1024 : Shape := ⟨4, ![4, 2, 9, 1024]⟩
abbrev S1x1024 : Shape := ⟨2, ![1, 1024]⟩
abbrev S1x1024x7552 : Shape := ⟨3, ![1, 1024, 7552]⟩
abbrev S1x3456 : Shape := ⟨2, ![1, 3456]⟩
abbrev S_ : Shape := ⟨0, ![]⟩

class Facts : Prop where
  bcast_S_S4x4352x1024 : S_.BroadcastsInDim S4x4352x1024 (![] : Fin 0 → Fin S4x4352x1024.rank)
  reducesTo_S4x4352x1024_S_d0_1_2 : S4x4352x1024.ReducesTo [0, 1, 2] S_
  h_S_ : 0 < S_.numel
  bcast_S_S4x2x9x1024 : S_.BroadcastsInDim S4x2x9x1024 (![] : Fin 0 → Fin S4x2x9x1024.rank)
  reducesTo_S4x2x9x1024_S_d0_1_2_3 : S4x2x9x1024.ReducesTo [0, 1, 2, 3] S_
  bcast_S_S1x1024 : S_.BroadcastsInDim S1x1024 (![] : Fin 0 → Fin S1x1024.rank)
  reducesTo_S1x1024_S_d0_1 : S1x1024.ReducesTo [0, 1] S_
  bcast_S_S1x1024x7552 : S_.BroadcastsInDim S1x1024x7552 (![] : Fin 0 → Fin S1x1024x7552.rank)
  reducesTo_S1x1024x7552_S_d0_1_2 : S1x1024x7552.ReducesTo [0, 1, 2] S_
  bcast_S_S1x3456 : S_.BroadcastsInDim S1x3456 (![] : Fin 0 → Fin S1x3456.rank)
  reducesTo_S1x3456_S_d0_1 : S1x3456.ReducesTo [0, 1] S_

variable [Facts]

def fn_part1 {F : FTy → Type} [FloatOps F] (main_arg4 : FVec F S1x3456 .f32) (main_arg5 : FVec F S1x1024 .f32) (main_v13 : IVec S_ 1) (main_v16 : IVec S1x1024x7552 1) : IVec S_ 1 :=
  let main_c_5 : IVec S_ 1 := constantI S_ 1 1#1
  let main_v17 : IVec S_ 1 := (fun x v => Host.reduce IntOp.andi x v reducesTo_S1x1024x7552_S_d0_1_2 h_S_) main_v16 main_c_5
  let main_v18 : IVec S_ 1 := andi main_v13 main_v17
  let main_v19 : FVec F S1x3456 .f32 := Host.absf main_arg4
  let main_cst_6 : FVec F S_ .f32 := constant S_ .f32 0x7F800000#32
  let main_v20 : FVec F S1x3456 .f32 := broadcastInDim S1x3456 ![] bcast_S_S1x3456 main_cst_6
  let main_v21 : IVec S1x3456 1 := cmpf .olt main_v19 main_v20
  let main_c_7 : IVec S_ 1 := constantI S_ 1 1#1
  let main_v22 : IVec S_ 1 := (fun x v => Host.reduce IntOp.andi x v reducesTo_S1x3456_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  main_v28

def fn {F : FTy → Type} [FloatOps F] (main_arg0 : FVec F S4x4352x1024 .f32) (main_arg1 : FVec F S4x2x9x1024 .f32) (main_arg2 : FVec F S1x1024 .f32) (main_arg3 : FVec F S1x1024x7552 .f32) (main_arg4 : FVec F S1x3456 .f32) (main_arg5 : FVec F S1x1024 .f32) : IVec S_ 1 :=
  let main_v0 : FVec F S4x4352x1024 .f32 := Host.absf main_arg0
  let main_cst : FVec F S_ .f32 := constant S_ .f32 0x7F800000#32
  let main_v1 : FVec F S4x4352x1024 .f32 := broadcastInDim S4x4352x1024 ![] bcast_S_S4x4352x1024 main_cst
  let main_v2 : IVec S4x4352x1024 1 := cmpf .olt main_v0 main_v1
  let main_c : IVec S_ 1 := constantI S_ 1 1#1
  let main_v3 : IVec S_ 1 := (fun x v => Host.reduce IntOp.andi x v reducesTo_S4x4352x1024_S_d0_1_2 h_S_) main_v2 main_c
  let main_v4 : FVec F S4x2x9x1024 .f32 := Host.absf main_arg1
  let main_cst_0 : FVec F S_ .f32 := constant S_ .f32 0x7F800000#32
  let main_v5 : FVec F S4x2x9x1024 .f32 := broadcastInDim S4x2x9x1024 ![] bcast_S_S4x2x9x1024 main_cst_0
  let main_v6 : IVec S4x2x9x1024 1 := cmpf .olt main_v4 main_v5
  let main_c_1 : IVec S_ 1 := constantI S_ 1 1#1
  let main_v7 : IVec S_ 1 := (fun x v => Host.reduce IntOp.andi x v reducesTo_S4x2x9x1024_S_d0_1_2_3 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024x7552 .f32 := Host.absf main_arg3
  let main_cst_4 : FVec F S_ .f32 := constant S_ .f32 0x7F800000#32
  let main_v15 : FVec F S1x1024x7552 .f32 := broadcastInDim S1x1024x7552 ![] bcast_S_S1x1024x7552 main_cst_4
  let main_v16 : IVec S1x1024x7552 1 := cmpf .olt main_v14 main_v15
  fn_part1 (F := F) main_arg4 main_arg5 main_v13 main_v16
-- ==== Kernel.lean ====
abbrev S4x4352x1024 : Shape := ⟨3, ![4, 4352, 1024]⟩
abbrev S1x4x1024 : Shape := ⟨3, ![1, 4, 1024]⟩
abbrev S1x1024 : Shape := ⟨2, ![1, 1024]⟩
abbrev S1x2x1024 : Shape := ⟨3, ![1, 2, 1024]⟩
abbrev S1x2x4x256x256 : Shape := ⟨5, ![1, 2, 4, 256, 256]⟩
abbrev S4x1024 : Shape := ⟨2, ![4, 1024]⟩
abbrev S1024 : Shape := ⟨1, ![1024]⟩
abbrev S2x1024 : Shape := ⟨2, ![2, 1024]⟩
abbrev S2x1x1024 : Shape := ⟨3, ![2, 1, 1024]⟩
abbrev S2x4x256x256 : Shape := ⟨4, ![2, 4, 256, 256]⟩
abbrev S1x256x1024 : Shape := ⟨3, ![1, 256, 1024]⟩
abbrev S1x8x1024 : Shape := ⟨3, ![1, 8, 1024]⟩
abbrev S8x1024 : Shape := ⟨2, ![8, 1024]⟩
abbrev S256x1024 : Shape := ⟨2, ![256, 1024]⟩
abbrev S272x1024 : Shape := ⟨2, ![272, 1024]⟩
abbrev S256x256 : Shape := ⟨2, ![256, 256]⟩
abbrev S1x4x256x256 : Shape := ⟨4, ![1, 4, 256, 256]⟩
abbrev S1x1x256x256 : Shape := ⟨4, ![1, 1, 256, 256]⟩
abbrev S1x1x1024 : Shape := ⟨3, ![1, 1, 1024]⟩

abbrev nBuf : Space → Nat
  | .hbm => 23
  | .vmem => 29
  | .smem => 0
  | _ => 0

abbrev bufTy : (tb : Table) → Fin (tcTables nBuf tb) → BufTy
  | .hbm, ⟨0, _⟩ => ⟨S4x4352x1024, .f32⟩
  | .hbm, ⟨1, _⟩ => ⟨S1x4x1024, .f32⟩
  | .hbm, ⟨2, _⟩ => ⟨S1x1024, .f32⟩
  | .hbm, ⟨3, _⟩ => ⟨S1x2x1024, .f32⟩
  | .hbm, ⟨4, _⟩ => ⟨S1x2x4x256x256, .f32⟩
  | .hbm, ⟨5, _⟩ => ⟨S1x2x1024, .f32⟩
  | .hbm, ⟨6, _⟩ => ⟨S1x2x4x256x256, .f32⟩
  | .hbm, ⟨7, _⟩ => ⟨S1x2x1024, .f32⟩
  | .hbm, ⟨8, _⟩ => ⟨S4x1024, .f32⟩
  | .hbm, ⟨9, _⟩ => ⟨S1024, .f32⟩
  | .hbm, ⟨10, _⟩ => ⟨S1x1024, .f32⟩
  | .hbm, ⟨11, _⟩ => ⟨S2x1024, .f32⟩
  | .hbm, ⟨12, _⟩ => ⟨S2x1x1024, .f32⟩
  | .hbm, ⟨13, _⟩ => ⟨S2x4x256x256, .f32⟩
  | .hbm, ⟨14, _⟩ => ⟨S2x4x256x256, .bf16⟩
  | .hbm, ⟨15, _⟩ => ⟨S2x1024, .f32⟩
  | .hbm, ⟨16, _⟩ => ⟨S2x1x1024, .f32⟩
  | .hbm, ⟨17, _⟩ => ⟨S2x4x256x256, .f32⟩
  | .hbm, ⟨18, _⟩ => ⟨S2x4x256x256, .bf16⟩
  | .hbm, ⟨19, _⟩ => ⟨S2x1024, .f32⟩
  | .hbm, ⟨20, _⟩ => ⟨S2x1x1024, .f32⟩
  | .hbm, ⟨21, _⟩ => ⟨S4x4352x1024, .f32⟩
  | .hbm, ⟨22, _⟩ => ⟨S4x4352x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x8x1024, .f32⟩
  | .local _ .vmem, ⟨9, _⟩ => ⟨S1x8x1024, .f32⟩
  | .local _ .vmem, ⟨10, _⟩ => ⟨S1x8x1024, .f32⟩
  | .local _ .vmem, ⟨11, _⟩ => ⟨S1x8x1024, .f32⟩
  | .local _ .vmem, ⟨12, _⟩ => ⟨S4x1024, .f32⟩
  | .local _ .vmem, ⟨13, _⟩ => ⟨S1x1024, .f32⟩
  | .local _ .vmem, ⟨14, _⟩ => ⟨S2x1x1024, .f32⟩
  | .local _ .vmem, ⟨15, _⟩ => ⟨S2x4x256x256, .bf16⟩
  | .local _ .vmem, ⟨16, _⟩ => ⟨S2x1x1024, .f32⟩
  | .local _ .vmem, ⟨17, _⟩ => ⟨S2x4x256x256, .bf16⟩
  | .local _ .vmem, ⟨18, _⟩ => ⟨S2x1x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | .local _ .vmem, ⟨22, _⟩ => ⟨S1x256x1024, .f32⟩
  | .local _ .vmem, ⟨23, _⟩ => ⟨S8x1024, .f32⟩
  | .local _ .vmem, ⟨24, _⟩ => ⟨S8x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | _, _ => ⟨S4x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![4, 17], ![false, false]⟩

@[reducible] def k0_t1_loop : Scf.Loop 32 :=
  let c0_i32_119 : BitVec 32 := 0#32
  let c32_i32 : BitVec 32 := 32#32
  let v146 : BitVec 32 := Scalar.addi c0_i32_119 c32_i32
  let c1_i32_120 : BitVec 32 := 1#32
  ⟨c0_i32_119, v146, c1_i32_120⟩
def k0_mult1 (k0_t1 : Fin k0_t1_loop.trips) : BitVec 32 :=
  let c0_i32_119 : BitVec 32 := 0#32
  let c1_i32_120 : BitVec 32 := 1#32
  let arg23 : BitVec 32 := Scf.iv c0_i32_119 c1_i32_120 k0_t1
  let c8_i32 : BitVec 32 := 8#32
  let v306 : BitVec 32 := Scalar.muli arg23 c8_i32
  v306
def k0_off1 (k0_t1 : Fin k0_t1_loop.trips) : Fin 2 → Nat :=
  let c0_i32_119 : BitVec 32 := 0#32
  let c1_i32_120 : BitVec 32 := 1#32
  let arg23 : BitVec 32 := Scf.iv c0_i32_119 c1_i32_120 k0_t1
  let c8_i32 : BitVec 32 := 8#32
  let v306 : BitVec 32 := Scalar.muli arg23 c8_i32
  let v307 : BitVec 32 := v306
  let v308 : Index := Scalar.indexCast v307
  let c0_262 : Index := 0#32
  ![v308.toNat, 0]
def k0_off2 (k0_t1 : Fin k0_t1_loop.trips) : Fin 3 → Nat :=
  let c0_272 : Index := 0#32
  let c0_i32_119 : BitVec 32 := 0#32
  let c1_i32_120 : BitVec 32 := 1#32
  let arg23 : BitVec 32 := Scf.iv c0_i32_119 c1_i32_120 k0_t1
  let c8_i32 : BitVec 32 := 8#32
  let v306 : BitVec 32 := Scalar.muli arg23 c8_i32
  let v307 : BitVec 32 := v306
  let v341 : Index := Scalar.indexCast v307
  let c0_273 : Index := 0#32
  ![0, v341.toNat, 0]
@[reducible] def k0_t2_loop : Scf.Loop 32 :=
  let c0_i32_256 : BitVec 32 := 0#32
  let c32_i32_257 : BitVec 32 := 32#32
  let v301 : BitVec 32 := Scalar.addi c0_i32_256 c32_i32_257
  let c1_i32_258 : BitVec 32 := 1#32
  ⟨c0_i32_256, v301, c1_i32_258⟩
def k0_mult2 (k0_t2 : Fin k0_t2_loop.trips) : BitVec 32 :=
  let c31_i32 : BitVec 32 := 31#32
  let c0_i32_256 : BitVec 32 := 0#32
  let c1_i32_258 : BitVec 32 := 1#32
  let arg23 : BitVec 32 := Scf.iv c0_i32_256 c1_i32_258 k0_t2
  let v306 : BitVec 32 := Scalar.subi c31_i32 arg23
  let c8_i32 : BitVec 32 := 8#32
  let v307 : BitVec 32 := Scalar.muli v306 c8_i32
  v307
def k0_off3 (k0_t2 : Fin k0_t2_loop.trips) : Fin 2 → Nat :=
  let c31_i32 : BitVec 32 := 31#32
  let c0_i32_256 : BitVec 32 := 0#32
  let c1_i32_258 : BitVec 32 := 1#32
  let arg23 : BitVec 32 := Scf.iv c0_i32_256 c1_i32_258 k0_t2
  let v306 : BitVec 32 := Scalar.subi c31_i32 arg23
  let c8_i32 : BitVec 32 := 8#32
  let v307 : BitVec 32 := Scalar.muli v306 c8_i32
  let v308 : BitVec 32 := v307
  let v309 : Index := Scalar.indexCast v308
  let c0_262 : Index := 0#32
  ![v309.toNat, 0]
def k0_off4 (k0_t2 : Fin k0_t2_loop.trips) : Fin 3 → Nat :=
  let c0_270 : Index := 0#32
  let c31_i32 : BitVec 32 := 31#32
  let c0_i32_256 : BitVec 32 := 0#32
  let c1_i32_258 : BitVec 32 := 1#32
  let arg23 : BitVec 32 := Scf.iv c0_i32_256 c1_i32_258 k0_t2
  let v306 : BitVec 32 := Scalar.subi c31_i32 arg23
  let c8_i32 : BitVec 32 := 8#32
  let v307 : BitVec 32 := Scalar.muli v306 c8_i32
  let v308 : BitVec 32 := v307
  let v342 : Index := Scalar.indexCast v308
  let c0_271 : Index := 0#32
  ![0, v342.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c543_i32 : BitVec 32 := 543#32
  let v2 : BitVec 32 := Scalar.minsi v1 c543_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c0_i32 : BitVec 32 := 0#32
  let v1 : BitVec 32 := Scalar.subi c0_i32 arg1
  let c17_i32 : BitVec 32 := 17#32
  let v2 : BitVec 32 := Scalar.subi c17_i32 arg1
  let v3 : BitVec 32 := Scalar.select v0 v1 v2
  let c0_i32_0 : BitVec 32 := 0#32
  let c0_i32_1 : BitVec 32 := 0#32
  ![arg0.toNat, v3.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c0_i32 : BitVec 32 := 0#32
  let v1 : BitVec 32 := Scalar.subi c0_i32 arg1
  let c17_i32 : BitVec 32 := 17#32
  let v2 : BitVec 32 := Scalar.subi c17_i32 arg1
  let v3 : BitVec 32 := Scalar.select v0 v1 v2
  let c32_i32 : BitVec 32 := 32#32
  let v4 : BitVec 32 := Scalar.muli v3 c32_i32
  let c1_i32_0 : BitVec 32 := 1#32
  let v5 : BitVec 32 := Scalar.subi v4 c1_i32_0
  let c0_i32_1 : BitVec 32 := 0#32
  let v6 : BitVec 32 := Scalar.maxsi v5 c0_i32_1
  let c0_i32_2 : BitVec 32 := 0#32
  let c0_i32_3 : BitVec 32 := 0#32
  ![arg0.toNat, v6.toNat, c0_i32_2.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c0_i32 : BitVec 32 := 0#32
  let v1 : BitVec 32 := Scalar.subi c0_i32 arg1
  let c17_i32 : BitVec 32 := 17#32
  let v2 : BitVec 32 := Scalar.subi c17_i32 arg1
  let v3 : BitVec 32 := Scalar.select v0 v1 v2
  let c1_i32_0 : BitVec 32 := 1#32
  let v4 : BitVec 32 := Scalar.addi v3 c1_i32_0
  let c32_i32 : BitVec 32 := 32#32
  let v5 : BitVec 32 := Scalar.muli v4 c32_i32
  let c543_i32 : BitVec 32 := 543#32
  let v6 : BitVec 32 := Scalar.minsi v5 c543_i32
  let c0_i32_1 : BitVec 32 := 0#32
  let c0_i32_2 : BitVec 32 := 0#32
  ![arg0.toNat, v6.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c0_i32 : BitVec 32 := 0#32
  let v1 : BitVec 32 := Scalar.subi c0_i32 arg1
  let c17_i32 : BitVec 32 := 17#32
  let v2 : BitVec 32 := Scalar.subi c17_i32 arg1
  let v3 : BitVec 32 := Scalar.select v0 v1 v2
  let c0_i32_0 : BitVec 32 := 0#32
  let c0_i32_1 : BitVec 32 := 0#32
  ![arg0.toNat, v3.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2x4x256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2x4x256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2x1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceIdeal.lean ====
abbrev S4x4352x1024 : Shape := ⟨3, ![4, 4352, 1024]⟩
abbrev S1x4x1024 : Shape := ⟨3, ![1, 4, 1024]⟩
abbrev S1x1024 : Shape := ⟨2, ![1, 1024]⟩
abbrev S1x2x1024 : Shape := ⟨3, ![1, 2, 1024]⟩
abbrev S1x2x4x256x256 : Shape := ⟨5, ![1, 2, 4, 256, 256]⟩
abbrev S4x1024 : Shape := ⟨2, ![4, 1024]⟩
abbrev S1024 : Shape := ⟨1, ![1024]⟩
abbrev S2x1024 : Shape := ⟨2, ![2, 1024]⟩
abbrev S2x4x256x256 : Shape := ⟨4, ![2, 4, 256, 256]⟩
abbrev S4x256x1024 : Shape := ⟨3, ![4, 256, 1024]⟩
abbrev S_ : Shape := ⟨0, ![]⟩
abbrev S4x259x1024 : Shape := ⟨3, ![4, 259, 1024]⟩
abbrev S1x1x1024 : Shape := ⟨3, ![1, 1, 1024]⟩
abbrev S4x4096x1024 : Shape := ⟨3, ![4, 4096, 1024]⟩
abbrev S4x4099x1024 : Shape := ⟨3, ![4, 4099, 1024]⟩
abbrev S4x4352x4x256 : Shape := ⟨4, ![4, 4352, 4, 256]⟩
abbrev S1x4x256x256 : Shape := ⟨4, ![1, 4, 256, 256]⟩
abbrev S4x256x256 : Shape := ⟨3, ![4, 256, 256]⟩
abbrev S4x256x4x4352 : Shape := ⟨4, ![4, 256, 4, 4352]⟩
abbrev S1x4x4352x1024 : Shape := ⟨4, ![1, 4, 4352, 1024]⟩
abbrev S2x4x4352x1024 : Shape := ⟨4, ![2, 4, 4352, 1024]⟩
abbrev S4352x2x4x1024 : Shape := ⟨4, ![4352, 2, 4, 1024]⟩
abbrev S2x4x1024 : Shape := ⟨3, ![2, 4, 1024]⟩
abbrev S1x2x4x1024 : Shape := ⟨4, ![1, 2, 4, 1024]⟩

abbrev nBuf : Space → Nat
  | .hbm => 288
  | .vmem => 0
  | .smem => 0
  | _ => 0

abbrev hbmTy0_0 (i : Nat) : BufTy := match i % 128 with
  | 0 => ⟨S4x4352x1024, .f32⟩
  | 1 => ⟨S1x4x1024, .f32⟩
  | 2 => ⟨S1x1024, .f32⟩
  | 3 => ⟨S1x2x1024, .f32⟩
  | 4 => ⟨S1x2x4x256x256, .f32⟩
  | 5 => ⟨S1x2x1024, .f32⟩
  | 6 => ⟨S1x2x4x256x256, .f32⟩
  | 7 => ⟨S1x2x1024, .f32⟩
  | 8 => ⟨S4x1024, .f32⟩
  | 9 => ⟨S1024, .f32⟩
  | 10 => ⟨S2x1024, .f32⟩
  | 11 => ⟨S2x4x256x256, .f32⟩
  | 12 => ⟨S2x1024, .f32⟩
  | 13 => ⟨S2x4x256x256, .f32⟩
  | 14 => ⟨S2x1024, .f32⟩
  | 15 => ⟨S4x256x1024, .f32⟩
  | 16 => ⟨S_, .i32⟩
  | 17 => ⟨S_, .f32⟩
  | 18 => ⟨S4x259x1024, .f32⟩
  | 19 => ⟨S4x256x1024, .f32⟩
  | 20 => ⟨S1x1024, .f32⟩
  | 21 => ⟨S1024, .f32⟩
  | 22 => ⟨S1x1x1024, .f32⟩
  | 23 => ⟨S4x256x1024, .f32⟩
  | 24 => ⟨S4x256x1024, .f32⟩
  | 25 => ⟨S_, .f32⟩
  | 26 => ⟨S4x256x1024, .f32⟩
  | 27 => ⟨S4x256x1024, .f32⟩
  | 28 => ⟨S4x256x1024, .f32⟩
  | 29 => ⟨S1x1024, .f32⟩
  | 30 => ⟨S1024, .f32⟩
  | 31 => ⟨S1x1x1024, .f32⟩
  | 32 => ⟨S4x256x1024, .f32⟩
  | 33 => ⟨S4x256x1024, .f32⟩
  | 34 => ⟨S4x256x1024, .f32⟩
  | 35 => ⟨S4x256x1024, .f32⟩
  | 36 => ⟨S1x1024, .f32⟩
  | 37 => ⟨S1024, .f32⟩
  | 38 => ⟨S1x1x1024, .f32⟩
  | 39 => ⟨S4x256x1024, .f32⟩
  | 40 => ⟨S4x256x1024, .f32⟩
  | 41 => ⟨S4x256x1024, .f32⟩
  | 42 => ⟨S4x256x1024, .f32⟩
  | 43 => ⟨S1x1024, .f32⟩
  | 44 => ⟨S1024, .f32⟩
  | 45 => ⟨S1x1x1024, .f32⟩
  | 46 => ⟨S4x256x1024, .f32⟩
  | 47 => ⟨S4x256x1024, .f32⟩
  | 48 => ⟨S4x256x1024, .f32⟩
  | 49 => ⟨S1x1x1024, .f32⟩
  | 50 => ⟨S4x256x1024, .f32⟩
  | 51 => ⟨S4x256x1024, .f32⟩
  | 52 => ⟨S4x4096x1024, .f32⟩
  | 53 => ⟨S_, .i32⟩
  | 54 => ⟨S_, .f32⟩
  | 55 => ⟨S4x4099x1024, .f32⟩
  | 56 => ⟨S4x4096x1024, .f32⟩
  | 57 => ⟨S1x1024, .f32⟩
  | 58 => ⟨S1024, .f32⟩
  | 59 => ⟨S1x1x1024, .f32⟩
  | 60 => ⟨S4x4096x1024, .f32⟩
  | 61 => ⟨S4x4096x1024, .f32⟩
  | 62 => ⟨S_, .f32⟩
  | 63 => ⟨S4x4096x1024, .f32⟩
  | 64 => ⟨S4x4096x1024, .f32⟩
  | 65 => ⟨S4x4096x1024, .f32⟩
  | 66 => ⟨S1x1024, .f32⟩
  | 67 => ⟨S1024, .f32⟩
  | 68 => ⟨S1x1x1024, .f32⟩
  | 69 => ⟨S4x4096x1024, .f32⟩
  | 70 => ⟨S4x4096x1024, .f32⟩
  | 71 => ⟨S4x4096x1024, .f32⟩
  | 72 => ⟨S4x4096x1024, .f32⟩
  | 73 => ⟨S1x1024, .f32⟩
  | 74 => ⟨S1024, .f32⟩
  | 75 => ⟨S1x1x1024, .f32⟩
  | 76 => ⟨S4x4096x1024, .f32⟩
  | 77 => ⟨S4x4096x1024, .f32⟩
  | 78 => ⟨S4x4096x1024, .f32⟩
  | 79 => ⟨S4x4096x1024, .f32⟩
  | 80 => ⟨S1x1024, .f32⟩
  | 81 => ⟨S1024, .f32⟩
  | 82 => ⟨S1x1x1024, .f32⟩
  | 83 => ⟨S4x4096x1024, .f32⟩
  | 84 => ⟨S4x4096x1024, .f32⟩
  | 85 => ⟨S4x4096x1024, .f32⟩
  | 86 => ⟨S1x1x1024, .f32⟩
  | 87 => ⟨S4x4096x1024, .f32⟩
  | 88 => ⟨S4x4096x1024, .f32⟩
  | 89 => ⟨S4x4352x1024, .f32⟩
  | 90 => ⟨S4x4352x4x256, .f32⟩
  | 91 => ⟨S1x4x256x256, .f32⟩
  | 92 => ⟨S4x256x256, .f32⟩
  | 93 => ⟨S4x256x4x4352, .f32⟩
  | 94 => ⟨S4x4352x4x256, .f32⟩
  | 95 => ⟨S4x4352x1024, .f32⟩
  | 96 => ⟨S1x1024, .f32⟩
  | 97 => ⟨S1024, .f32⟩
  | 98 => ⟨S1x1x1024, .f32⟩
  | 99 => ⟨S4x4352x1024, .f32⟩
  | 100 => ⟨S4x4352x1024, .f32⟩
  | 101 => ⟨S4x4352x1024, .f32⟩
  | 102 => ⟨S4x4352x1024, .f32⟩
  | 103 => ⟨S_, .f32⟩
  | 104 => ⟨S4x4352x1024, .f32⟩
  | 105 => ⟨S4x4352x1024, .f32⟩
  | 106 => ⟨S_, .f32⟩
  | 107 => ⟨S4x4352x1024, .f32⟩
  | 108 => ⟨S4x4352x1024, .f32⟩
  | 109 => ⟨S1x4x256x256, .f32⟩
  | 110 => ⟨S4x256x256, .f32⟩
  | 111 => ⟨S4x256x4x4352, .f32⟩
  | 112 => ⟨S4x4352x4x256, .f32⟩
  | 113 => ⟨S4x4352x1024, .f32⟩
  | 114 => ⟨S1x1024, .f32⟩
  | 115 => ⟨S1024, .f32⟩
  | 116 => ⟨S1x1x1024, .f32⟩
  | 117 => ⟨S4x4352x1024, .f32⟩
  | 118 => ⟨S4x4352x1024, .f32⟩
  | 119 => ⟨S4x4352x1024, .f32⟩
  | 120 => ⟨S4x4352x1024, .f32⟩
  | 121 => ⟨S_, .f32⟩
  | 122 => ⟨S4x4352x1024, .f32⟩
  | 123 => ⟨S4x4352x1024, .f32⟩
  | 124 => ⟨S_, .f32⟩
  | 125 => ⟨S4x4352x1024, .f32⟩
  | 126 => ⟨S4x4352x1024, .f32⟩
  | 127 => ⟨S_, .f32⟩
  | _ => ⟨S4x4352x1024, .f32⟩

abbrev hbmTy0_1 (i : Nat) : BufTy := match i % 128 with
  | 0 => ⟨S4x4352x1024, .f32⟩
  | 1 => ⟨S4x4352x1024, .f32⟩
  | 2 => ⟨S1x1024, .f32⟩
  | 3 => ⟨S1024, .f32⟩
  | 4 => ⟨S1024, .f32⟩
  | 5 => ⟨S_, .f32⟩
  | 6 => ⟨S1024, .f32⟩
  | 7 => ⟨S1024, .f32⟩
  | 8 => ⟨S1024, .f32⟩
  | 9 => ⟨S1024, .f32⟩
  | 10 => ⟨S1024, .i1⟩
  | 11 => ⟨S1024, .f32⟩
  | 12 => ⟨S1024, .f32⟩
  | 13 => ⟨S1024, .f32⟩
  | 14 => ⟨S1024, .f32⟩
  | 15 => ⟨S1024, .f32⟩
  | 16 => ⟨S1024, .f32⟩
  | 17 => ⟨S1024, .f32⟩
  | 18 => ⟨S1024, .f32⟩
  | 19 => ⟨S1024, .f32⟩
  | 20 => ⟨S1x1x1024, .f32⟩
  | 21 => ⟨S4x4352x1024, .f32⟩
  | 22 => ⟨S4x4352x1024, .f32⟩
  | 23 => ⟨S4x4352x1024, .f32⟩
  | 24 => ⟨S_, .f32⟩
  | 25 => ⟨S4x4352x1024, .f32⟩
  | 26 => ⟨S4x4352x1024, .f32⟩
  | 27 => ⟨S4x4352x1024, .f32⟩
  | 28 => ⟨S4x4352x1024, .f32⟩
  | 29 => ⟨S4x4352x1024, .f32⟩
  | 30 => ⟨S4x4352x1024, .f32⟩
  | 31 => ⟨S4x4352x1024, .f32⟩
  | 32 => ⟨S1x4x256x256, .f32⟩
  | 33 => ⟨S4x256x256, .f32⟩
  | 34 => ⟨S4x256x4x4352, .f32⟩
  | 35 => ⟨S4x4352x4x256, .f32⟩
  | 36 => ⟨S4x4352x1024, .f32⟩
  | 37 => ⟨S1x1024, .f32⟩
  | 38 => ⟨S1024, .f32⟩
  | 39 => ⟨S1x1x1024, .f32⟩
  | 40 => ⟨S4x4352x1024, .f32⟩
  | 41 => ⟨S4x4352x1024, .f32⟩
  | 42 => ⟨S4x4352x1024, .f32⟩
  | 43 => ⟨S4x4352x1024, .f32⟩
  | 44 => ⟨S_, .f32⟩
  | 45 => ⟨S4x4352x1024, .f32⟩
  | 46 => ⟨S4x4352x1024, .f32⟩
  | 47 => ⟨S_, .f32⟩
  | 48 => ⟨S4x4352x1024, .f32⟩
  | 49 => ⟨S4x4352x1024, .f32⟩
  | 50 => ⟨S1x4x256x256, .f32⟩
  | 51 => ⟨S4x256x256, .f32⟩
  | 52 => ⟨S4x256x4x4352, .f32⟩
  | 53 => ⟨S4x4352x4x256, .f32⟩
  | 54 => ⟨S4x4352x1024, .f32⟩
  | 55 => ⟨S1x1024, .f32⟩
  | 56 => ⟨S1024, .f32⟩
  | 57 => ⟨S1x1x1024, .f32⟩
  | 58 => ⟨S4x4352x1024, .f32⟩
  | 59 => ⟨S4x4352x1024, .f32⟩
  | 60 => ⟨S4x4352x1024, .f32⟩
  | 61 => ⟨S4x4352x1024, .f32⟩
  | 62 => ⟨S_, .f32⟩
  | 63 => ⟨S4x4352x1024, .f32⟩
  | 64 => ⟨S4x4352x1024, .f32⟩
  | 65 => ⟨S_, .f32⟩
  | 66 => ⟨S4x4352x1024, .f32⟩
  | 67 => ⟨S4x4352x1024, .f32⟩
  | 68 => ⟨S_, .f32⟩
  | 69 => ⟨S4x4352x1024, .f32⟩
  | 70 => ⟨S4x4352x1024, .f32⟩
  | 71 => ⟨S1x1024, .f32⟩
  | 72 => ⟨S1024, .f32⟩
  | 73 => ⟨S1024, .f32⟩
  | 74 => ⟨S_, .f32⟩
  | 75 => ⟨S1024, .f32⟩
  | 76 => ⟨S1024, .f32⟩
  | 77 => ⟨S1024, .f32⟩
  | 78 => ⟨S1024, .f32⟩
  | 79 => ⟨S1024, .i1⟩
  | 80 => ⟨S1024, .f32⟩
  | 81 => ⟨S1024, .f32⟩
  | 82 => ⟨S1024, .f32⟩
  | 83 => ⟨S1024, .f32⟩
  | 84 => ⟨S1024, .f32⟩
  | 85 => ⟨S1024, .f32⟩
  | 86 => ⟨S1024, .f32⟩
  | 87 => ⟨S1024, .f32⟩
  | 88 => ⟨S1024, .f32⟩
  | 89 => ⟨S1x1x1024, .f32⟩
  | 90 => ⟨S4x4352x1024, .f32⟩
  | 91 => ⟨S4x4352x1024, .f32⟩
  | 92 => ⟨S4x4352x1024, .f32⟩
  | 93 => ⟨S4x256x1024, .f32⟩
  | 94 => ⟨S4x256x1024, .f32⟩
  | 95 => ⟨S4x4096x1024, .f32⟩
  | 96 => ⟨S4x4096x1024, .f32⟩
  | 97 => ⟨S4x4352x1024, .f32⟩
  | 98 => ⟨S_, .f32⟩
  | 99 => ⟨S4x4352x1024, .f32⟩
  | 100 => ⟨S4x4352x1024, .f32⟩
  | 101 => ⟨S4x4352x1024, .f32⟩
  | 102 => ⟨S4x4352x1024, .f32⟩
  | 103 => ⟨S4x4352x1024, .f32⟩
  | 104 => ⟨S4x4352x1024, .f32⟩
  | 105 => ⟨S4x4352x1024, .f32⟩
  | 106 => ⟨S4x256x1024, .f32⟩
  | 107 => ⟨S4x256x1024, .f32⟩
  | 108 => ⟨S4x4096x1024, .f32⟩
  | 109 => ⟨S4x4096x1024, .f32⟩
  | 110 => ⟨S4x4352x1024, .f32⟩
  | 111 => ⟨S1x4x4352x1024, .f32⟩
  | 112 => ⟨S1x4x4352x1024, .f32⟩
  | 113 => ⟨S2x4x4352x1024, .f32⟩
  | 114 => ⟨S4352x2x4x1024, .f32⟩
  | 115 => ⟨S1x4x4352x1024, .f32⟩
  | 116 => ⟨S1x4x4352x1024, .f32⟩
  | 117 => ⟨S2x4x4352x1024, .f32⟩
  | 118 => ⟨S4352x2x4x1024, .f32⟩
  | 119 => ⟨S_, .f32⟩
  | 120 => ⟨S2x4x1024, .f32⟩
  | 121 => ⟨S_, .f32⟩
  | 122 => ⟨S4352x2x4x1024, .f32⟩
  | 123 => ⟨S_, .i32⟩
  | 124 => ⟨S4352x2x4x1024, .f32⟩
  | 125 => ⟨S4352x2x4x1024, .f32⟩
  | 126 => ⟨S_, .i32⟩
  | 127 => ⟨S2x4x1024, .f32⟩
  | _ => ⟨S4x4352x1024, .f32⟩

abbrev hbmTy0_2 (i : Nat) : BufTy := match i % 128 with
  | 0 => ⟨S4352x2x4x1024, .f32⟩
  | 1 => ⟨S_, .i32⟩
  | 2 => ⟨S_, .i1⟩
  | 3 => ⟨S_, .i32⟩
  | 4 => ⟨S_, .i32⟩
  | 5 => ⟨S_, .i32⟩
  | 6 => ⟨S1x2x4x1024, .f32⟩
  | 7 => ⟨S2x4x1024, .f32⟩
  | 8 => ⟨S_, .i32⟩
  | 9 => ⟨S_, .i32⟩
  | 10 => ⟨S_, .i32⟩
  | 11 => ⟨S1x2x4x1024, .f32⟩
  | 12 => ⟨S2x4x1024, .f32⟩
  | 13 => ⟨S2x4x1024, .f32⟩
  | 14 => ⟨S2x4x1024, .f32⟩
  | 15 => ⟨S1x2x4x1024, .f32⟩
  | 16 => ⟨S_, .i32⟩
  | 17 => ⟨S_, .i32⟩
  | 18 => ⟨S_, .i32⟩
  | 19 => ⟨S4352x2x4x1024, .f32⟩
  | 20 => ⟨S_, .i32⟩
  | 21 => ⟨S_, .i32⟩
  | 22 => ⟨S2x4x4352x1024, .f32⟩
  | 23 => ⟨S1x4x4352x1024, .f32⟩
  | 24 => ⟨S4x4352x1024, .f32⟩
  | 25 => ⟨S1x4x4352x1024, .f32⟩
  | 26 => ⟨S4x4352x1024, .f32⟩
  | 27 => ⟨S4x256x1024, .f32⟩
  | 28 => ⟨S4x256x1024, .f32⟩
  | 29 => ⟨S4x4096x1024, .f32⟩
  | 30 => ⟨S4x4096x1024, .f32⟩
  | 31 => ⟨S4x4352x1024, .f32⟩
  | _ => ⟨S4x4352x1024, .f32⟩

abbrev hbmTy (i : Nat) : BufTy := match i / 128 with
  | 0 => hbmTy0_0 i
  | 1 => hbmTy0_1 i
  | 2 => hbmTy0_2 i
  | _ => ⟨S4x4352x1024, .f32⟩

abbrev bufTy : (tb : Table) → Fin (tcTables nBuf tb) → BufTy
  | .hbm, ⟨i, _⟩ => hbmTy i
  | _, _ => ⟨S4x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_call0_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c_0 : Ref sig .tc := ⟨.hbm, 53, rfl⟩
abbrev main_call1_v0 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_1 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_cst_2 : Ref sig .tc := ⟨.hbm, 103, rfl⟩
abbrev main_v89 : Ref sig .tc := ⟨.hbm, 104, rfl⟩
abbrev main_v90 : Ref sig .tc := ⟨.hbm, 105, rfl⟩
abbrev main_cst_3 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_cst_4 : Ref sig .tc := ⟨.hbm, 121, rfl⟩
abbrev main_v105 : Ref sig .tc := ⟨.hbm, 122, rfl⟩
abbrev main_v106 : Ref sig .tc := ⟨.hbm, 123, rfl⟩
abbrev main_cst_5 : Ref sig .tc := ⟨.hbm, 124, rfl⟩
abbrev main_v107 : Ref sig .tc := ⟨.hbm, 125, rfl⟩
abbrev main_v108 : Ref sig .tc := ⟨.hbm, 126, rfl⟩
abbrev main_cst_6 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_call2_cst : Ref sig .tc := ⟨.hbm, 133, rfl⟩
abbrev main_call2_v0 : Ref sig .tc := ⟨.hbm, 134, rfl⟩
abbrev main_call2_v1 : Ref sig .tc := ⟨.hbm, 135, rfl⟩
abbrev main_call2_v2 : Ref sig .tc := ⟨.hbm, 136, rfl⟩
abbrev main_call2_v3 : Ref sig .tc := ⟨.hbm, 137, rfl⟩
abbrev main_call2_v4 : Ref sig .tc := ⟨.hbm, 138, rfl⟩
abbrev main_call2_v5 : Ref sig .tc := ⟨.hbm, 139, rfl⟩
abbrev main_call2_v6 : Ref sig .tc := ⟨.hbm, 140, rfl⟩
abbrev main_call2_v7 : Ref sig .tc := ⟨.hbm, 141, rfl⟩
abbrev main_call2_v8 : Ref sig .tc := ⟨.hbm, 142, rfl⟩
abbrev main_call2_v9 : Ref sig .tc := ⟨.hbm, 143, rfl⟩
abbrev main_call2_v10 : Ref sig .tc := ⟨.hbm, 144, rfl⟩
abbrev main_call2_v11 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_cst_7 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_cst_8 : Ref sig .tc := ⟨.hbm, 172, rfl⟩
abbrev main_v139 : Ref sig .tc := ⟨.hbm, 173, rfl⟩
abbrev main_v140 : Ref sig .tc := ⟨.hbm, 174, rfl⟩
abbrev main_cst_9 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_cst_10 : Ref sig .tc := ⟨.hbm, 190, rfl⟩
abbrev main_v155 : Ref sig .tc := ⟨.hbm, 191, rfl⟩
abbrev main_v156 : Ref sig .tc := ⟨.hbm, 192, rfl⟩
abbrev main_cst_11 : Ref sig .tc := ⟨.hbm, 193, rfl⟩
abbrev main_v157 : Ref sig .tc := ⟨.hbm, 194, rfl⟩
abbrev main_v158 : Ref sig .tc := ⟨.hbm, 195, rfl⟩
abbrev main_cst_12 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_call3_cst : Ref sig .tc := ⟨.hbm, 202, rfl⟩
abbrev main_call3_v0 : Ref sig .tc := ⟨.hbm, 203, rfl⟩
abbrev main_call3_v1 : Ref sig .tc := ⟨.hbm, 204, rfl⟩
abbrev main_call3_v2 : Ref sig .tc := ⟨.hbm, 205, rfl⟩
abbrev main_call3_v3 : Ref sig .tc := ⟨.hbm, 206, rfl⟩
abbrev main_call3_v4 : Ref sig .tc := ⟨.hbm, 207, rfl⟩
abbrev main_call3_v5 : Ref sig .tc := ⟨.hbm, 208, rfl⟩
abbrev main_call3_v6 : Ref sig .tc := ⟨.hbm, 209, rfl⟩
abbrev main_call3_v7 : Ref sig .tc := ⟨.hbm, 210, rfl⟩
abbrev main_call3_v8 : Ref sig .tc := ⟨.hbm, 211, rfl⟩
abbrev main_call3_v9 : Ref sig .tc := ⟨.hbm, 212, rfl⟩
abbrev main_call3_v10 : Ref sig .tc := ⟨.hbm, 213, rfl⟩
abbrev main_call3_v11 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_cst_13 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_cst_14 : Ref sig .tc := ⟨.hbm, 247, rfl⟩
abbrev main_v195 : Ref sig .tc := ⟨.hbm, 248, rfl⟩
abbrev main_cst_15 : Ref sig .tc := ⟨.hbm, 249, rfl⟩
abbrev main_v196 : Ref sig .tc := ⟨.hbm, 250, rfl⟩
abbrev main_c_16 : Ref sig .tc := ⟨.hbm, 251, rfl⟩
abbrev main_v197_0 : Ref sig .tc := ⟨.hbm, 252, rfl⟩
abbrev main_v197_1 : Ref sig .tc := ⟨.hbm, 253, rfl⟩
abbrev main_v197_2 : Ref sig .tc := ⟨.hbm, 254, rfl⟩
abbrev main_v197_3 : Ref sig .tc := ⟨.hbm, 255, rfl⟩
abbrev main_v197_4 : Ref sig .tc := ⟨.hbm, 256, rfl⟩
abbrev main_while0c_c_21 : Ref sig .tc := ⟨.hbm, 257, rfl⟩
abbrev main_while0c_v208 : Ref sig .tc := ⟨.hbm, 258, rfl⟩
abbrev main_while0b_call4_c : Ref sig .tc := ⟨.hbm, 259, rfl⟩
abbrev main_while0b_call4_c_0 : Ref sig .tc := ⟨.hbm, 260, rfl⟩
abbrev main_while0b_call4_c_1 : Ref sig .tc := ⟨.hbm, 261, rfl⟩
abbrev main_while0b_call4_v0 : Ref sig .tc := ⟨.hbm, 262, rfl⟩
abbrev main_while0b_v208 : Ref sig .tc := ⟨.hbm, 263, rfl⟩
abbrev main_while0b_call5_c : Ref sig .tc := ⟨.hbm, 264, rfl⟩
abbrev main_while0b_call5_c_0 : Ref sig .tc := ⟨.hbm, 265, rfl⟩
abbrev main_while0b_call5_c_1 : Ref sig .tc := ⟨.hbm, 266, rfl⟩
abbrev main_while0b_call5_v0 : Ref sig .tc := ⟨.hbm, 267, rfl⟩
abbrev main_while0b_v209 : Ref sig .tc := ⟨.hbm, 268, rfl⟩
abbrev main_while0b_v210 : Ref sig .tc := ⟨.hbm, 269, rfl⟩
abbrev main_while0b_v211 : Ref sig .tc := ⟨.hbm, 270, rfl⟩
abbrev main_while0b_call6_v0 : Ref sig .tc := ⟨.hbm, 271, rfl⟩
abbrev main_while0b_call6_c : Ref sig .tc := ⟨.hbm, 272, rfl⟩
abbrev main_while0b_call6_c_0 : Ref sig .tc := ⟨.hbm, 273, rfl⟩
abbrev main_while0b_call6_c_1 : Ref sig .tc := ⟨.hbm, 274, rfl⟩
abbrev main_while0b_v212 : Ref sig .tc := ⟨.hbm, 275, rfl⟩
abbrev main_while0b_c_21 : Ref sig .tc := ⟨.hbm, 276, rfl⟩
abbrev main_while0b_v213 : Ref sig .tc := ⟨.hbm, 277, rfl⟩
abbrev main_v198 : Ref sig .tc := ⟨.hbm, 278, rfl⟩
abbrev main_v199 : Ref sig .tc := ⟨.hbm, 279, rfl⟩
abbrev main_v200 : Ref sig .tc := ⟨.hbm, 280, rfl⟩
abbrev main_v201 : Ref sig .tc := ⟨.hbm, 281, rfl⟩
abbrev main_v202 : Ref sig .tc := ⟨.hbm, 282, rfl⟩
abbrev main_v203 : Ref sig .tc := ⟨.hbm, 283, rfl⟩
abbrev main_v204 : Ref sig .tc := ⟨.hbm, 284, rfl⟩
abbrev main_v205 : Ref sig .tc := ⟨.hbm, 285, rfl⟩
abbrev main_v206 : Ref sig .tc := ⟨.hbm, 286, rfl⟩
abbrev main_v207 : Ref sig .tc := ⟨.hbm, 287, rfl⟩

abbrev nD : Nat := 1
abbrev τ : Topo := Topo.v7x

variable {F : FTy → Type} [FloatOps F]

abbrev main_while0_count : Scf.Loop 32 := ⟨0#32, 4352#32, 1#32⟩
-- ==== Kernel2.lean ====
abbrev S4x4096x1024 : Shape := ⟨3, ![4, 4096, 1024]⟩
abbrev S4x256x1024 : Shape := ⟨3, ![4, 256, 1024]⟩
abbrev S4x2x9x1024 : Shape := ⟨4, ![4, 2, 9, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x2816 : Shape := ⟨2, ![1024, 2816]⟩
abbrev S2816x1024 : Shape := ⟨2, ![2816, 1024]⟩
abbrev S4x4352x1024 : Shape := ⟨3, ![4, 4352, 1024]⟩
abbrev S1x256x1024 : Shape := ⟨3, ![1, 256, 1024]⟩
abbrev S1x1x9x1024 : Shape := ⟨4, ![1, 1, 9, 1024]⟩
abbrev S256x1024 : Shape := ⟨2, ![256, 1024]⟩
abbrev S9x1024 : Shape := ⟨2, ![9, 1024]⟩
abbrev S256 : Shape := ⟨1, ![256]⟩
abbrev S256x1 : Shape := ⟨2, ![256, 1]⟩
abbrev S256x2816 : Shape := ⟨2, ![256, 2816]⟩

abbrev nBuf : Space → Nat
  | .hbm => 16
  | .vmem => 12
  | .smem => 0
  | _ => 0

abbrev bufTy : (tb : Table) → Fin (tcTables nBuf tb) → BufTy
  | .hbm, ⟨0, _⟩ => ⟨S4x4096x1024, .f32⟩
  | .hbm, ⟨1, _⟩ => ⟨S4x256x1024, .f32⟩
  | .hbm, ⟨2, _⟩ => ⟨S4x2x9x1024, .f32⟩
  | .hbm, ⟨3, _⟩ => ⟨S1x1024, .f32⟩
  | .hbm, ⟨4, _⟩ => ⟨S1x1024x2816, .f32⟩
  | .hbm, ⟨5, _⟩ => ⟨S1x1024x2816, .f32⟩
  | .hbm, ⟨6, _⟩ => ⟨S1x2816x1024, .f32⟩
  | .hbm, ⟨7, _⟩ => ⟨S1024, .f32⟩
  | .hbm, ⟨8, _⟩ => ⟨S1x1024, .f32⟩
  | .hbm, ⟨9, _⟩ => ⟨S1024x2816, .f32⟩
  | .hbm, ⟨10, _⟩ => ⟨S1024x2816, .bf16⟩
  | .hbm, ⟨11, _⟩ => ⟨S1024x2816, .f32⟩
  | .hbm, ⟨12, _⟩ => ⟨S1024x2816, .bf16⟩
  | .hbm, ⟨13, _⟩ => ⟨S2816x1024, .f32⟩
  | .hbm, ⟨14, _⟩ => ⟨S2816x1024, .bf16⟩
  | .hbm, ⟨15, _⟩ => ⟨S4x4352x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1x9x1024, .f32⟩
  | .local _ .vmem, ⟨5, _⟩ => ⟨S1x1x9x1024, .f32⟩
  | .local _ .vmem, ⟨6, _⟩ => ⟨S1x1024, .f32⟩
  | .local _ .vmem, ⟨7, _⟩ => ⟨S1024x2816, .bf16⟩
  | .local _ .vmem, ⟨8, _⟩ => ⟨S1024x2816, .bf16⟩
  | .local _ .vmem, ⟨9, _⟩ => ⟨S2816x1024, .bf16⟩
  | .local _ .vmem, ⟨10, _⟩ => ⟨S1x256x1024, .f32⟩
  | .local _ .vmem, ⟨11, _⟩ => ⟨S1x256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 17], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x9x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S4x4096x1024 : Shape := ⟨3, ![4, 4096, 1024]⟩
abbrev S4x256x1024 : Shape := ⟨3, ![4, 256, 1024]⟩
abbrev S4x2x9x1024 : Shape := ⟨4, ![4, 2, 9, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S4x1x1x1024 : Shape := ⟨4, ![4, 1, 1, 1024]⟩
abbrev S4x1x1024 : Shape := ⟨3, ![4, 1, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x256x2816 : Shape := ⟨3, ![4, 256, 2816]⟩
abbrev S4x4096 : Shape := ⟨2, ![4, 4096]⟩
abbrev S4x4096x1 : Shape := ⟨3, ![4, 4096, 1]⟩
abbrev S4x4096x2816 : Shape := ⟨3, ![4, 4096, 2816]⟩
abbrev S4x4352x1024 : Shape := ⟨3, ![4, 4352, 1024]⟩

abbrev nBuf : Space → Nat
  | .hbm => 108
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x256x1024, .f32⟩
  | .hbm, ⟨2, _⟩ => ⟨S4x2x9x1024, .f32⟩
  | .hbm, ⟨3, _⟩ => ⟨S1x1024, .f32⟩
  | .hbm, ⟨4, _⟩ => ⟨S1x1024x2816, .f32⟩
  | .hbm, ⟨5, _⟩ => ⟨S1x1024x2816, .f32⟩
  | .hbm, ⟨6, _⟩ => ⟨S1x2816x1024, .f32⟩
  | .hbm, ⟨7, _⟩ => ⟨S4x1x1x1024, .f32⟩
  | .hbm, ⟨8, _⟩ => ⟨S4x1x1024, .f32⟩
  | .hbm, ⟨9, _⟩ => ⟨S4x1x1x1024, .f32⟩
  | .hbm, ⟨10, _⟩ => ⟨S4x1x1024, .f32⟩
  | .hbm, ⟨11, _⟩ => ⟨S4x1x1x1024, .f32⟩
  | .hbm, ⟨12, _⟩ => ⟨S4x1x1024, .f32⟩
  | .hbm, ⟨13, _⟩ => ⟨S4x1x1x1024, .f32⟩
  | .hbm, ⟨14, _⟩ => ⟨S4x1x1024, .f32⟩
  | .hbm, ⟨15, _⟩ => ⟨S4x1x1x1024, .f32⟩
  | .hbm, ⟨16, _⟩ => ⟨S4x1x1024, .f32⟩
  | .hbm, ⟨17, _⟩ => ⟨S4x1x1x1024, .f32⟩
  | .hbm, ⟨18, _⟩ => ⟨S4x1x1024, .f32⟩
  | .hbm, ⟨19, _⟩ => ⟨S1024, .f32⟩
  | .hbm, ⟨20, _⟩ => ⟨S1024x2816, .f32⟩
  | .hbm, ⟨21, _⟩ => ⟨S1024x2816, .f32⟩
  | .hbm, ⟨22, _⟩ => ⟨S2816x1024, .f32⟩
  | .hbm, ⟨23, _⟩ => ⟨S4x256x1024, .f32⟩
  | .hbm, ⟨24, _⟩ => ⟨S_, .f32⟩
  | .hbm, ⟨25, _⟩ => ⟨S4x256, .f32⟩
  | .hbm, ⟨26, _⟩ => ⟨S4x256x1, .f32⟩
  | .hbm, ⟨27, _⟩ => ⟨S_, .f32⟩
  | .hbm, ⟨28, _⟩ => ⟨S4x256x1, .f32⟩
  | .hbm, ⟨29, _⟩ => ⟨S4x256x1, .f32⟩
  | .hbm, ⟨30, _⟩ => ⟨S_, .f32⟩
  | .hbm, ⟨31, _⟩ => ⟨S4x256x1, .f32⟩
  | .hbm, ⟨32, _⟩ => ⟨S4x256x1, .f32⟩
  | .hbm, ⟨33, _⟩ => ⟨S4x256x1, .f32⟩
  | .hbm, ⟨34, _⟩ => ⟨S4x256x1024, .f32⟩
  | .hbm, ⟨35, _⟩ => ⟨S4x256x1024, .f32⟩
  | .hbm, ⟨36, _⟩ => ⟨S1x1x1024, .f32⟩
  | .hbm, ⟨37, _⟩ => ⟨S4x256x1024, .f32⟩
  | .hbm, ⟨38, _⟩ => ⟨S4x256x1024, .f32⟩
  | .hbm, ⟨39, _⟩ => ⟨S_, .f32⟩
  | .hbm, ⟨40, _⟩ => ⟨S4x1x1024, .f32⟩
  | .hbm, ⟨41, _⟩ => ⟨S4x1x1024, .f32⟩
  | .hbm, ⟨42, _⟩ => ⟨S4x256x1024, .f32⟩
  | .hbm, ⟨43, _⟩ => ⟨S4x256x1024, .f32⟩
  | .hbm, ⟨44, _⟩ => ⟨S4x256x1024, .f32⟩
  | .hbm, ⟨45, _⟩ => ⟨S4x256x1024, .f32⟩
  | .hbm, ⟨46, _⟩ => ⟨S_, .f32⟩
  | .hbm, ⟨47, _⟩ => ⟨S4x1x1024, .f32⟩
  | .hbm, ⟨48, _⟩ => ⟨S4x1x1024, .f32⟩
  | .hbm, ⟨49, _⟩ => ⟨S4x256x2816, .f32⟩
  | .hbm, ⟨50, _⟩ => ⟨S4x256x2816, .f32⟩
  | .hbm, ⟨51, _⟩ => ⟨S4x256x2816, .f32⟩
  | .hbm, ⟨52, _⟩ => ⟨S_, .f32⟩
  | .hbm, ⟨53, _⟩ => ⟨S4x256x2816, .f32⟩
  | .hbm, ⟨54, _⟩ => ⟨S4x256x2816, .f32⟩
  | .hbm, ⟨55, _⟩ => ⟨S_, .f32⟩
  | .hbm, ⟨56, _⟩ => ⟨S4x256x2816, .f32⟩
  | .hbm, ⟨57, _⟩ => ⟨S4x256x2816, .f32⟩
  | .hbm, ⟨58, _⟩ => ⟨S4x256x2816, .f32⟩
  | .hbm, ⟨59, _⟩ => ⟨S4x256x2816, .f32⟩
  | .hbm, ⟨60, _⟩ => ⟨S4x256x2816, .f32⟩
  | .hbm, ⟨61, _⟩ => ⟨S4x256x1024, .f32⟩
  | .hbm, ⟨62, _⟩ => ⟨S4x256x1024, .f32⟩
  | .hbm, ⟨63, _⟩ => ⟨S4x256x1024, .f32⟩
  | .hbm, ⟨64, _⟩ => ⟨S4x256x1024, .f32⟩
  | .hbm, ⟨65, _⟩ => ⟨S4x4096x1024, .f32⟩
  | .hbm, ⟨66, _⟩ => ⟨S_, .f32⟩
  | .hbm, ⟨67, _⟩ => ⟨S4x4096, .f32⟩
  | .hbm, ⟨68, _⟩ => ⟨S4x4096x1, .f32⟩
  | .hbm, ⟨69, _⟩ => ⟨S_, .f32⟩
  | .hbm, ⟨70, _⟩ => ⟨S4x4096x1, .f32⟩
  | .hbm, ⟨71, _⟩ => ⟨S4x4096x1, .f32⟩
  | .hbm, ⟨72, _⟩ => ⟨S_, .f32⟩
  | .hbm, ⟨73, _⟩ => ⟨S4x4096x1, .f32⟩
  | .hbm, ⟨74, _⟩ => ⟨S4x4096x1, .f32⟩
  | .hbm, ⟨75, _⟩ => ⟨S4x4096x1, .f32⟩
  | .hbm, ⟨76, _⟩ => ⟨S4x4096x1024, .f32⟩
  | .hbm, ⟨77, _⟩ => ⟨S4x4096x1024, .f32⟩
  | .hbm, ⟨78, _⟩ => ⟨S1x1x1024, .f32⟩
  | .hbm, ⟨79, _⟩ => ⟨S4x4096x1024, .f32⟩
  | .hbm, ⟨80, _⟩ => ⟨S4x4096x1024, .f32⟩
  | .hbm, ⟨81, _⟩ => ⟨S_, .f32⟩
  | .hbm, ⟨82, _⟩ => ⟨S4x1x1024, .f32⟩
  | .hbm, ⟨83, _⟩ => ⟨S4x1x1024, .f32⟩
  | .hbm, ⟨84, _⟩ => ⟨S4x4096x1024, .f32⟩
  | .hbm, ⟨85, _⟩ => ⟨S4x4096x1024, .f32⟩
  | .hbm, ⟨86, _⟩ => ⟨S4x4096x1024, .f32⟩
  | .hbm, ⟨87, _⟩ => ⟨S4x4096x1024, .f32⟩
  | .hbm, ⟨88, _⟩ => ⟨S_, .f32⟩
  | .hbm, ⟨89, _⟩ => ⟨S4x1x1024, .f32⟩
  | .hbm, ⟨90, _⟩ => ⟨S4x1x1024, .f32⟩
  | .hbm, ⟨91, _⟩ => ⟨S4x4096x2816, .f32⟩
  | .hbm, ⟨92, _⟩ => ⟨S4x4096x2816, .f32⟩
  | .hbm, ⟨93, _⟩ => ⟨S4x4096x2816, .f32⟩
  | .hbm, ⟨94, _⟩ => ⟨S_, .f32⟩
  | .hbm, ⟨95, _⟩ => ⟨S4x4096x2816, .f32⟩
  | .hbm, ⟨96, _⟩ => ⟨S4x4096x2816, .f32⟩
  | .hbm, ⟨97, _⟩ => ⟨S_, .f32⟩
  | .hbm, ⟨98, _⟩ => ⟨S4x4096x2816, .f32⟩
  | .hbm, ⟨99, _⟩ => ⟨S4x4096x2816, .f32⟩
  | .hbm, ⟨100, _⟩ => ⟨S4x4096x2816, .f32⟩
  | .hbm, ⟨101, _⟩ => ⟨S4x4096x2816, .f32⟩
  | .hbm, ⟨102, _⟩ => ⟨S4x4096x2816, .f32⟩
  | .hbm, ⟨103, _⟩ => ⟨S4x4096x1024, .f32⟩
  | .hbm, ⟨104, _⟩ => ⟨S4x4096x1024, .f32⟩
  | .hbm, ⟨105, _⟩ => ⟨S4x4096x1024, .f32⟩
  | .hbm, ⟨106, _⟩ => ⟨S4x4096x1024, .f32⟩
  | .hbm, ⟨107, _⟩ => ⟨S4x4352x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_4 : Ref sig .tc := ⟨.hbm, 66, rfl⟩
abbrev main_v46 : Ref sig .tc := ⟨.hbm, 67, rfl⟩
abbrev main_v47 : Ref sig .tc := ⟨.hbm, 68, rfl⟩
abbrev main_cst_5 : Ref sig .tc := ⟨.hbm, 69, rfl⟩
abbrev main_v48 : Ref sig .tc := ⟨.hbm, 70, rfl⟩
abbrev main_v49 : Ref sig .tc := ⟨.hbm, 71, rfl⟩
abbrev main_cst_6 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_7 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_8 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call1_v0 : Ref sig .tc := ⟨.hbm, 92, rfl⟩
abbrev main_call1_v1 : Ref sig .tc := ⟨.hbm, 93, rfl⟩
abbrev main_call1_cst : Ref sig .tc := ⟨.hbm, 94, rfl⟩
abbrev main_call1_v2 : Ref sig .tc := ⟨.hbm, 95, rfl⟩
abbrev main_call1_v3 : Ref sig .tc := ⟨.hbm, 96, rfl⟩
abbrev main_call1_cst_0 : Ref sig .tc := ⟨.hbm, 97, rfl⟩
abbrev main_call1_v4 : Ref sig .tc := ⟨.hbm, 98, rfl⟩
abbrev main_call1_v5 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩

abbrev nD : Nat := 1
abbrev τ : Topo := Topo.v7x

variable {F : FTy → Type} [FloatOps F]
-- ==== Kernel3.lean ====
abbrev S4x4352x1024 : Shape := ⟨3, ![4, 4352, 1024]⟩
abbrev S4x4352x3456 : Shape := ⟨3, ![4, 4352, 3456]⟩
abbrev S4x4352x2048 : Shape := ⟨3, ![4, 4352, 2048]⟩
abbrev S4x2x9x1024 : Shape := ⟨4, ![4, 2, 9, 1024]⟩
abbrev S1x16x64 : Shape := ⟨3, ![1, 16, 64]⟩
abbrev S1x1024 : Shape := ⟨2, ![1, 1024]⟩
abbrev S1x128x1024 : Shape := ⟨3, ![1, 128, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1024 : Shape := ⟨1, ![1024]⟩
abbrev S16x64 : Shape := ⟨2, ![16, 64]⟩
abbrev S128x1024 : Shape := ⟨2, ![128, 1024]⟩
abbrev S1024x1024 : Shape := ⟨2, ![1024, 1024]⟩
abbrev S1024x2816 : Shape := ⟨2, ![1024, 2816]⟩
abbrev S2816x1024 : Shape := ⟨2, ![2816, 1024]⟩
abbrev S4x4096x1024 : Shape := ⟨3, ![4, 4096, 1024]⟩
abbrev S1x256x1024 : Shape := ⟨3, ![1, 256, 1024]⟩
abbrev S1x256x3456 : Shape := ⟨3, ![1, 256, 3456]⟩
abbrev S1x256x2048 : Shape := ⟨3, ![1, 256, 2048]⟩
abbrev S1x1x9x1024 : Shape := ⟨4, ![1, 1, 9, 1024]⟩
abbrev S1024x128 : Shape := ⟨2, ![1024, 128]⟩
abbrev S256x1024 : Shape := ⟨2, ![256, 1024]⟩
abbrev S256x128 : Shape := ⟨2, ![256, 128]⟩
abbrev S1x256x128 : Shape := ⟨3, ![1, 256, 128]⟩
abbrev S256x2048 : Shape := ⟨2, ![256, 2048]⟩
abbrev S9x1024 : Shape := ⟨2, ![9, 1024]⟩
abbrev S256 : Shape := ⟨1, ![256]⟩
abbrev S256x1 : Shape := ⟨2, ![256, 1]⟩
abbrev S256x2816 : Shape := ⟨2, ![256, 2816]⟩

abbrev nBuf : Space → Nat
  | .hbm => 45
  | .vmem => 32
  | .smem => 0
  | _ => 0

abbrev bufTy : (tb : Table) → Fin (tcTables nBuf tb) → BufTy
  | .hbm, ⟨0, _⟩ => ⟨S4x4352x1024, .bf16⟩
  | .hbm, ⟨1, _⟩ => ⟨S4x4352x1024, .bf16⟩
  | .hbm, ⟨2, _⟩ => ⟨S4x4352x3456, .bf16⟩
  | .hbm, ⟨3, _⟩ => ⟨S4x4352x1024, .f32⟩
  | .hbm, ⟨4, _⟩ => ⟨S4x4352x1024, .f32⟩
  | .hbm, ⟨5, _⟩ => ⟨S4x4352x1024, .bf16⟩
  | .hbm, ⟨6, _⟩ => ⟨S4x4352x2048, .bf16⟩
  | .hbm, ⟨7, _⟩ => ⟨S4x4352x1024, .f32⟩
  | .hbm, ⟨8, _⟩ => ⟨S4x2x9x1024, .f32⟩
  | .hbm, ⟨9, _⟩ => ⟨S1x16x64, .f32⟩
  | .hbm, ⟨10, _⟩ => ⟨S1x1024, .f32⟩
  | .hbm, ⟨11, _⟩ => ⟨S1x1024, .f32⟩
  | .hbm, ⟨12, _⟩ => ⟨S1x128x1024, .f32⟩
  | .hbm, ⟨13, _⟩ => ⟨S1x1024x1024, .f32⟩
  | .hbm, ⟨14, _⟩ => ⟨S1x1024x1024, .f32⟩
  | .hbm, ⟨15, _⟩ => ⟨S1x1024x1024, .f32⟩
  | .hbm, ⟨16, _⟩ => ⟨S1x1024, .f32⟩
  | .hbm, ⟨17, _⟩ => ⟨S1x1024x2816, .f32⟩
  | .hbm, ⟨18, _⟩ => ⟨S1x1024x2816, .f32⟩
  | .hbm, ⟨19, _⟩ => ⟨S1x2816x1024, .f32⟩
  | .hbm, ⟨20, _⟩ => ⟨S1024, .f32⟩
  | .hbm, ⟨21, _⟩ => ⟨S16x64, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S128x1024, .f32⟩
  | .hbm, ⟨28, _⟩ => ⟨S128x1024, .bf16⟩
  | .hbm, ⟨29, _⟩ => ⟨S1024x1024, .f32⟩
  | .hbm, ⟨30, _⟩ => ⟨S1024x1024, .bf16⟩
  | .hbm, ⟨31, _⟩ => ⟨S1024x1024, .f32⟩
  | .hbm, ⟨32, _⟩ => ⟨S1024x1024, .bf16⟩
  | .hbm, ⟨33, _⟩ => ⟨S1024x1024, .f32⟩
  | .hbm, ⟨34, _⟩ => ⟨S1024x1024, .bf16⟩
  | .hbm, ⟨35, _⟩ => ⟨S1024, .f32⟩
  | .hbm, ⟨36, _⟩ => ⟨S1x1024, .f32⟩
  | .hbm, ⟨37, _⟩ => ⟨S1024x2816, .f32⟩
  | .hbm, ⟨38, _⟩ => ⟨S1024x2816, .bf16⟩
  | .hbm, ⟨39, _⟩ => ⟨S1024x2816, .f32⟩
  | .hbm, ⟨40, _⟩ => ⟨S1024x2816, .bf16⟩
  | .hbm, ⟨41, _⟩ => ⟨S2816x1024, .f32⟩
  | .hbm, ⟨42, _⟩ => ⟨S2816x1024, .bf16⟩
  | .hbm, ⟨43, _⟩ => ⟨S1x1024, .f32⟩
  | .hbm, ⟨44, _⟩ => ⟨S4x4096x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x3456, .bf16⟩
  | .local _ .vmem, ⟨5, _⟩ => ⟨S1x256x3456, .bf16⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .bf16⟩
  | .local _ .vmem, ⟨11, _⟩ => ⟨S1x256x1024, .bf16⟩
  | .local _ .vmem, ⟨12, _⟩ => ⟨S1x256x2048, .bf16⟩
  | .local _ .vmem, ⟨13, _⟩ => ⟨S1x256x2048, .bf16⟩
  | .local _ .vmem, ⟨14, _⟩ => ⟨S1x256x1024, .f32⟩
  | .local _ .vmem, ⟨15, _⟩ => ⟨S1x256x1024, .f32⟩
  | .local _ .vmem, ⟨16, _⟩ => ⟨S1x1x9x1024, .f32⟩
  | .local _ .vmem, ⟨17, _⟩ => ⟨S1x1x9x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S128x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1024x1024, .bf16⟩
  | .local _ .vmem, ⟨25, _⟩ => ⟨S1x1024, .f32⟩
  | .local _ .vmem, ⟨26, _⟩ => ⟨S1024x2816, .bf16⟩
  | .local _ .vmem, ⟨27, _⟩ => ⟨S1024x2816, .bf16⟩
  | .local _ .vmem, ⟨28, _⟩ => ⟨S2816x1024, .bf16⟩
  | .local _ .vmem, ⟨29, _⟩ => ⟨S1x1024, .f32⟩
  | .local _ .vmem, ⟨30, _⟩ => ⟨S1x256x1024, .f32⟩
  | .local _ .vmem, ⟨31, _⟩ => ⟨S1x256x1024, .f32⟩
  | _, _ => ⟨S4x4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg21_0 : Ref sig .tc := ⟨.vmem, 30, rfl⟩
abbrev cc0_stg21_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem20_0 : DmaSem sig := 29
abbrev cc0_sem21_0 : DmaSem sig := 30
abbrev cc0_sem21_1 : DmaSem sig := 31

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_8 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x3456 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x9x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1024x2816 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1024x2816 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S2816x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 2 → Memref sig .tc .vmem S1x256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== Reference3Ideal.lean ====
abbrev S4x4352x1024 : Shape := ⟨3, ![4, 4352, 1024]⟩
abbrev S4x4352x3456 : Shape := ⟨3, ![4, 4352, 3456]⟩
abbrev S4x4352x2048 : Shape := ⟨3, ![4, 4352, 2048]⟩
abbrev S4x2x9x1024 : Shape := ⟨4, ![4, 2, 9, 1024]⟩
abbrev S1x16x64 : Shape := ⟨3, ![1, 16, 64]⟩
abbrev S1x1024 : Shape := ⟨2, ![1, 1024]⟩
abbrev S1x128x1024 : Shape := ⟨3, ![1, 128, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1024 : Shape := ⟨1, ![1024]⟩
abbrev S4x4096x1024 : Shape := ⟨3, ![4, 4096, 1024]⟩
abbrev S4x4096x3456 : Shape := ⟨3, ![4, 4096, 3456]⟩
abbrev S4x4096x2048 : Shape := ⟨3, ![4, 4096, 2048]⟩
abbrev S4x1x1x1024 : Shape := ⟨4, ![4, 1, 1, 1024]⟩
abbrev S4x1x1024 : Shape := ⟨3, ![4, 1, 1024]⟩
abbrev S4x4096x128 : Shape := ⟨3, ![4, 4096, 128]⟩
abbrev S4x4096x16x64 : Shape := ⟨4, ![4, 4096, 16, 64]⟩
abbrev S_ : Shape := ⟨0, ![]⟩
abbrev S4x4096x16 : Shape := ⟨3, ![4, 4096, 16]⟩
abbrev S4x4096x16x1 : Shape := ⟨4, ![4, 4096, 16, 1]⟩
abbrev S1x1x1024 : Shape := ⟨3, ![1, 1, 1024]⟩
abbrev S16x64 : Shape := ⟨2, ![16, 64]⟩
abbrev S1x1x16x64 : Shape := ⟨4, ![1, 1, 16, 64]⟩
abbrev S128x1024 : Shape := ⟨2, ![128, 1024]⟩
abbrev S1024x1024 : Shape := ⟨2, ![1024, 1024]⟩
abbrev S1024x2816 : Shape := ⟨2, ![1024, 2816]⟩
abbrev S2816x1024 : Shape := ⟨2, ![2816, 1024]⟩
abbrev S4x4096 : Shape := ⟨2, ![4, 4096]⟩
abbrev S4x4096x1 : Shape := ⟨3, ![4, 4096, 1]⟩
abbrev S4x4096x2816 : Shape := ⟨3, ![4, 4096, 2816]⟩

abbrev nBuf : Space → Nat
  | .hbm => 228
  | .vmem => 0
  | .smem => 0
  | _ => 0

abbrev hbmTy0_0 (i : Nat) : BufTy := match i % 128 with
  | 0 => ⟨S4x4352x1024, .bf16⟩
  | 1 => ⟨S4x4352x1024, .bf16⟩
  | 2 => ⟨S4x4352x3456, .bf16⟩
  | 3 => ⟨S4x4352x1024, .f32⟩
  | 4 => ⟨S4x4352x1024, .f32⟩
  | 5 => ⟨S4x4352x1024, .bf16⟩
  | 6 => ⟨S4x4352x2048, .bf16⟩
  | 7 => ⟨S4x4352x1024, .f32⟩
  | 8 => ⟨S4x2x9x1024, .f32⟩
  | 9 => ⟨S1x16x64, .f32⟩
  | 10 => ⟨S1x1024, .f32⟩
  | 11 => ⟨S1x1024, .f32⟩
  | 12 => ⟨S1x128x1024, .f32⟩
  | 13 => ⟨S1x1024x1024, .f32⟩
  | 14 => ⟨S1x1024x1024, .f32⟩
  | 15 => ⟨S1x1024x1024, .f32⟩
  | 16 => ⟨S1x1024, .f32⟩
  | 17 => ⟨S1x1024x2816, .f32⟩
  | 18 => ⟨S1x1024x2816, .f32⟩
  | 19 => ⟨S1x2816x1024, .f32⟩
  | 20 => ⟨S1024, .f32⟩
  | 21 => ⟨S4x4096x1024, .bf16⟩
  | 22 => ⟨S4x4096x1024, .f32⟩
  | 23 => ⟨S4x4096x1024, .bf16⟩
  | 24 => ⟨S4x4096x1024, .f32⟩
  | 25 => ⟨S4x4096x3456, .bf16⟩
  | 26 => ⟨S4x4096x3456, .f32⟩
  | 27 => ⟨S4x4096x1024, .f32⟩
  | 28 => ⟨S4x4096x1024, .f32⟩
  | 29 => ⟨S4x4096x1024, .bf16⟩
  | 30 => ⟨S4x4096x1024, .f32⟩
  | 31 => ⟨S4x4096x2048, .bf16⟩
  | 32 => ⟨S4x4096x2048, .f32⟩
  | 33 => ⟨S4x4096x1024, .f32⟩
  | 34 => ⟨S4x1x1x1024, .f32⟩
  | 35 => ⟨S4x1x1024, .f32⟩
  | 36 => ⟨S4x1x1x1024, .f32⟩
  | 37 => ⟨S4x1x1024, .f32⟩
  | 38 => ⟨S4x1x1x1024, .f32⟩
  | 39 => ⟨S4x1x1024, .f32⟩
  | 40 => ⟨S4x1x1x1024, .f32⟩
  | 41 => ⟨S4x1x1024, .f32⟩
  | 42 => ⟨S4x1x1x1024, .f32⟩
  | 43 => ⟨S4x1x1024, .f32⟩
  | 44 => ⟨S4x1x1x1024, .f32⟩
  | 45 => ⟨S4x1x1024, .f32⟩
  | 46 => ⟨S4x1x1x1024, .f32⟩
  | 47 => ⟨S4x1x1024, .f32⟩
  | 48 => ⟨S4x1x1x1024, .f32⟩
  | 49 => ⟨S4x1x1024, .f32⟩
  | 50 => ⟨S4x1x1x1024, .f32⟩
  | 51 => ⟨S4x1x1024, .f32⟩
  | 52 => ⟨S4x4096x1024, .f32⟩
  | 53 => ⟨S4x4096x1024, .f32⟩
  | 54 => ⟨S4x4096x1024, .f32⟩
  | 55 => ⟨S4x4096x128, .f32⟩
  | 56 => ⟨S4x4096x16x64, .f32⟩
  | 57 => ⟨S4x4096x16x64, .f32⟩
  | 58 => ⟨S4x4096x16x64, .f32⟩
  | 59 => ⟨S_, .f32⟩
  | 60 => ⟨S4x4096x16, .f32⟩
  | 61 => ⟨S4x4096x16x1, .f32⟩
  | 62 => ⟨S_, .f32⟩
  | 63 => ⟨S4x4096x16x1, .f32⟩
  | 64 => ⟨S4x4096x16x1, .f32⟩
  | 65 => ⟨S4x4096x16x64, .f32⟩
  | 66 => ⟨S4x4096x16x64, .f32⟩
  | 67 => ⟨S4x4096x16x64, .f32⟩
  | 68 => ⟨S_, .f32⟩
  | 69 => ⟨S4x4096x16, .f32⟩
  | 70 => ⟨S4x4096x16x1, .f32⟩
  | 71 => ⟨S_, .f32⟩
  | 72 => ⟨S4x4096x16x1, .f32⟩
  | 73 => ⟨S4x4096x16x1, .f32⟩
  | 74 => ⟨S4x4096x16x64, .f32⟩
  | 75 => ⟨S4x4096x16x64, .f32⟩
  | 76 => ⟨S_, .f32⟩
  | 77 => ⟨S4x4096x16x1, .f32⟩
  | 78 => ⟨S4x4096x16x1, .f32⟩
  | 79 => ⟨S4x4096x16x1, .f32⟩
  | 80 => ⟨S4x4096x16x64, .f32⟩
  | 81 => ⟨S4x4096x16x64, .f32⟩
  | 82 => ⟨S4x4096x1024, .f32⟩
  | 83 => ⟨S1024, .f32⟩
  | 84 => ⟨S1x1x1024, .f32⟩
  | 85 => ⟨S4x4096x1024, .f32⟩
  | 86 => ⟨S4x4096x1024, .f32⟩
  | 87 => ⟨S1024, .f32⟩
  | 88 => ⟨S1x1x1024, .f32⟩
  | 89 => ⟨S4x4096x1024, .f32⟩
  | 90 => ⟨S4x4096x1024, .f32⟩
  | 91 => ⟨S4x4096x16x64, .f32⟩
  | 92 => ⟨S4x4096x16x64, .f32⟩
  | 93 => ⟨S4x4096x16x64, .f32⟩
  | 94 => ⟨S16x64, .f32⟩
  | 95 => ⟨S1x1x16x64, .f32⟩
  | 96 => ⟨S4x4096x16x64, .f32⟩
  | 97 => ⟨S4x4096x16x64, .f32⟩
  | 98 => ⟨S_, .f32⟩
  | 99 => ⟨S4x4096x16, .f32⟩
  | 100 => ⟨S4x4096x16x1, .f32⟩
  | 101 => ⟨S4x4096x16x64, .f32⟩
  | 102 => ⟨S4x4096x16x64, .f32⟩
  | 103 => ⟨S4x4096x16x64, .f32⟩
  | 104 => ⟨S4x4096x1024, .f32⟩
  | 105 => ⟨S4x4096x1024, .f32⟩
  | 106 => ⟨S4x4096x128, .f32⟩
  | 107 => ⟨S4x4096x128, .f32⟩
  | 108 => ⟨S_, .f32⟩
  | 109 => ⟨S4x4096x128, .f32⟩
  | 110 => ⟨S4x4096x128, .f32⟩
  | 111 => ⟨S_, .f32⟩
  | 112 => ⟨S4x4096x128, .f32⟩
  | 113 => ⟨S4x4096x128, .f32⟩
  | 114 => ⟨S128x1024, .f32⟩
  | 115 => ⟨S4x4096x1024, .f32⟩
  | 116 => ⟨S4x4096x1024, .f32⟩
  | 117 => ⟨S4x4096x1024, .f32⟩
  | 118 => ⟨S4x4096x1024, .f32⟩
  | 119 => ⟨S4x4096x1024, .f32⟩
  | 120 => ⟨S_, .f32⟩
  | 121 => ⟨S4x4096x1024, .f32⟩
  | 122 => ⟨S4x4096x1024, .f32⟩
  | 123 => ⟨S4x4096x1024, .f32⟩
  | 124 => ⟨S_, .f32⟩
  | 125 => ⟨S4x4096x1024, .f32⟩
  | 126 => ⟨S4x4096x1024, .f32⟩
  | 127 => ⟨S4x4096x1024, .f32⟩
  | _ => ⟨S4x4352x1024, .bf16⟩

abbrev hbmTy0_1 (i : Nat) : BufTy := match i % 128 with
  | 0 => ⟨S_, .f32⟩
  | 1 => ⟨S4x4096x1024, .f32⟩
  | 2 => ⟨S4x4096x1024, .f32⟩
  | 3 => ⟨S_, .f32⟩
  | 4 => ⟨S4x4096x1024, .f32⟩
  | 5 => ⟨S4x4096x1024, .f32⟩
  | 6 => ⟨S4x4096x1024, .f32⟩
  | 7 => ⟨S4x4096x1024, .f32⟩
  | 8 => ⟨S4x4096x1024, .f32⟩
  | 9 => ⟨S4x4096x1024, .f32⟩
  | 10 => ⟨S4x4096x1024, .f32⟩
  | 11 => ⟨S_, .f32⟩
  | 12 => ⟨S4x4096x1024, .f32⟩
  | 13 => ⟨S4x4096x1024, .f32⟩
  | 14 => ⟨S_, .f32⟩
  | 15 => ⟨S4x4096x1024, .f32⟩
  | 16 => ⟨S4x4096x1024, .f32⟩
  | 17 => ⟨S1024x1024, .f32⟩
  | 18 => ⟨S4x4096x1024, .f32⟩
  | 19 => ⟨S4x4096x1024, .f32⟩
  | 20 => ⟨S4x4096x1024, .f32⟩
  | 21 => ⟨S4x4096x1024, .f32⟩
  | 22 => ⟨S4x4096x1024, .f32⟩
  | 23 => ⟨S_, .f32⟩
  | 24 => ⟨S4x4096x1024, .f32⟩
  | 25 => ⟨S4x4096x1024, .f32⟩
  | 26 => ⟨S_, .f32⟩
  | 27 => ⟨S4x4096x1024, .f32⟩
  | 28 => ⟨S4x4096x1024, .f32⟩
  | 29 => ⟨S1024x1024, .f32⟩
  | 30 => ⟨S4x4096x1024, .f32⟩
  | 31 => ⟨S4x4096x1024, .f32⟩
  | 32 => ⟨S4x4096x1024, .f32⟩
  | 33 => ⟨S1024x1024, .f32⟩
  | 34 => ⟨S4x4096x1024, .f32⟩
  | 35 => ⟨S4x4096x1024, .f32⟩
  | 36 => ⟨S4x4096x1024, .f32⟩
  | 37 => ⟨S4x4096x1024, .f32⟩
  | 38 => ⟨S1024, .f32⟩
  | 39 => ⟨S1024x2816, .f32⟩
  | 40 => ⟨S1024x2816, .f32⟩
  | 41 => ⟨S2816x1024, .f32⟩
  | 42 => ⟨S4x4096x1024, .f32⟩
  | 43 => ⟨S_, .f32⟩
  | 44 => ⟨S4x4096, .f32⟩
  | 45 => ⟨S4x4096x1, .f32⟩
  | 46 => ⟨S_, .f32⟩
  | 47 => ⟨S4x4096x1, .f32⟩
  | 48 => ⟨S4x4096x1, .f32⟩
  | 49 => ⟨S_, .f32⟩
  | 50 => ⟨S4x4096x1, .f32⟩
  | 51 => ⟨S4x4096x1, .f32⟩
  | 52 => ⟨S4x4096x1, .f32⟩
  | 53 => ⟨S4x4096x1024, .f32⟩
  | 54 => ⟨S4x4096x1024, .f32⟩
  | 55 => ⟨S1x1x1024, .f32⟩
  | 56 => ⟨S4x4096x1024, .f32⟩
  | 57 => ⟨S4x4096x1024, .f32⟩
  | 58 => ⟨S_, .f32⟩
  | 59 => ⟨S4x1x1024, .f32⟩
  | 60 => ⟨S4x1x1024, .f32⟩
  | 61 => ⟨S4x4096x1024, .f32⟩
  | 62 => ⟨S4x4096x1024, .f32⟩
  | 63 => ⟨S4x4096x1024, .f32⟩
  | 64 => ⟨S4x4096x1024, .f32⟩
  | 65 => ⟨S_, .f32⟩
  | 66 => ⟨S4x1x1024, .f32⟩
  | 67 => ⟨S4x1x1024, .f32⟩
  | 68 => ⟨S4x4096x2816, .f32⟩
  | 69 => ⟨S4x4096x2816, .f32⟩
  | 70 => ⟨S4x4096x2816, .f32⟩
  | 71 => ⟨S_, .f32⟩
  | 72 => ⟨S4x4096x2816, .f32⟩
  | 73 => ⟨S4x4096x2816, .f32⟩
  | 74 => ⟨S_, .f32⟩
  | 75 => ⟨S4x4096x2816, .f32⟩
  | 76 => ⟨S4x4096x2816, .f32⟩
  | 77 => ⟨S4x4096x2816, .f32⟩
  | 78 => ⟨S4x4096x2816, .f32⟩
  | 79 => ⟨S4x4096x2816, .f32⟩
  | 80 => ⟨S4x4096x1024, .f32⟩
  | 81 => ⟨S4x4096x1024, .f32⟩
  | 82 => ⟨S4x4096x1024, .f32⟩
  | 83 => ⟨S4x4096x1024, .f32⟩
  | 84 => ⟨S4x4096x1024, .f32⟩
  | 85 => ⟨S_, .f32⟩
  | 86 => ⟨S4x4096, .f32⟩
  | 87 => ⟨S4x4096x1, .f32⟩
  | 88 => ⟨S_, .f32⟩
  | 89 => ⟨S4x4096x1, .f32⟩
  | 90 => ⟨S4x4096x1, .f32⟩
  | 91 => ⟨S_, .f32⟩
  | 92 => ⟨S4x4096x1, .f32⟩
  | 93 => ⟨S4x4096x1, .f32⟩
  | 94 => ⟨S4x4096x1, .f32⟩
  | 95 => ⟨S4x4096x1024, .f32⟩
  | 96 => ⟨S4x4096x1024, .f32⟩
  | 97 => ⟨S1x1x1024, .f32⟩
  | 98 => ⟨S4x4096x1024, .f32⟩
  | 99 => ⟨S4x4096x1024, .f32⟩
  | _ => ⟨S4x4352x1024, .bf16⟩

abbrev hbmTy (i : Nat) : BufTy := match i / 128 with
  | 0 => hbmTy0_0 i
  | 1 => hbmTy0_1 i
  | _ => ⟨S4x4352x1024, .bf16⟩

abbrev bufTy : (tb : Table) → Fin (tcTables nBuf tb) → BufTy
  | .hbm, ⟨i, _⟩ => hbmTy i
  | _, _ => ⟨S4x4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst : Ref sig .tc := ⟨.hbm, 59, rfl⟩
abbrev main_v38 : Ref sig .tc := ⟨.hbm, 60, rfl⟩
abbrev main_v39 : Ref sig .tc := ⟨.hbm, 61, rfl⟩
abbrev main_cst_0 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_1 : Ref sig .tc := ⟨.hbm, 68, rfl⟩
abbrev main_v45 : Ref sig .tc := ⟨.hbm, 69, rfl⟩
abbrev main_v46 : Ref sig .tc := ⟨.hbm, 70, rfl⟩
abbrev main_cst_2 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_3 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_4 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_5 : Ref sig .tc := ⟨.hbm, 108, rfl⟩
abbrev main_v81 : Ref sig .tc := ⟨.hbm, 109, rfl⟩
abbrev main_v82 : Ref sig .tc := ⟨.hbm, 110, rfl⟩
abbrev main_cst_6 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_cst_7 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_8 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_9 : Ref sig .tc := ⟨.hbm, 128, rfl⟩
abbrev main_v97 : Ref sig .tc := ⟨.hbm, 129, rfl⟩
abbrev main_v98 : Ref sig .tc := ⟨.hbm, 130, rfl⟩
abbrev main_cst_10 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_cst_11 : Ref sig .tc := ⟨.hbm, 139, rfl⟩
abbrev main_v106 : Ref sig .tc := ⟨.hbm, 140, rfl⟩
abbrev main_v107 : Ref sig .tc := ⟨.hbm, 141, rfl⟩
abbrev main_cst_12 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_cst_13 : Ref sig .tc := ⟨.hbm, 151, rfl⟩
abbrev main_v116 : Ref sig .tc := ⟨.hbm, 152, rfl⟩
abbrev main_v117 : Ref sig .tc := ⟨.hbm, 153, rfl⟩
abbrev main_cst_14 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_cst_15 : Ref sig .tc := ⟨.hbm, 171, rfl⟩
abbrev main_v134 : Ref sig .tc := ⟨.hbm, 172, rfl⟩
abbrev main_v135 : Ref sig .tc := ⟨.hbm, 173, rfl⟩
abbrev main_cst_16 : Ref sig .tc := ⟨.hbm, 174, rfl⟩
abbrev main_v136 : Ref sig .tc := ⟨.hbm, 175, rfl⟩
abbrev main_v137 : Ref sig .tc := ⟨.hbm, 176, rfl⟩
abbrev main_cst_17 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_cst_18 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_cst_19 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_call0_v0 : Ref sig .tc := ⟨.hbm, 197, rfl⟩
abbrev main_call0_v1 : Ref sig .tc := ⟨.hbm, 198, rfl⟩
abbrev main_call0_cst : Ref sig .tc := ⟨.hbm, 199, rfl⟩
abbrev main_call0_v2 : Ref sig .tc := ⟨.hbm, 200, rfl⟩
abbrev main_call0_v3 : Ref sig .tc := ⟨.hbm, 201, rfl⟩
abbrev main_call0_cst_0 : Ref sig .tc := ⟨.hbm, 202, rfl⟩
abbrev main_call0_v4 : Ref sig .tc := ⟨.hbm, 203, rfl⟩
abbrev main_call0_v5 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_cst_20 : Ref sig .tc := ⟨.hbm, 213, rfl⟩
abbrev main_v163 : Ref sig .tc := ⟨.hbm, 214, rfl⟩
abbrev main_v164 : Ref sig .tc := ⟨.hbm, 215, rfl⟩
abbrev main_cst_21 : Ref sig .tc := ⟨.hbm, 216, rfl⟩
abbrev main_v165 : Ref sig .tc := ⟨.hbm, 217, rfl⟩
abbrev main_v166 : Ref sig .tc := ⟨.hbm, 218, rfl⟩
abbrev main_cst_22 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩

abbrev nD : Nat := 1
abbrev τ : Topo := Topo.v7x

variable {F : FTy → Type} [FloatOps F]
-- ==== Kernel4.lean ====
abbrev S4x4352x1024 : Shape := ⟨3, ![4, 4352, 1024]⟩
abbrev S4x2x9x1024 : Shape := ⟨4, ![4, 2, 9, 1024]⟩
abbrev S1x1024 : Shape := ⟨2, ![1, 1024]⟩
abbrev S1x1024x7552 : Shape := ⟨3, ![1, 1024, 7552]⟩
abbrev S1x3456 : Shape := ⟨2, ![1, 3456]⟩
abbrev S1024 : Shape := ⟨1, ![1024]⟩
abbrev S1024x7552 : Shape := ⟨2, ![1024, 7552]⟩
abbrev S3456 : Shape := ⟨1, ![3456]⟩
abbrev S4x4352x3456 : Shape := ⟨3, ![4, 4352, 3456]⟩
abbrev S4x4352x2048 : Shape := ⟨3, ![4, 4352, 2048]⟩
abbrev S1x256x1024 : Shape := ⟨3, ![1, 256, 1024]⟩
abbrev S1x64x1024 : Shape := ⟨3, ![1, 64, 1024]⟩
abbrev S1x1x9x1024 : Shape := ⟨4, ![1, 1, 9, 1024]⟩
abbrev S1x256x3456 : Shape := ⟨3, ![1, 256, 3456]⟩
abbrev S1x256x2048 : Shape := ⟨3, ![1, 256, 2048]⟩
abbrev S64x3456 : Shape := ⟨2, ![64, 3456]⟩
abbrev S256x1024 : Shape := ⟨2, ![256, 1024]⟩
abbrev S9x1024 : Shape := ⟨2, ![9, 1024]⟩
abbrev S64x1024 : Shape := ⟨2, ![64, 1024]⟩
abbrev S320x1024 : Shape := ⟨2, ![320, 1024]⟩
abbrev S320 : Shape := ⟨1, ![320]⟩
abbrev S320x1 : Shape := ⟨2, ![320, 1]⟩
abbrev S256x1 : Shape := ⟨2, ![256, 1]⟩
abbrev S1024x1280 : Shape := ⟨2, ![1024, 1280]⟩
abbrev S320x1280 : Shape := ⟨2, ![320, 1280]⟩
abbrev S256x1280 : Shape := ⟨2, ![256, 1280]⟩
abbrev S64x1280 : Shape := ⟨2, ![64, 1280]⟩
abbrev S192x1280 : Shape := ⟨2, ![192, 1280]⟩
abbrev S1x1280 : Shape := ⟨2, ![1, 1280]⟩
abbrev S1x256x1280 : Shape := ⟨3, ![1, 256, 1280]⟩
abbrev S256x256 : Shape := ⟨2, ![256, 256]⟩
abbrev S1024x1024 : Shape := ⟨2, ![1024, 1024]⟩
abbrev S256x768 : Shape := ⟨2, ![256, 768]⟩
abbrev S1024x896 : Shape := ⟨2, ![1024, 896]⟩
abbrev S320x896 : Shape := ⟨2, ![320, 896]⟩
abbrev S256x896 : Shape := ⟨2, ![256, 896]⟩
abbrev S64x896 : Shape := ⟨2, ![64, 896]⟩
abbrev S192x896 : Shape := ⟨2, ![192, 896]⟩
abbrev S1x896 : Shape := ⟨2, ![1, 896]⟩
abbrev S1x256x896 : Shape := ⟨3, ![1, 256, 896]⟩
abbrev S1024x2048 : Shape := ⟨2, ![1024, 2048]⟩
abbrev S256x2048 : Shape := ⟨2, ![256, 2048]⟩
abbrev S1024x128 : Shape := ⟨2, ![1024, 128]⟩
abbrev S128x1024 : Shape := ⟨2, ![128, 1024]⟩
abbrev S256x128 : Shape := ⟨2, ![256, 128]⟩

abbrev nBuf : Space → Nat
  | .hbm => 19
  | .vmem => 22
  | .smem => 0
  | _ => 0

abbrev bufTy : (tb : Table) → Fin (tcTables nBuf tb) → BufTy
  | .hbm, ⟨0, _⟩ => ⟨S4x4352x1024, .f32⟩
  | .hbm, ⟨1, _⟩ => ⟨S4x2x9x1024, .f32⟩
  | .hbm, ⟨2, _⟩ => ⟨S1x1024, .f32⟩
  | .hbm, ⟨3, _⟩ => ⟨S1x1024x7552, .f32⟩
  | .hbm, ⟨4, _⟩ => ⟨S1x3456, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1024x7552, .f32⟩
  | .hbm, ⟨9, _⟩ => ⟨S1024x7552, .bf16⟩
  | .hbm, ⟨10, _⟩ => ⟨S3456, .f32⟩
  | .hbm, ⟨11, _⟩ => ⟨S1x3456, .f32⟩
  | .hbm, ⟨12, _⟩ => ⟨S1024, .f32⟩
  | .hbm, ⟨13, _⟩ => ⟨S1x1024, .f32⟩
  | .hbm, ⟨14, _⟩ => ⟨S4x4352x3456, .bf16⟩
  | .hbm, ⟨15, _⟩ => ⟨S4x4352x1024, .f32⟩
  | .hbm, ⟨16, _⟩ => ⟨S4x4352x1024, .f32⟩
  | .hbm, ⟨17, _⟩ => ⟨S4x4352x1024, .bf16⟩
  | .hbm, ⟨18, _⟩ => ⟨S4x4352x2048, .bf16⟩
  | .local _ .vmem, ⟨0, _⟩ => ⟨S1x256x1024, .f32⟩
  | .local _ .vmem, ⟨1, _⟩ => ⟨S1x256x1024, .f32⟩
  | .local _ .vmem, ⟨2, _⟩ => ⟨S1x64x1024, .f32⟩
  | .local _ .vmem, ⟨3, _⟩ => ⟨S1x64x1024, .f32⟩
  | .local _ .vmem, ⟨4, _⟩ => ⟨S1x1x9x1024, .f32⟩
  | .local _ .vmem, ⟨5, _⟩ => ⟨S1x1x9x1024, .f32⟩
  | .local _ .vmem, ⟨6, _⟩ => ⟨S1x1024, .f32⟩
  | .local _ .vmem, ⟨7, _⟩ => ⟨S1024x7552, .bf16⟩
  | .local _ .vmem, ⟨8, _⟩ => ⟨S1x3456, .f32⟩
  | .local _ .vmem, ⟨9, _⟩ => ⟨S1x1024, .f32⟩
  | .local _ .vmem, ⟨10, _⟩ => ⟨S1x256x3456, .bf16⟩
  | .local _ .vmem, ⟨11, _⟩ => ⟨S1x256x3456, .bf16⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .bf16⟩
  | .local _ .vmem, ⟨17, _⟩ => ⟨S1x256x1024, .bf16⟩
  | .local _ .vmem, ⟨18, _⟩ => ⟨S1x256x2048, .bf16⟩
  | .local _ .vmem, ⟨19, _⟩ => ⟨S1x256x2048, .bf16⟩
  | .local _ .vmem, ⟨20, _⟩ => ⟨S64x3456, .f32⟩
  | .local _ .vmem, ⟨21, _⟩ => ⟨S256x1024, .f32⟩
  | _, _ => ⟨S4x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_v8_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![4, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c67_i32 : BitVec 32 := 67#32
  let v2 : BitVec 32 := Scalar.minsi v1 c67_i32
  let c0_i32 : BitVec 32 := 0#32
  let c0_i32_0 : BitVec 32 := 0#32
  ![arg0.toNat, v2.toNat, c0_i32.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x9x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x7552 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x3456 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x3456 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference4Ideal.lean ====
abbrev S4x4352x1024 : Shape := ⟨3, ![4, 4352, 1024]⟩
abbrev S4x2x9x1024 : Shape := ⟨4, ![4, 2, 9, 1024]⟩
abbrev S1x1024 : Shape := ⟨2, ![1, 1024]⟩
abbrev S1x1024x7552 : Shape := ⟨3, ![1, 1024, 7552]⟩
abbrev S1x3456 : Shape := ⟨2, ![1, 3456]⟩
abbrev S4x256x1024 : Shape := ⟨3, ![4, 256, 1024]⟩
abbrev S4x4096x1024 : Shape := ⟨3, ![4, 4096, 1024]⟩
abbrev S4x1x1x1024 : Shape := ⟨4, ![4, 1, 1, 1024]⟩
abbrev S4x1x1024 : Shape := ⟨3, ![4, 1, 1024]⟩
abbrev S1024 : Shape := ⟨1, ![1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S1024x7552 : Shape := ⟨2, ![1024, 7552]⟩
abbrev S3456 : Shape := ⟨1, ![3456]⟩
abbrev S4x256x7552 : Shape := ⟨3, ![4, 256, 7552]⟩
abbrev S4x256x3456 : Shape := ⟨3, ![4, 256, 3456]⟩
abbrev S4x258x3456 : Shape := ⟨3, ![4, 258, 3456]⟩
abbrev S1x1x3456 : Shape := ⟨3, ![1, 1, 3456]⟩
abbrev S4x256x64 : Shape := ⟨3, ![4, 256, 64]⟩
abbrev S4x256x128 : Shape := ⟨3, ![4, 256, 128]⟩
abbrev S4x256x16x64 : Shape := ⟨4, ![4, 256, 16, 64]⟩
abbrev S4x256x16 : Shape := ⟨3, ![4, 256, 16]⟩
abbrev S4x256x16x1 : Shape := ⟨4, ![4, 256, 16, 1]⟩
abbrev S4x256x2048 : Shape := ⟨3, ![4, 256, 2048]⟩
abbrev S4x4096 : Shape := ⟨2, ![4, 4096]⟩
abbrev S4x4096x1 : Shape := ⟨3, ![4, 4096, 1]⟩
abbrev S4x4096x7552 : Shape := ⟨3, ![4, 4096, 7552]⟩
abbrev S4x4096x3456 : Shape := ⟨3, ![4, 4096, 3456]⟩
abbrev S4x64x64x3456 : Shape := ⟨4, ![4, 64, 64, 3456]⟩
abbrev S4x66x66x3456 : Shape := ⟨4, ![4, 66, 66, 3456]⟩
abbrev S4x4096x64 : Shape := ⟨3, ![4, 4096, 64]⟩
abbrev S4x4096x128 : Shape := ⟨3, ![4, 4096, 128]⟩
abbrev S4x4096x16x64 : Shape := ⟨4, ![4, 4096, 16, 64]⟩
abbrev S4x4096x16 : Shape := ⟨3, ![4, 4096, 16]⟩
abbrev S4x4096x16x1 : Shape := ⟨4, ![4, 4096, 16, 1]⟩
abbrev S4x4096x2048 : Shape := ⟨3, ![4, 4096, 2048]⟩
abbrev S4x4352x3456 : Shape := ⟨3, ![4, 4352, 3456]⟩
abbrev S4x4352x2048 : Shape := ⟨3, ![4, 4352, 2048]⟩

abbrev nBuf : Space → Nat
  | .hbm => 200
  | .vmem => 0
  | .smem => 0
  | _ => 0

abbrev hbmTy0_0 (i : Nat) : BufTy := match i % 128 with
  | 0 => ⟨S4x4352x1024, .f32⟩
  | 1 => ⟨S4x2x9x1024, .f32⟩
  | 2 => ⟨S1x1024, .f32⟩
  | 3 => ⟨S1x1024x7552, .f32⟩
  | 4 => ⟨S1x3456, .f32⟩
  | 5 => ⟨S1x1024, .f32⟩
  | 6 => ⟨S4x256x1024, .f32⟩
  | 7 => ⟨S4x4096x1024, .f32⟩
  | 8 => ⟨S4x1x1x1024, .f32⟩
  | 9 => ⟨S4x1x1024, .f32⟩
  | 10 => ⟨S4x1x1x1024, .f32⟩
  | 11 => ⟨S4x1x1024, .f32⟩
  | 12 => ⟨S4x1x1x1024, .f32⟩
  | 13 => ⟨S4x1x1024, .f32⟩
  | 14 => ⟨S4x1x1x1024, .f32⟩
  | 15 => ⟨S4x1x1024, .f32⟩
  | 16 => ⟨S4x1x1x1024, .f32⟩
  | 17 => ⟨S4x1x1024, .f32⟩
  | 18 => ⟨S4x1x1x1024, .f32⟩
  | 19 => ⟨S4x1x1024, .f32⟩
  | 20 => ⟨S4x1x1x1024, .f32⟩
  | 21 => ⟨S4x1x1024, .f32⟩
  | 22 => ⟨S4x1x1x1024, .f32⟩
  | 23 => ⟨S4x1x1024, .f32⟩
  | 24 => ⟨S4x1x1x1024, .f32⟩
  | 25 => ⟨S4x1x1024, .f32⟩
  | 26 => ⟨S4x1x1x1024, .f32⟩
  | 27 => ⟨S4x1x1024, .f32⟩
  | 28 => ⟨S4x1x1x1024, .f32⟩
  | 29 => ⟨S4x1x1024, .f32⟩
  | 30 => ⟨S4x1x1x1024, .f32⟩
  | 31 => ⟨S4x1x1024, .f32⟩
  | 32 => ⟨S4x1x1x1024, .f32⟩
  | 33 => ⟨S4x1x1024, .f32⟩
  | 34 => ⟨S4x1x1x1024, .f32⟩
  | 35 => ⟨S4x1x1024, .f32⟩
  | 36 => ⟨S4x1x1x1024, .f32⟩
  | 37 => ⟨S4x1x1024, .f32⟩
  | 38 => ⟨S4x1x1x1024, .f32⟩
  | 39 => ⟨S4x1x1024, .f32⟩
  | 40 => ⟨S4x1x1x1024, .f32⟩
  | 41 => ⟨S4x1x1024, .f32⟩
  | 42 => ⟨S4x1x1x1024, .f32⟩
  | 43 => ⟨S4x1x1024, .f32⟩
  | 44 => ⟨S1024, .f32⟩
  | 45 => ⟨S4x256x1024, .f32⟩
  | 46 => ⟨S_, .f32⟩
  | 47 => ⟨S4x256, .f32⟩
  | 48 => ⟨S4x256x1, .f32⟩
  | 49 => ⟨S_, .f32⟩
  | 50 => ⟨S4x256x1, .f32⟩
  | 51 => ⟨S4x256x1, .f32⟩
  | 52 => ⟨S_, .f32⟩
  | 53 => ⟨S4x256x1, .f32⟩
  | 54 => ⟨S4x256x1, .f32⟩
  | 55 => ⟨S4x256x1, .f32⟩
  | 56 => ⟨S4x256x1024, .f32⟩
  | 57 => ⟨S4x256x1024, .f32⟩
  | 58 => ⟨S1x1x1024, .f32⟩
  | 59 => ⟨S4x256x1024, .f32⟩
  | 60 => ⟨S4x256x1024, .f32⟩
  | 61 => ⟨S_, .f32⟩
  | 62 => ⟨S4x1x1024, .f32⟩
  | 63 => ⟨S4x1x1024, .f32⟩
  | 64 => ⟨S4x256x1024, .f32⟩
  | 65 => ⟨S4x256x1024, .f32⟩
  | 66 => ⟨S4x256x1024, .f32⟩
  | 67 => ⟨S4x256x1024, .f32⟩
  | 68 => ⟨S1024x7552, .f32⟩
  | 69 => ⟨S3456, .f32⟩
  | 70 => ⟨S1024, .f32⟩
  | 71 => ⟨S4x256x7552, .f32⟩
  | 72 => ⟨S4x256x3456, .f32⟩
  | 73 => ⟨S4x256x1024, .f32⟩
  | 74 => ⟨S4x256x1024, .f32⟩
  | 75 => ⟨S4x256x1024, .f32⟩
  | 76 => ⟨S4x256x1024, .f32⟩
  | 77 => ⟨S_, .i32⟩
  | 78 => ⟨S_, .f32⟩
  | 79 => ⟨S4x258x3456, .f32⟩
  | 80 => ⟨S4x256x3456, .f32⟩
  | 81 => ⟨S4x256x3456, .f32⟩
  | 82 => ⟨S4x256x3456, .f32⟩
  | 83 => ⟨S_, .f32⟩
  | 84 => ⟨S4x256x3456, .f32⟩
  | 85 => ⟨S4x256x3456, .f32⟩
  | 86 => ⟨S4x256x3456, .f32⟩
  | 87 => ⟨S1x1x3456, .f32⟩
  | 88 => ⟨S4x256x3456, .f32⟩
  | 89 => ⟨S4x256x3456, .f32⟩
  | 90 => ⟨S4x256x3456, .f32⟩
  | 91 => ⟨S4x256x1024, .f32⟩
  | 92 => ⟨S4x256x1024, .f32⟩
  | 93 => ⟨S4x256x1024, .f32⟩
  | 94 => ⟨S4x256x64, .f32⟩
  | 95 => ⟨S4x256x64, .f32⟩
  | 96 => ⟨S4x256x64, .f32⟩
  | 97 => ⟨S4x256x64, .f32⟩
  | 98 => ⟨S4x256x128, .f32⟩
  | 99 => ⟨S1x1x1024, .f32⟩
  | 100 => ⟨S4x256x1024, .f32⟩
  | 101 => ⟨S4x256x1024, .f32⟩
  | 102 => ⟨S4x256x16x64, .f32⟩
  | 103 => ⟨S4x256x16x64, .f32⟩
  | 104 => ⟨S_, .f32⟩
  | 105 => ⟨S4x256x16, .f32⟩
  | 106 => ⟨S4x256x16x1, .f32⟩
  | 107 => ⟨S4x256x16x1, .f32⟩
  | 108 => ⟨S_, .f32⟩
  | 109 => ⟨S4x256x16x1, .f32⟩
  | 110 => ⟨S4x256x16x1, .f32⟩
  | 111 => ⟨S4x256x16x64, .f32⟩
  | 112 => ⟨S4x256x16x64, .f32⟩
  | 113 => ⟨S4x256x1024, .f32⟩
  | 114 => ⟨S4x256x2048, .f32⟩
  | 115 => ⟨S1024, .f32⟩
  | 116 => ⟨S4x4096x1024, .f32⟩
  | 117 => ⟨S_, .f32⟩
  | 118 => ⟨S4x4096, .f32⟩
  | 119 => ⟨S4x4096x1, .f32⟩
  | 120 => ⟨S_, .f32⟩
  | 121 => ⟨S4x4096x1, .f32⟩
  | 122 => ⟨S4x4096x1, .f32⟩
  | 123 => ⟨S_, .f32⟩
  | 124 => ⟨S4x4096x1, .f32⟩
  | 125 => ⟨S4x4096x1, .f32⟩
  | 126 => ⟨S4x4096x1, .f32⟩
  | 127 => ⟨S4x4096x1024, .f32⟩
  | _ => ⟨S4x4352x1024, .f32⟩

abbrev hbmTy0_1 (i : Nat) : BufTy := match i % 128 with
  | 0 => ⟨S4x4096x1024, .f32⟩
  | 1 => ⟨S1x1x1024, .f32⟩
  | 2 => ⟨S4x4096x1024, .f32⟩
  | 3 => ⟨S4x4096x1024, .f32⟩
  | 4 => ⟨S_, .f32⟩
  | 5 => ⟨S4x1x1024, .f32⟩
  | 6 => ⟨S4x1x1024, .f32⟩
  | 7 => ⟨S4x4096x1024, .f32⟩
  | 8 => ⟨S4x4096x1024, .f32⟩
  | 9 => ⟨S4x4096x1024, .f32⟩
  | 10 => ⟨S4x4096x1024, .f32⟩
  | 11 => ⟨S1024x7552, .f32⟩
  | 12 => ⟨S3456, .f32⟩
  | 13 => ⟨S1024, .f32⟩
  | 14 => ⟨S4x4096x7552, .f32⟩
  | 15 => ⟨S4x4096x3456, .f32⟩
  | 16 => ⟨S4x4096x1024, .f32⟩
  | 17 => ⟨S4x4096x1024, .f32⟩
  | 18 => ⟨S4x4096x1024, .f32⟩
  | 19 => ⟨S4x4096x1024, .f32⟩
  | 20 => ⟨S4x64x64x3456, .f32⟩
  | 21 => ⟨S_, .i32⟩
  | 22 => ⟨S_, .f32⟩
  | 23 => ⟨S4x66x66x3456, .f32⟩
  | 24 => ⟨S4x64x64x3456, .f32⟩
  | 25 => ⟨S4x64x64x3456, .f32⟩
  | 26 => ⟨S4x64x64x3456, .f32⟩
  | 27 => ⟨S4x64x64x3456, .f32⟩
  | 28 => ⟨S4x64x64x3456, .f32⟩
  | 29 => ⟨S4x64x64x3456, .f32⟩
  | 30 => ⟨S4x64x64x3456, .f32⟩
  | 31 => ⟨S_, .f32⟩
  | 32 => ⟨S4x64x64x3456, .f32⟩
  | 33 => ⟨S4x64x64x3456, .f32⟩
  | 34 => ⟨S4x4096x3456, .f32⟩
  | 35 => ⟨S4x4096x3456, .f32⟩
  | 36 => ⟨S1x1x3456, .f32⟩
  | 37 => ⟨S4x4096x3456, .f32⟩
  | 38 => ⟨S4x4096x3456, .f32⟩
  | 39 => ⟨S4x4096x3456, .f32⟩
  | 40 => ⟨S4x4096x1024, .f32⟩
  | 41 => ⟨S4x4096x1024, .f32⟩
  | 42 => ⟨S4x4096x1024, .f32⟩
  | 43 => ⟨S4x4096x64, .f32⟩
  | 44 => ⟨S4x4096x64, .f32⟩
  | 45 => ⟨S4x4096x64, .f32⟩
  | 46 => ⟨S4x4096x64, .f32⟩
  | 47 => ⟨S4x4096x128, .f32⟩
  | 48 => ⟨S1x1x1024, .f32⟩
  | 49 => ⟨S4x4096x1024, .f32⟩
  | 50 => ⟨S4x4096x1024, .f32⟩
  | 51 => ⟨S4x4096x16x64, .f32⟩
  | 52 => ⟨S4x4096x16x64, .f32⟩
  | 53 => ⟨S_, .f32⟩
  | 54 => ⟨S4x4096x16, .f32⟩
  | 55 => ⟨S4x4096x16x1, .f32⟩
  | 56 => ⟨S4x4096x16x1, .f32⟩
  | 57 => ⟨S_, .f32⟩
  | 58 => ⟨S4x4096x16x1, .f32⟩
  | 59 => ⟨S4x4096x16x1, .f32⟩
  | 60 => ⟨S4x4096x16x64, .f32⟩
  | 61 => ⟨S4x4096x16x64, .f32⟩
  | 62 => ⟨S4x4096x1024, .f32⟩
  | 63 => ⟨S4x4096x2048, .f32⟩
  | 64 => ⟨S4x4352x3456, .f32⟩
  | 65 => ⟨S4x4352x1024, .f32⟩
  | 66 => ⟨S4x4352x1024, .f32⟩
  | 67 => ⟨S4x4352x1024, .f32⟩
  | 68 => ⟨S4x4352x2048, .f32⟩
  | 69 => ⟨S4x4352x3456, .bf16⟩
  | 70 => ⟨S4x4352x1024, .bf16⟩
  | 71 => ⟨S4x4352x2048, .bf16⟩
  | _ => ⟨S4x4352x1024, .f32⟩

abbrev hbmTy (i : Nat) : BufTy := match i / 128 with
  | 0 => hbmTy0_0 i
  | 1 => hbmTy0_1 i
  | _ => ⟨S4x4352x1024, .f32⟩

abbrev bufTy : (tb : Table) → Fin (tcTables nBuf tb) → BufTy
  | .hbm, ⟨i, _⟩ => hbmTy i
  | _, _ => ⟨S4x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst : Ref sig .tc := ⟨.hbm, 46, rfl⟩
abbrev main_v40 : Ref sig .tc := ⟨.hbm, 47, rfl⟩
abbrev main_v41 : Ref sig .tc := ⟨.hbm, 48, rfl⟩
abbrev main_cst_0 : Ref sig .tc := ⟨.hbm, 49, rfl⟩
abbrev main_v42 : Ref sig .tc := ⟨.hbm, 50, rfl⟩
abbrev main_v43 : Ref sig .tc := ⟨.hbm, 51, rfl⟩
abbrev main_cst_1 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_cst_2 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_c : Ref sig .tc := ⟨.hbm, 77, rfl⟩
abbrev main_call0_v0 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_cst_3 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_cst_4 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_cst_5 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_cst_6 : Ref sig .tc := ⟨.hbm, 117, rfl⟩
abbrev main_v102 : Ref sig .tc := ⟨.hbm, 118, rfl⟩
abbrev main_v103 : Ref sig .tc := ⟨.hbm, 119, rfl⟩
abbrev main_cst_7 : Ref sig .tc := ⟨.hbm, 120, rfl⟩
abbrev main_v104 : Ref sig .tc := ⟨.hbm, 121, rfl⟩
abbrev main_v105 : Ref sig .tc := ⟨.hbm, 122, rfl⟩
abbrev main_cst_8 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_cst_9 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_c_10 : Ref sig .tc := ⟨.hbm, 149, rfl⟩
abbrev main_call1_v0 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_cst_11 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_cst_12 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_cst_13 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩

abbrev nD : Nat := 1
abbrev τ : Topo := Topo.v7x

variable {F : FTy → Type} [FloatOps F]
-- ==== Proof.Lru.Runs.lean ====
/- The names the runs of the scan kernel's body share: when the branch at the start of a sequence is taken, the staging buffers of a grid point, and the scratch. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Lru

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first branch is taken: the point is the first tile of its sequence. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 17 = 0 :=
  (fun t => by
    have ht : t.val < 68 := Nat.lt_of_lt_of_eq t.isLt N_0
    have e0 : (grid0.coords t 0).val = t.val / 17 % 4 := Pipeline.Grid.coords_val t 0 (by decide) rfl
    have e1 : (grid0.coords t 1).val = t.val / 1 % 17 := Pipeline.Grid.coords_val t 1 (by decide) rfl
    simp only [cond0_0, e0, e1]
    word_cmp
   : ∀ t : Fin grid0.N, cond0_0 (grid0.coords t) ↔ t.val % 17 = 0)

/-- The second branch is taken: the same condition. -/
abbrev cond0_1 (i : grid0.Coords) : Prop := (Scalar.cmpi .ne (Scalar.extui (Scalar.cmpi .eq (BitVec.ofNat 32 (i 1).val) 0#32)) 0#32) = 1#1
theorem hcond0_1 : ∀ t : Fin cfg0.N, cond0_1 (grid0.coords t) ↔ t.val % 17 = 0 :=
  (fun t => by
    have ht : t.val < 68 := Nat.lt_of_lt_of_eq t.isLt N_0
    have e0 : (grid0.coords t 0).val = t.val / 17 % 4 := Pipeline.Grid.coords_val t 0 (by decide) rfl
    have e1 : (grid0.coords t 1).val = t.val / 1 % 17 := Pipeline.Grid.coords_val t 1 (by decide) rfl
    simp only [cond0_1, e0, e1]
    word_cmp
   : ∀ t : Fin grid0.N, cond0_1 (grid0.coords t) ↔ t.val % 17 = 0)

/-- A staging buffer of the first result, through which its contents are stated. -/
abbrev VO0_13 : View sig .tc .vmem S1x256x1024 .f32 := (Memref.whole cc0_stg13_0 : Memref sig .tc .vmem S1x256x1024 .f32).view
/-- A staging buffer of the second result, through which its contents are stated. -/
abbrev VO0_14 : View sig .tc .vmem S1x256x1024 .f32 := (Memref.whole cc0_stg14_0 : Memref sig .tc .vmem S1x256x1024 .f32).view
abbrev ms0_0 (t : Fin cfg0.N) : Memref sig .tc .vmem S1x256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x1x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2x4x256x256 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2x1x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2x4x256x256 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S2x1x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x256x1024 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x256x1024 .f32 := win0_14.stage (cfg0.slots t 14)
abbrev hs0_14 (t : Fin cfg0.N) : (ms0_14 t).IsWhole := hstage0_14 ((cfg0.slots t 14).cast nbuf0_14)
abbrev scM0_0 : Memref sig .tc .vmem S8x1024 .f32 := Memref.whole cc0_scratch0
abbrev scM0_1 : Memref sig .tc .vmem S8x1024 .f32 := Memref.whole cc0_scratch1
abbrev scM0_2 : Memref sig .tc .vmem S256x1024 .f32 := Memref.whole cc0_scratch2
abbrev scM0_3 : Memref sig .tc .vmem S256x1024 .f32 := Memref.whole cc0_scratch3
abbrev scM0_4 : Memref sig .tc .vmem S256x1024 .f32 := Memref.whole cc0_scratch4
abbrev scM0_5 : Memref sig .tc .vmem S256x1024 .f32 := Memref.whole cc0_scratch5
abbrev VS0_0 : View sig .tc .vmem S8x1024 .f32 := scM0_0.view
abbrev VS0_1 : View sig .tc .vmem S8x1024 .f32 := scM0_1.view

/-- The region's own resources: each scratch buffer at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Lru

end
-- ==== Proof.Lru.RunA.lean ====
/- The body of the scan kernel run at the first tile of a sequence, where the carried rows are reset to zero. -/
module

public import proofs.«01_k».proof.Proof.Lru.Runs

@[expose] public section

set_option maxRecDepth 16384

noncomputable section

namespace Cert.KernelIdeal.Lru

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a first tile: what it stores in the two results and in the two carried scratch buffers, found by running it. -/
noncomputable def kernelRun0_A (c : Dev nD) (i : grid0.Coords) (arg2 : Memref sig .tc .vmem S1x256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x256x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S2x1x1024 .f32) (harg10 : arg10.IsWhole) (arg11 : Memref sig .tc .vmem S2x4x256x256 .bf16) (harg11 : arg11.IsWhole) (arg12 : Memref sig .tc .vmem S2x1x1024 .f32) (harg12 : arg12.IsWhole) (arg13 : Memref sig .tc .vmem S2x4x256x256 .bf16) (harg13 : arg13.IsWhole) (arg14 : Memref sig .tc .vmem S2x1x1024 .f32) (harg14 : arg14.IsWhole) (arg15 : Memref sig .tc .vmem S1x256x1024 .f32) (harg15 : arg15.IsWhole) (arg16 : Memref sig .tc .vmem S1x256x1024 .f32) (harg16 : arg16.IsWhole) (arg17 : Memref sig .tc .vmem S8x1024 .f32) (harg17 : arg17.IsWhole) (arg18 : Memref sig .tc .vmem S8x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S256x1024 .f32) (harg21 : arg21.IsWhole) (arg22 : Memref sig .tc .vmem S256x1024 .f32) (harg22 : arg22.IsWhole) (hc0 : cond0_0 i) (hc1 : cond0_1 i)
    (x0 : Vec F S1x256x1024 .f32) (x1 : Vec F S1x8x1024 .f32) (x2 : Vec F S1x8x1024 .f32) (x3 : Vec F S1x256x1024 .f32) (x4 : Vec F S1x8x1024 .f32) (x5 : Vec F S1x8x1024 .f32) (x6 : Vec F S4x1024 .f32) (x7 : Vec F S1x1024 .f32) (x8 : Vec F S2x1x1024 .f32) (x9 : Vec F S2x4x256x256 .bf16) (x10 : Vec F S2x1x1024 .f32) (x11 : Vec F S2x4x256x256 .bf16) (x12 : Vec F S2x1x1024 .f32) :
    Σ' (L13 : List (View.Piece (Elt F) S1x256x1024 .f32)), Σ' (L14 : List (View.Piece (Elt F) S1x256x1024 .f32)), Σ' (LS0 : List (View.Piece (Elt F) S8x1024 .f32)), { LS1 : List (View.Piece (Elt F) S8x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f LS0) ∗ (∃ f, arg18.view.loc (c : Thread nD τ) ↦[arg18.view.set]{fullShare} arg18.view.writes (Elt F) f LS1) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
          ⊢ wp frame (wpE (defs₀ (F := F)) Variants.none c none) E (cc0_lru_scans i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, fun E K => ?run⟩
  case run =>
    simp only [cc0_lru_scans_eq_skeleton]; unfold cc0_lru_scans_skel
    simp only [k0_part11_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]; · iexists _; iexact H13
    isplitl [H14]; · iexists _; iexact H14
    isplitl [HS0]; · iexists _; iexact HS0
    isplitl [HS1]; · iexists _; iexact HS1
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.KernelIdeal.Lru

end
-- ==== Proof.Lru.RunB.lean ====
/- The body of the scan kernel run at a later tile of a sequence, where the carried rows are those the tile before left. -/
module

public import proofs.«01_k».proof.Proof.Lru.RunA

@[expose] public section

set_option maxRecDepth 16384

noncomputable section

namespace Cert.KernelIdeal.Lru

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a later tile, from the carried scratch contents xs0 and xs1: what it stores, found by running it. -/
noncomputable def kernelRun0_B (c : Dev nD) (i : grid0.Coords) (arg2 : Memref sig .tc .vmem S1x256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x256x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S2x1x1024 .f32) (harg10 : arg10.IsWhole) (arg11 : Memref sig .tc .vmem S2x4x256x256 .bf16) (harg11 : arg11.IsWhole) (arg12 : Memref sig .tc .vmem S2x1x1024 .f32) (harg12 : arg12.IsWhole) (arg13 : Memref sig .tc .vmem S2x4x256x256 .bf16) (harg13 : arg13.IsWhole) (arg14 : Memref sig .tc .vmem S2x1x1024 .f32) (harg14 : arg14.IsWhole) (arg15 : Memref sig .tc .vmem S1x256x1024 .f32) (harg15 : arg15.IsWhole) (arg16 : Memref sig .tc .vmem S1x256x1024 .f32) (harg16 : arg16.IsWhole) (arg17 : Memref sig .tc .vmem S8x1024 .f32) (harg17 : arg17.IsWhole) (arg18 : Memref sig .tc .vmem S8x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S256x1024 .f32) (harg21 : arg21.IsWhole) (arg22 : Memref sig .tc .vmem S256x1024 .f32) (harg22 : arg22.IsWhole) (hc0 : ¬cond0_0 i) (hc1 : ¬cond0_1 i)
    (x0 : Vec F S1x256x1024 .f32) (x1 : Vec F S1x8x1024 .f32) (x2 : Vec F S1x8x1024 .f32) (x3 : Vec F S1x256x1024 .f32) (x4 : Vec F S1x8x1024 .f32) (x5 : Vec F S1x8x1024 .f32) (x6 : Vec F S4x1024 .f32) (x7 : Vec F S1x1024 .f32) (x8 : Vec F S2x1x1024 .f32) (x9 : Vec F S2x4x256x256 .bf16) (x10 : Vec F S2x1x1024 .f32) (x11 : Vec F S2x4x256x256 .bf16) (x12 : Vec F S2x1x1024 .f32) (xs0 : Vec F S8x1024 .f32) (xs1 : Vec F S8x1024 .f32) :
    Σ' (L13 : List (View.Piece (Elt F) S1x256x1024 .f32)), Σ' (L14 : List (View.Piece (Elt F) S1x256x1024 .f32)), Σ' (LS0 : List (View.Piece (Elt F) S8x1024 .f32)), { LS1 : List (View.Piece (Elt F) S8x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ owns (c : Thread nD τ) arg17 fullShare xs0 ∗ owns (c : Thread nD τ) arg18 fullShare xs1 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f LS0) ∗ (∃ f, arg18.view.loc (c : Thread nD τ) ↦[arg18.view.set]{fullShare} arg18.view.writes (Elt F) f LS1) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
          ⊢ wp frame (wpE (defs₀ (F := F)) Variants.none c none) E (cc0_lru_scans i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, fun E K => ?run⟩
  case run =>
    simp only [cc0_lru_scans_eq_skeleton]; unfold cc0_lru_scans_skel
    simp only [k0_part11_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%fs0, %hfs0, HS0⟩, ⟨%fs1, %hfs1, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg17.eq_unread hfs0; obtain rfl := harg18.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]; · iexists _; iexact H13
    isplitl [H14]; · iexists _; iexact H14
    isplitl [HS0]; · iexists _; iexact HS0
    isplitl [HS1]; · iexists _; iexact HS1
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.KernelIdeal.Lru

end
-- ==== Proof.Lru.Frame.lean ====
/- What the scan kernel leaves at every grid point, the launch's proof data over it, and the run of the program. -/
module

public import proofs.«01_k».proof.Proof.Lru.RunB
public import Idealize.ShloMosaic.Lib.Claim

@[expose] public section

set_option maxRecDepth 16384

noncomputable section

namespace Cert.KernelIdeal.Lru

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section
variable (c : Dev nD) (i : grid0.Coords) (arg2 : Memref sig .tc .vmem S1x256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x256x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S2x1x1024 .f32) (harg10 : arg10.IsWhole) (arg11 : Memref sig .tc .vmem S2x4x256x256 .bf16) (harg11 : arg11.IsWhole) (arg12 : Memref sig .tc .vmem S2x1x1024 .f32) (harg12 : arg12.IsWhole) (arg13 : Memref sig .tc .vmem S2x4x256x256 .bf16) (harg13 : arg13.IsWhole) (arg14 : Memref sig .tc .vmem S2x1x1024 .f32) (harg14 : arg14.IsWhole) (arg15 : Memref sig .tc .vmem S1x256x1024 .f32) (harg15 : arg15.IsWhole) (arg16 : Memref sig .tc .vmem S1x256x1024 .f32) (harg16 : arg16.IsWhole) (arg17 : Memref sig .tc .vmem S8x1024 .f32) (harg17 : arg17.IsWhole) (arg18 : Memref sig .tc .vmem S8x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S256x1024 .f32) (harg21 : arg21.IsWhole) (arg22 : Memref sig .tc .vmem S256x1024 .f32) (harg22 : arg22.IsWhole)

section
variable (hc0 : cond0_0 i) (hc1 : cond0_1 i) (x0 : Vec F S1x256x1024 .f32) (x1 : Vec F S1x8x1024 .f32) (x2 : Vec F S1x8x1024 .f32) (x3 : Vec F S1x256x1024 .f32) (x4 : Vec F S1x8x1024 .f32) (x5 : Vec F S1x8x1024 .f32) (x6 : Vec F S4x1024 .f32) (x7 : Vec F S1x1024 .f32) (x8 : Vec F S2x1x1024 .f32) (x9 : Vec F S2x4x256x256 .bf16) (x10 : Vec F S2x1x1024 .f32) (x11 : Vec F S2x4x256x256 .bf16) (x12 : Vec F S2x1x1024 .f32)

theorem cover0_A_13 (y : S1x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12).1 S1x8x1024.size (by sl_kernel_rfl) y

def out0_A_13 : Vec F S1x256x1024 .f32 :=
  VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12).1)

theorem cover0_A_14 (y : S1x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12).2.1 S1x8x1024.size (by sl_kernel_rfl) y

def out0_A_14 : Vec F S1x256x1024 .f32 :=
  VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12).2.1)

theorem scover0_A_0 (y : S8x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12).2.2.1 S8x1024.size (by sl_kernel_rfl) y

def sout0_A_0 : Vec F S8x1024 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12).2.2.1)

theorem scover0_A_1 (y : S8x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12).2.2.2.1 S8x1024.size (by sl_kernel_rfl) y

def sout0_A_1 : Vec F S8x1024 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12).2.2.2.1)

end

section
variable (hc0 : ¬cond0_0 i) (hc1 : ¬cond0_1 i) (x0 : Vec F S1x256x1024 .f32) (x1 : Vec F S1x8x1024 .f32) (x2 : Vec F S1x8x1024 .f32) (x3 : Vec F S1x256x1024 .f32) (x4 : Vec F S1x8x1024 .f32) (x5 : Vec F S1x8x1024 .f32) (x6 : Vec F S4x1024 .f32) (x7 : Vec F S1x1024 .f32) (x8 : Vec F S2x1x1024 .f32) (x9 : Vec F S2x4x256x256 .bf16) (x10 : Vec F S2x1x1024 .f32) (x11 : Vec F S2x4x256x256 .bf16) (x12 : Vec F S2x1x1024 .f32) (xs0 : Vec F S8x1024 .f32) (xs1 : Vec F S8x1024 .f32)

theorem cover0_B_13 (y : S1x256x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 xs0 xs1).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 xs0 xs1).1 S1x8x1024.size (by sl_kernel_rfl) y

def out0_B_13 : Vec F S1x256x1024 .f32 :=
  VO0_13.read (Elt F) (VO0_13.writes (Elt F) VO0_13.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 xs0 xs1).1)

theorem cover0_B_14 (y : S1x256x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 xs0 xs1).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 xs0 xs1).2.1 S1x8x1024.size (by sl_kernel_rfl) y

def out0_B_14 : Vec F S1x256x1024 .f32 :=
  VO0_14.read (Elt F) (VO0_14.writes (Elt F) VO0_14.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 xs0 xs1).2.1)

theorem scover0_B_0 (y : S8x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 xs0 xs1).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 xs0 xs1).2.2.1 S8x1024.size (by sl_kernel_rfl) y

def sout0_B_0 : Vec F S8x1024 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 xs0 xs1).2.2.1)

theorem scover0_B_1 (y : S8x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 xs0 xs1).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 xs0 xs1).2.2.2.1 S8x1024.size (by sl_kernel_rfl) y

def sout0_B_1 : Vec F S8x1024 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 xs0 xs1).2.2.2.1)

end
end

/-- The two result blocks and the two carried rows after grid point n. -/
def outsAt0 (c : Dev nD) : (n : ℕ) → n < cfg0.N → Vec F S1x256x1024 .f32 × Vec F S1x256x1024 .f32 × Vec F S8x1024 .f32 × Vec F S8x1024 .f32
  | 0, hn => (out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩))
  | n + 1, hn =>
    if h0 : (n + 1) % 17 = 0 then
      if h1 : (n + 1) % 17 = 0 then
        (out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩))
      else
        False.elim (by have hN : n + 1 < 68 := lt_of_lt_of_eq hn (show cfg0.N = 68 from N_0); omega)
    else
      if h1 : (n + 1) % 17 = 0 then
        False.elim (by have hN : n + 1 < 68 := lt_of_lt_of_eq hn (show cfg0.N = 68 from N_0); omega)
      else
        (out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.1 (outsAt0 c n (Nat.lt_of_succ_lt hn)).2.2.2, out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 17 = 0) (h1 : t.val % 17 = 0) :
    outsAt0 m c t.val t.isLt = (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  obtain ⟨n, hn⟩ := t
  cases n with
  | zero => exact rfl
  | succ n => exact (dif_pos h0).trans ((dif_pos h1).trans rfl)

theorem outsAt0_B (c : Dev nD) (t : Fin cfg0.N) (h0 : ¬t.val % 17 = 0) (h1 : ¬t.val % 17 = 0) :
    outsAt0 m c t.val t.isLt = (out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.1 (outsAt0 m c (t.val - 1) (Nat.lt_of_le_of_lt (Nat.sub_le _ _) t.isLt)).2.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- The invariant before point n: the carried scratch holds what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  cases n with
  | zero => exact absurd rfl hz
  | succ n => rfl

/-- The proof data of the launch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (outsAt0 m c t.val t.isLt).1
    | ⟨14, _⟩ => (outsAt0 m c t.val t.isLt).2.1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = (outsAt0 m c t.val t.isLt).1 := by dsimp only [dats]
theorem after0_14 (c : Dev nD) (t : Fin cfg0.N) : (dats m 0 c).after 14 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-- What the body is called with at point t. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- What the body gives back at point t. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t))

set_option maxHeartbeats 16000000 in
/-- The body at point t meets its specification. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14]
  rw [show (dats m 0 c).Φ t.succ = PhiS m c (t.val + 1) t.isLt from rfl, PhiS_succ]
  have hN : t.val < 68 := lt_of_lt_of_eq t.isLt (show cfg0.N = 68 from N_0)
  by_cases h0 : t.val % 17 = 0
  · by_cases h1 : t.val % 17 = 0
    · by_cases hz : t.val = 0
      · rw [PhiS_castSucc m c t, PhiS_zero m c _ _ hz, PhiA0_eq]
        rw [outsAt0_A m c t h0 h1]
        unfold out0_A_13 out0_A_14 sout0_A_0 sout0_A_1; (try dsimp only)
        iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
        iapply ((kernelRun0_A c (grid0.coords t) _ _ _ _ _ _ _ _ _ _ _ _ _ _ _ _ _ _ _ _ _ _ _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexists _; iexact H13
        isplitl [H14]; · iexists _; iexact H14
        isplitl [HS0]; · iexact HS0
        isplitl [HS1]; · iexact HS1
        isplitl [HS2]; · iexact HS2
        isplitl [HS3]; · iexact HS3
        isplitl [HS4]; · iexact HS4
        isplitl [HS5]; · iexact HS5
        iintro ⟨H0, H1, H2, H3, H4, H5, H6, H7, H8, H9, H10, H11, H12, ⟨%e13, H13⟩, ⟨%e14, H14⟩, ⟨%es0, HS0⟩, ⟨%es1, HS1⟩, HS2, HS3, HS4, HS5⟩
        isplitl [HS0 HS1 HS2 HS3 HS4 HS5 Hg]
        · isplitl [HS0 HS1 HS2 HS3 HS4 HS5]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS2]
            · iexact HS2
            isplitl [HS3]
            · iexact HS3
            isplitl [HS4]
            · iexact HS4
            iexact HS5
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]
        · unfold owns; iexists _; isplitr
          swap; · iexact H13
          ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H14
        ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _)
      · rw [PhiS_castSucc m c t, PhiS_pos m c _ _ hz]
        rw [outsAt0_A m c t h0 h1]
        unfold out0_A_13 out0_A_14 sout0_A_0 sout0_A_1; (try dsimp only)
        iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
        iapply ((kernelRun0_A c (grid0.coords t) _ _ _ _ _ _ _ _ _ _ _ _ _ _ _ _ _ _ _ _ _ _ _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexists _; iexact H13
        isplitl [H14]; · iexists _; iexact H14
        isplitl [HS0]; · iexists _; iexact HS0
        isplitl [HS1]; · iexists _; iexact HS1
        isplitl [HS2]; · iexact HS2
        isplitl [HS3]; · iexact HS3
        isplitl [HS4]; · iexact HS4
        isplitl [HS5]; · iexact HS5
        iintro ⟨H0, H1, H2, H3, H4, H5, H6, H7, H8, H9, H10, H11, H12, ⟨%e13, H13⟩, ⟨%e14, H14⟩, ⟨%es0, HS0⟩, ⟨%es1, HS1⟩, HS2, HS3, HS4, HS5⟩
        isplitl [HS0 HS1 HS2 HS3 HS4 HS5 Hg]
        · isplitl [HS0 HS1 HS2 HS3 HS4 HS5]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS2]
            · iexact HS2
            isplitl [HS3]
            · iexact HS3
            isplitl [HS4]
            · iexact HS4
            iexact HS5
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]
        · unfold owns; iexists _; isplitr
          swap; · iexact H13
          ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H14
        ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _)
    · exfalso; omega
  · by_cases h1 : t.val % 17 = 0
    · exfalso; omega
    · by_cases hz : t.val = 0
      · exfalso; have hN : t.val < 68 := lt_of_lt_of_eq t.isLt (show cfg0.N = 68 from N_0); omega
      · rw [PhiS_castSucc m c t, PhiS_pos m c _ _ hz]
        rw [outsAt0_B m c t h0 h1]
        unfold out0_B_13 out0_B_14 sout0_B_0 sout0_B_1; (try dsimp only)
        iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
        iapply ((kernelRun0_B c (grid0.coords t) _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexists _; iexact H13
        isplitl [H14]; · iexists _; iexact H14
        isplitl [HS0]; · iexact HS0
        isplitl [HS1]; · iexact HS1
        isplitl [HS2]; · iexact HS2
        isplitl [HS3]; · iexact HS3
        isplitl [HS4]; · iexact HS4
        isplitl [HS5]; · iexact HS5
        iintro ⟨H0, H1, H2, H3, H4, H5, H6, H7, H8, H9, H10, H11, H12, ⟨%e13, H13⟩, ⟨%e14, H14⟩, ⟨%es0, HS0⟩, ⟨%es1, HS1⟩, HS2, HS3, HS4, HS5⟩
        isplitl [HS0 HS1 HS2 HS3 HS4 HS5 Hg]
        · isplitl [HS0 HS1 HS2 HS3 HS4 HS5]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS2]
            · iexact HS2
            isplitl [HS3]
            · iexact HS3
            isplitl [HS4]
            · iexact HS4
            iexact HS5
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]
        · unfold owns; iexists _; isplitr
          swap; · iexact H13
          ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H14
        ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5⟩, Hg⟩
  isplitl [HS0 HS1 HS2 HS3 HS4 HS5]
  · isplitl [HS0]
    · iexists _; iexact HS0
    isplitl [HS1]
    · iexists _; iexact HS1
    isplitl [HS2]
    · iexact HS2
    isplitl [HS3]
    · iexact HS3
    isplitl [HS4]
    · iexact HS4
    iexact HS5
  iexact Hg

theorem hout (c : Dev nD) : (dats m 0 c).Φ (Fin.last cfg0.N) ⊢ Pipeline.ΦA spec0 c :=
  Phi_out m c _ (by rw [Fin.val_last]; have : cfg0.N = 68 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The program runs to the end with the arrays the proof data names. -/
theorem run_main : θ_run defs (onTc (τ := τ) (main (F := F))) (s₀ m ρ) (Pipeline.FramePost cfgs (dats m) 0 (V m)) :=
  (θ_run defs _ _).mono (fun _ h => h.1) (run_main_quiescent m ρ)

/-- The arguments are unchanged by the run. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The program runs and leaves its arguments as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Lru

end
-- ==== Proof.Lru.Value.lean ====
/- The two result arrays of the scan kernel, read off the blocks its grid points leave. -/
module

public import proofs.«01_k».proof.Proof.Lru.Frame
public import Idealize.ShloMosaic.Lib.Pipeline.Value

@[expose] public section

noncomputable section

namespace Cert.KernelIdeal.Lru

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem flushed13 (c : Dev nD) (t : Fin cfg0.N) :
    (dats m 0 c).flushed 13 t = (cfg0.win 13).cut (grid0.coords t) ((outsAt0 m c t.val t.isLt).1) := by
  show (cfg0.win 13).cut (grid0.coords t) ((dats m 0 c).after 13 t) = _
  rw [after0_13]

theorem flushed13_A (c : Dev nD) (t : Fin cfg0.N) (h0 : t.val % 17 = 0) (h1 : t.val % 17 = 0) :
    (dats m 0 c).flushed 13 t = (cfg0.win 13).cut (grid0.coords t) (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  simp only [flushed13, outsAt0_A m c t h0 h1]

theorem flushed13_B (c : Dev nD) (t : Fin cfg0.N) (h0 : ¬t.val % 17 = 0) (h1 : ¬t.val % 17 = 0) :
    (dats m 0 c).flushed 13 t = (cfg0.win 13).cut (grid0.coords t) (out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed13, outsAt0_B m c t h0 h1]

theorem idx_inj13 : ∀ t t' : Fin cfg0.N, win0_13.index t = win0_13.index t' → t = t' :=
  (by decide +kernel : ∀ t t' : Fin grid0.N, win0_13.index t = win0_13.index t' → t = t')

theorem disjoint13 : ∀ t t' : Fin cfg0.N, (cfg0.win 13).flush t = true → (cfg0.win 13).flush t' = true → t ≠ t' →
    Disjoint ((cfg0.win 13).blk t).view.set ((cfg0.win 13).blk t').view.set :=
  fun t t' _ _ hne => (cfg0.win 13).disjoint_blk fun h => hne (idx_inj13 t t' h)

theorem blocks13 (c : Dev nD) (t : Fin cfg0.N) (hf : (cfg0.win 13).flush t = true) :
    ((cfg0.win 13).blk t).view.read (Elt F) ((dats m 0 c).arrAt 13 cfg0.N) = (dats m 0 c).flushed 13 t :=
  (dats m 0 c).read_blk_arrAt_eq_flushed 13 disjoint13 cfg0.N t t.isLt hf

theorem entry13 (c : Dev nD) (i : S4x4352x1024.Idx) (h : ∀ t : Fin cfg0.N, (cfg0.win 13).flush t = true → i ∉ ((cfg0.win 13).blk t).view.set) :
    (dats m 0 c).arrAt 13 cfg0.N i = V m c (Pipeline.arrRef spec0 13) i := by
  rw [(dats m 0 c).arrAt_apply_of_forall_not_mem 13 cfg0.N i (fun t _ hf => h t hf), A_eq]

theorem flushed14 (c : Dev nD) (t : Fin cfg0.N) :
    (dats m 0 c).flushed 14 t = (cfg0.win 14).cut (grid0.coords t) ((outsAt0 m c t.val t.isLt).2.1) := by
  show (cfg0.win 14).cut (grid0.coords t) ((dats m 0 c).after 14 t) = _
  rw [after0_14]

theorem flushed14_A (c : Dev nD) (t : Fin cfg0.N) (h0 : t.val % 17 = 0) (h1 : t.val % 17 = 0) :
    (dats m 0 c).flushed 14 t = (cfg0.win 14).cut (grid0.coords t) (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  simp only [flushed14, outsAt0_A m c t h0 h1]

theorem flushed14_B (c : Dev nD) (t : Fin cfg0.N) (h0 : ¬t.val % 17 = 0) (h1 : ¬t.val % 17 = 0) :
    (dats m 0 c).flushed 14 t = (cfg0.win 14).cut (grid0.coords t) (out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed14, outsAt0_B m c t h0 h1]

theorem idx_inj14 : ∀ t t' : Fin cfg0.N, win0_14.index t = win0_14.index t' → t = t' :=
  (by decide +kernel : ∀ t t' : Fin grid0.N, win0_14.index t = win0_14.index t' → t = t')

theorem disjoint14 : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (idx_inj14 t t' h)

theorem blocks14 (c : Dev nD) (t : Fin cfg0.N) (hf : (cfg0.win 14).flush t = true) :
    ((cfg0.win 14).blk t).view.read (Elt F) ((dats m 0 c).arrAt 14 cfg0.N) = (dats m 0 c).flushed 14 t :=
  (dats m 0 c).read_blk_arrAt_eq_flushed 14 disjoint14 cfg0.N t t.isLt hf

theorem entry14 (c : Dev nD) (i : S4x4352x1024.Idx) (h : ∀ t : Fin cfg0.N, (cfg0.win 14).flush t = true → i ∉ ((cfg0.win 14).blk t).view.set) :
    (dats m 0 c).arrAt 14 cfg0.N i = V m c (Pipeline.arrRef spec0 14) i := by
  rw [(dats m 0 c).arrAt_apply_of_forall_not_mem 14 cfg0.N i (fun t _ hf => h t hf), A_eq]

theorem post13 (r : PUnit × MemSt nD τ sig (Elt F)) (h : Pipeline.FramePost cfgs (dats m) 0 (V m) r) (c : Dev nD) :
    r.2.mem ((c : Thread nD τ).loc main_v13_0) = (dats m 0 c).arrAt 13 cfg0.N :=
  (h c).1 13

theorem post14 (r : PUnit × MemSt nD τ sig (Elt F)) (h : Pipeline.FramePost cfgs (dats m) 0 (V m) r) (c : Dev nD) :
    r.2.mem ((c : Thread nD τ).loc main_v13_1) = (dats m 0 c).arrAt 14 cfg0.N :=
  (h c).1 14

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 5).trans (((dats m 0 c).arrAt_in 5 rfl _).trans ((A_eq m c 5).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the run the two result arrays hold the blocks of the grid points. -/
theorem run_blocks : θ_run defs (onTc (τ := τ) (main (F := F))) ⟨m, fun _ => 0, ρ⟩ fun r => ∀ c : Dev nD,
      r.2.mem ((c : Thread nD τ).loc main_v13_0) = (dats m 0 c).arrAt 13 cfg0.N
      ∧ r.2.mem ((c : Thread nD τ).loc main_v13_1) = (dats m 0 c).arrAt 14 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post13 m r h c,
      post14 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

def scAt0_0 (c : Dev nD) (n : ℕ) (hb : n < cfg0.N) (acc : Vec F S8x1024 .f32) : Vec F S8x1024 .f32 :=
  if h0 : n % 17 = 0 then
    if h1 : n % 17 = 0 then
      sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 (⟨n, hb⟩ : Fin cfg0.N)).mpr h0) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N))
    else
      acc
  else
    if h1 : n % 17 = 0 then
      acc
    else
      sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.2

theorem soutsAt0_0_eq (c : Dev nD) (t : Fin cfg0.N) :
    (outsAt0 m c t.val t.isLt).2.2.1 = Pipeline.accAt (fun n h => scAt0_0 m c n h (VS0_0.read (Elt F) VS0_0.junk)) (scAt0_0 m c) (17 * (t.val / 17)) (t.val % 17)
      (by have h1 := t.isLt; have h2 := Nat.div_add_mod t.val 17; omega) :=
  Pipeline.eq_accAt_of_mod (fun n h => (outsAt0 m c n h).2.2.1) 17 (fun n h => scAt0_0 m c n h (VS0_0.read (Elt F) VS0_0.junk)) (scAt0_0 m c)
    (fun n h hn => by
      have hN := lt_of_lt_of_eq h (show cfg0.N = 68 from N_0)
      by_cases h0 : n % 17 = 0 <;> by_cases h1 : n % 17 = 0
      all_goals first | (exfalso; omega) | (rw [outsAt0_A m c ⟨n, h⟩ h0 h1]; dsimp only; unfold scAt0_0; rw [dif_pos h0, dif_pos h1] <;> try rfl) | (rw [outsAt0_B m c ⟨n, h⟩ h0 h1]; dsimp only; unfold scAt0_0; rw [dif_neg h0, dif_neg h1] <;> try rfl))
    (fun n h hn => by
      have hN := lt_of_lt_of_eq h (show cfg0.N = 68 from N_0)
      by_cases h0 : (n + 1) % 17 = 0 <;> by_cases h1 : (n + 1) % 17 = 0
      all_goals first | (exfalso; omega) | (rw [outsAt0_A m c ⟨n + 1, h⟩ h0 h1]; dsimp only; unfold scAt0_0; rw [dif_pos h0, dif_pos h1] <;> try rfl) | (rw [outsAt0_B m c ⟨n + 1, h⟩ h0 h1]; dsimp only; unfold scAt0_0; rw [dif_neg h0, dif_neg h1] <;> try rfl))
    (by decide) t.val t.isLt _

def scAt0_1 (c : Dev nD) (n : ℕ) (hb : n < cfg0.N) (acc : Vec F S8x1024 .f32) : Vec F S8x1024 .f32 :=
  if h0 : n % 17 = 0 then
    if h1 : n % 17 = 0 then
      sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 (⟨n, hb⟩ : Fin cfg0.N)).mpr h0) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N))
    else
      acc
  else
    if h1 : n % 17 = 0 then
      acc
    else
      sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (outsAt0 m c ((⟨n, hb⟩ : Fin cfg0.N).val - 1) (Nat.lt_of_le_of_lt (Nat.sub_le _ _) (⟨n, hb⟩ : Fin cfg0.N).isLt)).2.2.1 acc

theorem soutsAt0_1_eq (c : Dev nD) (t : Fin cfg0.N) :
    (outsAt0 m c t.val t.isLt).2.2.2 = Pipeline.accAt (fun n h => scAt0_1 m c n h (VS0_1.read (Elt F) VS0_1.junk)) (scAt0_1 m c) (17 * (t.val / 17)) (t.val % 17)
      (by have h1 := t.isLt; have h2 := Nat.div_add_mod t.val 17; omega) :=
  Pipeline.eq_accAt_of_mod (fun n h => (outsAt0 m c n h).2.2.2) 17 (fun n h => scAt0_1 m c n h (VS0_1.read (Elt F) VS0_1.junk)) (scAt0_1 m c)
    (fun n h hn => by
      have hN := lt_of_lt_of_eq h (show cfg0.N = 68 from N_0)
      by_cases h0 : n % 17 = 0 <;> by_cases h1 : n % 17 = 0
      all_goals first | (exfalso; omega) | (rw [outsAt0_A m c ⟨n, h⟩ h0 h1]; dsimp only; unfold scAt0_1; rw [dif_pos h0, dif_pos h1] <;> try rfl) | (rw [outsAt0_B m c ⟨n, h⟩ h0 h1]; dsimp only; unfold scAt0_1; rw [dif_neg h0, dif_neg h1] <;> try rfl))
    (fun n h hn => by
      have hN := lt_of_lt_of_eq h (show cfg0.N = 68 from N_0)
      by_cases h0 : (n + 1) % 17 = 0 <;> by_cases h1 : (n + 1) % 17 = 0
      all_goals first | (exfalso; omega) | (rw [outsAt0_A m c ⟨n + 1, h⟩ h0 h1]; dsimp only; unfold scAt0_1; rw [dif_pos h0, dif_pos h1] <;> try rfl) | (rw [outsAt0_B m c ⟨n + 1, h⟩ h0 h1]; dsimp only; unfold scAt0_1; rw [dif_neg h0, dif_neg h1] <;> try rfl))
    (by decide) t.val t.isLt _

end Cert.KernelIdeal.Lru

end
-- ==== Proof.Lru.Scal.lean ====
/- Identities between scalars: the kernel's spellings of the logistic function, of `log (sigmoid λ)` and of the input
   scale `√(1 − a²)` are the reference's, at every extended real. -/
module

public import Idealize.ShloMosaic.PureOps.Ideal
public import Idealize.ShloMosaic.Lib.IdealHost

@[expose] public section

noncomputable section

namespace Cert.Lru

open Idealize.ShloMosaic

/-- The f32 pattern of one half. -/
theorem bits_half : Ideal.ofBits .f32 0x3F000000#32 = (((1 : ℝ) / 2 : ℝ) : EReal) := by
  simp [Ideal.ofBits, Ideal.ieee, -EReal.coe_mul]; norm_num

/-- The f32 pattern of two. -/
theorem bits_two : Ideal.ofBits .f32 0x40000000#32 = ((2 : ℝ) : EReal) := by
  simp [Ideal.ofBits, Ideal.ieee, -EReal.coe_mul]; norm_num

/-- The f32 pattern of eight. -/
theorem bits_eight : Ideal.ofBits .f32 0x41000000#32 = ((8 : ℝ) : EReal) := by
  simp [Ideal.ofBits, Ideal.ieee, -EReal.coe_mul]; norm_num

/-- Half of `tanh (x / 2)` plus a half is the logistic function of `x`, on the reals. -/
theorem real_tanh_half (x : ℝ) : 1 / 2 * Real.tanh (1 / 2 * x) + 1 / 2 = (1 + Real.exp (-x))⁻¹ := by
  rw [Real.tanh_eq_sinh_div_cosh, Real.sinh_eq, Real.cosh_eq]
  have h1 : Real.exp (-x) = Real.exp (-(1 / 2 * x)) * Real.exp (-(1 / 2 * x)) := by rw [← Real.exp_add]; ring_nf
  have h2 : Real.exp (1 / 2 * x) * Real.exp (-(1 / 2 * x)) = 1 := by rw [← Real.exp_add]; simp
  have hp : 0 < Real.exp (1 / 2 * x) := Real.exp_pos _
  have hn : 0 < Real.exp (-(1 / 2 * x)) := Real.exp_pos _
  rw [h1]
  generalize Real.exp (1 / 2 * x) = p at *
  generalize Real.exp (-(1 / 2 * x)) = n at *
  have : 0 < p + n := by positivity
  have h3 : 0 < 1 + n * n := by positivity
  field_simp
  nlinarith

/-- The kernel's logistic function, `0.5 · tanh (0.5 · x) + 0.5`, is `1 / (1 + e^(−x))`. -/
theorem tanh_half (x : EReal) :
    (((1 : ℝ) / 2 : ℝ) : EReal) * Ideal.tanh ((((1 : ℝ) / 2 : ℝ) : EReal) * x) + (((1 : ℝ) / 2 : ℝ) : EReal)
      = Ideal.logistic x := by
  induction x with
  | bot =>
    rw [EReal.coe_mul_bot_of_pos (by norm_num), Ideal.logistic_bot]
    show _ * (-1 : EReal) + _ = 0
    rw [show (-1 : EReal) = ((-1 : ℝ) : EReal) by norm_num, ← EReal.coe_mul, ← EReal.coe_add]; norm_num
  | top =>
    rw [EReal.coe_mul_top_of_pos (by norm_num), Ideal.logistic_top]
    show _ * (1 : EReal) + _ = 1
    rw [mul_one, ← EReal.coe_add]; norm_num
  | coe r =>
    rw [← EReal.coe_mul, Ideal.logistic_coe]
    show _ * ((Real.tanh (1 / 2 * r) : ℝ) : EReal) + _ = _
    rw [← EReal.coe_mul, ← EReal.coe_add, real_tanh_half]

/-- The logistic function is nowhere negative. -/
theorem logistic_nonneg (x : EReal) : 0 ≤ Ideal.logistic x := by
  induction x with
  | bot => rw [Ideal.logistic_bot]
  | top => rw [Ideal.logistic_top]; norm_num
  | coe r => rw [Ideal.logistic_coe]; exact EReal.coe_nonneg.mpr (by positivity)

/-- `log (1 + e^(−|x|))` is a real number that is not negative. -/
theorem log1p_exp (x : EReal) : ∃ r : ℝ, 0 ≤ r ∧ Ideal.log1p (Ideal.exp (-(max x (-x)))) = (r : EReal) := by
  have key : ∀ y : EReal, 0 ≤ y → ∃ r : ℝ, 0 ≤ r ∧ Ideal.log1p (Ideal.exp (-y)) = (r : EReal) := by
    intro y hy
    induction y with
    | bot => exact absurd hy (by simp)
    | top =>
      refine ⟨0, le_refl _, ?_⟩
      rw [EReal.neg_top]
      show Ideal.log (1 + 0) = _
      rw [add_zero]
      show (if (1 : ℝ) ≤ 0 then ⊥ else ((Real.log 1 : ℝ) : EReal)) = _
      rw [if_neg (by norm_num), Real.log_one]
    | coe r =>
      refine ⟨Real.log (1 + Real.exp (-r)), Real.log_nonneg (by have := Real.exp_pos (-r); linarith), ?_⟩
      rw [← EReal.coe_neg]
      show Ideal.log (1 + ((Real.exp (-r) : ℝ) : EReal)) = _
      rw [← EReal.coe_one, ← EReal.coe_add]
      show (if (1 + Real.exp (-r) : ℝ) ≤ 0 then ⊥ else ((Real.log (1 + Real.exp (-r)) : ℝ) : EReal)) = _
      rw [if_neg (by have := Real.exp_pos (-r); linarith)]
  refine key _ ?_
  rcases le_total 0 x with h | h
  · exact le_trans h (le_max_left _ _)
  · exact le_trans (by rw [← neg_zero]; exact EReal.neg_le_neg_iff.mpr h) (le_max_right _ _)

/-- The logarithm of `sigmoid λ`, as minus the softplus of `−λ`. -/
def logSig (l : EReal) : EReal := -(max (-l) 0 + Ideal.log1p (Ideal.exp (-(max (-l) l))))

/-- The kernel's `min(λ, 0) − log1p(exp(−|λ|))` is that logarithm. -/
theorem min_sub_log1p (l : EReal) :
    min l 0 - Ideal.log1p (Ideal.exp (0 - max l (-l))) = logSig l := by
  obtain ⟨r, -, hr⟩ := log1p_exp l
  have hm : max (-l) l = max l (-l) := max_comm _ _
  unfold logSig
  rw [hm, zero_sub, hr, EReal.neg_add (Or.inr (EReal.coe_ne_top r)) (Or.inr (EReal.coe_ne_bot r))]
  congr 1
  rcases le_total 0 l with h | h
  · have h' : -l ≤ 0 := by rw [← neg_zero]; exact EReal.neg_le_neg_iff.mpr h
    rw [min_eq_right h, max_eq_right h', neg_zero]
  · have h' : 0 ≤ -l := by rw [← neg_zero]; exact EReal.neg_le_neg_iff.mpr h
    rw [min_eq_left h, max_eq_left h', neg_neg]

/-- It is not positive. -/
theorem logSig_nonpos (l : EReal) : logSig l ≤ 0 := by
  obtain ⟨r, h0, hr⟩ := log1p_exp l
  have hm : max (-l) l = max l (-l) := max_comm _ _
  unfold logSig
  rw [hm, hr, ← neg_zero, EReal.neg_le_neg_iff]
  rw [neg_zero]
  exact add_nonneg (le_max_right _ _) (EReal.coe_nonneg.mpr h0)

/-- `8 · r · log (sigmoid λ)`, the logarithm of a decay, is not positive. -/
theorem logDecay_nonpos (x l : EReal) : ((8 : ℝ) : EReal) * Ideal.logistic x * logSig l ≤ 0 :=
  mul_nonpos_of_nonneg_of_nonpos
    (mul_nonneg (EReal.coe_nonneg.mpr (by norm_num)) (logistic_nonneg x)) (logSig_nonpos l)

/-- The exponential of what is not positive lies between zero and one. -/
theorem exp_mem (x : EReal) (h : x ≤ 0) : 0 ≤ Ideal.exp x ∧ Ideal.exp x ≤ 1 := by
  induction x with
  | bot => exact ⟨le_refl _, zero_le_one⟩
  | top => exact absurd h (by simp)
  | coe r =>
    have hr : r ≤ 0 := by exact_mod_cast h
    refine ⟨EReal.coe_nonneg.mpr (Real.exp_pos r).le, ?_⟩
    show ((Real.exp r : ℝ) : EReal) ≤ ((1 : ℝ) : EReal)
    exact EReal.coe_le_coe_iff.mpr (Real.exp_le_one_iff.mpr hr)

/-- The kernel's `√((0 − tanh l) · (a · a + 1))` at `a = e^l` is `√(−(e^(2 l) − 1))`, for `l ≤ 0`. -/
theorem sqrt_tanh (l : EReal) (h : l ≤ 0) :
    Ideal.sqrt ((0 - Ideal.tanh l) * (Ideal.exp l * Ideal.exp l + 1))
      = Ideal.sqrt (-(Ideal.expm1 (((2 : ℝ) : EReal) * l))) := by
  congr 1
  unfold Ideal.expm1
  induction l with
  | bot =>
    rw [EReal.coe_mul_bot_of_pos (by norm_num)]
    show (0 - (-1 : EReal)) * ((0 : EReal) * 0 + 1) = -((0 : EReal) - 1)
    simp
  | top => exact absurd h (by simp)
  | coe r =>
    rw [← EReal.coe_mul]
    show (0 - ((Real.tanh r : ℝ) : EReal)) * (((Real.exp r : ℝ) : EReal) * ((Real.exp r : ℝ) : EReal) + 1)
      = -(((Real.exp (2 * r) : ℝ) : EReal) - 1)
    rw [← EReal.coe_zero, ← EReal.coe_one, ← EReal.coe_sub, ← EReal.coe_mul, ← EReal.coe_add, ← EReal.coe_mul,
      ← EReal.coe_sub, ← EReal.coe_neg]
    congr 1
    rw [Real.tanh_eq_sinh_div_cosh, Real.sinh_eq, Real.cosh_eq]
    have h1 : Real.exp (2 * r) = Real.exp r * Real.exp r := by rw [← Real.exp_add]; ring_nf
    have h2 : Real.exp r * Real.exp (-r) = 1 := by rw [← Real.exp_add]; simp
    have hp : 0 < Real.exp r := Real.exp_pos _
    have hn : 0 < Real.exp (-r) := Real.exp_pos _
    rw [h1]
    generalize Real.exp r = p at *
    generalize Real.exp (-r) = n at *
    have : 0 < p + n := by positivity
    have hnp : n = p⁻¹ := by field_simp; linarith
    subst hnp
    field_simp
    ring

end Cert.Lru

end
-- ==== Proof.Lru.Tile.lean ====
/- One tile of 256 tokens: the kernel's convolution, gates, decays and inputs as expressions of what its windows hold,
   and each of them at an index. Both directions of the scan compute them alike, so the expressions are stated once. -/
module

public import proofs.«01_k».proof.Proof.Gen.KernelIdeal.Skeleton
public import proofs.«01_k».proof.Proof.Lru.Scal
public import Idealize.ShloMosaic.Lib.Pointwise

@[expose] public section

set_option maxRecDepth 16384

noncomputable section

namespace Cert.Lru

open Cert.KernelIdeal Cert.KernelIdeal.Gen Idealize.ShloMosaic

/-- The tile between the eight rows before it and the eight rows after it, each zeroed unless its word says to keep it. -/
def extTile (bp bn : BitVec 1) (prev next : FVec Ideal S1x8x1024 .f32) (x : FVec Ideal S1x256x1024 .f32) :
    FVec Ideal S272x1024 .f32 :=
  concatenate S272x1024 0
    [⟨S8x1024, Scalar.select bp (shapeCast S8x1024 prev shapeCasts_S1x8x1024_S8x1024)
        (broadcast S8x1024 (Scalar.ofBits .f32 0x00000000#32))⟩,
      ⟨S256x1024, shapeCast S256x1024 x shapeCasts_S1x256x1024_S256x1024⟩,
      ⟨S8x1024, Scalar.select bn (shapeCast S8x1024 next shapeCasts_S1x8x1024_S8x1024)
        (broadcast S8x1024 (Scalar.ofBits .f32 0x00000000#32))⟩]
    concatenates_S8x1024_S256x1024_S8x1024_S272x1024_d0

/-- The four-tap convolution of the tile with the weights `w` and the bias `cb`. -/
def convTile (e : FVec Ideal S272x1024 .f32) (x : FVec Ideal S1x256x1024 .f32) (w : FVec Ideal S4x1024 .f32)
    (cb : FVec Ideal S1x1024 .f32) : FVec Ideal S256x1024 .f32 :=
  addf (addf (addf (addf
    (mulf (broadcastTo S256x1024 (extractStridedSlice S1x1024 ![0, 0] (shapeCast S4x1024 w shapeCasts_S4x1024_S4x1024)
        slices_S4x1024_o0_0_S1x1024) broadcasts_S1x1024_S256x1024)
      (extractStridedSlice S256x1024 ![8, 0] (dynamicRotate 0 1#32 none e rotates_S272x1024_d0)
        slices_S272x1024_o8_0_S256x1024))
    (mulf (broadcastTo S256x1024 (extractStridedSlice S1x1024 ![1, 0] (shapeCast S4x1024 w shapeCasts_S4x1024_S4x1024)
        slices_S4x1024_o1_0_S1x1024) broadcasts_S1x1024_S256x1024)
      (shapeCast S256x1024 x shapeCasts_S1x256x1024_S256x1024)))
    (mulf (broadcastTo S256x1024 (extractStridedSlice S1x1024 ![2, 0] (shapeCast S4x1024 w shapeCasts_S4x1024_S4x1024)
        slices_S4x1024_o2_0_S1x1024) broadcasts_S1x1024_S256x1024)
      (extractStridedSlice S256x1024 ![8, 0] (dynamicRotate 0 271#32 none e rotates_S272x1024_d0)
        slices_S272x1024_o8_0_S256x1024)))
    (mulf (broadcastTo S256x1024 (extractStridedSlice S1x1024 ![3, 0] (shapeCast S4x1024 w shapeCasts_S4x1024_S4x1024)
        slices_S4x1024_o3_0_S1x1024) broadcasts_S1x1024_S256x1024)
      (extractStridedSlice S256x1024 ![8, 0] (dynamicRotate 0 270#32 none e rotates_S272x1024_d0)
        slices_S272x1024_o8_0_S256x1024)))
    (broadcastTo S256x1024 (shapeCast S1x1024 cb shapeCasts_S1x1024_S1x1024) broadcasts_S1x1024_S256x1024)

/-- The four block products side by side. -/
def mixTile (cv : FVec Ideal S256x1024 .bf16) (w0 w1 w2 w3 : FVec Ideal S1x1x256x256 .bf16) :
    FVec Ideal S256x1024 .f32 :=
  concatenate S256x1024 1
    [⟨S256x256, matmul dot_S256x256_S256x256_S256x256_1_0_0_1_n_n none
        (extractStridedSlice S256x256 ![0, 0] cv slices_S256x1024_o0_0_S256x256)
        (shapeCast S256x256 w0 shapeCasts_S1x1x256x256_S256x256) (constant S256x256 .f32 0x00000000#32)⟩,
      ⟨S256x256, matmul dot_S256x256_S256x256_S256x256_1_0_0_1_n_n none
        (extractStridedSlice S256x256 ![0, 256] cv slices_S256x1024_o0_256_S256x256)
        (shapeCast S256x256 w1 shapeCasts_S1x1x256x256_S256x256) (constant S256x256 .f32 0x00000000#32)⟩,
      ⟨S256x256, matmul dot_S256x256_S256x256_S256x256_1_0_0_1_n_n none
        (extractStridedSlice S256x256 ![0, 512] cv slices_S256x1024_o0_512_S256x256)
        (shapeCast S256x256 w2 shapeCasts_S1x1x256x256_S256x256) (constant S256x256 .f32 0x00000000#32)⟩,
      ⟨S256x256, matmul dot_S256x256_S256x256_S256x256_1_0_0_1_n_n none
        (extractStridedSlice S256x256 ![0, 768] cv slices_S256x1024_o0_768_S256x256)
        (shapeCast S256x256 w3 shapeCasts_S1x1x256x256_S256x256) (constant S256x256 .f32 0x00000000#32)⟩]
    concatenates_S256x256_S256x256_S256x256_S256x256_S256x1024_d1

variable {bp bn : BitVec 1} {prev next : FVec Ideal S1x8x1024 .f32} {x : FVec Ideal S1x256x1024 .f32}
  {e : FVec Ideal S272x1024 .f32} {w : FVec Ideal S4x1024 .f32} {cb : FVec Ideal S1x1024 .f32}
  {w0 w1 w2 w3 : FVec Ideal S1x1x256x256 .bf16}

/-- The convolution at an index. -/
theorem convTile_apply (q : Fin 256) (j : Fin 1024) :
    convTile e x w cb (ix2 q j)
      = w (ix2 0 j) * e (ix2 ⟨q + 7, by omega⟩ j) + w (ix2 1 j) * x (ix3 0 q j)
        + w (ix2 2 j) * e (ix2 ⟨q + 9, by omega⟩ j) + w (ix2 3 j) * e (ix2 ⟨q + 10, by omega⟩ j) + cb (ix2 0 j) := by
  pointwise [convTile]
  have h1 : (⟨(8 + ↑q + 272 - 1) % 272, Nat.mod_lt _ (by norm_num)⟩ : Fin 272) = ⟨q + 7, by omega⟩ :=
    Fin.ext (by dsimp only; omega)
  have h2 : (⟨(8 + ↑q + 272 - 271) % 272, Nat.mod_lt _ (by norm_num)⟩ : Fin 272) = ⟨q + 9, by omega⟩ :=
    Fin.ext (by dsimp only; omega)
  have h3 : (⟨(8 + ↑q + 272 - 270) % 272, Nat.mod_lt _ (by norm_num)⟩ : Fin 272) = ⟨q + 10, by omega⟩ :=
    Fin.ext (by dsimp only; omega)
  rw [h1, h2, h3]

/-- A row before the tile. -/
theorem ext_prev (r : Fin 8) (j : Fin 1024) :
    extTile bp bn prev next x (ix2 ⟨r, by omega⟩ j) = if bp = 1#1 then prev (ix3 0 r j) else 0 := by
  pointwise [extTile]
  rfl

/-- A row of the tile. -/
theorem ext_mid (q : Fin 256) (j : Fin 1024) :
    extTile bp bn prev next x (ix2 ⟨q + 8, by omega⟩ j) = x (ix3 0 q j) := by
  pointwise [extTile]
  rw [dif_neg (by omega), dif_pos (by omega)]
  simp only [Nat.add_sub_cancel, Fin.eta]

/-- A row after the tile. -/
theorem ext_next (r : Fin 8) (j : Fin 1024) :
    extTile bp bn prev next x (ix2 ⟨r + 264, by omega⟩ j) = if bn = 1#1 then next (ix3 0 r j) else 0 := by
  pointwise [extTile]
  rw [dif_neg (by omega), dif_neg (by omega)]
  have h : (⟨↑r + 264 - 8 - 256, by omega⟩ : Fin 8) = r := Fin.ext (by dsimp only; omega)
  rw [h]
  rfl

/-- The block products at an index: channel `j` is in block `j / 256`. -/
theorem mixTile_apply (cv : FVec Ideal S256x1024 .bf16) (q : Fin 256) (j : Fin 1024) (wt : Fin 4 → Fin 256 → Fin 256 → EReal)
    (h0 : ∀ i k, w0 (ix4 0 0 i k) = wt 0 i k) (h1 : ∀ i k, w1 (ix4 0 0 i k) = wt 1 i k)
    (h2 : ∀ i k, w2 (ix4 0 0 i k) = wt 2 i k) (h3 : ∀ i k, w3 (ix4 0 0 i k) = wt 3 i k) :
    mixTile cv w0 w1 w2 w3 (ix2 q j)
      = ∑ i : Fin 256, cv (ix2 q ⟨256 * (j / 256) + i, by omega⟩)
          * wt ⟨j / 256, by omega⟩ i ⟨j % 256, by omega⟩ := by
  have key : ∀ (b : Fin 4) (k : Fin 256), j.val = 256 * b + k →
      ∑ i : Fin 256, cv (ix2 q ⟨256 * (j / 256) + i, by omega⟩) * wt ⟨j / 256, by omega⟩ i ⟨j % 256, by omega⟩
        = ∑ i : Fin 256, cv (ix2 q ⟨256 * b + i, by omega⟩) * wt b i k := by
    intro b k h
    have hb : j.val / 256 = b := by omega
    have hk : j.val % 256 = k := by omega
    simp only [hb, hk, Fin.eta]
  pointwise [mixTile]
  by_cases c0 : j.val < 256
  · rw [dif_pos c0, key 0 ⟨j, c0⟩ (show j.val = 256 * 0 + j.val by omega)]
    refine Finset.sum_congr rfl fun i _ => ?_
    rw [h0]
    exact congrArg (fun k => cv (ix2 q k) * _) (Fin.ext (show i.val = 256 * 0 + i.val by omega))
  rw [dif_neg c0]
  by_cases c1 : j.val - 256 < 256
  · rw [dif_pos c1, key 1 ⟨j - 256, c1⟩ (show j.val = 256 * 1 + (j.val - 256) by omega)]
    refine Finset.sum_congr rfl fun i _ => ?_
    rw [h1]
    exact congrArg (fun k => cv (ix2 q k) * _) (Fin.ext (show 256 + i.val = 256 * 1 + i.val by omega))
  rw [dif_neg c1]
  by_cases c2 : j.val - 256 - 256 < 256
  · rw [dif_pos c2, key 2 ⟨j - 256 - 256, c2⟩ (show j.val = 256 * 2 + (j.val - 256 - 256) by omega)]
    refine Finset.sum_congr rfl fun i _ => ?_
    rw [h2]
    exact congrArg (fun k => cv (ix2 q k) * _) (Fin.ext (show 512 + i.val = 256 * 2 + i.val by omega))
  rw [dif_neg c2, key 3 ⟨j - 256 - 256 - 256, by omega⟩ (show j.val = 256 * 3 + (j.val - 256 - 256 - 256) by omega)]
  refine Finset.sum_congr rfl fun i _ => ?_
  rw [h3]
  exact congrArg (fun k => cv (ix2 q k) * _) (Fin.ext (show 768 + i.val = 256 * 3 + i.val by omega))

/-- A gate at an index. -/
theorem gate_apply (mix : FVec Ideal S256x1024 .f32) (bv : FVec Ideal S1x1x1024 .f32) (q : Fin 256) (j : Fin 1024) :
    k0_pay21 (F := Ideal) mix bv (ix2 q j) = Ideal.logistic (mix (ix2 q j) + bv (ix3 0 0 j)) := by
  pointwise [k0_pay21]
  rw [bits_half]
  exact tanh_half _

/-- The logarithm of the decay at an index. -/
theorem logDecay_apply (g : FVec Ideal S256x1024 .f32) (l : FVec Ideal S1x1x1024 .f32) (q : Fin 256) (j : Fin 1024) :
    k0_pay25 (F := Ideal) g (k0_pay23 l) (k0_pay24 l) (ix2 q j)
      = ((8 : ℝ) : EReal) * g (ix2 q j) * logSig (l (ix3 0 0 j)) := by
  pointwise [k0_pay25, k0_pay23, k0_pay24]
  rw [← min_sub_log1p, bits_eight]
  rfl

/-- The decay at an index. -/
theorem decay_apply (g : FVec Ideal S256x1024 .f32) (l : FVec Ideal S1x1x1024 .f32) (q : Fin 256) (j : Fin 1024) :
    k0_pay27 (F := Ideal) g (k0_pay23 l) (k0_pay24 l) (ix2 q j)
      = Ideal.exp (((8 : ℝ) : EReal) * g (ix2 q j) * logSig (l (ix3 0 0 j))) := by
  rw [← logDecay_apply]
  pointwise [k0_pay27, k0_pay26]

/-- The input at an index, where the logarithm of the decay is not positive. -/
theorem input_apply (cv g gi : FVec Ideal S256x1024 .f32) (l : FVec Ideal S1x1x1024 .f32) (q : Fin 256) (j : Fin 1024)
    (h : ((8 : ℝ) : EReal) * g (ix2 q j) * logSig (l (ix3 0 0 j)) ≤ 0) :
    k0_pay28 (F := Ideal) cv g gi (k0_pay23 l) (k0_pay24 l) (ix2 q j)
      = Ideal.sqrt (-(Ideal.expm1 (((2 : ℝ) : EReal) * (((8 : ℝ) : EReal) * g (ix2 q j) * logSig (l (ix3 0 0 j))))))
        * (gi (ix2 q j) * cv (ix2 q j)) := by
  rw [← sqrt_tanh _ h, ← logDecay_apply]
  pointwise [k0_pay28, k0_pay26]

end Cert.Lru

end
-- ==== Proof.Lru.Group.lean ====
/- The recurrence `h ↦ a · h + u` over eight rows by doubling: combining the rows' maps at distances 1, 2 and 4 and
   applying the results to the carried row gives, row by row, the recurrence run one row after another. Decays between
   zero and one make the product distribute over every sum of extended reals, so nothing is assumed of the rest. -/
module

public import Mathlib.Data.EReal.Inv
public import Mathlib.Tactic.IntervalCases

@[expose] public section

noncomputable section

namespace Cert.Lru

/-- The affine map `h ↦ a · h + u` of a pair `(a, u)`. -/
def ap (p : EReal × EReal) (h : EReal) : EReal := p.1 * h + p.2

/-- The pair of the composite, first `q` and then `p`. -/
def cp (p q : EReal × EReal) : EReal × EReal := (p.1 * q.1, p.1 * q.2 + p.2)

/-- The decay lies between zero and one. -/
def Good (p : EReal × EReal) : Prop := 0 ≤ p.1 ∧ p.1 ≤ 1

theorem Good.ne_top {p : EReal × EReal} (h : Good p) : p.1 ≠ ⊤ :=
  ne_of_lt (lt_of_le_of_lt h.2 (EReal.coe_lt_top 1))

theorem ap_cp {p : EReal × EReal} (hp : Good p) (q : EReal × EReal) (h : EReal) : ap (cp p q) h = ap p (ap q h) := by
  unfold ap cp
  rw [EReal.left_distrib_of_nonneg_of_ne_top hp.1 hp.ne_top, mul_assoc, add_assoc]

theorem Good.cp {p q : EReal × EReal} (hp : Good p) (hq : Good q) : Good (cp p q) :=
  ⟨mul_nonneg hp.1 hq.1, mul_le_one₀ hp.2 hq.1 hq.2⟩

/-- The rows' maps after `n` steps from `h0`. -/
def seq (P : ℕ → EReal × EReal) (h0 : EReal) : ℕ → EReal
  | 0 => h0
  | n + 1 => ap (P n) (seq P h0 n)

theorem seq_succ (P : ℕ → EReal × EReal) (h0 : EReal) (n : ℕ) : seq P h0 (n + 1) = ap (P n) (seq P h0 n) := rfl

/-- `m` steps after `n` are the steps of the shifted sequence from where the first `n` lead. -/
theorem seq_add (P : ℕ → EReal × EReal) (h0 : EReal) (n m : ℕ) :
    seq P h0 (n + m) = seq (fun i => P (n + i)) (seq P h0 n) m := by
  induction m with
  | zero => rfl
  | succ m ih => rw [← Nat.add_assoc, seq_succ, seq_succ, ih]

theorem seq_congr {P Q : ℕ → EReal × EReal} (h0 : EReal) (n : ℕ) (h : ∀ i < n, P i = Q i) : seq P h0 n = seq Q h0 n := by
  induction n with
  | zero => rfl
  | succ n ih => rw [seq_succ, seq_succ, h n (Nat.lt_succ_self n), ih fun i hi => h i (Nat.lt_succ_of_lt hi)]

/-- One doubling at distance `s`: a row that has a row `s` before it is composed with it. -/
def st (s : ℕ) (P : ℕ → EReal × EReal) (r : ℕ) : EReal × EReal := if s ≤ r then cp (P r) (P (r - s)) else P r

/-- Three doublings of eight rows, applied to the carried row, are the recurrence. -/
theorem doubling (P : ℕ → EReal × EReal) (hP : ∀ r < 8, Good (P r)) (h : EReal) (r : ℕ) (hr : r < 8) :
    ap (st 4 (st 2 (st 1 P)) r) h = seq P h (r + 1) := by
  have g0 := hP 0 (by norm_num); have g1 := hP 1 (by norm_num); have g2 := hP 2 (by norm_num)
  have g3 := hP 3 (by norm_num); have g4 := hP 4 (by norm_num); have g5 := hP 5 (by norm_num)
  have g6 := hP 6 (by norm_num); have g7 := hP 7 (by norm_num)
  interval_cases r <;>
    simp (maxDischargeDepth := 6) [st, seq, ap_cp, g0, g1, g2, g3, g4, g5, g6, g7, Good.cp]

end Cert.Lru

end
-- ==== Proof.Lru.Spec.lean ====
/- What both programs compute, over plain functions of the arguments: the convolution of a segment, the two gates, the
   decay and the input of a step, the order in which a direction visits the positions, and the recurrence over them. -/
module

public import proofs.«01_k».proof.Proof.Lru.Scal
public import proofs.«01_k».proof.Proof.Lru.Group

@[expose] public section

noncomputable section

namespace Cert.Lru

open Idealize.ShloMosaic

/-- The arguments: the projected inputs (at a position past the last, zero), the convolution's weights and bias, the decay
    parameter, and the weights and biases of the two gates. -/
structure Args where
  x : Fin 4 → ℕ → Fin 1024 → EReal
  w : Fin 4 → Fin 1024 → EReal
  cb : Fin 1024 → EReal
  lam : Fin 2 → Fin 1024 → EReal
  wa : Fin 2 → Fin 4 → Fin 256 → Fin 256 → EReal
  ba : Fin 2 → Fin 1024 → EReal
  wx : Fin 2 → Fin 4 → Fin 256 → Fin 256 → EReal
  bx : Fin 2 → Fin 1024 → EReal

variable (A : Args)

/-- The position before `p` in its segment; a segment begins at 0 and at 256. -/
def tapPrev (b : Fin 4) (p : ℕ) (j : Fin 1024) : EReal := if p = 0 ∨ p = 256 then 0 else A.x b (p - 1) j

/-- The position after `p` in its segment. -/
def tapNext (b : Fin 4) (p : ℕ) (j : Fin 1024) : EReal := if p = 255 ∨ p = 4351 then 0 else A.x b (p + 1) j

/-- The position two after `p` in its segment. -/
def tapNext2 (b : Fin 4) (p : ℕ) (j : Fin 1024) : EReal :=
  if p = 254 ∨ p = 255 ∨ p = 4350 ∨ p = 4351 then 0 else A.x b (p + 2) j

/-- The convolution. -/
def conv (b : Fin 4) (p : ℕ) (j : Fin 1024) : EReal :=
  A.w 0 j * tapPrev A b p j + A.w 1 j * A.x b p j + A.w 2 j * tapNext A b p j + A.w 3 j * tapNext2 A b p j + A.cb j

/-- A gate: channel `j` reads the 256 channels of its block. -/
def gate (wt : Fin 4 → Fin 256 → Fin 256 → EReal) (bv : Fin 1024 → EReal) (b : Fin 4) (p : ℕ) (j : Fin 1024) : EReal :=
  Ideal.logistic ((∑ i : Fin 256, conv A b p ⟨256 * (j / 256) + i, by omega⟩
    * wt ⟨j / 256, by omega⟩ i ⟨j % 256, by omega⟩) + bv j)

/-- The logarithm of a step's decay. -/
def logDecay (d : Fin 2) (b : Fin 4) (p : ℕ) (j : Fin 1024) : EReal :=
  ((8 : ℝ) : EReal) * gate A (A.wa d) (A.ba d) b p j * logSig (A.lam d j)

/-- A step's decay and input. -/
def pair (d : Fin 2) (b : Fin 4) (p : ℕ) (j : Fin 1024) : EReal × EReal :=
  (Ideal.exp (logDecay A d b p j),
    Ideal.sqrt (-(Ideal.expm1 (((2 : ℝ) : EReal) * logDecay A d b p j)))
      * (gate A (A.wx d) (A.bx d) b p j * conv A b p j))

theorem logDecay_le (d : Fin 2) (b : Fin 4) (p : ℕ) (j : Fin 1024) : logDecay A d b p j ≤ 0 := logDecay_nonpos _ _

theorem pair_good (d : Fin 2) (b : Fin 4) (p : ℕ) (j : Fin 1024) : Good (pair A d b p j) :=
  exp_mem _ (logDecay_le A d b p j)

/-- The position the reverse scan visits at step `q`: each segment from its end. -/
def back (q : ℕ) : ℕ := if q < 256 then 255 - q else 4607 - q

/-- The steps of direction `d` in the order it takes them. -/
def steps (d : Fin 2) (b : Fin 4) (j : Fin 1024) (q : ℕ) : EReal × EReal :=
  pair A d b (if d = 0 then q else back q) j

/-- The state after `n` steps. -/
def hid (d : Fin 2) (b : Fin 4) (j : Fin 1024) (n : ℕ) : EReal := seq (steps A d b j) 0 n

/-- `n` steps from the beginning of tile `t`. -/
theorem hid_tile (d : Fin 2) (b : Fin 4) (j : Fin 1024) (t n : ℕ) :
    hid A d b j (256 * t + n) = seq (fun i => steps A d b j (256 * t + i)) (hid A d b j (256 * t)) n :=
  seq_add _ _ _ _

/-- The tile the reverse scan visits as its `t`-th. -/
def backTile (t : ℕ) : ℕ := if t = 0 then 0 else 17 - t

theorem back_tile (t r : ℕ) (ht : t < 17) (hr : r < 256) : back (256 * t + r) = 256 * backTile t + (255 - r) := by
  unfold back backTile
  split_ifs <;> omega

theorem back_back (p : ℕ) (h : p < 4352) : back (back p) = p ∧ back p < 4352 := by
  unfold back
  split_ifs <;> omega

end Cert.Lru

end
-- ==== Proof.Lru.TileSpec.lean ====
/- A tile's decays and inputs, of windows that hold the arguments, are those of the recurrence's steps. -/
module

public import proofs.«01_k».proof.Proof.Lru.Tile
public import proofs.«01_k».proof.Proof.Lru.Spec

@[expose] public section

set_option maxRecDepth 16384

noncomputable section

namespace Cert.Lru

open Cert.KernelIdeal Cert.KernelIdeal.Gen Idealize.ShloMosaic

/-- The windows of a grid point hold tile `ti` of row `b`, its neighbours where the words say to keep them, and the
    weights. -/
structure Holds (A : Args) (b : Fin 4) (ti : ℕ) (bp bn : BitVec 1) (prev next : FVec Ideal S1x8x1024 .f32)
    (x : FVec Ideal S1x256x1024 .f32) (w : FVec Ideal S4x1024 .f32) (cb : FVec Ideal S1x1024 .f32) : Prop where
  lt : ti < 17
  here : ∀ (q : Fin 256) j, x (ix3 0 q j) = A.x b (256 * ti + q) j
  prevWord : bp = 1#1 ↔ 2 ≤ ti
  before : 2 ≤ ti → ∀ j, prev (ix3 0 7 j) = A.x b (256 * ti - 1) j
  nextWord : bn = 1#1 ↔ 1 ≤ ti ∧ ti ≤ 15
  after : 1 ≤ ti → ti ≤ 15 → ∀ (r : Fin 8) j, next (ix3 0 r j) = A.x b (256 * ti + 256 + r) j
  weights : ∀ k j, w (ix2 k j) = A.w k j
  bias : ∀ j, cb (ix2 0 j) = A.cb j

variable {A : Args} {b : Fin 4} {ti : ℕ} {bp bn : BitVec 1} {prev next : FVec Ideal S1x8x1024 .f32}
  {x : FVec Ideal S1x256x1024 .f32} {w : FVec Ideal S4x1024 .f32} {cb : FVec Ideal S1x1024 .f32}

theorem tap_prev (H : Holds A b ti bp bn prev next x w cb) (q : Fin 256) (j : Fin 1024) :
    extTile bp bn prev next x (ix2 ⟨q + 7, by omega⟩ j) = tapPrev A b (256 * ti + q) j := by
  have hlt := H.lt
  unfold tapPrev
  by_cases h : q.val = 0
  · have e := ext_prev (bp := bp) (bn := bn) (prev := prev) (next := next) (x := x) 7 j
    have h' : (⟨q + 7, by omega⟩ : Fin 272) = ⟨((7 : Fin 8) : ℕ), by decide⟩ := Fin.ext (by simp [h])
    rw [h', e]
    by_cases c : 2 ≤ ti
    · rw [if_pos (H.prevWord.mpr c), if_neg (by omega), H.before c, h, Nat.add_zero]
    · rw [if_neg (fun k => c (H.prevWord.mp k)), if_pos (by omega)]
  · have e := ext_mid (bp := bp) (bn := bn) (prev := prev) (next := next) (x := x) ⟨q - 1, by omega⟩ j
    have h' : (⟨q + 7, by omega⟩ : Fin 272) = ⟨(q - 1) + 8, by omega⟩ := Fin.ext (by dsimp only; omega)
    rw [h', e, H.here, if_neg (by omega)]
    congr 1
    dsimp only
    omega

theorem tap_next (H : Holds A b ti bp bn prev next x w cb) (q : Fin 256) (j : Fin 1024) :
    extTile bp bn prev next x (ix2 ⟨q + 9, by omega⟩ j) = tapNext A b (256 * ti + q) j := by
  have hlt := H.lt
  unfold tapNext
  by_cases h : q.val = 255
  · have e := ext_next (bp := bp) (bn := bn) (prev := prev) (next := next) (x := x) 0 j
    have h' : (⟨q + 9, by omega⟩ : Fin 272) = ⟨((0 : Fin 8) : ℕ) + 264, by decide⟩ := Fin.ext (by simp [h])
    rw [h', e]
    by_cases c : 1 ≤ ti ∧ ti ≤ 15
    · rw [if_pos (H.nextWord.mpr c), if_neg (by omega), H.after c.1 c.2]
      congr 1
      simp only [Fin.val_zero]
      omega
    · rw [if_neg (fun k => c (H.nextWord.mp k)), if_pos (by omega)]
  · have e := ext_mid (bp := bp) (bn := bn) (prev := prev) (next := next) (x := x) ⟨q + 1, by omega⟩ j
    have h' : (⟨q + 9, by omega⟩ : Fin 272) = ⟨(q + 1) + 8, by omega⟩ := rfl
    rw [h', e, H.here, if_neg (by omega)]
    rfl

theorem tap_next2 (H : Holds A b ti bp bn prev next x w cb) (q : Fin 256) (j : Fin 1024) :
    extTile bp bn prev next x (ix2 ⟨q + 10, by omega⟩ j) = tapNext2 A b (256 * ti + q) j := by
  have hlt := H.lt
  unfold tapNext2
  by_cases h : 254 ≤ q.val
  · have e := ext_next (bp := bp) (bn := bn) (prev := prev) (next := next) (x := x) ⟨q - 254, by omega⟩ j
    have h' : (⟨q + 10, by omega⟩ : Fin 272) = ⟨(q - 254) + 264, by omega⟩ := Fin.ext (by dsimp only; omega)
    rw [h', e]
    by_cases c : 1 ≤ ti ∧ ti ≤ 15
    · rw [if_pos (H.nextWord.mpr c), if_neg (by omega), H.after c.1 c.2]
      congr 1
      dsimp only
      omega
    · rw [if_neg (fun k => c (H.nextWord.mp k)), if_pos (by omega)]
  · have e := ext_mid (bp := bp) (bn := bn) (prev := prev) (next := next) (x := x) ⟨q + 2, by omega⟩ j
    have h' : (⟨q + 10, by omega⟩ : Fin 272) = ⟨(q + 2) + 8, by omega⟩ := rfl
    rw [h', e, H.here, if_neg (by omega)]
    rfl

/-- The tile's convolution. -/
theorem conv_tile (H : Holds A b ti bp bn prev next x w cb) (q : Fin 256) (j : Fin 1024) :
    convTile (extTile bp bn prev next x) x w cb (ix2 q j) = conv A b (256 * ti + q) j := by
  rw [convTile_apply, tap_prev H, tap_next H, tap_next2 H, H.here, H.bias]
  simp only [H.weights]
  rfl

/-- A gate of the tile, of a convolution that has been computed. -/
theorem gate_tile {cv : FVec Ideal S256x1024 .bf16} (hc : ∀ q j, cv (ix2 q j) = conv A b (256 * ti + (q : Fin 256)) j)
    {w0 w1 w2 w3 : FVec Ideal S1x1x256x256 .bf16} {bv : FVec Ideal S1x1x1024 .f32}
    {wt : Fin 4 → Fin 256 → Fin 256 → EReal} {bs : Fin 1024 → EReal}
    (h0 : ∀ i k, w0 (ix4 0 0 i k) = wt 0 i k) (h1 : ∀ i k, w1 (ix4 0 0 i k) = wt 1 i k)
    (h2 : ∀ i k, w2 (ix4 0 0 i k) = wt 2 i k) (h3 : ∀ i k, w3 (ix4 0 0 i k) = wt 3 i k)
    (hb : ∀ j, bv (ix3 0 0 j) = bs j) (q : Fin 256) (j : Fin 1024) :
    k0_pay21 (F := Ideal) (mixTile cv w0 w1 w2 w3) bv (ix2 q j) = gate A wt bs b (256 * ti + q) j := by
  rw [gate_apply, mixTile_apply cv q j wt h0 h1 h2 h3, hb]
  simp only [hc]
  rfl

/-- The tile's decays. -/
theorem decay_tile {d : Fin 2} {g : FVec Ideal S256x1024 .f32} {l : FVec Ideal S1x1x1024 .f32}
    (hg : ∀ q j, g (ix2 q j) = gate A (A.wa d) (A.ba d) b (256 * ti + (q : Fin 256)) j)
    (hl : ∀ j, l (ix3 0 0 j) = A.lam d j) (q : Fin 256) (j : Fin 1024) :
    k0_pay27 (F := Ideal) g (k0_pay23 l) (k0_pay24 l) (ix2 q j) = (pair A d b (256 * ti + q) j).1 := by
  rw [decay_apply, hg, hl]
  rfl

/-- The tile's inputs. -/
theorem input_tile {d : Fin 2} {cv g gi : FVec Ideal S256x1024 .f32} {l : FVec Ideal S1x1x1024 .f32}
    (hc : ∀ q j, cv (ix2 q j) = conv A b (256 * ti + (q : Fin 256)) j)
    (hg : ∀ q j, g (ix2 q j) = gate A (A.wa d) (A.ba d) b (256 * ti + (q : Fin 256)) j)
    (hi : ∀ q j, gi (ix2 q j) = gate A (A.wx d) (A.bx d) b (256 * ti + (q : Fin 256)) j)
    (hl : ∀ j, l (ix3 0 0 j) = A.lam d j) (q : Fin 256) (j : Fin 1024) :
    k0_pay28 (F := Ideal) cv g gi (k0_pay23 l) (k0_pay24 l) (ix2 q j) = (pair A d b (256 * ti + q) j).2 := by
  rw [input_apply _ _ _ _ _ _ (by rw [hg, hl]; exact logDecay_le A d b _ j), hg, hl, hi, hc]
  rfl

end Cert.Lru

end
-- ==== Proof.Lru.Reads.lean ====
/- How the kernel's loads and stores read at an index: whole-window loads, loads of one direction's weights through a
   slice, scratch that one store fills; and the payloads of both directions as the tile's expressions. -/
module

public import proofs.«01_k».proof.Proof.Lru.TileSpec
public import Idealize.ShloMosaic.Lib.Pipeline.Value

@[expose] public section

set_option maxRecDepth 16384

noncomputable section

namespace Cert.Lru

open Cert.KernelIdeal Cert.KernelIdeal.Gen Idealize.ShloMosaic

theorem zero2 : (![0, 0] : Fin 2 → ℕ) = fun _ => 0 := by funext a; fin_cases a <;> rfl
theorem zero3 : (![0, 0, 0] : Fin 3 → ℕ) = fun _ => 0 := by funext a; fin_cases a <;> rfl

/- Loads of whole windows. -/
theorem ld_tile (inb : ∀ a, ![0, 0, 0] a + ![1, 256, 1024] a ≤ S1x256x1024.size a) (X : S1x256x1024.Idx → Elt Ideal .f32) :
    View.ld X (Rect.unit (s := S1x256x1024) ![0, 0, 0] ![1, 256, 1024] inb) = X :=
  View.ld_unit_zero (Val := Elt Ideal) (S := S1x256x1024) (e := .f32) zero3 inb X
theorem ld_edge (inb : ∀ a, ![0, 0, 0] a + ![1, 8, 1024] a ≤ S1x8x1024.size a) (X : S1x8x1024.Idx → Elt Ideal .f32) :
    View.ld X (Rect.unit (s := S1x8x1024) ![0, 0, 0] ![1, 8, 1024] inb) = X :=
  View.ld_unit_zero (Val := Elt Ideal) (S := S1x8x1024) (e := .f32) zero3 inb X
theorem ld_taps (inb : ∀ a, ![0, 0] a + ![4, 1024] a ≤ S4x1024.size a) (X : S4x1024.Idx → Elt Ideal .f32) :
    View.ld X (Rect.unit (s := S4x1024) ![0, 0] ![4, 1024] inb) = X :=
  View.ld_unit_zero (Val := Elt Ideal) (S := S4x1024) (e := .f32) zero2 inb X
theorem ld_bias (inb : ∀ a, ![0, 0] a + ![1, 1024] a ≤ S1x1024.size a) (X : S1x1024.Idx → Elt Ideal .f32) :
    View.ld X (Rect.unit (s := S1x1024) ![0, 0] ![1, 1024] inb) = X :=
  View.ld_unit_zero (Val := Elt Ideal) (S := S1x1024) (e := .f32) zero2 inb X
theorem ld_state (inb : ∀ a, ![0, 0] a + ![8, 1024] a ≤ S8x1024.size a) (X : S8x1024.Idx → Elt Ideal .f32) :
    View.ld X (Rect.unit (s := S8x1024) ![0, 0] ![8, 1024] inb) = X :=
  View.ld_unit_zero (Val := Elt Ideal) (S := S8x1024) (e := .f32) zero2 inb X

theorem trips_eq : Scf.trips (0#32) (Scalar.addi 0#32 32#32) 1#32 = 32 := by decide

/-- A scratch of a tile that one store has filled reads as what was stored. -/
theorem read_filled {κ : Kind} {sp : Space} (v : View sig κ sp S256x1024 .f32) (inb : ∀ a, ![0, 0] a + S256x1024.size a ≤ S256x1024.size a)
    (p : FVec Ideal S256x1024 .f32) (y : S256x1024.Idx) :
    v.read (Elt Ideal) (v.writes (Elt Ideal) v.junk [⟨Rect.unit ![0, 0] S256x1024.size inb, p⟩]) y = p y := by
  rw [View.read_writes_junk_apply_eq_canon, View.canon_cons_unit_zero zero2]

/-- A carried row that one store has filled reads as what was stored. -/
theorem readCov_filled {κ : Kind} {sp : Space} (v : View sig κ sp S8x1024 .f32) (inb inb' : ∀ a, ![0, 0] a + S8x1024.size a ≤ S8x1024.size a)
    (p : FVec Ideal S8x1024 .f32) (y : S8x1024.Idx) :
    v.readCov [(⟨Rect.unit ![0, 0] S8x1024.size inb, p⟩ : View.Piece (Elt Ideal) S8x1024 .f32)]
      (Rect.unit (s := S8x1024) ![0, 0] S8x1024.size inb').toLoadRect y = p y := by
  rw [View.readCov_eq_canon', View.canon_cons_unit_zero zero2]
  exact congrFun (View.ld_unit_zero (Val := Elt Ideal) (S := S8x1024) (e := .f32) zero2 inb' p) y

/-- A load of block `n` of direction `d`'s weights. -/
theorem read_block (M : Memref sig .tc .vmem S2x4x256x256 .bf16) (hM : M.IsWhole) (x : FVec Ideal S2x4x256x256 .bf16)
    (d : Fin 2) (n : Fin 4) (inb : ∀ a, ![(d : ℕ), 0, 0, 0] a + ![1, 4, 256, 256] a ≤ S2x4x256x256.size a)
    (inb' : ∀ a, ![0, (n : ℕ), 0, 0] a + ![1, 1, 256, 256] a ≤ S1x4x256x256.size a) (h)
    (i k : Fin 256) :
    View.readAt (Elt Ideal) M.view ((Rect.unit (s := S2x4x256x256) ![(d : ℕ), 0, 0, 0] ![1, 4, 256, 256] inb).withinL
      (Rect.unit (s := S1x4x256x256) ![0, (n : ℕ), 0, 0] ![1, 1, 256, 256] inb').toLoadRect h) (hM.unread x) (ix4 0 0 i k)
      = x (ix4 d n i k) := by
  have h1 : M.view.read (Elt Ideal) (hM.unread x) = x := hM.read_unread (Val := Elt Ideal) x
  show M.view.read (Elt Ideal) (hM.unread x) _ = _
  rw [h1]
  refine congrArg x (funext fun a => Fin.ext ?_)
  fin_cases a
  · show (d : ℕ) + 0 + 1 * 0 = d; omega
  · show 0 + (n : ℕ) + 1 * 0 = n; omega
  · show 0 + 0 + 1 * (i : ℕ) = i; omega
  · show 0 + 0 + 1 * (k : ℕ) = k; omega

/-- A load of direction `d`'s row of a parameter. -/
theorem read_row (M : Memref sig .tc .vmem S2x1x1024 .f32) (hM : M.IsWhole) (x : FVec Ideal S2x1x1024 .f32)
    (d : Fin 2) (inb : ∀ a, ![(d : ℕ), 0, 0] a + ![1, 1, 1024] a ≤ S2x1x1024.size a)
    (inb' : ∀ a, ![0, 0, 0] a + ![1, 1, 1024] a ≤ S1x1x1024.size a) (h) (j : Fin 1024) :
    View.readAt (Elt Ideal) M.view ((Rect.unit (s := S2x1x1024) ![(d : ℕ), 0, 0] ![1, 1, 1024] inb).withinL
      (Rect.unit (s := S1x1x1024) ![0, 0, 0] ![1, 1, 1024] inb').toLoadRect h) (hM.unread x) (ix3 0 0 j)
      = x (ix3 d 0 j) := by
  have h1 : M.view.read (Elt Ideal) (hM.unread x) = x := hM.read_unread (Val := Elt Ideal) x
  show M.view.read (Elt Ideal) (hM.unread x) _ = _
  rw [h1]
  refine congrArg x (funext fun a => Fin.ext ?_)
  fin_cases a
  · show (d : ℕ) + 0 + 1 * 0 = d; omega
  · show 0 + 0 + 1 * 0 = 0; omega
  · show 0 + 0 + 1 * (j : ℕ) = j; omega

/-- The word that keeps the rows before tile number `w`. -/
def keepPrev (w : BitVec 32) : BitVec 1 := Scalar.cmpi .sge w 2#32

/-- The word that keeps the rows after tile number `w`. -/
def keepNext (w : BitVec 32) : BitVec 1 := Scalar.andi (Scalar.cmpi .sge w 1#32) (Scalar.cmpi .sle w 15#32)

/-- The windows of the weights and parameters, of both directions. -/
structure Weights (A : Args) (lam : FVec Ideal S2x1x1024 .f32) (wa : FVec Ideal S2x4x256x256 .bf16) (ba : FVec Ideal S2x1x1024 .f32)
    (wx : FVec Ideal S2x4x256x256 .bf16) (bx : FVec Ideal S2x1x1024 .f32) : Prop where
  lam : ∀ d j, lam (ix3 d 0 j) = A.lam d j
  wa : ∀ d n i k, wa (ix4 d n i k) = A.wa d n i k
  ba : ∀ d j, ba (ix3 d 0 j) = A.ba d j
  wx : ∀ d n i k, wx (ix4 d n i k) = A.wx d n i k
  bx : ∀ d j, bx (ix3 d 0 j) = A.bx d j

theorem steps_fwd (A : Args) (b : Fin 4) (j : Fin 1024) (q : ℕ) : steps A 0 b j q = pair A 0 b q j := rfl
theorem steps_bwd (A : Args) (b : Fin 4) (j : Fin 1024) (q : ℕ) : steps A 1 b j q = pair A 1 b (back q) j := rfl

theorem back_row {t : ℕ} (ht : t < 17) (q : Fin 256) : back (256 * t + (255 - q.val)) = 256 * backTile t + q := by
  rw [back_tile t (255 - q.val) ht (by omega), show 255 - (255 - q.val) = q.val by omega]

/-- The tile number of the reverse scan's `w`-th tile. -/
def backWord (w : BitVec 32) : BitVec 32 :=
  Scalar.select (Scalar.cmpi .slt w 1#32) (Scalar.subi 0#32 w) (Scalar.subi 17#32 w)

theorem keepPrev_iff : ∀ t < 17, keepPrev (BitVec.ofNat 32 t) = 1#1 ↔ 2 ≤ t := by decide
theorem keepNext_iff : ∀ t < 17, keepNext (BitVec.ofNat 32 t) = 1#1 ↔ 1 ≤ t ∧ t ≤ 15 := by decide
theorem backWord_eq : ∀ t < 17, backWord (BitVec.ofNat 32 t) = BitVec.ofNat 32 (backTile t) := by decide

section
variable (i : grid0.Coords) (w1 : BitVec 32) (prev next : FVec Ideal S1x8x1024 .f32) (x : FVec Ideal S1x256x1024 .f32) (w : FVec Ideal S4x1024 .f32)
  (cb : FVec Ideal S1x1024 .f32) (b0 b1 b2 b3 : FVec Ideal S1x1x256x256 .bf16) (bv l : FVec Ideal S1x1x1024 .f32)
  (e : FVec Ideal S272x1024 .f32) (p q : FVec Ideal S256x1024 .f32) (r : FVec Ideal S1x1024 .f32) (k : BitVec 32)

theorem conv_fwd :
    k0_pay10 (k0_pay6 i prev next x) (k0_pay8 i prev next x w) (k0_pay9 w) 270#32 cb
      = convTile (extTile (keepPrev (BitVec.ofNat 32 (i 1).val)) (keepNext (BitVec.ofNat 32 (i 1).val)) prev next x) x w cb :=
  rfl

theorem gateA_fwd :
    k0_pay21 (k0_pay16 (k0_pay12 e p r k cb b0) (k0_pay13 e p r k cb b1) (k0_pay14 e p r k cb b2) (k0_pay15 e p r k cb) b3) bv
      = k0_pay21 (mixTile (truncf .bf16 (k0_pay10 e p r k cb) bitsLt_bf16_f32) b0 b1 b2 b3) bv := rfl

theorem gateX_fwd :
    k0_pay22 (k0_pay17 (k0_pay11 e p r k cb) b0) (k0_pay18 (k0_pay11 e p r k cb) b1) (k0_pay19 (k0_pay11 e p r k cb) b2)
        (k0_pay20 (k0_pay11 e p r k cb)) b3 bv
      = k0_pay21 (mixTile (truncf .bf16 (k0_pay10 e p r k cb) bitsLt_bf16_f32) b0 b1 b2 b3) bv := rfl

theorem conv_bwd :
    k0_pay40 (k0_pay37 w1 1#32 prev next x w) (k0_pay38 w) (k0_pay39 w1 1#32 prev next x) cb
      = convTile (extTile (keepPrev (backWord w1)) (keepNext (backWord w1)) prev next x) x w cb := rfl

theorem gateA_bwd :
    k0_pay51 (k0_pay46 (k0_pay42 p r q cb b0) (k0_pay43 p r q cb b1) (k0_pay44 p r q cb b2) (k0_pay45 p r q cb) b3) bv
      = k0_pay21 (mixTile (truncf .bf16 (k0_pay40 p r q cb) bitsLt_bf16_f32) b0 b1 b2 b3) bv := rfl

theorem gateX_bwd :
    k0_pay52 (k0_pay47 (k0_pay41 p r q cb) b0) (k0_pay48 (k0_pay41 p r q cb) b1) (k0_pay49 (k0_pay41 p r q cb) b2)
        (k0_pay50 (k0_pay41 p r q cb)) b3 bv
      = k0_pay21 (mixTile (truncf .bf16 (k0_pay40 p r q cb) bitsLt_bf16_f32) b0 b1 b2 b3) bv := rfl

theorem decay_bwd :
    k0_pay58 p (k0_pay54 l) (k0_pay55 l) (Scalar.ofBits .f32 0x00000000#32) = k0_pay27 p (k0_pay23 l) (k0_pay24 l) := rfl

theorem input_bwd (cv : FVec Ideal S256x1024 .f32) :
    k0_pay59 cv p q (k0_pay54 l) (k0_pay55 l) (Scalar.ofBits .f32 0x00000000#32)
      = k0_pay28 cv p q (k0_pay23 l) (k0_pay24 l) := rfl

end

theorem zero_fill (y : S8x1024.Idx) : (k0_pay4 (F := Ideal)) y = 0 := by
  obtain ⟨r, j, rfl⟩ : ∃ r j, y = ix2 (n0 := 8) (n1 := 1024) r j := ⟨_, _, eq_ix2 y⟩
  pointwise [k0_pay4]

theorem zero_fill' (y : S8x1024.Idx) : (k0_pay33 (F := Ideal)) y = 0 := zero_fill y

theorem keep_row (v : FVec Ideal S8x1024 .f32) (y : S8x1024.Idx) : k0_pay32 (F := Ideal) v y = v y := by
  obtain ⟨r, j, rfl⟩ : ∃ r j, y = ix2 (n0 := 8) (n1 := 1024) r j := ⟨_, _, eq_ix2 y⟩
  pointwise [k0_pay32]

theorem keep_row' (v : FVec Ideal S8x1024 .f32) (y : S8x1024.Idx) : k0_pay60 (F := Ideal) v y = v y := keep_row v y

end Cert.Lru

end
-- ==== Proof.Lru.Windows.lean ====
/- What each window of the scan kernel holds at a grid point, in the arguments: the two tiles, the rows before and after
   them, and the weights and parameters. -/
module

public import proofs.«01_k».proof.Proof.Lru.Value
public import proofs.«01_k».proof.Proof.Lru.Reads
public import Idealize.ShloMosaic.Lib.Pointwise
public import Idealize.ShloMosaic.Lib.StableHlo.RunRead

@[expose] public section

set_option maxRecDepth 16384

noncomputable section

namespace Cert.Lru

/-- The arguments' plain functions, of the arrays of the call. -/
def argsOf (a0 : (⟨3, ![4, 4352, 1024]⟩ : Idealize.ShloMosaic.Shape).Idx → EReal) (a1 : (⟨3, ![1, 4, 1024]⟩ : Idealize.ShloMosaic.Shape).Idx → EReal)
    (a2 : (⟨2, ![1, 1024]⟩ : Idealize.ShloMosaic.Shape).Idx → EReal) (a3 : (⟨3, ![1, 2, 1024]⟩ : Idealize.ShloMosaic.Shape).Idx → EReal)
    (a4 : (⟨5, ![1, 2, 4, 256, 256]⟩ : Idealize.ShloMosaic.Shape).Idx → EReal) (a5 : (⟨3, ![1, 2, 1024]⟩ : Idealize.ShloMosaic.Shape).Idx → EReal)
    (a6 : (⟨5, ![1, 2, 4, 256, 256]⟩ : Idealize.ShloMosaic.Shape).Idx → EReal) (a7 : (⟨3, ![1, 2, 1024]⟩ : Idealize.ShloMosaic.Shape).Idx → EReal) : Args where
  x b p j := if h : p < 4352 then a0 (Idealize.ShloMosaic.ix3 b ⟨p, h⟩ j) else 0
  w k j := a1 (Idealize.ShloMosaic.ix3 0 k j)
  cb j := a2 (Idealize.ShloMosaic.ix2 0 j)
  lam d j := a3 (Idealize.ShloMosaic.ix3 0 d j)
  wa d n i k := a4 (Idealize.ShloMosaic.ix5 0 d n i k)
  ba d j := a5 (Idealize.ShloMosaic.ix3 0 d j)
  wx d n i k := a6 (Idealize.ShloMosaic.ix5 0 d n i k)
  bx d j := a7 (Idealize.ShloMosaic.ix3 0 d j)

end Cert.Lru

namespace Cert.KernelIdeal.Lru

open Cert.Lru Cert.KernelIdeal Cert.KernelIdeal.Gen Idealize.ShloMosaic Idealize.ShloMosaic.TcCoe Idealize.SL.Sem

variable (m : (ℓ : Loc nD τ sig) → Buf (Elt Ideal) ℓ) (c : Dev nD)

/-- The arguments as launched. -/
def args : Args :=
  argsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/- Where the blocks lie. -/
theorem index0 : ∀ t : Fin cfg0.N, win0_0.index t = ![t.val / 17, t.val % 17, 0] :=
  (by decide +kernel : ∀ t : Fin grid0.N, win0_0.index t = ![t.val / 17, t.val % 17, 0])
theorem index1 : ∀ t : Fin cfg0.N, win0_1.index t = ![t.val / 17, 32 * (t.val % 17) - 1, 0] :=
  (by decide +kernel : ∀ t : Fin grid0.N, win0_1.index t = ![t.val / 17, 32 * (t.val % 17) - 1, 0])
theorem index2 : ∀ t : Fin cfg0.N, win0_2.index t = ![t.val / 17, min (32 * (t.val % 17) + 32) 543, 0] :=
  (by decide +kernel : ∀ t : Fin grid0.N, win0_2.index t = ![t.val / 17, min (32 * (t.val % 17) + 32) 543, 0])
theorem index3 : ∀ t : Fin cfg0.N, win0_3.index t = ![t.val / 17, backTile (t.val % 17), 0] :=
  (by decide +kernel : ∀ t : Fin grid0.N, win0_3.index t = ![t.val / 17, backTile (t.val % 17), 0])
theorem index4 : ∀ t : Fin cfg0.N, win0_4.index t = ![t.val / 17, 32 * backTile (t.val % 17) - 1, 0] :=
  (by decide +kernel : ∀ t : Fin grid0.N, win0_4.index t = ![t.val / 17, 32 * backTile (t.val % 17) - 1, 0])
theorem index5 : ∀ t : Fin cfg0.N, win0_5.index t = ![t.val / 17, min (32 * backTile (t.val % 17) + 32) 543, 0] :=
  (by decide +kernel : ∀ t : Fin grid0.N, win0_5.index t = ![t.val / 17, min (32 * backTile (t.val % 17) + 32) 543, 0])
theorem index6 : ∀ t : Fin cfg0.N, win0_6.index t = ![0, 0] := (by decide +kernel : ∀ t : Fin grid0.N, win0_6.index t = ![0, 0])
theorem index7 : ∀ t : Fin cfg0.N, win0_7.index t = ![0, 0] := (by decide +kernel : ∀ t : Fin grid0.N, win0_7.index t = ![0, 0])
theorem index8 : ∀ t : Fin cfg0.N, win0_8.index t = ![0, 0, 0] := (by decide +kernel : ∀ t : Fin grid0.N, win0_8.index t = ![0, 0, 0])
theorem index9 : ∀ t : Fin cfg0.N, win0_9.index t = ![0, 0, 0, 0] := (by decide +kernel : ∀ t : Fin grid0.N, win0_9.index t = ![0, 0, 0, 0])
theorem index10 : ∀ t : Fin cfg0.N, win0_10.index t = ![0, 0, 0] := (by decide +kernel : ∀ t : Fin grid0.N, win0_10.index t = ![0, 0, 0])
theorem index11 : ∀ t : Fin cfg0.N, win0_11.index t = ![0, 0, 0, 0] := (by decide +kernel : ∀ t : Fin grid0.N, win0_11.index t = ![0, 0, 0, 0])
theorem index12 : ∀ t : Fin cfg0.N, win0_12.index t = ![0, 0, 0] := (by decide +kernel : ∀ t : Fin grid0.N, win0_12.index t = ![0, 0, 0])

/- What the host operations before the call leave. -/
theorem V_v0 (k : Fin 4) (j : Fin 1024) : V m c main_v0 (ix2 k j) = (args m c).w k j := by
  show _ = m ((c : Thread nD τ).loc main_arg1) (ix3 0 k j)
  unfold V hostOps0
  after_reads_simp
  pointwise
theorem V_v2 (j : Fin 1024) : V m c main_v2 (ix2 0 j) = (args m c).cb j := by
  show _ = m ((c : Thread nD τ).loc main_arg2) (ix2 0 j)
  unfold V hostOps0
  after_reads_simp
  pointwise
theorem V_v4 (d : Fin 2) (j : Fin 1024) : V m c main_v4 (ix3 d 0 j) = (args m c).lam d j := by
  show _ = m ((c : Thread nD τ).loc main_arg3) (ix3 0 d j)
  unfold V hostOps0
  after_reads_simp
  pointwise
theorem V_v6 (d : Fin 2) (n : Fin 4) (i k : Fin 256) : V m c main_v6 (ix4 d n i k) = (args m c).wa d n i k := by
  show _ = m ((c : Thread nD τ).loc main_arg4) (ix5 0 d n i k)
  unfold V hostOps0
  after_reads_simp
  pointwise
theorem V_v8 (d : Fin 2) (j : Fin 1024) : V m c main_v8 (ix3 d 0 j) = (args m c).ba d j := by
  show _ = m ((c : Thread nD τ).loc main_arg5) (ix3 0 d j)
  unfold V hostOps0
  after_reads_simp
  pointwise
theorem V_v10 (d : Fin 2) (n : Fin 4) (i k : Fin 256) : V m c main_v10 (ix4 d n i k) = (args m c).wx d n i k := by
  show _ = m ((c : Thread nD τ).loc main_arg6) (ix5 0 d n i k)
  unfold V hostOps0
  after_reads_simp
  pointwise
theorem V_v12 (d : Fin 2) (j : Fin 1024) : V m c main_v12 (ix3 d 0 j) = (args m c).bx d j := by
  show _ = m ((c : Thread nD τ).loc main_arg7) (ix3 0 d j)
  unfold V hostOps0
  after_reads_simp
  pointwise

theorem V_x (b : Fin 4) (p : Fin 4352) (j : Fin 1024) : V m c main_arg0 (ix3 b p j) = (args m c).x b p j := by
  rw [V_main_arg0]
  show _ = if h : p.val < 4352 then _ else _
  rw [dif_pos p.isLt]

variable (t : Fin cfg0.N)

theorem zero_block (n k : ℕ) : 0 * n + k = k := by omega

theorem backTile_lt {t : ℕ} (h : t < 17) : backTile t < 17 := by
  unfold backTile
  split <;> omega

/- A block's element in its array. -/
theorem in0 (q : Fin 256) (j : Fin 1024) (b : Fin 4) (hb : b.val = t.val / 17) (p : ℕ) (hp : p = 256 * (t.val % 17) + q) :
    iblk m c 0 t (ix3 0 q j) = (args m c).x b p j := by
  have hti : t.val % 17 < 17 := Nat.mod_lt _ (by decide)
  have hlt : p < 4352 := by omega
  rw [← V_x m c b ⟨p, hlt⟩ j]
  show V m c main_arg0 ((win0_0.rect t).emb (ix3 0 q j)) = _
  congr 1
  funext a
  apply Fin.ext
  rw [Pipeline.Window.rect_emb_val win0_0 t (ix3 0 q j) a rfl, index0]
  fin_cases a
  · show t.val / 17 * 1 + 0 = b.val; omega
  · show t.val % 17 * 256 + q.val = p; omega
  · show 0 * 1024 + j.val = j.val; omega

theorem in3 (q : Fin 256) (j : Fin 1024) (b : Fin 4) (hb : b.val = t.val / 17) (p : ℕ) (hp : p = 256 * (backTile (t.val % 17)) + q) :
    iblk m c 3 t (ix3 0 q j) = (args m c).x b p j := by
  have hti : backTile (t.val % 17) < 17 := backTile_lt (Nat.mod_lt _ (by decide))
  have hlt : p < 4352 := by omega
  rw [← V_x m c b ⟨p, hlt⟩ j]
  show V m c main_arg0 ((win0_3.rect t).emb (ix3 0 q j)) = _
  congr 1
  funext a
  apply Fin.ext
  rw [Pipeline.Window.rect_emb_val win0_3 t (ix3 0 q j) a rfl, index3]
  fin_cases a
  · show t.val / 17 * 1 + 0 = b.val; omega
  · show backTile (t.val % 17) * 256 + q.val = p; omega
  · show 0 * 1024 + j.val = j.val; omega

theorem in1 (j : Fin 1024) (b : Fin 4) (hb : b.val = t.val / 17) (p : ℕ) (h : 2 ≤ t.val % 17) (hp : p = 256 * (t.val % 17) - 1) :
    iblk m c 1 t (ix3 0 7 j) = (args m c).x b p j := by
  have hti : t.val % 17 < 17 := Nat.mod_lt _ (by decide)
  have hlt : p < 4352 := by omega
  rw [← V_x m c b ⟨p, hlt⟩ j]
  show V m c main_arg0 ((win0_1.rect t).emb (ix3 0 7 j)) = _
  congr 1
  funext a
  apply Fin.ext
  rw [Pipeline.Window.rect_emb_val win0_1 t (ix3 0 7 j) a rfl, index1]
  fin_cases a
  · show t.val / 17 * 1 + 0 = b.val; omega
  · show (32 * (t.val % 17) - 1) * 8 + 7 = p; omega
  · show 0 * 1024 + j.val = j.val; omega

theorem in4 (j : Fin 1024) (b : Fin 4) (hb : b.val = t.val / 17) (p : ℕ) (h : 2 ≤ backTile (t.val % 17)) (hp : p = 256 * (backTile (t.val % 17)) - 1) :
    iblk m c 4 t (ix3 0 7 j) = (args m c).x b p j := by
  have hti : backTile (t.val % 17) < 17 := backTile_lt (Nat.mod_lt _ (by decide))
  have hlt : p < 4352 := by omega
  rw [← V_x m c b ⟨p, hlt⟩ j]
  show V m c main_arg0 ((win0_4.rect t).emb (ix3 0 7 j)) = _
  congr 1
  funext a
  apply Fin.ext
  rw [Pipeline.Window.rect_emb_val win0_4 t (ix3 0 7 j) a rfl, index4]
  fin_cases a
  · show t.val / 17 * 1 + 0 = b.val; omega
  · show (32 * (backTile (t.val % 17)) - 1) * 8 + 7 = p; omega
  · show 0 * 1024 + j.val = j.val; omega

theorem in2 (r : Fin 8) (j : Fin 1024) (b : Fin 4) (hb : b.val = t.val / 17) (p : ℕ) (h : t.val % 17 ≤ 15) (hp : p = 256 * (t.val % 17) + 256 + r) :
    iblk m c 2 t (ix3 0 r j) = (args m c).x b p j := by
  have hti : t.val % 17 < 17 := Nat.mod_lt _ (by decide)
  have hlt : p < 4352 := by omega
  rw [← V_x m c b ⟨p, hlt⟩ j]
  show V m c main_arg0 ((win0_2.rect t).emb (ix3 0 r j)) = _
  congr 1
  funext a
  apply Fin.ext
  rw [Pipeline.Window.rect_emb_val win0_2 t (ix3 0 r j) a rfl, index2]
  fin_cases a
  · show t.val / 17 * 1 + 0 = b.val; omega
  · show (min (32 * (t.val % 17) + 32) 543) * 8 + r.val = p; omega
  · show 0 * 1024 + j.val = j.val; omega

theorem in5 (r : Fin 8) (j : Fin 1024) (b : Fin 4) (hb : b.val = t.val / 17) (p : ℕ) (h : backTile (t.val % 17) ≤ 15) (hp : p = 256 * (backTile (t.val % 17)) + 256 + r) :
    iblk m c 5 t (ix3 0 r j) = (args m c).x b p j := by
  have hti : backTile (t.val % 17) < 17 := backTile_lt (Nat.mod_lt _ (by decide))
  have hlt : p < 4352 := by omega
  rw [← V_x m c b ⟨p, hlt⟩ j]
  show V m c main_arg0 ((win0_5.rect t).emb (ix3 0 r j)) = _
  congr 1
  funext a
  apply Fin.ext
  rw [Pipeline.Window.rect_emb_val win0_5 t (ix3 0 r j) a rfl, index5]
  fin_cases a
  · show t.val / 17 * 1 + 0 = b.val; omega
  · show (min (32 * (backTile (t.val % 17)) + 32) 543) * 8 + r.val = p; omega
  · show 0 * 1024 + j.val = j.val; omega

theorem in6  (k : Fin 4) (j : Fin 1024) : iblk m c 6 t (ix2 k j) = (args m c).w k j := by
  rw [← V_v0]
  show V m c main_v0 ((win0_6.rect t).emb (ix2 k j)) = _
  congr 1
  funext a
  apply Fin.ext
  rw [Pipeline.Window.rect_emb_val win0_6 t (ix2 k j) a rfl, index6]
  fin_cases a <;> exact zero_block _ _

theorem in7  (j : Fin 1024) : iblk m c 7 t (ix2 0 j) = (args m c).cb j := by
  rw [← V_v2]
  show V m c main_v2 ((win0_7.rect t).emb (ix2 0 j)) = _
  congr 1
  funext a
  apply Fin.ext
  rw [Pipeline.Window.rect_emb_val win0_7 t (ix2 0 j) a rfl, index7]
  fin_cases a <;> exact zero_block _ _

theorem in8  (d : Fin 2) (j : Fin 1024) : iblk m c 8 t (ix3 d 0 j) = (args m c).lam d j := by
  rw [← V_v4]
  show V m c main_v4 ((win0_8.rect t).emb (ix3 d 0 j)) = _
  congr 1
  funext a
  apply Fin.ext
  rw [Pipeline.Window.rect_emb_val win0_8 t (ix3 d 0 j) a rfl, index8]
  fin_cases a <;> exact zero_block _ _

theorem in10  (d : Fin 2) (j : Fin 1024) : iblk m c 10 t (ix3 d 0 j) = (args m c).ba d j := by
  rw [← V_v8]
  show V m c main_v8 ((win0_10.rect t).emb (ix3 d 0 j)) = _
  congr 1
  funext a
  apply Fin.ext
  rw [Pipeline.Window.rect_emb_val win0_10 t (ix3 d 0 j) a rfl, index10]
  fin_cases a <;> exact zero_block _ _

theorem in12  (d : Fin 2) (j : Fin 1024) : iblk m c 12 t (ix3 d 0 j) = (args m c).bx d j := by
  rw [← V_v12]
  show V m c main_v12 ((win0_12.rect t).emb (ix3 d 0 j)) = _
  congr 1
  funext a
  apply Fin.ext
  rw [Pipeline.Window.rect_emb_val win0_12 t (ix3 d 0 j) a rfl, index12]
  fin_cases a <;> exact zero_block _ _

theorem in9  (d : Fin 2) (n : Fin 4) (i k : Fin 256) : iblk m c 9 t (ix4 d n i k) = (args m c).wa d n i k := by
  rw [← V_v6]
  show V m c main_v6 ((win0_9.rect t).emb (ix4 d n i k)) = _
  congr 1
  funext a
  apply Fin.ext
  rw [Pipeline.Window.rect_emb_val win0_9 t (ix4 d n i k) a rfl, index9]
  fin_cases a <;> exact zero_block _ _

theorem in11  (d : Fin 2) (n : Fin 4) (i k : Fin 256) : iblk m c 11 t (ix4 d n i k) = (args m c).wx d n i k := by
  rw [← V_v10]
  show V m c main_v10 ((win0_11.rect t).emb (ix4 d n i k)) = _
  congr 1
  funext a
  apply Fin.ext
  rw [Pipeline.Window.rect_emb_val win0_11 t (ix4 d n i k) a rfl, index11]
  fin_cases a <;> exact zero_block _ _

/-- The windows of the forward pass at a grid point. -/
theorem holds_fwd (b : Fin 4) (hb : b.val = t.val / 17) (i : grid0.Coords) (hi : (i 1).val = t.val % 17) :
    Holds (args m c) b (t.val % 17) (keepPrev (BitVec.ofNat 32 (i 1).val)) (keepNext (BitVec.ofNat 32 (i 1).val))
      (iblk m c 1 t) (iblk m c 2 t) (iblk m c 0 t) (iblk m c 6 t) (iblk m c 7 t) where
  lt := Nat.mod_lt _ (by decide)
  here q j := in0 m c t q j b hb _ rfl
  prevWord := by rw [hi]; exact keepPrev_iff _ (Nat.mod_lt _ (by decide))
  before h j := in1 m c t j b hb _ h rfl
  nextWord := by rw [hi]; exact keepNext_iff _ (Nat.mod_lt _ (by decide))
  after h h' r j := in2 m c t r j b hb _ h' rfl
  weights k j := in6 m c t k j
  bias j := in7 m c t j

/-- The windows of the reverse pass at a grid point. -/
theorem holds_bwd (b : Fin 4) (hb : b.val = t.val / 17) (i : grid0.Coords) (hi : (i 1).val = t.val % 17) :
    Holds (args m c) b (backTile (t.val % 17)) (keepPrev (backWord (BitVec.ofNat 32 (i 1).val)))
      (keepNext (backWord (BitVec.ofNat 32 (i 1).val)))
      (iblk m c 4 t) (iblk m c 5 t) (iblk m c 3 t) (iblk m c 6 t) (iblk m c 7 t) where
  lt := backTile_lt (Nat.mod_lt _ (by decide))
  here q j := in3 m c t q j b hb _ rfl
  prevWord := by
    rw [hi, backWord_eq _ (Nat.mod_lt _ (by decide))]
    exact keepPrev_iff _ (backTile_lt (Nat.mod_lt _ (by decide)))
  before h j := in4 m c t j b hb _ h rfl
  nextWord := by
    rw [hi, backWord_eq _ (Nat.mod_lt _ (by decide))]
    exact keepNext_iff _ (backTile_lt (Nat.mod_lt _ (by decide)))
  after h h' r j := in5 m c t r j b hb _ h' rfl
  weights k j := in6 m c t k j
  bias j := in7 m c t j

/-- The windows of the weights and parameters. -/
theorem weights : Weights (args m c) (iblk m c 8 t) (iblk m c 9 t) (iblk m c 10 t) (iblk m c 11 t) (iblk m c 12 t) where
  lam d j := in8 m c t d j
  wa d n i k := in9 m c t d n i k
  ba d j := in10 m c t d j
  wx d n i k := in11 m c t d n i k
  bx d j := in12 m c t d j

end Cert.KernelIdeal.Lru

end
-- ==== Proof.Lru.Scan.lean ====
/- One group of eight rows of the scan: the kernel's three rotated combinations are the three doublings of the row maps,
   so row `r` of what a trip stores is the recurrence run `r + 1` rows on from the carried row (from the last row
   upwards in the reverse scan). -/
module

public import proofs.«01_k».proof.Proof.Gen.KernelIdeal.Skeleton
public import proofs.«01_k».proof.Proof.Lru.Group
public import Idealize.ShloMosaic.Lib.Pointwise

@[expose] public section

set_option maxRecDepth 16384

noncomputable section

namespace Cert.Lru

open Cert.KernelIdeal Cert.KernelIdeal.Gen Idealize.ShloMosaic

/-- Lane `j` of the vectors `a`, `u` holds the maps `P`, row by row. -/
def Has (a u : FVec Ideal S8x1024 .f32) (j : Fin 1024) (P : ℕ → EReal × EReal) : Prop :=
  ∀ r : Fin 8, a (ix2 r j) = (P r).1 ∧ u (ix2 r j) = (P r).2

/-- Lane `j` of the vectors `a`, `u` holds the maps `P`, from the last row upwards. -/
def HasRev (a u : FVec Ideal S8x1024 .f32) (j : Fin 1024) (P : ℕ → EReal × EReal) : Prop :=
  ∀ r : Fin 8, a (ix2 r j) = (P (7 - r)).1 ∧ u (ix2 r j) = (P (7 - r)).2

variable {a u : FVec Ideal S8x1024 .f32} {j : Fin 1024} {P : ℕ → EReal × EReal}

/-- The row number, as the kernel compares it. -/
abbrev rowNo : IVec S8x1024 32 := iota .tc S8x1024 32 [0] iota_S8x1024_d0_w32

/-- The combination at distance 1, rows before. -/
theorem fwd_st1 (h : Has a u j P) :
    Has (select (cmpi .sge rowNo (broadcast S8x1024 1#32)) (mulf a (dynamicRotate 0 1#32 none a rotates_S8x1024_d0)) a)
      (select (cmpi .sge rowNo (broadcast S8x1024 1#32))
        (addf (mulf a (dynamicRotate 0 1#32 none u rotates_S8x1024_d0)) u) u) j (st 1 P) := by
  intro r
  pointwise
  rw [(h r).1, (h r).2, (h ⟨(r + 8 - 1) % 8, Nat.mod_lt _ (by norm_num)⟩).1,
    (h ⟨(r + 8 - 1) % 8, Nat.mod_lt _ (by norm_num)⟩).2]
  fin_cases r <;> exact ⟨rfl, rfl⟩

/-- The combination at distance 2, rows before. -/
theorem fwd_st2 (h : Has a u j P) :
    Has (select (cmpi .sge rowNo (broadcast S8x1024 2#32)) (mulf a (dynamicRotate 0 2#32 none a rotates_S8x1024_d0)) a)
      (select (cmpi .sge rowNo (broadcast S8x1024 2#32))
        (addf (mulf a (dynamicRotate 0 2#32 none u rotates_S8x1024_d0)) u) u) j (st 2 P) := by
  intro r
  pointwise
  rw [(h r).1, (h r).2, (h ⟨(r + 8 - 2) % 8, Nat.mod_lt _ (by norm_num)⟩).1,
    (h ⟨(r + 8 - 2) % 8, Nat.mod_lt _ (by norm_num)⟩).2]
  fin_cases r <;> exact ⟨rfl, rfl⟩

/-- The combination at distance 4, rows before. -/
theorem fwd_st4 (h : Has a u j P) :
    Has (select (cmpi .sge rowNo (broadcast S8x1024 4#32)) (mulf a (dynamicRotate 0 4#32 none a rotates_S8x1024_d0)) a)
      (select (cmpi .sge rowNo (broadcast S8x1024 4#32))
        (addf (mulf a (dynamicRotate 0 4#32 none u rotates_S8x1024_d0)) u) u) j (st 4 P) := by
  intro r
  pointwise
  rw [(h r).1, (h r).2, (h ⟨(r + 8 - 4) % 8, Nat.mod_lt _ (by norm_num)⟩).1,
    (h ⟨(r + 8 - 4) % 8, Nat.mod_lt _ (by norm_num)⟩).2]
  fin_cases r <;> exact ⟨rfl, rfl⟩

/-- The combination at distance 1, rows after. -/
theorem bwd_st1 (h : HasRev a u j P) :
    HasRev (select (cmpi .slt rowNo (broadcast S8x1024 7#32))
        (mulf a (dynamicRotate 0 7#32 none a rotates_S8x1024_d0)) a)
      (select (cmpi .slt rowNo (broadcast S8x1024 7#32))
        (addf (mulf a (dynamicRotate 0 7#32 none u rotates_S8x1024_d0)) u) u) j (st 1 P) := by
  intro r
  pointwise
  rw [(h r).1, (h r).2, (h ⟨(r + 8 - 7) % 8, Nat.mod_lt _ (by norm_num)⟩).1,
    (h ⟨(r + 8 - 7) % 8, Nat.mod_lt _ (by norm_num)⟩).2]
  fin_cases r <;> exact ⟨rfl, rfl⟩

/-- The combination at distance 2, rows after. -/
theorem bwd_st2 (h : HasRev a u j P) :
    HasRev (select (cmpi .slt rowNo (broadcast S8x1024 6#32))
        (mulf a (dynamicRotate 0 6#32 none a rotates_S8x1024_d0)) a)
      (select (cmpi .slt rowNo (broadcast S8x1024 6#32))
        (addf (mulf a (dynamicRotate 0 6#32 none u rotates_S8x1024_d0)) u) u) j (st 2 P) := by
  intro r
  pointwise
  rw [(h r).1, (h r).2, (h ⟨(r + 8 - 6) % 8, Nat.mod_lt _ (by norm_num)⟩).1,
    (h ⟨(r + 8 - 6) % 8, Nat.mod_lt _ (by norm_num)⟩).2]
  fin_cases r <;> exact ⟨rfl, rfl⟩

/-- The combination at distance 4, rows after. -/
theorem bwd_st4 (h : HasRev a u j P) :
    HasRev (select (cmpi .slt rowNo (broadcast S8x1024 4#32))
        (mulf a (dynamicRotate 0 4#32 none a rotates_S8x1024_d0)) a)
      (select (cmpi .slt rowNo (broadcast S8x1024 4#32))
        (addf (mulf a (dynamicRotate 0 4#32 none u rotates_S8x1024_d0)) u) u) j (st 4 P) := by
  intro r
  pointwise
  rw [(h r).1, (h r).2, (h ⟨(r + 8 - 4) % 8, Nat.mod_lt _ (by norm_num)⟩).1,
    (h ⟨(r + 8 - 4) % 8, Nat.mod_lt _ (by norm_num)⟩).2]
  fin_cases r <;> exact ⟨rfl, rfl⟩

/-- What a trip of the forward scan computes at row `r`. -/
theorem fwd_rows (h : FVec Ideal S8x1024 .f32) (hP : ∀ r < 8, Good (P r)) (H : Has a u j P) (r : Fin 8) :
    k0_pay29 (F := Ideal) h a u (ix2 r j) = seq P (h (ix2 r j)) (r + 1) := by
  have e := fwd_st4 (fwd_st2 (fwd_st1 H)) r
  rw [← doubling P hP _ r r.isLt, ap, ← e.1, ← e.2, add_comm]
  rfl

/-- What a trip of the reverse scan computes at row `r`. -/
theorem bwd_rows (h : FVec Ideal S8x1024 .f32) (hP : ∀ r < 8, Good (P r)) (H : HasRev a u j P) (r : Fin 8) :
    k0_pay1 (F := Ideal) rowNo h a u (ix2 r j) = seq P (h (ix2 r j)) (8 - r) := by
  have e := bwd_st4 (bwd_st2 (bwd_st1 H)) r
  have hr : 8 - (r : ℕ) = (7 - r) + 1 := by have := r.isLt; omega
  rw [hr, ← doubling P hP _ (7 - r) (by omega), ap, ← e.1, ← e.2, add_comm]
  rfl

/-- The stored block's rows. -/
theorem fwd_block (h : FVec Ideal S8x1024 .f32) (hP : ∀ r < 8, Good (P r)) (H : Has a u j P) (z : Fin 1) (r : Fin 8) :
    k0_pay30 (F := Ideal) h a u (ix3 z r j) = seq P (h (ix2 r j)) (r + 1) := by
  rw [← fwd_rows h hP H r]
  pointwise [k0_pay30]

/-- The row the next trip starts from, in every row. -/
theorem fwd_carry (h : FVec Ideal S8x1024 .f32) (hP : ∀ r < 8, Good (P r)) (H : Has a u j P) (r : Fin 8) :
    k0_pay31 (F := Ideal) h a u (ix2 r j) = seq P (h (ix2 7 j)) 8 := by
  rw [← show _ = seq P (h (ix2 7 j)) 8 from fwd_rows h hP H 7]
  pointwise [k0_pay31]

/-- The stored block's rows, reverse scan. -/
theorem bwd_block (h : FVec Ideal S8x1024 .f32) (hP : ∀ r < 8, Good (P r)) (H : HasRev a u j P) (z : Fin 1) (r : Fin 8) :
    k0_pay2 (F := Ideal) rowNo h a u (ix3 z r j) = seq P (h (ix2 r j)) (8 - r) := by
  rw [← bwd_rows h hP H r]
  pointwise [k0_pay2]

/-- The row the next trip starts from, in every row, reverse scan. -/
theorem bwd_carry (h : FVec Ideal S8x1024 .f32) (hP : ∀ r < 8, Good (P r)) (H : HasRev a u j P) (r : Fin 8) :
    k0_pay3 (F := Ideal) rowNo h a u (ix2 r j) = seq P (h (ix2 0 j)) 8 := by
  rw [← show _ = seq P (h (ix2 0 j)) 8 from bwd_rows h hP H 0]
  pointwise [k0_pay3]

end Cert.Lru

end
-- ==== Proof.Lru.Loop.lean ====
/- The two scan loops in closed form. Before trip `k` of the forward loop every carried row is the recurrence after
   `8 k` rows, and the stored pieces hold the recurrence at the rows of the groups already done; the reverse loop does
   the same from the last row upwards. -/
module

public import proofs.«01_k».proof.Proof.Gen.KernelIdeal.Loops
public import proofs.«01_k».proof.Proof.Lru.Scan
public import Idealize.ShloMosaic.Lib.Pipeline.Value

@[expose] public section

set_option maxRecDepth 16384

noncomputable section

namespace Cert.Lru

open Cert.KernelIdeal Cert.KernelIdeal.Gen Idealize.ShloMosaic Idealize.ShloMosaic.TcCoe

/-- A load of eight rows from row `n`. -/
theorem read8 {κ : Kind} {sp : Space} (v : View sig κ sp S256x1024 .f32) (X : v.ty.Contents (Elt Ideal)) (off : Fin 2 → ℕ) (n : ℕ)
    (hoff : off = ![n, 0]) (inb : ∀ a, off a + S8x1024.size a ≤ S256x1024.size a) (hn : n + 8 ≤ 256) (r : Fin 8) (j : Fin 1024) :
    v.readAt (Elt Ideal) (Rect.unit (s := S256x1024) off S8x1024.size inb).toLoadRect X (ix2 r j)
      = v.read (Elt Ideal) X (ix2 ⟨n + r, by omega⟩ j) := by
  subst hoff
  refine congrArg (v.read (Elt Ideal) X) (funext fun a => Fin.ext ?_)
  fin_cases a
  · show n + 1 * (r : ℕ) = n + r; omega
  · show 0 + 1 * (j : ℕ) = j; omega

namespace Fwd

variable (𝒱 : Variants) (c : Dev nD) (bd : Option 𝒱.V) (i : grid0.Coords) (arg2 : Memref sig .tc .vmem S1x256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x256x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S2x1x1024 .f32) (harg10 : arg10.IsWhole) (arg11 : Memref sig .tc .vmem S2x4x256x256 .bf16) (harg11 : arg11.IsWhole) (arg12 : Memref sig .tc .vmem S2x1x1024 .f32) (harg12 : arg12.IsWhole) (arg13 : Memref sig .tc .vmem S2x4x256x256 .bf16) (harg13 : arg13.IsWhole) (arg14 : Memref sig .tc .vmem S2x1x1024 .f32) (harg14 : arg14.IsWhole) (arg15 : Memref sig .tc .vmem S1x256x1024 .f32) (harg15 : arg15.IsWhole) (arg16 : Memref sig .tc .vmem S1x256x1024 .f32) (harg16 : arg16.IsWhole) (arg17 : Memref sig .tc .vmem S8x1024 .f32) (harg17 : arg17.IsWhole) (arg18 : Memref sig .tc .vmem S8x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S256x1024 .f32) (harg21 : arg21.IsWhole) (arg22 : Memref sig .tc .vmem S256x1024 .f32) (harg22 : arg22.IsWhole) (arg1 : BitVec 32) (v44 : FVec Ideal S256x1024 .f32) (v99 : FVec Ideal S256x1024 .f32) (v111 : FVec Ideal S256x1024 .f32) (v114 : FVec Ideal S1x1024 .f32) (v116 : FVec Ideal S1x1024 .f32) (X_arg19 : BufTy.Contents (Elt Ideal) arg19.view.ty) (X_arg20 : BufTy.Contents (Elt Ideal) arg20.view.ty)
  (P : Fin 1024 → ℕ → EReal × EReal) (h0 : Fin 1024 → EReal) (init : Vec Ideal S8x1024 .f32)

/-- The two loads of a trip. -/
abbrev rd19 (k : Fin k0_t1_loop.trips) : Vec Ideal S8x1024 .f32 :=
  View.readAt (Elt Ideal) arg19.view (Rect.unit (s := S256x1024) (k0_off1 k) S8x1024.size (k0_off1_inb k)).toLoadRect X_arg19
abbrev rd20 (k : Fin k0_t1_loop.trips) : Vec Ideal S8x1024 .f32 :=
  View.readAt (Elt Ideal) arg20.view (Rect.unit (s := S256x1024) (k0_off1 k) S8x1024.size (k0_off1_inb k)).toLoadRect X_arg20

theorem yields (k : Fin k0_t1_loop.trips) (acc : Vec Ideal S8x1024 .f32) :
    tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v44 v99 v111 v114 v116 X_arg19 X_arg20 k acc = k0_pay31 acc (rd19 arg19 X_arg19 k) (rd20 arg20 X_arg20 k) := by
  unfold tripR_k0_t1 trip_k0_t1
  rfl

theorem stores (k : Fin k0_t1_loop.trips) (acc : Vec Ideal S8x1024 .f32) :
    tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v44 v99 v111 v114 v116 X_arg19 X_arg20 k acc
      = [⟨Rect.unit (s := S1x256x1024) (k0_off2 k) S1x8x1024.size (k0_off2_inb k),
          k0_pay30 acc (rd19 arg19 X_arg19 k) (rd20 arg20 X_arg20 k)⟩] := by
  unfold tripL_k0_t1 trip_k0_t1
  rfl

/-- A trip's loads hold the maps of its eight rows. -/
theorem has (hA : ∀ (q : Fin 256) (j : Fin 1024), arg19.view.read (Elt Ideal) X_arg19 (ix2 q j) = (P j q).1)
    (hU : ∀ (q : Fin 256) (j : Fin 1024), arg20.view.read (Elt Ideal) X_arg20 (ix2 q j) = (P j q).2)
    (k : Fin k0_t1_loop.trips) (j : Fin 1024) :
    Has (rd19 arg19 X_arg19 k) (rd20 arg20 X_arg20 k) j (fun i => P j (8 * k.val + i)) := by
  have hk : k.val < 32 := Nat.lt_of_lt_of_le k.isLt k0_t1_abs.2.1
  intro r
  have hr := r.isLt
  constructor
  · refine (read8 _ _ _ _ (k0_off1_eq k) _ (by omega) r j).trans ((hA _ _).trans ?_)
    exact congrArg (fun q => (P j q).1) (by first | rfl | (dsimp only; omega))
  · refine (read8 _ _ _ _ (k0_off1_eq k) _ (by omega) r j).trans ((hU _ _).trans ?_)
    exact congrArg (fun q => (P j q).2) (by first | rfl | (dsimp only; omega))

/-- The loop's state after `n` trips. -/
theorem loop (hP : ∀ j, ∀ n < 256, Good (P j n))
    (hA : ∀ (q : Fin 256) (j : Fin 1024), arg19.view.read (Elt Ideal) X_arg19 (ix2 q j) = (P j q).1)
    (hU : ∀ (q : Fin 256) (j : Fin 1024), arg20.view.read (Elt Ideal) X_arg20 (ix2 q j) = (P j q).2)
    (hi : ∀ (r : Fin 8) (j : Fin 1024), init (ix2 r j) = h0 j) (n : ℕ) (hn : n ≤ 32) :
    (∀ (r : Fin 8) (j : Fin 1024), (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v44 v99 v111 v114 v116 X_arg19 X_arg20 init n).1 (ix2 r j) = seq (P j) (h0 j) (8 * n))
    ∧ (∀ p ∈ (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v44 v99 v111 v114 v116 X_arg19 X_arg20 init n).2, ∀ x : p.1.shape.Idx,
        p.2 x = (fun y : S1x256x1024.Idx => seq (P (y 2)) (h0 (y 2)) ((y 1).val + 1)) (p.1.emb x))
    ∧ ∀ y : S1x256x1024.Idx, (y 1).val < 8 * n → ∃ p ∈ (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v44 v99 v111 v114 v116 X_arg19 X_arg20 init n).2, y ∈ p.1.set := by
  induction n with
  | zero => exact ⟨hi, fun p hp => absurd hp List.not_mem_nil, fun y hy => absurd hy (by have := (y 1).isLt; simp at this; omega)⟩
  | succ n ih =>
    have ht : k0_t1_loop.trips = 32 := by decide
    obtain ⟨ih1, ih2, ih3⟩ := ih (by omega)
    have hs := st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v44 v99 v111 v114 v116 X_arg19 X_arg20 init (⟨n, by omega⟩ : Fin k0_t1_loop.trips)
    rw [yields, stores] at hs
    dsimp only at hs
    have hg : ∀ j, ∀ r < 8, Good (P j (8 * n + r)) := fun j r hr => hP j _ (by omega)
    rw [hs]
    refine ⟨fun r j => ?_, fun p hp x => ?_, fun y hy => ?_⟩
    · show k0_pay31 _ _ _ (ix2 r j) = _
      rw [fwd_carry _ (hg j) (has _ _ _ _ P hA hU _ j), ih1, show 8 * (n + 1) = 8 * n + 8 by ring, seq_add]
    · rcases List.mem_cons.mp hp with rfl | hp
      · obtain ⟨z, r, j, rfl⟩ : ∃ z r j, x = ix3 (n0 := 1) (n1 := 8) (n2 := 1024) z r j := ⟨_, _, _, eq_ix3 x⟩
        have hr := r.isLt
        have e1 : (((Rect.unit (s := S1x256x1024) (k0_off2 ⟨n, by omega⟩) S1x8x1024.size (k0_off2_inb ⟨n, by omega⟩)).emb
            (ix3 z r j) 1).val) = 8 * n + r := by
          show k0_off2 ⟨n, by omega⟩ 1 + 1 * (r : ℕ) = _
          rw [k0_off2_eq]; simp
        have e2 : (Rect.unit (s := S1x256x1024) (k0_off2 ⟨n, by omega⟩) S1x8x1024.size (k0_off2_inb ⟨n, by omega⟩)).emb
            (ix3 z r j) 2 = j := by
          apply Fin.ext
          show k0_off2 ⟨n, by omega⟩ 2 + 1 * (j : ℕ) = _
          rw [k0_off2_eq]; simp
        show k0_pay30 _ _ _ (ix3 z r j) = _
        rw [fwd_block _ (hg j) (has _ _ _ _ P hA hU ⟨n, by omega⟩ j) z r, ih1, ← seq_add]
        dsimp only
        rw [e1, e2]
        exact congrArg _ (by omega)
      · exact ih2 p hp x
    · have hlt : (y 1).val < 256 := (y 1).isLt
      by_cases hc : (y 1).val < 8 * n
      · obtain ⟨p, hp, hm⟩ := ih3 y hc
        exact ⟨p, List.mem_cons_of_mem _ hp, hm⟩
      · refine ⟨_, List.mem_cons_self, ?_⟩
        rw [Rect.mem_set_unit]
        intro a
        have h0' := (y 0).isLt
        have h2' := (y 2).isLt
        rw [k0_off2_eq]
        fin_cases a
        · exact ⟨Nat.zero_le _, by simpa using h0'⟩
        · simp; omega
        · exact ⟨Nat.zero_le _, by simpa using h2'⟩

end Fwd

namespace Bwd

variable (𝒱 : Variants) (c : Dev nD) (bd : Option 𝒱.V) (i : grid0.Coords) (arg2 : Memref sig .tc .vmem S1x256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x256x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S2x1x1024 .f32) (harg10 : arg10.IsWhole) (arg11 : Memref sig .tc .vmem S2x4x256x256 .bf16) (harg11 : arg11.IsWhole) (arg12 : Memref sig .tc .vmem S2x1x1024 .f32) (harg12 : arg12.IsWhole) (arg13 : Memref sig .tc .vmem S2x4x256x256 .bf16) (harg13 : arg13.IsWhole) (arg14 : Memref sig .tc .vmem S2x1x1024 .f32) (harg14 : arg14.IsWhole) (arg15 : Memref sig .tc .vmem S1x256x1024 .f32) (harg15 : arg15.IsWhole) (arg16 : Memref sig .tc .vmem S1x256x1024 .f32) (harg16 : arg16.IsWhole) (arg17 : Memref sig .tc .vmem S8x1024 .f32) (harg17 : arg17.IsWhole) (arg18 : Memref sig .tc .vmem S8x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S256x1024 .f32) (harg21 : arg21.IsWhole) (arg22 : Memref sig .tc .vmem S256x1024 .f32) (harg22 : arg22.IsWhole)  (X_arg21 : BufTy.Contents (Elt Ideal) arg21.view.ty) (X_arg22 : BufTy.Contents (Elt Ideal) arg22.view.ty)
  (P : Fin 1024 → ℕ → EReal × EReal) (h0 : Fin 1024 → EReal) (init : Vec Ideal S8x1024 .f32)

/-- The two loads of a trip. -/
abbrev rd21 (k : Fin k0_t2_loop.trips) : Vec Ideal S8x1024 .f32 :=
  View.readAt (Elt Ideal) arg21.view (Rect.unit (s := S256x1024) (k0_off3 k) S8x1024.size (k0_off3_inb k)).toLoadRect X_arg21
abbrev rd22 (k : Fin k0_t2_loop.trips) : Vec Ideal S8x1024 .f32 :=
  View.readAt (Elt Ideal) arg22.view (Rect.unit (s := S256x1024) (k0_off3 k) S8x1024.size (k0_off3_inb k)).toLoadRect X_arg22

theorem yields (k : Fin k0_t2_loop.trips) (acc : Vec Ideal S8x1024 .f32) :
    tripR_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 rowNo X_arg21 X_arg22 k acc = k0_pay3 rowNo acc (rd21 arg21 X_arg21 k) (rd22 arg22 X_arg22 k) := by
  unfold tripR_k0_t2 trip_k0_t2
  rfl

theorem stores (k : Fin k0_t2_loop.trips) (acc : Vec Ideal S8x1024 .f32) :
    tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 rowNo X_arg21 X_arg22 k acc
      = [⟨Rect.unit (s := S1x256x1024) (k0_off4 k) S1x8x1024.size (k0_off4_inb k),
          k0_pay2 rowNo acc (rd21 arg21 X_arg21 k) (rd22 arg22 X_arg22 k)⟩] := by
  unfold tripL_k0_t2 trip_k0_t2
  rfl

/-- A trip's loads hold the maps of its eight rows. -/
theorem has (hA : ∀ (q : Fin 256) (j : Fin 1024), arg21.view.read (Elt Ideal) X_arg21 (ix2 q j) = (P j (255 - q)).1)
    (hU : ∀ (q : Fin 256) (j : Fin 1024), arg22.view.read (Elt Ideal) X_arg22 (ix2 q j) = (P j (255 - q)).2)
    (k : Fin k0_t2_loop.trips) (j : Fin 1024) :
    HasRev (rd21 arg21 X_arg21 k) (rd22 arg22 X_arg22 k) j (fun i => P j (8 * k.val + i)) := by
  have hk : k.val < 32 := Nat.lt_of_lt_of_le k.isLt k0_t2_abs.2.1
  intro r
  have hr := r.isLt
  constructor
  · refine (read8 _ _ _ _ (k0_off3_eq k) _ (by omega) r j).trans ((hA _ _).trans ?_)
    exact congrArg (fun q => (P j q).1) (by first | rfl | (dsimp only; omega))
  · refine (read8 _ _ _ _ (k0_off3_eq k) _ (by omega) r j).trans ((hU _ _).trans ?_)
    exact congrArg (fun q => (P j q).2) (by first | rfl | (dsimp only; omega))

/-- The loop's state after `n` trips. -/
theorem loop (hP : ∀ j, ∀ n < 256, Good (P j n))
    (hA : ∀ (q : Fin 256) (j : Fin 1024), arg21.view.read (Elt Ideal) X_arg21 (ix2 q j) = (P j (255 - q)).1)
    (hU : ∀ (q : Fin 256) (j : Fin 1024), arg22.view.read (Elt Ideal) X_arg22 (ix2 q j) = (P j (255 - q)).2)
    (hi : ∀ (r : Fin 8) (j : Fin 1024), init (ix2 r j) = h0 j) (n : ℕ) (hn : n ≤ 32) :
    (∀ (r : Fin 8) (j : Fin 1024), (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 rowNo X_arg21 X_arg22 init n).1 (ix2 r j) = seq (P j) (h0 j) (8 * n))
    ∧ (∀ p ∈ (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 rowNo X_arg21 X_arg22 init n).2, ∀ x : p.1.shape.Idx,
        p.2 x = (fun y : S1x256x1024.Idx => seq (P (y 2)) (h0 (y 2)) (256 - (y 1).val)) (p.1.emb x))
    ∧ ∀ y : S1x256x1024.Idx, 256 - 8 * n ≤ (y 1).val → ∃ p ∈ (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 rowNo X_arg21 X_arg22 init n).2, y ∈ p.1.set := by
  induction n with
  | zero => exact ⟨hi, fun p hp => absurd hp List.not_mem_nil, fun y hy => absurd hy (by have := (y 1).isLt; simp at this; omega)⟩
  | succ n ih =>
    have ht : k0_t2_loop.trips = 32 := by decide
    obtain ⟨ih1, ih2, ih3⟩ := ih (by omega)
    have hs := st_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 rowNo X_arg21 X_arg22 init (⟨n, by omega⟩ : Fin k0_t2_loop.trips)
    rw [yields, stores] at hs
    dsimp only at hs
    have hg : ∀ j, ∀ r < 8, Good (P j (8 * n + r)) := fun j r hr => hP j _ (by omega)
    rw [hs]
    refine ⟨fun r j => ?_, fun p hp x => ?_, fun y hy => ?_⟩
    · show k0_pay3 rowNo _ _ _ (ix2 r j) = _
      rw [bwd_carry _ (hg j) (has _ _ _ _ P hA hU _ j), ih1, show 8 * (n + 1) = 8 * n + 8 by ring, seq_add]
    · rcases List.mem_cons.mp hp with rfl | hp
      · obtain ⟨z, r, j, rfl⟩ : ∃ z r j, x = ix3 (n0 := 1) (n1 := 8) (n2 := 1024) z r j := ⟨_, _, _, eq_ix3 x⟩
        have hr := r.isLt
        have e1 : (((Rect.unit (s := S1x256x1024) (k0_off4 ⟨n, by omega⟩) S1x8x1024.size (k0_off4_inb ⟨n, by omega⟩)).emb
            (ix3 z r j) 1).val) = (248 - 8 * n) + r := by
          show k0_off4 ⟨n, by omega⟩ 1 + 1 * (r : ℕ) = _
          rw [k0_off4_eq]; simp
        have e2 : (Rect.unit (s := S1x256x1024) (k0_off4 ⟨n, by omega⟩) S1x8x1024.size (k0_off4_inb ⟨n, by omega⟩)).emb
            (ix3 z r j) 2 = j := by
          apply Fin.ext
          show k0_off4 ⟨n, by omega⟩ 2 + 1 * (j : ℕ) = _
          rw [k0_off4_eq]; simp
        show k0_pay2 rowNo _ _ _ (ix3 z r j) = _
        rw [bwd_block _ (hg j) (has _ _ _ _ P hA hU ⟨n, by omega⟩ j) z r, ih1, ← seq_add]
        dsimp only
        rw [e1, e2]
        exact congrArg _ (by omega)
      · exact ih2 p hp x
    · have hlt : (y 1).val < 256 := (y 1).isLt
      by_cases hc : 256 - 8 * n ≤ (y 1).val
      · obtain ⟨p, hp, hm⟩ := ih3 y hc
        exact ⟨p, List.mem_cons_of_mem _ hp, hm⟩
      · refine ⟨_, List.mem_cons_self, ?_⟩
        rw [Rect.mem_set_unit]
        intro a
        have h0' := (y 0).isLt
        have h2' := (y 2).isLt
        rw [k0_off4_eq]
        fin_cases a
        · exact ⟨Nat.zero_le _, by simpa using h0'⟩
        · simp; omega
        · exact ⟨Nat.zero_le _, by simpa using h2'⟩

end Bwd

end Cert.Lru

end
-- ==== Proof.Lru.FwdA.lean ====
/- The forward pass of a batch row's first tile. -/
module

public import proofs.«01_k».proof.Proof.Lru.Frame
public import proofs.«01_k».proof.Proof.Lru.Reads
public import proofs.«01_k».proof.Proof.Lru.Loop

@[expose] public section

set_option maxRecDepth 16384

noncomputable section

namespace Cert.Lru

open Cert.KernelIdeal Cert.KernelIdeal.Gen Cert.KernelIdeal.Lru Idealize.ShloMosaic Idealize.ShloMosaic.TcCoe
open Idealize.ShloMosaic.Tactic Idealize.SL.Sem

/-- The forward pass of the first tile of a batch row: what its stores hold, and the state it carries on. -/
theorem fwd_A  (c : Dev nD) (i : grid0.Coords) (arg2 : Memref sig .tc .vmem S1x256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x256x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S2x1x1024 .f32) (harg10 : arg10.IsWhole) (arg11 : Memref sig .tc .vmem S2x4x256x256 .bf16) (harg11 : arg11.IsWhole) (arg12 : Memref sig .tc .vmem S2x1x1024 .f32) (harg12 : arg12.IsWhole) (arg13 : Memref sig .tc .vmem S2x4x256x256 .bf16) (harg13 : arg13.IsWhole) (arg14 : Memref sig .tc .vmem S2x1x1024 .f32) (harg14 : arg14.IsWhole) (arg15 : Memref sig .tc .vmem S1x256x1024 .f32) (harg15 : arg15.IsWhole) (arg16 : Memref sig .tc .vmem S1x256x1024 .f32) (harg16 : arg16.IsWhole) (arg17 : Memref sig .tc .vmem S8x1024 .f32) (harg17 : arg17.IsWhole) (arg18 : Memref sig .tc .vmem S8x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S256x1024 .f32) (harg21 : arg21.IsWhole) (arg22 : Memref sig .tc .vmem S256x1024 .f32) (harg22 : arg22.IsWhole) (hc0 : cond0_0 i) (hc1 : cond0_1 i) (x0 : Vec Ideal S1x256x1024 .f32) (x1 : Vec Ideal S1x8x1024 .f32) (x2 : Vec Ideal S1x8x1024 .f32) (x3 : Vec Ideal S1x256x1024 .f32) (x4 : Vec Ideal S1x8x1024 .f32) (x5 : Vec Ideal S1x8x1024 .f32) (x6 : Vec Ideal S4x1024 .f32) (x7 : Vec Ideal S1x1024 .f32) (x8 : Vec Ideal S2x1x1024 .f32) (x9 : Vec Ideal S2x4x256x256 .bf16) (x10 : Vec Ideal S2x1x1024 .f32) (x11 : Vec Ideal S2x4x256x256 .bf16) (x12 : Vec Ideal S2x1x1024 .f32) (A : Args) (b : Fin 4) (t : ℕ) (h17 : t < 17) (ht0 : t = 0)
    (H : Holds A b t (keepPrev (BitVec.ofNat 32 (i 1).val)) (keepNext (BitVec.ofNat 32 (i 1).val)) x1 x2 x0 x6 x7) (W : Weights A x8 x9 x10 x11 x12) :
    (∀ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12).1, ∀ x, p.2 x = (fun y : S1x256x1024.Idx => hid A 0 b (y 2) (256 * t + ((y 1).val + 1))) (p.1.emb x))
    ∧ ∀ (r : Fin 8) (j : Fin 1024), View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12).2.2.1 (ix2 r j) = hid A 0 b j (256 * (t + 1)) := by
  have hP : ∀ j, ∀ n < 256, Good ((fun j n => steps A 0 b j (256 * t + n)) j n) := fun j n _ => pair_good _ _ _ _ _
  have e : (fun y : S1x256x1024.Idx => hid A 0 b (y 2) (256 * t + ((y 1).val + 1)))
      = fun y : S1x256x1024.Idx => seq ((fun j n => steps A 0 b j (256 * t + n)) (y 2)) ((fun j => hid A 0 b j (256 * t)) (y 2)) ((y 1).val + 1) :=
    funext fun y => hid_tile _ _ _ _ _ _
  rw [e]
  unfold kernelRun0_A
  dsimp only
  sl_unfold_words
  simp only [View.readAt_eq_ld, harg2.read_unread, harg3.read_unread, harg4.read_unread, harg5.read_unread, harg6.read_unread, harg7.read_unread, harg8.read_unread, harg9.read_unread, harg17.read_unread, harg18.read_unread, ld_tile, ld_edge, ld_taps, ld_bias, ld_state, conv_fwd, gateA_fwd, gateX_fwd, trips_eq]
  refine ⟨?_, fun r j => ?_⟩
  · refine (Fwd.loop _ _ _ _ _ _ _ _ _ _ _ _ _ _ _ _ _ _ _ _ _ _ _ _ _ _ _ _ _ _ _ _ _ _ _ _ _ _ _ _ _ _ _ _ _ _ _ _ _ _ _ _ _ _ (fun j n => steps A 0 b j (256 * t + n)) (fun j => hid A 0 b j (256 * t)) _ hP ?_ ?_ ?_ 32 (le_refl _)).2.1

    · intro q j
      rw [read_filled]
      show _ = (pair A 0 b (256 * t + q) j).1
      exact decay_tile (gate_tile (fun q j => conv_tile H q j) (fun i k => (read_block arg11 harg11 x9 0 0 _ _ _ i k).trans (W.wa 0 0 i k)) (fun i k => (read_block arg11 harg11 x9 0 1 _ _ _ i k).trans (W.wa 0 1 i k)) (fun i k => (read_block arg11 harg11 x9 0 2 _ _ _ i k).trans (W.wa 0 2 i k)) (fun i k => (read_block arg11 harg11 x9 0 3 _ _ _ i k).trans (W.wa 0 3 i k)) (fun j => (read_row arg12 harg12 x10 0 _ _ _ j).trans (W.ba 0 j))) (fun j => (read_row arg10 harg10 x8 0 _ _ _ j).trans (W.lam 0 j)) q j
    · intro q j
      rw [read_filled]
      show _ = (pair A 0 b (256 * t + q) j).2
      exact input_tile (fun q j => conv_tile H q j) (gate_tile (fun q j => conv_tile H q j) (fun i k => (read_block arg11 harg11 x9 0 0 _ _ _ i k).trans (W.wa 0 0 i k)) (fun i k => (read_block arg11 harg11 x9 0 1 _ _ _ i k).trans (W.wa 0 1 i k)) (fun i k => (read_block arg11 harg11 x9 0 2 _ _ _ i k).trans (W.wa 0 2 i k)) (fun i k => (read_block arg11 harg11 x9 0 3 _ _ _ i k).trans (W.wa 0 3 i k)) (fun j => (read_row arg12 harg12 x10 0 _ _ _ j).trans (W.ba 0 j))) (gate_tile (fun q j => conv_tile H q j) (fun i k => (read_block arg13 harg13 x11 0 0 _ _ _ i k).trans (W.wx 0 0 i k)) (fun i k => (read_block arg13 harg13 x11 0 1 _ _ _ i k).trans (W.wx 0 1 i k)) (fun i k => (read_block arg13 harg13 x11 0 2 _ _ _ i k).trans (W.wx 0 2 i k)) (fun i k => (read_block arg13 harg13 x11 0 3 _ _ _ i k).trans (W.wx 0 3 i k)) (fun j => (read_row arg14 harg14 x12 0 _ _ _ j).trans (W.bx 0 j))) (fun j => (read_row arg10 harg10 x8 0 _ _ _ j).trans (W.lam 0 j)) q j
    · intro r j
      rw [readCov_filled, zero_fill, ht0]; rfl

  · rw [View.canon_cons_unit_zero zero2, keep_row, show 256 * (t + 1) = 256 * t + 8 * 32 by ring, hid_tile]
    refine (Fwd.loop _ _ _ _ _ _ _ _ _ _ _ _ _ _ _ _ _ _ _ _ _ _ _ _ _ _ _ _ _ _ _ _ _ _ _ _ _ _ _ _ _ _ _ _ _ _ _ _ _ _ _ _ _ _ (fun j n => steps A 0 b j (256 * t + n)) (fun j => hid A 0 b j (256 * t)) _ hP ?_ ?_ ?_ 32 (le_refl _)).1 r j

    · intro q j
      rw [read_filled]
      show _ = (pair A 0 b (256 * t + q) j).1
      exact decay_tile (gate_tile (fun q j => conv_tile H q j) (fun i k => (read_block arg11 harg11 x9 0 0 _ _ _ i k).trans (W.wa 0 0 i k)) (fun i k => (read_block arg11 harg11 x9 0 1 _ _ _ i k).trans (W.wa 0 1 i k)) (fun i k => (read_block arg11 harg11 x9 0 2 _ _ _ i k).trans (W.wa 0 2 i k)) (fun i k => (read_block arg11 harg11 x9 0 3 _ _ _ i k).trans (W.wa 0 3 i k)) (fun j => (read_row arg12 harg12 x10 0 _ _ _ j).trans (W.ba 0 j))) (fun j => (read_row arg10 harg10 x8 0 _ _ _ j).trans (W.lam 0 j)) q j
    · intro q j
      rw [read_filled]
      show _ = (pair A 0 b (256 * t + q) j).2
      exact input_tile (fun q j => conv_tile H q j) (gate_tile (fun q j => conv_tile H q j) (fun i k => (read_block arg11 harg11 x9 0 0 _ _ _ i k).trans (W.wa 0 0 i k)) (fun i k => (read_block arg11 harg11 x9 0 1 _ _ _ i k).trans (W.wa 0 1 i k)) (fun i k => (read_block arg11 harg11 x9 0 2 _ _ _ i k).trans (W.wa 0 2 i k)) (fun i k => (read_block arg11 harg11 x9 0 3 _ _ _ i k).trans (W.wa 0 3 i k)) (fun j => (read_row arg12 harg12 x10 0 _ _ _ j).trans (W.ba 0 j))) (gate_tile (fun q j => conv_tile H q j) (fun i k => (read_block arg13 harg13 x11 0 0 _ _ _ i k).trans (W.wx 0 0 i k)) (fun i k => (read_block arg13 harg13 x11 0 1 _ _ _ i k).trans (W.wx 0 1 i k)) (fun i k => (read_block arg13 harg13 x11 0 2 _ _ _ i k).trans (W.wx 0 2 i k)) (fun i k => (read_block arg13 harg13 x11 0 3 _ _ _ i k).trans (W.wx 0 3 i k)) (fun j => (read_row arg14 harg14 x12 0 _ _ _ j).trans (W.bx 0 j))) (fun j => (read_row arg10 harg10 x8 0 _ _ _ j).trans (W.lam 0 j)) q j
    · intro r j
      rw [readCov_filled, zero_fill, ht0]; rfl

end Cert.Lru

end
-- ==== Proof.Lru.FwdB.lean ====
/- The forward pass of a later tile of a batch row. -/
module

public import proofs.«01_k».proof.Proof.Lru.Frame
public import proofs.«01_k».proof.Proof.Lru.Reads
public import proofs.«01_k».proof.Proof.Lru.Loop

@[expose] public section

set_option maxRecDepth 16384

noncomputable section

namespace Cert.Lru

open Cert.KernelIdeal Cert.KernelIdeal.Gen Cert.KernelIdeal.Lru Idealize.ShloMosaic Idealize.ShloMosaic.TcCoe
open Idealize.ShloMosaic.Tactic Idealize.SL.Sem

/-- The forward pass of a later tile of a batch row: what its stores hold, and the state it carries on. -/
theorem fwd_B  (c : Dev nD) (i : grid0.Coords) (arg2 : Memref sig .tc .vmem S1x256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x256x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S2x1x1024 .f32) (harg10 : arg10.IsWhole) (arg11 : Memref sig .tc .vmem S2x4x256x256 .bf16) (harg11 : arg11.IsWhole) (arg12 : Memref sig .tc .vmem S2x1x1024 .f32) (harg12 : arg12.IsWhole) (arg13 : Memref sig .tc .vmem S2x4x256x256 .bf16) (harg13 : arg13.IsWhole) (arg14 : Memref sig .tc .vmem S2x1x1024 .f32) (harg14 : arg14.IsWhole) (arg15 : Memref sig .tc .vmem S1x256x1024 .f32) (harg15 : arg15.IsWhole) (arg16 : Memref sig .tc .vmem S1x256x1024 .f32) (harg16 : arg16.IsWhole) (arg17 : Memref sig .tc .vmem S8x1024 .f32) (harg17 : arg17.IsWhole) (arg18 : Memref sig .tc .vmem S8x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S256x1024 .f32) (harg21 : arg21.IsWhole) (arg22 : Memref sig .tc .vmem S256x1024 .f32) (harg22 : arg22.IsWhole) (hc0 : ¬cond0_0 i) (hc1 : ¬cond0_1 i) (x0 : Vec Ideal S1x256x1024 .f32) (x1 : Vec Ideal S1x8x1024 .f32) (x2 : Vec Ideal S1x8x1024 .f32) (x3 : Vec Ideal S1x256x1024 .f32) (x4 : Vec Ideal S1x8x1024 .f32) (x5 : Vec Ideal S1x8x1024 .f32) (x6 : Vec Ideal S4x1024 .f32) (x7 : Vec Ideal S1x1024 .f32) (x8 : Vec Ideal S2x1x1024 .f32) (x9 : Vec Ideal S2x4x256x256 .bf16) (x10 : Vec Ideal S2x1x1024 .f32) (x11 : Vec Ideal S2x4x256x256 .bf16) (x12 : Vec Ideal S2x1x1024 .f32) (xs0 : Vec Ideal S8x1024 .f32) (xs1 : Vec Ideal S8x1024 .f32) (A : Args) (b : Fin 4) (t : ℕ) (h17 : t < 17) (hs : ∀ (r : Fin 8) j, xs0 (ix2 r j) = hid A 0 b j (256 * t))
    (H : Holds A b t (keepPrev (BitVec.ofNat 32 (i 1).val)) (keepNext (BitVec.ofNat 32 (i 1).val)) x1 x2 x0 x6 x7) (W : Weights A x8 x9 x10 x11 x12) :
    (∀ p ∈ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 xs0 xs1).1, ∀ x, p.2 x = (fun y : S1x256x1024.Idx => hid A 0 b (y 2) (256 * t + ((y 1).val + 1))) (p.1.emb x))
    ∧ ∀ (r : Fin 8) (j : Fin 1024), View.canon (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 xs0 xs1).2.2.1 (ix2 r j) = hid A 0 b j (256 * (t + 1)) := by
  have hP : ∀ j, ∀ n < 256, Good ((fun j n => steps A 0 b j (256 * t + n)) j n) := fun j n _ => pair_good _ _ _ _ _
  have e : (fun y : S1x256x1024.Idx => hid A 0 b (y 2) (256 * t + ((y 1).val + 1)))
      = fun y : S1x256x1024.Idx => seq ((fun j n => steps A 0 b j (256 * t + n)) (y 2)) ((fun j => hid A 0 b j (256 * t)) (y 2)) ((y 1).val + 1) :=
    funext fun y => hid_tile _ _ _ _ _ _
  rw [e]
  unfold kernelRun0_B
  dsimp only
  sl_unfold_words
  simp only [View.readAt_eq_ld, harg2.read_unread, harg3.read_unread, harg4.read_unread, harg5.read_unread, harg6.read_unread, harg7.read_unread, harg8.read_unread, harg9.read_unread, harg17.read_unread, harg18.read_unread, ld_tile, ld_edge, ld_taps, ld_bias, ld_state, conv_fwd, gateA_fwd, gateX_fwd, trips_eq]
  refine ⟨?_, fun r j => ?_⟩
  · refine (Fwd.loop _ _ _ _ _ _ _ _ _ _ _ _ _ _ _ _ _ _ _ _ _ _ _ _ _ _ _ _ _ _ _ _ _ _ _ _ _ _ _ _ _ _ _ _ _ _ _ _ _ _ _ _ _ _ (fun j n => steps A 0 b j (256 * t + n)) (fun j => hid A 0 b j (256 * t)) _ hP ?_ ?_ ?_ 32 (le_refl _)).2.1

    · intro q j
      rw [read_filled]
      show _ = (pair A 0 b (256 * t + q) j).1
      exact decay_tile (gate_tile (fun q j => conv_tile H q j) (fun i k => (read_block arg11 harg11 x9 0 0 _ _ _ i k).trans (W.wa 0 0 i k)) (fun i k => (read_block arg11 harg11 x9 0 1 _ _ _ i k).trans (W.wa 0 1 i k)) (fun i k => (read_block arg11 harg11 x9 0 2 _ _ _ i k).trans (W.wa 0 2 i k)) (fun i k => (read_block arg11 harg11 x9 0 3 _ _ _ i k).trans (W.wa 0 3 i k)) (fun j => (read_row arg12 harg12 x10 0 _ _ _ j).trans (W.ba 0 j))) (fun j => (read_row arg10 harg10 x8 0 _ _ _ j).trans (W.lam 0 j)) q j
    · intro q j
      rw [read_filled]
      show _ = (pair A 0 b (256 * t + q) j).2
      exact input_tile (fun q j => conv_tile H q j) (gate_tile (fun q j => conv_tile H q j) (fun i k => (read_block arg11 harg11 x9 0 0 _ _ _ i k).trans (W.wa 0 0 i k)) (fun i k => (read_block arg11 harg11 x9 0 1 _ _ _ i k).trans (W.wa 0 1 i k)) (fun i k => (read_block arg11 harg11 x9 0 2 _ _ _ i k).trans (W.wa 0 2 i k)) (fun i k => (read_block arg11 harg11 x9 0 3 _ _ _ i k).trans (W.wa 0 3 i k)) (fun j => (read_row arg12 harg12 x10 0 _ _ _ j).trans (W.ba 0 j))) (gate_tile (fun q j => conv_tile H q j) (fun i k => (read_block arg13 harg13 x11 0 0 _ _ _ i k).trans (W.wx 0 0 i k)) (fun i k => (read_block arg13 harg13 x11 0 1 _ _ _ i k).trans (W.wx 0 1 i k)) (fun i k => (read_block arg13 harg13 x11 0 2 _ _ _ i k).trans (W.wx 0 2 i k)) (fun i k => (read_block arg13 harg13 x11 0 3 _ _ _ i k).trans (W.wx 0 3 i k)) (fun j => (read_row arg14 harg14 x12 0 _ _ _ j).trans (W.bx 0 j))) (fun j => (read_row arg10 harg10 x8 0 _ _ _ j).trans (W.lam 0 j)) q j
    · intro r j
      exact hs r j

  · rw [View.canon_cons_unit_zero zero2, keep_row, show 256 * (t + 1) = 256 * t + 8 * 32 by ring, hid_tile]
    refine (Fwd.loop _ _ _ _ _ _ _ _ _ _ _ _ _ _ _ _ _ _ _ _ _ _ _ _ _ _ _ _ _ _ _ _ _ _ _ _ _ _ _ _ _ _ _ _ _ _ _ _ _ _ _ _ _ _ (fun j n => steps A 0 b j (256 * t + n)) (fun j => hid A 0 b j (256 * t)) _ hP ?_ ?_ ?_ 32 (le_refl _)).1 r j

    · intro q j
      rw [read_filled]
      show _ = (pair A 0 b (256 * t + q) j).1
      exact decay_tile (gate_tile (fun q j => conv_tile H q j) (fun i k => (read_block arg11 harg11 x9 0 0 _ _ _ i k).trans (W.wa 0 0 i k)) (fun i k => (read_block arg11 harg11 x9 0 1 _ _ _ i k).trans (W.wa 0 1 i k)) (fun i k => (read_block arg11 harg11 x9 0 2 _ _ _ i k).trans (W.wa 0 2 i k)) (fun i k => (read_block arg11 harg11 x9 0 3 _ _ _ i k).trans (W.wa 0 3 i k)) (fun j => (read_row arg12 harg12 x10 0 _ _ _ j).trans (W.ba 0 j))) (fun j => (read_row arg10 harg10 x8 0 _ _ _ j).trans (W.lam 0 j)) q j
    · intro q j
      rw [read_filled]
      show _ = (pair A 0 b (256 * t + q) j).2
      exact input_tile (fun q j => conv_tile H q j) (gate_tile (fun q j => conv_tile H q j) (fun i k => (read_block arg11 harg11 x9 0 0 _ _ _ i k).trans (W.wa 0 0 i k)) (fun i k => (read_block arg11 harg11 x9 0 1 _ _ _ i k).trans (W.wa 0 1 i k)) (fun i k => (read_block arg11 harg11 x9 0 2 _ _ _ i k).trans (W.wa 0 2 i k)) (fun i k => (read_block arg11 harg11 x9 0 3 _ _ _ i k).trans (W.wa 0 3 i k)) (fun j => (read_row arg12 harg12 x10 0 _ _ _ j).trans (W.ba 0 j))) (gate_tile (fun q j => conv_tile H q j) (fun i k => (read_block arg13 harg13 x11 0 0 _ _ _ i k).trans (W.wx 0 0 i k)) (fun i k => (read_block arg13 harg13 x11 0 1 _ _ _ i k).trans (W.wx 0 1 i k)) (fun i k => (read_block arg13 harg13 x11 0 2 _ _ _ i k).trans (W.wx 0 2 i k)) (fun i k => (read_block arg13 harg13 x11 0 3 _ _ _ i k).trans (W.wx 0 3 i k)) (fun j => (read_row arg14 harg14 x12 0 _ _ _ j).trans (W.bx 0 j))) (fun j => (read_row arg10 harg10 x8 0 _ _ _ j).trans (W.lam 0 j)) q j
    · intro r j
      exact hs r j

end Cert.Lru

end
-- ==== Proof.Lru.BwdA.lean ====
/- The reverse pass of a batch row's first tile. -/
module

public import proofs.«01_k».proof.Proof.Lru.Frame
public import proofs.«01_k».proof.Proof.Lru.Reads
public import proofs.«01_k».proof.Proof.Lru.Loop

@[expose] public section

set_option maxRecDepth 16384
set_option maxHeartbeats 1000000

noncomputable section

namespace Cert.Lru

open Cert.KernelIdeal Cert.KernelIdeal.Gen Cert.KernelIdeal.Lru Idealize.ShloMosaic Idealize.ShloMosaic.TcCoe
open Idealize.ShloMosaic.Tactic Idealize.SL.Sem

/-- The reverse pass of the first tile of a batch row: what its stores hold, and the state it carries on. -/
theorem bwd_A  (c : Dev nD) (i : grid0.Coords) (arg2 : Memref sig .tc .vmem S1x256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x256x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S2x1x1024 .f32) (harg10 : arg10.IsWhole) (arg11 : Memref sig .tc .vmem S2x4x256x256 .bf16) (harg11 : arg11.IsWhole) (arg12 : Memref sig .tc .vmem S2x1x1024 .f32) (harg12 : arg12.IsWhole) (arg13 : Memref sig .tc .vmem S2x4x256x256 .bf16) (harg13 : arg13.IsWhole) (arg14 : Memref sig .tc .vmem S2x1x1024 .f32) (harg14 : arg14.IsWhole) (arg15 : Memref sig .tc .vmem S1x256x1024 .f32) (harg15 : arg15.IsWhole) (arg16 : Memref sig .tc .vmem S1x256x1024 .f32) (harg16 : arg16.IsWhole) (arg17 : Memref sig .tc .vmem S8x1024 .f32) (harg17 : arg17.IsWhole) (arg18 : Memref sig .tc .vmem S8x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S256x1024 .f32) (harg21 : arg21.IsWhole) (arg22 : Memref sig .tc .vmem S256x1024 .f32) (harg22 : arg22.IsWhole) (hc0 : cond0_0 i) (hc1 : cond0_1 i) (x0 : Vec Ideal S1x256x1024 .f32) (x1 : Vec Ideal S1x8x1024 .f32) (x2 : Vec Ideal S1x8x1024 .f32) (x3 : Vec Ideal S1x256x1024 .f32) (x4 : Vec Ideal S1x8x1024 .f32) (x5 : Vec Ideal S1x8x1024 .f32) (x6 : Vec Ideal S4x1024 .f32) (x7 : Vec Ideal S1x1024 .f32) (x8 : Vec Ideal S2x1x1024 .f32) (x9 : Vec Ideal S2x4x256x256 .bf16) (x10 : Vec Ideal S2x1x1024 .f32) (x11 : Vec Ideal S2x4x256x256 .bf16) (x12 : Vec Ideal S2x1x1024 .f32) (A : Args) (b : Fin 4) (t : ℕ) (h17 : t < 17) (ht0 : t = 0)
    (H : Holds A b (backTile t) (keepPrev (backWord (BitVec.ofNat 32 (i 1).val))) (keepNext (backWord (BitVec.ofNat 32 (i 1).val))) x4 x5 x3 x6 x7) (W : Weights A x8 x9 x10 x11 x12) :
    (∀ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12).2.1, ∀ x, p.2 x = (fun y : S1x256x1024.Idx => hid A 1 b (y 2) (256 * t + (256 - (y 1).val))) (p.1.emb x))
    ∧ ∀ (r : Fin 8) (j : Fin 1024), View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12).2.2.2.1 (ix2 r j) = hid A 1 b j (256 * (t + 1)) := by
  have hP : ∀ j, ∀ n < 256, Good ((fun j n => steps A 1 b j (256 * t + n)) j n) := fun j n _ => pair_good _ _ _ _ _
  have e : (fun y : S1x256x1024.Idx => hid A 1 b (y 2) (256 * t + (256 - (y 1).val)))
      = fun y : S1x256x1024.Idx => seq ((fun j n => steps A 1 b j (256 * t + n)) (y 2)) ((fun j => hid A 1 b j (256 * t)) (y 2)) (256 - (y 1).val) :=
    funext fun y => hid_tile _ _ _ _ _ _
  rw [e]
  unfold kernelRun0_A
  dsimp only
  sl_unfold_words
  simp only [View.readAt_eq_ld, harg2.read_unread, harg3.read_unread, harg4.read_unread, harg5.read_unread, harg6.read_unread, harg7.read_unread, harg8.read_unread, harg9.read_unread, harg17.read_unread, harg18.read_unread, ld_tile, ld_edge, ld_taps, ld_bias, ld_state, conv_bwd, gateA_bwd, gateX_bwd, decay_bwd, input_bwd, trips_eq]
  refine ⟨?_, fun r j => ?_⟩
  · refine (Bwd.loop _ _ _ _ _ _ _ _ _ _ _ _ _ _ _ _ _ _ _ _ _ _ _ _ _ _ _ _ _ _ _ _ _ _ _ _ _ _ _ _ _ _ _ _ _ _  _ _ (fun j n => steps A 1 b j (256 * t + n)) (fun j => hid A 1 b j (256 * t)) _ hP ?_ ?_ ?_ 32 (le_refl _)).2.1

    · intro q j
      rw [read_filled]
      rw [steps_bwd, back_row h17]
      exact decay_tile (gate_tile (fun q j => conv_tile H q j) (fun i k => (read_block arg11 harg11 x9 1 0 _ _ _ i k).trans (W.wa 1 0 i k)) (fun i k => (read_block arg11 harg11 x9 1 1 _ _ _ i k).trans (W.wa 1 1 i k)) (fun i k => (read_block arg11 harg11 x9 1 2 _ _ _ i k).trans (W.wa 1 2 i k)) (fun i k => (read_block arg11 harg11 x9 1 3 _ _ _ i k).trans (W.wa 1 3 i k)) (fun j => (read_row arg12 harg12 x10 1 _ _ _ j).trans (W.ba 1 j))) (fun j => (read_row arg10 harg10 x8 1 _ _ _ j).trans (W.lam 1 j)) q j
    · intro q j
      rw [read_filled]
      rw [steps_bwd, back_row h17]
      exact input_tile (fun q j => conv_tile H q j) (gate_tile (fun q j => conv_tile H q j) (fun i k => (read_block arg11 harg11 x9 1 0 _ _ _ i k).trans (W.wa 1 0 i k)) (fun i k => (read_block arg11 harg11 x9 1 1 _ _ _ i k).trans (W.wa 1 1 i k)) (fun i k => (read_block arg11 harg11 x9 1 2 _ _ _ i k).trans (W.wa 1 2 i k)) (fun i k => (read_block arg11 harg11 x9 1 3 _ _ _ i k).trans (W.wa 1 3 i k)) (fun j => (read_row arg12 harg12 x10 1 _ _ _ j).trans (W.ba 1 j))) (gate_tile (fun q j => conv_tile H q j) (fun i k => (read_block arg13 harg13 x11 1 0 _ _ _ i k).trans (W.wx 1 0 i k)) (fun i k => (read_block arg13 harg13 x11 1 1 _ _ _ i k).trans (W.wx 1 1 i k)) (fun i k => (read_block arg13 harg13 x11 1 2 _ _ _ i k).trans (W.wx 1 2 i k)) (fun i k => (read_block arg13 harg13 x11 1 3 _ _ _ i k).trans (W.wx 1 3 i k)) (fun j => (read_row arg14 harg14 x12 1 _ _ _ j).trans (W.bx 1 j))) (fun j => (read_row arg10 harg10 x8 1 _ _ _ j).trans (W.lam 1 j)) q j
    · intro r j
      rw [readCov_filled, zero_fill', ht0]; rfl

  · rw [View.canon_cons_unit_zero zero2, keep_row', show 256 * (t + 1) = 256 * t + 8 * 32 by ring, hid_tile]
    refine (Bwd.loop _ _ _ _ _ _ _ _ _ _ _ _ _ _ _ _ _ _ _ _ _ _ _ _ _ _ _ _ _ _ _ _ _ _ _ _ _ _ _ _ _ _ _ _ _ _  _ _ (fun j n => steps A 1 b j (256 * t + n)) (fun j => hid A 1 b j (256 * t)) _ hP ?_ ?_ ?_ 32 (le_refl _)).1 r j

    · intro q j
      rw [read_filled]
      rw [steps_bwd, back_row h17]
      exact decay_tile (gate_tile (fun q j => conv_tile H q j) (fun i k => (read_block arg11 harg11 x9 1 0 _ _ _ i k).trans (W.wa 1 0 i k)) (fun i k => (read_block arg11 harg11 x9 1 1 _ _ _ i k).trans (W.wa 1 1 i k)) (fun i k => (read_block arg11 harg11 x9 1 2 _ _ _ i k).trans (W.wa 1 2 i k)) (fun i k => (read_block arg11 harg11 x9 1 3 _ _ _ i k).trans (W.wa 1 3 i k)) (fun j => (read_row arg12 harg12 x10 1 _ _ _ j).trans (W.ba 1 j))) (fun j => (read_row arg10 harg10 x8 1 _ _ _ j).trans (W.lam 1 j)) q j
    · intro q j
      rw [read_filled]
      rw [steps_bwd, back_row h17]
      exact input_tile (fun q j => conv_tile H q j) (gate_tile (fun q j => conv_tile H q j) (fun i k => (read_block arg11 harg11 x9 1 0 _ _ _ i k).trans (W.wa 1 0 i k)) (fun i k => (read_block arg11 harg11 x9 1 1 _ _ _ i k).trans (W.wa 1 1 i k)) (fun i k => (read_block arg11 harg11 x9 1 2 _ _ _ i k).trans (W.wa 1 2 i k)) (fun i k => (read_block arg11 harg11 x9 1 3 _ _ _ i k).trans (W.wa 1 3 i k)) (fun j => (read_row arg12 harg12 x10 1 _ _ _ j).trans (W.ba 1 j))) (gate_tile (fun q j => conv_tile H q j) (fun i k => (read_block arg13 harg13 x11 1 0 _ _ _ i k).trans (W.wx 1 0 i k)) (fun i k => (read_block arg13 harg13 x11 1 1 _ _ _ i k).trans (W.wx 1 1 i k)) (fun i k => (read_block arg13 harg13 x11 1 2 _ _ _ i k).trans (W.wx 1 2 i k)) (fun i k => (read_block arg13 harg13 x11 1 3 _ _ _ i k).trans (W.wx 1 3 i k)) (fun j => (read_row arg14 harg14 x12 1 _ _ _ j).trans (W.bx 1 j))) (fun j => (read_row arg10 harg10 x8 1 _ _ _ j).trans (W.lam 1 j)) q j
    · intro r j
      rw [readCov_filled, zero_fill', ht0]; rfl

end Cert.Lru

end
-- ==== Proof.Lru.BwdB.lean ====
/- The reverse pass of a later tile of a batch row. -/
module

public import proofs.«01_k».proof.Proof.Lru.Frame
public import proofs.«01_k».proof.Proof.Lru.Reads
public import proofs.«01_k».proof.Proof.Lru.Loop

@[expose] public section

set_option maxRecDepth 16384
set_option maxHeartbeats 1000000

noncomputable section

namespace Cert.Lru

open Cert.KernelIdeal Cert.KernelIdeal.Gen Cert.KernelIdeal.Lru Idealize.ShloMosaic Idealize.ShloMosaic.TcCoe
open Idealize.ShloMosaic.Tactic Idealize.SL.Sem

/-- The reverse pass of a later tile of a batch row: what its stores hold, and the state it carries on. -/
theorem bwd_B  (c : Dev nD) (i : grid0.Coords) (arg2 : Memref sig .tc .vmem S1x256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x256x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S2x1x1024 .f32) (harg10 : arg10.IsWhole) (arg11 : Memref sig .tc .vmem S2x4x256x256 .bf16) (harg11 : arg11.IsWhole) (arg12 : Memref sig .tc .vmem S2x1x1024 .f32) (harg12 : arg12.IsWhole) (arg13 : Memref sig .tc .vmem S2x4x256x256 .bf16) (harg13 : arg13.IsWhole) (arg14 : Memref sig .tc .vmem S2x1x1024 .f32) (harg14 : arg14.IsWhole) (arg15 : Memref sig .tc .vmem S1x256x1024 .f32) (harg15 : arg15.IsWhole) (arg16 : Memref sig .tc .vmem S1x256x1024 .f32) (harg16 : arg16.IsWhole) (arg17 : Memref sig .tc .vmem S8x1024 .f32) (harg17 : arg17.IsWhole) (arg18 : Memref sig .tc .vmem S8x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S256x1024 .f32) (harg21 : arg21.IsWhole) (arg22 : Memref sig .tc .vmem S256x1024 .f32) (harg22 : arg22.IsWhole) (hc0 : ¬cond0_0 i) (hc1 : ¬cond0_1 i) (x0 : Vec Ideal S1x256x1024 .f32) (x1 : Vec Ideal S1x8x1024 .f32) (x2 : Vec Ideal S1x8x1024 .f32) (x3 : Vec Ideal S1x256x1024 .f32) (x4 : Vec Ideal S1x8x1024 .f32) (x5 : Vec Ideal S1x8x1024 .f32) (x6 : Vec Ideal S4x1024 .f32) (x7 : Vec Ideal S1x1024 .f32) (x8 : Vec Ideal S2x1x1024 .f32) (x9 : Vec Ideal S2x4x256x256 .bf16) (x10 : Vec Ideal S2x1x1024 .f32) (x11 : Vec Ideal S2x4x256x256 .bf16) (x12 : Vec Ideal S2x1x1024 .f32) (xs0 : Vec Ideal S8x1024 .f32) (xs1 : Vec Ideal S8x1024 .f32) (A : Args) (b : Fin 4) (t : ℕ) (h17 : t < 17) (hs : ∀ (r : Fin 8) j, xs1 (ix2 r j) = hid A 1 b j (256 * t))
    (H : Holds A b (backTile t) (keepPrev (backWord (BitVec.ofNat 32 (i 1).val))) (keepNext (backWord (BitVec.ofNat 32 (i 1).val))) x4 x5 x3 x6 x7) (W : Weights A x8 x9 x10 x11 x12) :
    (∀ p ∈ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 xs0 xs1).2.1, ∀ x, p.2 x = (fun y : S1x256x1024.Idx => hid A 1 b (y 2) (256 * t + (256 - (y 1).val))) (p.1.emb x))
    ∧ ∀ (r : Fin 8) (j : Fin 1024), View.canon (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 xs0 xs1).2.2.2.1 (ix2 r j) = hid A 1 b j (256 * (t + 1)) := by
  have hP : ∀ j, ∀ n < 256, Good ((fun j n => steps A 1 b j (256 * t + n)) j n) := fun j n _ => pair_good _ _ _ _ _
  have e : (fun y : S1x256x1024.Idx => hid A 1 b (y 2) (256 * t + (256 - (y 1).val)))
      = fun y : S1x256x1024.Idx => seq ((fun j n => steps A 1 b j (256 * t + n)) (y 2)) ((fun j => hid A 1 b j (256 * t)) (y 2)) (256 - (y 1).val) :=
    funext fun y => hid_tile _ _ _ _ _ _
  rw [e]
  unfold kernelRun0_B
  dsimp only
  sl_unfold_words
  simp only [View.readAt_eq_ld, harg2.read_unread, harg3.read_unread, harg4.read_unread, harg5.read_unread, harg6.read_unread, harg7.read_unread, harg8.read_unread, harg9.read_unread, harg17.read_unread, harg18.read_unread, ld_tile, ld_edge, ld_taps, ld_bias, ld_state, conv_bwd, gateA_bwd, gateX_bwd, decay_bwd, input_bwd, trips_eq]
  refine ⟨?_, fun r j => ?_⟩
  · refine (Bwd.loop _ _ _ _ _ _ _ _ _ _ _ _ _ _ _ _ _ _ _ _ _ _ _ _ _ _ _ _ _ _ _ _ _ _ _ _ _ _ _ _ _ _ _ _ _ _  _ _ (fun j n => steps A 1 b j (256 * t + n)) (fun j => hid A 1 b j (256 * t)) _ hP ?_ ?_ ?_ 32 (le_refl _)).2.1

    · intro q j
      rw [read_filled]
      rw [steps_bwd, back_row h17]
      exact decay_tile (gate_tile (fun q j => conv_tile H q j) (fun i k => (read_block arg11 harg11 x9 1 0 _ _ _ i k).trans (W.wa 1 0 i k)) (fun i k => (read_block arg11 harg11 x9 1 1 _ _ _ i k).trans (W.wa 1 1 i k)) (fun i k => (read_block arg11 harg11 x9 1 2 _ _ _ i k).trans (W.wa 1 2 i k)) (fun i k => (read_block arg11 harg11 x9 1 3 _ _ _ i k).trans (W.wa 1 3 i k)) (fun j => (read_row arg12 harg12 x10 1 _ _ _ j).trans (W.ba 1 j))) (fun j => (read_row arg10 harg10 x8 1 _ _ _ j).trans (W.lam 1 j)) q j
    · intro q j
      rw [read_filled]
      rw [steps_bwd, back_row h17]
      exact input_tile (fun q j => conv_tile H q j) (gate_tile (fun q j => conv_tile H q j) (fun i k => (read_block arg11 harg11 x9 1 0 _ _ _ i k).trans (W.wa 1 0 i k)) (fun i k => (read_block arg11 harg11 x9 1 1 _ _ _ i k).trans (W.wa 1 1 i k)) (fun i k => (read_block arg11 harg11 x9 1 2 _ _ _ i k).trans (W.wa 1 2 i k)) (fun i k => (read_block arg11 harg11 x9 1 3 _ _ _ i k).trans (W.wa 1 3 i k)) (fun j => (read_row arg12 harg12 x10 1 _ _ _ j).trans (W.ba 1 j))) (gate_tile (fun q j => conv_tile H q j) (fun i k => (read_block arg13 harg13 x11 1 0 _ _ _ i k).trans (W.wx 1 0 i k)) (fun i k => (read_block arg13 harg13 x11 1 1 _ _ _ i k).trans (W.wx 1 1 i k)) (fun i k => (read_block arg13 harg13 x11 1 2 _ _ _ i k).trans (W.wx 1 2 i k)) (fun i k => (read_block arg13 harg13 x11 1 3 _ _ _ i k).trans (W.wx 1 3 i k)) (fun j => (read_row arg14 harg14 x12 1 _ _ _ j).trans (W.bx 1 j))) (fun j => (read_row arg10 harg10 x8 1 _ _ _ j).trans (W.lam 1 j)) q j
    · intro r j
      exact hs r j

  · rw [View.canon_cons_unit_zero zero2, keep_row', show 256 * (t + 1) = 256 * t + 8 * 32 by ring, hid_tile]
    refine (Bwd.loop _ _ _ _ _ _ _ _ _ _ _ _ _ _ _ _ _ _ _ _ _ _ _ _ _ _ _ _ _ _ _ _ _ _ _ _ _ _ _ _ _ _ _ _ _ _  _ _ (fun j n => steps A 1 b j (256 * t + n)) (fun j => hid A 1 b j (256 * t)) _ hP ?_ ?_ ?_ 32 (le_refl _)).1 r j

    · intro q j
      rw [read_filled]
      rw [steps_bwd, back_row h17]
      exact decay_tile (gate_tile (fun q j => conv_tile H q j) (fun i k => (read_block arg11 harg11 x9 1 0 _ _ _ i k).trans (W.wa 1 0 i k)) (fun i k => (read_block arg11 harg11 x9 1 1 _ _ _ i k).trans (W.wa 1 1 i k)) (fun i k => (read_block arg11 harg11 x9 1 2 _ _ _ i k).trans (W.wa 1 2 i k)) (fun i k => (read_block arg11 harg11 x9 1 3 _ _ _ i k).trans (W.wa 1 3 i k)) (fun j => (read_row arg12 harg12 x10 1 _ _ _ j).trans (W.ba 1 j))) (fun j => (read_row arg10 harg10 x8 1 _ _ _ j).trans (W.lam 1 j)) q j
    · intro q j
      rw [read_filled]
      rw [steps_bwd, back_row h17]
      exact input_tile (fun q j => conv_tile H q j) (gate_tile (fun q j => conv_tile H q j) (fun i k => (read_block arg11 harg11 x9 1 0 _ _ _ i k).trans (W.wa 1 0 i k)) (fun i k => (read_block arg11 harg11 x9 1 1 _ _ _ i k).trans (W.wa 1 1 i k)) (fun i k => (read_block arg11 harg11 x9 1 2 _ _ _ i k).trans (W.wa 1 2 i k)) (fun i k => (read_block arg11 harg11 x9 1 3 _ _ _ i k).trans (W.wa 1 3 i k)) (fun j => (read_row arg12 harg12 x10 1 _ _ _ j).trans (W.ba 1 j))) (gate_tile (fun q j => conv_tile H q j) (fun i k => (read_block arg13 harg13 x11 1 0 _ _ _ i k).trans (W.wx 1 0 i k)) (fun i k => (read_block arg13 harg13 x11 1 1 _ _ _ i k).trans (W.wx 1 1 i k)) (fun i k => (read_block arg13 harg13 x11 1 2 _ _ _ i k).trans (W.wx 1 2 i k)) (fun i k => (read_block arg13 harg13 x11 1 3 _ _ _ i k).trans (W.wx 1 3 i k)) (fun j => (read_row arg14 harg14 x12 1 _ _ _ j).trans (W.bx 1 j))) (fun j => (read_row arg10 harg10 x8 1 _ _ _ j).trans (W.lam 1 j)) q j
    · intro r j
      exact hs r j

end Cert.Lru

end
-- ==== Proof.Lru.Final.lean ====
/- The scan kernel's grid points, one after the other: each leaves the states of its tile and carries the last one on; and
   the two result arrays, which hold the state after every position. -/
module

public import proofs.«01_k».proof.Proof.Lru.Windows
public import proofs.«01_k».proof.Proof.Lru.FwdA
public import proofs.«01_k».proof.Proof.Lru.FwdB
public import proofs.«01_k».proof.Proof.Lru.BwdA
public import proofs.«01_k».proof.Proof.Lru.BwdB

@[expose] public section

set_option maxRecDepth 16384

noncomputable section

namespace Cert.KernelIdeal.Lru

open Cert.Lru Cert.KernelIdeal Cert.KernelIdeal.Gen Idealize.ShloMosaic Idealize.ShloMosaic.TcCoe Idealize.SL.Sem

variable (m : (ℓ : Loc nD τ sig) → Buf (Elt Ideal) ℓ) (c : Dev nD)

/-- What a grid point leaves: tile `τ` of batch row `b`, forward and in reverse, and the two states it carries on. -/
structure Leaves (A : Args) (b : Fin 4) (τ : ℕ)
    (o : Vec Ideal S1x256x1024 .f32 × Vec Ideal S1x256x1024 .f32 × Vec Ideal S8x1024 .f32 × Vec Ideal S8x1024 .f32) : Prop where
  fwd : ∀ (q : Fin 256) (j : Fin 1024), o.1 (ix3 0 q j) = hid A 0 b j (256 * τ + (q.val + 1))
  bwd : ∀ (q : Fin 256) (j : Fin 1024), o.2.1 (ix3 0 q j) = hid A 1 b j (256 * τ + (256 - q.val))
  carryF : ∀ (r : Fin 8) (j : Fin 1024), o.2.2.1 (ix2 r j) = hid A 0 b j (256 * (τ + 1))
  carryB : ∀ (r : Fin 8) (j : Fin 1024), o.2.2.2 (ix2 r j) = hid A 1 b j (256 * (τ + 1))

theorem coords_tile : ∀ t : Fin cfg0.N, (grid0.coords t 1).val = t.val % 17 :=
  (by decide +kernel : ∀ t : Fin grid0.N, (grid0.coords t 1).val = t.val % 17)

theorem leaves_first (t : Fin cfg0.N) (b : Fin 4) (hb : b.val = t.val / 17) (h0 : t.val % 17 = 0) :
    Leaves (args m c) b (t.val % 17) (outsAt0 m c t.val t.isLt) := by
  have hlt : t.val % 17 < 17 := Nat.mod_lt _ (by decide)
  have HF := holds_fwd m c t b hb (grid0.coords t) (coords_tile t)
  have HB := holds_bwd m c t b hb (grid0.coords t) (coords_tile t)
  rw [outsAt0_A m c t h0 h0]
  refine ⟨fun q j => ?_, fun q j => ?_, fun r j => ?_, fun r j => ?_⟩
  · dsimp only
    unfold out0_A_13
    rw [View.read_writes_junk_apply_eq_canon]
    refine View.canon_apply_of_pieces (Val := Elt Ideal) (S := S1x256x1024) (e := .f32)
      (fun y : S1x256x1024.Idx => hid (args m c) 0 b (y 2) (256 * (t.val % 17) + ((y 1).val + 1))) _ ?_ (ix3 0 q j) ?_
    · exact (fwd_A _ _ _ _ _ _ _ _ _ _ _ _ _ _ _ _ _ _ _ _ _ _ _ _ _ _ _ _ _ _ _ _ _ _ _ _ _ _ _ _ _ _ _ _ _ _ _ _ _ _ _ _ _ _ _ _ _ _ _ (args m c) b (t.val % 17) hlt h0 HF (weights m c t)).1
    · exact cover0_A_13 _ _ _ _ _ _ _ _ _ _ _ _ _ _ _ _ _ _ _ _ _ _ _ _ _ _ _ _ _ _ _ _ _ _ _ _ _ _ _ _ _ _ _ _ _ _ _ _ _ _ _ _ _ _ _ _ _ _ _ _
  · dsimp only
    unfold out0_A_14
    rw [View.read_writes_junk_apply_eq_canon]
    refine View.canon_apply_of_pieces (Val := Elt Ideal) (S := S1x256x1024) (e := .f32)
      (fun y : S1x256x1024.Idx => hid (args m c) 1 b (y 2) (256 * (t.val % 17) + (256 - (y 1).val))) _ ?_ (ix3 0 q j) ?_
    · exact (bwd_A _ _ _ _ _ _ _ _ _ _ _ _ _ _ _ _ _ _ _ _ _ _ _ _ _ _ _ _ _ _ _ _ _ _ _ _ _ _ _ _ _ _ _ _ _ _ _ _ _ _ _ _ _ _ _ _ _ _ _ (args m c) b (t.val % 17) hlt h0 HB (weights m c t)).1
    · exact cover0_A_14 _ _ _ _ _ _ _ _ _ _ _ _ _ _ _ _ _ _ _ _ _ _ _ _ _ _ _ _ _ _ _ _ _ _ _ _ _ _ _ _ _ _ _ _ _ _ _ _ _ _ _ _ _ _ _ _ _ _ _ _
  · dsimp only
    unfold sout0_A_0
    rw [View.read_writes_junk_apply_eq_canon]
    exact (fwd_A _ _ _ _ _ _ _ _ _ _ _ _ _ _ _ _ _ _ _ _ _ _ _ _ _ _ _ _ _ _ _ _ _ _ _ _ _ _ _ _ _ _ _ _ _ _ _ _ _ _ _ _ _ _ _ _ _ _ _ (args m c) b (t.val % 17) hlt h0 HF (weights m c t)).2 r j
  · dsimp only
    unfold sout0_A_1
    rw [View.read_writes_junk_apply_eq_canon]
    exact (bwd_A _ _ _ _ _ _ _ _ _ _ _ _ _ _ _ _ _ _ _ _ _ _ _ _ _ _ _ _ _ _ _ _ _ _ _ _ _ _ _ _ _ _ _ _ _ _ _ _ _ _ _ _ _ _ _ _ _ _ _ (args m c) b (t.val % 17) hlt h0 HB (weights m c t)).2 r j

theorem leaves_later (t : Fin cfg0.N) (b : Fin 4) (hb : b.val = t.val / 17) (h0 : ¬t.val % 17 = 0)
    (hp : Leaves (args m c) b (t.val % 17 - 1) (outsAt0 m c (t.val - 1) (by have := t.isLt; omega))) :
    Leaves (args m c) b (t.val % 17) (outsAt0 m c t.val t.isLt) := by
  have hlt : t.val % 17 < 17 := Nat.mod_lt _ (by decide)
  have HF := holds_fwd m c t b hb (grid0.coords t) (coords_tile t)
  have HB := holds_bwd m c t b hb (grid0.coords t) (coords_tile t)
  have e : t.val % 17 - 1 + 1 = t.val % 17 := by omega
  have hF := hp.carryF
  have hB := hp.carryB
  rw [e] at hF hB
  rw [outsAt0_B m c t h0 h0]
  refine ⟨fun q j => ?_, fun q j => ?_, fun r j => ?_, fun r j => ?_⟩
  · dsimp only
    unfold out0_B_13
    rw [View.read_writes_junk_apply_eq_canon]
    refine View.canon_apply_of_pieces (Val := Elt Ideal) (S := S1x256x1024) (e := .f32)
      (fun y : S1x256x1024.Idx => hid (args m c) 0 b (y 2) (256 * (t.val % 17) + ((y 1).val + 1))) _ ?_ (ix3 0 q j) ?_
    · exact (fwd_B _ _ _ _ _ _ _ _ _ _ _ _ _ _ _ _ _ _ _ _ _ _ _ _ _ _ _ _ _ _ _ _ _ _ _ _ _ _ _ _ _ _ _ _ _ _ _ _ _ _ _ _ _ _ _ _ _ _ _ _ _ (args m c) b (t.val % 17) hlt hF HF (weights m c t)).1
    · exact cover0_B_13 _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  · dsimp only
    unfold out0_B_14
    rw [View.read_writes_junk_apply_eq_canon]
    refine View.canon_apply_of_pieces (Val := Elt Ideal) (S := S1x256x1024) (e := .f32)
      (fun y : S1x256x1024.Idx => hid (args m c) 1 b (y 2) (256 * (t.val % 17) + (256 - (y 1).val))) _ ?_ (ix3 0 q j) ?_
    · exact (bwd_B _ _ _ _ _ _ _ _ _ _ _ _ _ _ _ _ _ _ _ _ _ _ _ _ _ _ _ _ _ _ _ _ _ _ _ _ _ _ _ _ _ _ _ _ _ _ _ _ _ _ _ _ _ _ _ _ _ _ _ _ _ (args m c) b (t.val % 17) hlt hB HB (weights m c t)).1
    · exact cover0_B_14 _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  · dsimp only
    unfold sout0_B_0
    rw [View.read_writes_junk_apply_eq_canon]
    exact (fwd_B _ _ _ _ _ _ _ _ _ _ _ _ _ _ _ _ _ _ _ _ _ _ _ _ _ _ _ _ _ _ _ _ _ _ _ _ _ _ _ _ _ _ _ _ _ _ _ _ _ _ _ _ _ _ _ _ _ _ _ _ _ (args m c) b (t.val % 17) hlt hF HF (weights m c t)).2 r j
  · dsimp only
    unfold sout0_B_1
    rw [View.read_writes_junk_apply_eq_canon]
    exact (bwd_B _ _ _ _ _ _ _ _ _ _ _ _ _ _ _ _ _ _ _ _ _ _ _ _ _ _ _ _ _ _ _ _ _ _ _ _ _ _ _ _ _ _ _ _ _ _ _ _ _ _ _ _ _ _ _ _ _ _ _ _ _ (args m c) b (t.val % 17) hlt hB HB (weights m c t)).2 r j

theorem leaves (n : ℕ) : ∀ (hn : n < cfg0.N) (b : Fin 4), b.val = n / 17 → Leaves (args m c) b (n % 17) (outsAt0 m c n hn) := by
  induction n with
  | zero => exact fun hn b hb => leaves_first m c ⟨0, hn⟩ b hb rfl
  | succ n ih =>
    intro hn b hb
    by_cases h0 : (n + 1) % 17 = 0
    · exact leaves_first m c ⟨n + 1, hn⟩ b hb h0
    · have := ih (by omega) b (by omega)
      refine leaves_later m c ⟨n + 1, hn⟩ b hb h0 ?_
      rw [show (n + 1) % 17 - 1 = n % 17 by omega]
      exact this

theorem index13 : ∀ t : Fin cfg0.N, win0_13.index t = ![t.val / 17, t.val % 17, 0] ∧ win0_13.flush t = true :=
  (by decide +kernel : ∀ t : Fin grid0.N, win0_13.index t = ![t.val / 17, t.val % 17, 0] ∧ win0_13.flush t = true)
theorem index14 : ∀ t : Fin cfg0.N, win0_14.index t = ![t.val / 17, backTile (t.val % 17), 0] ∧ win0_14.flush t = true :=
  (by decide +kernel : ∀ t : Fin grid0.N, win0_14.index t = ![t.val / 17, backTile (t.val % 17), 0] ∧ win0_14.flush t = true)

theorem backTile_backTile {t : ℕ} (h : t < 17) : backTile (backTile t) = t := by
  unfold backTile
  split_ifs <;> omega

/-- The forward result: at every position the state after it. -/
theorem result_fwd (b : Fin 4) (p : Fin 4352) (j : Fin 1024) :
    (dats m 0 c).arrAt 13 cfg0.N (ix3 b p j) = hid (args m c) 0 b j (p.val + 1) := by
  have hp := p.isLt
  have hb := b.isLt
  have hN : cfg0.N = 68 := N_0
  obtain ⟨t, ht⟩ : ∃ t : Fin cfg0.N, t.val = 17 * b.val + p.val / 256 := ⟨⟨_, by rw [hN]; omega⟩, rfl⟩
  have e := congrFun (blocks13 m c t (index13 t).2) (ix3 0 ⟨p.val % 256, Nat.mod_lt _ (by decide)⟩ j)
  rw [flushed13] at e
  have hl := (leaves m c t.val t.isLt b (by omega)).fwd ⟨p.val % 256, Nat.mod_lt _ (by decide)⟩ j
  have hi : (win0_13.rect t).emb (ix3 0 ⟨p.val % 256, Nat.mod_lt _ (by decide)⟩ j) = ix3 b p j := by
    funext a
    apply Fin.ext
    rw [Pipeline.Window.rect_emb_val win0_13 t (ix3 0 ⟨p.val % 256, Nat.mod_lt _ (by decide)⟩ j) a rfl, (index13 t).1]
    fin_cases a
    · show t.val / 17 * 1 + 0 = b.val; omega
    · show t.val % 17 * 256 + p.val % 256 = p.val; omega
    · show 0 * 1024 + j.val = j.val; omega
  have e' : (dats m 0 c).arrAt 13 cfg0.N ((win0_13.rect t).emb (ix3 0 ⟨p.val % 256, Nat.mod_lt _ (by decide)⟩ j))
      = (outsAt0 m c t.val t.isLt).1 (ix3 0 ⟨p.val % 256, Nat.mod_lt _ (by decide)⟩ j) := e
  rw [hi] at e'
  rw [e', hl]
  congr 1
  dsimp only
  omega

/-- The reverse result: at every position the state after it, in the reverse order. -/
theorem result_bwd (b : Fin 4) (p : Fin 4352) (j : Fin 1024) :
    (dats m 0 c).arrAt 14 cfg0.N (ix3 b p j) = hid (args m c) 1 b j (back p.val + 1) := by
  have hp := p.isLt
  have hb := b.isLt
  have hN : cfg0.N = 68 := N_0
  have hT : p.val / 256 < 17 := by omega
  have hB := backTile_lt hT
  obtain ⟨t, ht⟩ : ∃ t : Fin cfg0.N, t.val = 17 * b.val + backTile (p.val / 256) := ⟨⟨_, by rw [hN]; omega⟩, rfl⟩
  have hm : t.val % 17 = backTile (p.val / 256) := by omega
  have e := congrFun (blocks14 m c t (index14 t).2) (ix3 0 ⟨p.val % 256, Nat.mod_lt _ (by decide)⟩ j)
  rw [flushed14] at e
  have hl := (leaves m c t.val t.isLt b (by omega)).bwd ⟨p.val % 256, Nat.mod_lt _ (by decide)⟩ j
  have hi : (win0_14.rect t).emb (ix3 0 ⟨p.val % 256, Nat.mod_lt _ (by decide)⟩ j) = ix3 b p j := by
    funext a
    apply Fin.ext
    rw [Pipeline.Window.rect_emb_val win0_14 t (ix3 0 ⟨p.val % 256, Nat.mod_lt _ (by decide)⟩ j) a rfl, (index14 t).1, hm,
      backTile_backTile hT]
    fin_cases a
    · show t.val / 17 * 1 + 0 = b.val; omega
    · show p.val / 256 * 256 + p.val % 256 = p.val; omega
    · show 0 * 1024 + j.val = j.val; omega
  have e' : (dats m 0 c).arrAt 14 cfg0.N ((win0_14.rect t).emb (ix3 0 ⟨p.val % 256, Nat.mod_lt _ (by decide)⟩ j))
      = (outsAt0 m c t.val t.isLt).2.1 (ix3 0 ⟨p.val % 256, Nat.mod_lt _ (by decide)⟩ j) := e
  rw [hi] at e'
  have hk := back_tile (p.val / 256) (p.val % 256) hT (Nat.mod_lt _ (by decide))
  rw [Nat.div_add_mod] at hk
  rw [e', hl, hm, hk]
  congr 1
  dsimp only
  omega

end Cert.KernelIdeal.Lru

end
-- ==== Proof.Lru.RefConv.lean ====
/- The reference's convolution, read at an index. -/
module

public import proofs.«01_k».proof.Proof.Gen.ReferenceIdeal.Step
public import proofs.«01_k».proof.Proof.Lru.Windows
public import Idealize.ShloMosaic.Lib.Pointwise

@[expose] public section

set_option maxRecDepth 16384

noncomputable section

namespace Cert.Lru.Ref

open Cert.ReferenceIdeal Cert.ReferenceIdeal.Gen Cert.ReferenceIdeal.Step Idealize.ShloMosaic

variable (a0 : (⟨S4x4352x1024, .f32⟩ : BufTy).Contents (Elt Ideal)) (a1 : (⟨S1x4x1024, .f32⟩ : BufTy).Contents (Elt Ideal))
  (a2 : (⟨S1x1024, .f32⟩ : BufTy).Contents (Elt Ideal)) (a3 : (⟨S1x2x1024, .f32⟩ : BufTy).Contents (Elt Ideal))
  (a4 : (⟨S1x2x4x256x256, .f32⟩ : BufTy).Contents (Elt Ideal)) (a5 : (⟨S1x2x1024, .f32⟩ : BufTy).Contents (Elt Ideal))
  (a6 : (⟨S1x2x4x256x256, .f32⟩ : BufTy).Contents (Elt Ideal)) (a7 : (⟨S1x2x1024, .f32⟩ : BufTy).Contents (Elt Ideal))

/-- The arguments as plain functions. -/
abbrev argsR : Args := argsOf a0 a1 a2 a3 a4 a5 a6 a7

/-- The value the segments are padded with. -/
theorem sitofp_zero : FloatOps.sitofp (F := Ideal) FTy.f32 (0#32) = (0 : EReal) := by
  show (((0#32 : BitVec 32).toInt : ℝ) : EReal) = 0
  simp

theorem arg_x (b : Fin 4) (p : ℕ) (h : p < 4352) (j : Fin 1024) :
    a0 (ix3 b ⟨p, h⟩ j) = (argsR a0 a1 a2 a3 a4 a5 a6 a7).x b p j := by
  show _ = dite _ _ _
  rw [dif_pos h]

/-- The padded context segment. -/
theorem pad_context (b : Fin 4) (r : Fin 259) (j : Fin 1024) :
    A_main_v8 (F := Ideal) a0 a1 a2 a3 a4 a5 a6 a7 (ix3 b r j)
      = if 1 ≤ r.val ∧ r.val ≤ 256 then (argsR a0 a1 a2 a3 a4 a5 a6 a7).x b (r.val - 1) j else 0 := by
  pointwise [A_main_v8, A_main_v7, K_main_call0_v0, K_main_c]
  by_cases h : 1 ≤ r.val ∧ r.val ≤ 256
  · rw [if_pos h, dif_pos ⟨h.1, by omega⟩]
    exact arg_x a0 a1 a2 a3 a4 a5 a6 a7 b _ _ j
  · rw [if_neg h, dif_neg (fun g => h ⟨g.1, by omega⟩), sitofp_zero]

/-- The padded latent segment. -/
theorem pad_latent (b : Fin 4) (r : Fin 4099) (j : Fin 1024) :
    A_main_v42 (F := Ideal) a0 a1 a2 a3 a4 a5 a6 a7 (ix3 b r j)
      = if 1 ≤ r.val ∧ r.val ≤ 4096 then (argsR a0 a1 a2 a3 a4 a5 a6 a7).x b (256 + (r.val - 1)) j else 0 := by
  pointwise [A_main_v42, A_main_v41, K_main_call1_v0, K_main_c_0]
  by_cases h : 1 ≤ r.val ∧ r.val ≤ 4096
  · rw [if_pos h, dif_pos ⟨h.1, by omega⟩]
    exact arg_x a0 a1 a2 a3 a4 a5 a6 a7 b _ _ j
  · rw [if_neg h, dif_neg (fun g => h ⟨g.1, by omega⟩), sitofp_zero]

/-- The convolution of the context segment. -/
theorem conv_context (b : Fin 4) (q : Fin 256) (j : Fin 1024) :
    A_main_v40 (F := Ideal) a0 a1 a2 a3 a4 a5 a6 a7 (ix3 b q j) = conv (argsR a0 a1 a2 a3 a4 a5 a6 a7) b q.val j := by
  pointwise [A_main_v40, A_main_v37, A_main_v30, A_main_v23, A_main_v16, A_main_v39, A_main_v38, A_main_v36,
    A_main_v35, A_main_v34, A_main_v33, A_main_v32, A_main_v31, A_main_v29, A_main_v28, A_main_v27, A_main_v26,
    A_main_v25, A_main_v24, A_main_v22, A_main_v21, A_main_v20, A_main_v19, A_main_v18, A_main_v17, A_main_v14,
    A_main_v13, A_main_v12, A_main_v11, A_main_v10, A_main_v9, A_main_v0, A_main_v1, K_main_v15, K_main_cst]
  simp only [pad_context]
  generalize hA : argsR a0 a1 a2 a3 a4 a5 a6 a7 = A
  have hw : ∀ k, a1 (ix3 0 k j) = A.w k j := fun k => by rw [← hA]; rfl
  have hb : a2 (ix2 0 j) = A.cb j := by rw [← hA]; rfl
  have hq := q.isLt
  simp only [hw, hb]
  unfold conv
  have h0 : (if 1 ≤ q.val ∧ q.val ≤ 256 then A.x b (q.val - 1) j else 0) = tapPrev A b q.val j := by
    unfold tapPrev
    by_cases h : q.val = 0
    · rw [if_neg (by omega), if_pos (Or.inl h)]
    · rw [if_pos (by omega), if_neg (by omega)]
  have h1 : (if 1 ≤ 1 + q.val ∧ 1 + q.val ≤ 256 then A.x b (1 + q.val - 1) j else 0) = A.x b q.val j := by
    rw [if_pos (by omega), show 1 + q.val - 1 = q.val by omega]
  have h2 : (if 1 ≤ 2 + q.val ∧ 2 + q.val ≤ 256 then A.x b (2 + q.val - 1) j else 0) = tapNext A b q.val j := by
    unfold tapNext
    by_cases h : q.val = 255
    · rw [if_neg (by omega), if_pos (Or.inl h)]
    · rw [if_pos (by omega), if_neg (by omega), show 2 + q.val - 1 = q.val + 1 by omega]
  have h3 : (if 1 ≤ 3 + q.val ∧ 3 + q.val ≤ 256 then A.x b (3 + q.val - 1) j else 0) = tapNext2 A b q.val j := by
    unfold tapNext2
    by_cases h : q.val = 254 ∨ q.val = 255
    · rw [if_neg (by omega), if_pos (by omega)]
    · rw [if_pos (by omega), if_neg (by omega), show 3 + q.val - 1 = q.val + 2 by omega]
  rw [h0, h1, h2, h3, mul_comm _ (A.w 0 j), mul_comm _ (A.w 1 j), mul_comm _ (A.w 2 j), mul_comm _ (A.w 3 j)]

/-- The convolution of the latent segment, which begins at position 256. -/
theorem conv_latent (b : Fin 4) (q : Fin 4096) (j : Fin 1024) :
    A_main_v74 (F := Ideal) a0 a1 a2 a3 a4 a5 a6 a7 (ix3 b q j)
      = conv (argsR a0 a1 a2 a3 a4 a5 a6 a7) b (256 + q.val) j := by
  pointwise [A_main_v74, A_main_v73, A_main_v72, A_main_v71, A_main_v70, A_main_v69, A_main_v68, A_main_v67,
    A_main_v66, A_main_v65, A_main_v64, A_main_v63, A_main_v62, A_main_v61, A_main_v60, A_main_v59, A_main_v58,
    A_main_v57, A_main_v56, A_main_v55, A_main_v54, A_main_v53, A_main_v52, A_main_v51, A_main_v50, A_main_v48,
    A_main_v47, A_main_v46, A_main_v45, A_main_v44, A_main_v43, A_main_v0, A_main_v1, K_main_v49, K_main_cst_1]
  simp only [pad_latent]
  generalize hA : argsR a0 a1 a2 a3 a4 a5 a6 a7 = A
  have hw : ∀ k, a1 (ix3 0 k j) = A.w k j := fun k => by rw [← hA]; rfl
  have hb : a2 (ix2 0 j) = A.cb j := by rw [← hA]; rfl
  have hq := q.isLt
  simp only [hw, hb]
  unfold conv
  have h0 : (if 1 ≤ q.val ∧ q.val ≤ 4096 then A.x b (256 + (q.val - 1)) j else 0) = tapPrev A b (256 + q.val) j := by
    unfold tapPrev
    by_cases h : q.val = 0
    · rw [if_neg (by omega), if_pos (by omega)]
    · rw [if_pos (by omega), if_neg (by omega), show 256 + (q.val - 1) = 256 + q.val - 1 by omega]
  have h1 : (if 1 ≤ 1 + q.val ∧ 1 + q.val ≤ 4096 then A.x b (256 + (1 + q.val - 1)) j else 0)
      = A.x b (256 + q.val) j := by
    rw [if_pos (by omega), show 1 + q.val - 1 = q.val by omega]
  have h2 : (if 1 ≤ 2 + q.val ∧ 2 + q.val ≤ 4096 then A.x b (256 + (2 + q.val - 1)) j else 0)
      = tapNext A b (256 + q.val) j := by
    unfold tapNext
    by_cases h : q.val = 4095
    · rw [if_neg (by omega), if_pos (by omega)]
    · rw [if_pos (by omega), if_neg (by omega), show 256 + (2 + q.val - 1) = 256 + q.val + 1 by omega]
  have h3 : (if 1 ≤ 3 + q.val ∧ 3 + q.val ≤ 4096 then A.x b (256 + (3 + q.val - 1)) j else 0)
      = tapNext2 A b (256 + q.val) j := by
    unfold tapNext2
    by_cases h : q.val = 4094 ∨ q.val = 4095
    · rw [if_neg (by omega), if_pos (by omega)]
    · rw [if_pos (by omega), if_neg (by omega), show 256 + (3 + q.val - 1) = 256 + q.val + 2 by omega]
  rw [h0, h1, h2, h3, mul_comm _ (A.w 0 j), mul_comm _ (A.w 1 j), mul_comm _ (A.w 2 j), mul_comm _ (A.w 3 j)]

/-- The convolution at every position. -/
theorem conv_all (b : Fin 4) (p : Fin 4352) (j : Fin 1024) :
    A_main_v75 (F := Ideal) a0 a1 a2 a3 a4 a5 a6 a7 (ix3 b p j) = conv (argsR a0 a1 a2 a3 a4 a5 a6 a7) b p.val j := by
  pointwise [A_main_v75]
  by_cases h : p.val < 256
  · rw [dif_pos h]; exact conv_context a0 a1 a2 a3 a4 a5 a6 a7 b ⟨p.val, h⟩ j
  · rw [dif_neg h, conv_latent]
    congr 1
    show 256 + (p.val - 256) = p.val
    omega

end Cert.Lru.Ref

end
-- ==== Proof.Lru.RefGate.lean ====
/- The reference's gates, read at an index. -/
module

public import proofs.«01_k».proof.Proof.Lru.RefConv
public import Idealize.ShloMosaic.Lib.Pointwise

@[expose] public section

set_option maxRecDepth 16384

noncomputable section

namespace Cert.Lru.Ref

open Cert.ReferenceIdeal Cert.ReferenceIdeal.Gen Cert.ReferenceIdeal.Step Idealize.ShloMosaic

variable (a0 : (⟨S4x4352x1024, .f32⟩ : BufTy).Contents (Elt Ideal)) (a1 : (⟨S1x4x1024, .f32⟩ : BufTy).Contents (Elt Ideal))
  (a2 : (⟨S1x1024, .f32⟩ : BufTy).Contents (Elt Ideal)) (a3 : (⟨S1x2x1024, .f32⟩ : BufTy).Contents (Elt Ideal))
  (a4 : (⟨S1x2x4x256x256, .f32⟩ : BufTy).Contents (Elt Ideal)) (a5 : (⟨S1x2x1024, .f32⟩ : BufTy).Contents (Elt Ideal))
  (a6 : (⟨S1x2x4x256x256, .f32⟩ : BufTy).Contents (Elt Ideal)) (a7 : (⟨S1x2x1024, .f32⟩ : BufTy).Contents (Elt Ideal))

/-- The forward recurrence gate. -/
theorem gate_a0 (b : Fin 4) (p : Fin 4352) (j : Fin 1024) :
    A_main_v92 (F := Ideal) a0 a1 a2 a3 a4 a5 a6 a7 (ix3 b p j)
      = gate (argsR a0 a1 a2 a3 a4 a5 a6 a7) ((argsR a0 a1 a2 a3 a4 a5 a6 a7).wa 0) ((argsR a0 a1 a2 a3 a4 a5 a6 a7).ba 0) b p.val j := by
  pointwise [A_main_v92, A_main_v90, A_main_v88, A_main_v87, A_main_v86, A_main_v85, A_main_v84, A_main_v83,
    A_main_v82, A_main_v81, A_main_v80, A_main_v79, A_main_v78, A_main_v77, A_main_v76, K_main_v89, K_main_v91,
    K_main_cst_2, K_main_cst_3, A_main_v3, A_main_v4]
  unfold gate Ideal.logistic
  refine congrArg (fun z => Ideal.div 1 (1 + Ideal.exp (-(z + _)))) (Finset.sum_congr rfl fun x _ => ?_)
  rw [conv_all, mul_comm]
  refine congrArg₂ (· * ·) (congrArg _ (Fin.ext ?_)) rfl
  show j.val / 256 * 256 + x.val = 256 * (j.val / 256) + x.val
  omega

/-- The forward input gate. -/
theorem gate_x0 (b : Fin 4) (p : Fin 4352) (j : Fin 1024) :
    A_main_v108 (F := Ideal) a0 a1 a2 a3 a4 a5 a6 a7 (ix3 b p j)
      = gate (argsR a0 a1 a2 a3 a4 a5 a6 a7) ((argsR a0 a1 a2 a3 a4 a5 a6 a7).wx 0) ((argsR a0 a1 a2 a3 a4 a5 a6 a7).bx 0) b p.val j := by
  pointwise [A_main_v108, A_main_v106, A_main_v104, A_main_v103, A_main_v102, A_main_v101, A_main_v100, A_main_v99,
    A_main_v98, A_main_v97, A_main_v96, A_main_v95, A_main_v94, A_main_v93, A_main_v76, K_main_v105, K_main_v107,
    K_main_cst_4, K_main_cst_5, A_main_v5, A_main_v6]
  unfold gate Ideal.logistic
  refine congrArg (fun z => Ideal.div 1 (1 + Ideal.exp (-(z + _)))) (Finset.sum_congr rfl fun x _ => ?_)
  rw [conv_all, mul_comm]
  refine congrArg₂ (· * ·) (congrArg _ (Fin.ext ?_)) rfl
  show j.val / 256 * 256 + x.val = 256 * (j.val / 256) + x.val
  omega

/-- The backward recurrence gate. -/
theorem gate_a1 (b : Fin 4) (p : Fin 4352) (j : Fin 1024) :
    A_main_v142 (F := Ideal) a0 a1 a2 a3 a4 a5 a6 a7 (ix3 b p j)
      = gate (argsR a0 a1 a2 a3 a4 a5 a6 a7) ((argsR a0 a1 a2 a3 a4 a5 a6 a7).wa 1) ((argsR a0 a1 a2 a3 a4 a5 a6 a7).ba 1) b p.val j := by
  pointwise [A_main_v142, A_main_v140, A_main_v138, A_main_v137, A_main_v136, A_main_v135, A_main_v134, A_main_v133,
    A_main_v132, A_main_v131, A_main_v130, A_main_v129, A_main_v128, A_main_v127, A_main_v76, K_main_v139,
    K_main_v141, K_main_cst_8, K_main_cst_9, A_main_v3, A_main_v4]
  unfold gate Ideal.logistic
  refine congrArg (fun z => Ideal.div 1 (1 + Ideal.exp (-(z + _)))) (Finset.sum_congr rfl fun x _ => ?_)
  rw [conv_all, mul_comm]
  refine congrArg₂ (· * ·) (congrArg _ (Fin.ext ?_)) rfl
  show j.val / 256 * 256 + x.val = 256 * (j.val / 256) + x.val
  omega

/-- The backward input gate. -/
theorem gate_x1 (b : Fin 4) (p : Fin 4352) (j : Fin 1024) :
    A_main_v158 (F := Ideal) a0 a1 a2 a3 a4 a5 a6 a7 (ix3 b p j)
      = gate (argsR a0 a1 a2 a3 a4 a5 a6 a7) ((argsR a0 a1 a2 a3 a4 a5 a6 a7).wx 1) ((argsR a0 a1 a2 a3 a4 a5 a6 a7).bx 1) b p.val j := by
  pointwise [A_main_v158, A_main_v156, A_main_v154, A_main_v153, A_main_v152, A_main_v151, A_main_v150, A_main_v149,
    A_main_v148, A_main_v147, A_main_v146, A_main_v145, A_main_v144, A_main_v143, A_main_v76, K_main_v155,
    K_main_v157, K_main_cst_10, K_main_cst_11, A_main_v5, A_main_v6]
  unfold gate Ideal.logistic
  refine congrArg (fun z => Ideal.div 1 (1 + Ideal.exp (-(z + _)))) (Finset.sum_congr rfl fun x _ => ?_)
  rw [conv_all, mul_comm]
  refine congrArg₂ (· * ·) (congrArg _ (Fin.ext ?_)) rfl
  show j.val / 256 * 256 + x.val = 256 * (j.val / 256) + x.val
  omega

end Cert.Lru.Ref

end
-- ==== Proof.Lru.RefSteps.lean ====
/- The reference's steps, read at an index: the decay and the input of each step of both directions, in the order they are taken. -/
module

public import proofs.«01_k».proof.Proof.Lru.RefGate
public import Idealize.ShloMosaic.Lib.Pointwise

@[expose] public section

set_option maxRecDepth 16384

noncomputable section

namespace Cert.Lru.Ref

open Cert.ReferenceIdeal Cert.ReferenceIdeal.Gen Cert.ReferenceIdeal.Step Idealize.ShloMosaic

variable (a0 : (⟨S4x4352x1024, .f32⟩ : BufTy).Contents (Elt Ideal)) (a1 : (⟨S1x4x1024, .f32⟩ : BufTy).Contents (Elt Ideal))
  (a2 : (⟨S1x1024, .f32⟩ : BufTy).Contents (Elt Ideal)) (a3 : (⟨S1x2x1024, .f32⟩ : BufTy).Contents (Elt Ideal))
  (a4 : (⟨S1x2x4x256x256, .f32⟩ : BufTy).Contents (Elt Ideal)) (a5 : (⟨S1x2x1024, .f32⟩ : BufTy).Contents (Elt Ideal))
  (a6 : (⟨S1x2x4x256x256, .f32⟩ : BufTy).Contents (Elt Ideal)) (a7 : (⟨S1x2x1024, .f32⟩ : BufTy).Contents (Elt Ideal))

/-- The logarithm of the forward decay. -/
theorem log_decay0 (b : Fin 4) (p : Fin 4352) (j : Fin 1024) :
    A_main_v118 (F := Ideal) a0 a1 a2 a3 a4 a5 a6 a7 (ix3 b p j) = logDecay (argsR a0 a1 a2 a3 a4 a5 a6 a7) 0 b p.val j := by
  pointwise [A_main_v118, A_main_v117, A_main_v116, A_main_v115, A_main_v114, A_main_v113, A_main_v112, A_main_v111,
    A_main_v110, A_main_v2, K_main_v109, K_main_cst_6, A_main_call2_v1, A_main_call2_v3, A_main_call2_v4,
    A_main_call2_v6, A_main_call2_v7, A_main_call2_v8, A_main_call2_v9, A_main_call2_v10, A_main_call2_v11,
    K_main_call2_v0, K_main_call2_v2, K_main_call2_v5, K_main_call2_cst]
  rw [if_neg (not_not.mpr rfl), gate_a0, bits_eight]
  show _ * -(max _ _ + Ideal.log1p (Ideal.exp (-(max (-a3 (ix3 0 0 j)) (- -a3 (ix3 0 0 j)))))) = _
  rw [neg_neg]
  rfl

/-- The logarithm of the backward decay. -/
theorem log_decay1 (b : Fin 4) (p : Fin 4352) (j : Fin 1024) :
    A_main_v168 (F := Ideal) a0 a1 a2 a3 a4 a5 a6 a7 (ix3 b p j) = logDecay (argsR a0 a1 a2 a3 a4 a5 a6 a7) 1 b p.val j := by
  pointwise [A_main_v168, A_main_v167, A_main_v166, A_main_v165, A_main_v164, A_main_v163, A_main_v162, A_main_v161,
    A_main_v160, A_main_v2, K_main_v159, K_main_cst_12, A_main_call3_v1, A_main_call3_v3, A_main_call3_v4,
    A_main_call3_v6, A_main_call3_v7, A_main_call3_v8, A_main_call3_v9, A_main_call3_v10, A_main_call3_v11,
    K_main_call3_v0, K_main_call3_v2, K_main_call3_v5, K_main_call3_cst]
  rw [if_neg (not_not.mpr rfl), gate_a1, bits_eight]
  show _ * -(max _ _ + Ideal.log1p (Ideal.exp (-(max (-a3 (ix3 0 1 j)) (- -a3 (ix3 0 1 j)))))) = _
  rw [neg_neg]
  rfl

/-- The forward decay. -/
theorem decay0 (b : Fin 4) (p : Fin 4352) (j : Fin 1024) :
    A_main_v119 (F := Ideal) a0 a1 a2 a3 a4 a5 a6 a7 (ix3 b p j) = (pair (argsR a0 a1 a2 a3 a4 a5 a6 a7) 0 b p.val j).1 := by
  pointwise [A_main_v119]
  rw [log_decay0]
  rfl

/-- The forward input. -/
theorem input0 (b : Fin 4) (p : Fin 4352) (j : Fin 1024) :
    A_main_v126 (F := Ideal) a0 a1 a2 a3 a4 a5 a6 a7 (ix3 b p j) = (pair (argsR a0 a1 a2 a3 a4 a5 a6 a7) 0 b p.val j).2 := by
  pointwise [A_main_v126, A_main_v125, A_main_v124, A_main_v123, A_main_v122, A_main_v121, K_main_v120,
    K_main_cst_7]
  rw [log_decay0, gate_x0, conv_all, bits_two]
  rfl

/-- The backward decay. -/
theorem decay1 (b : Fin 4) (p : Fin 4352) (j : Fin 1024) :
    A_main_v169 (F := Ideal) a0 a1 a2 a3 a4 a5 a6 a7 (ix3 b p j) = (pair (argsR a0 a1 a2 a3 a4 a5 a6 a7) 1 b p.val j).1 := by
  pointwise [A_main_v169]
  rw [log_decay1]
  rfl

/-- The backward input. -/
theorem input1 (b : Fin 4) (p : Fin 4352) (j : Fin 1024) :
    A_main_v181 (F := Ideal) a0 a1 a2 a3 a4 a5 a6 a7 (ix3 b p j) = (pair (argsR a0 a1 a2 a3 a4 a5 a6 a7) 1 b p.val j).2 := by
  pointwise [A_main_v181, A_main_v180, A_main_v179, A_main_v178, A_main_v177, A_main_v176, K_main_v175,
    K_main_cst_13]
  rw [log_decay1, gate_x1, conv_all, bits_two]
  rfl

/-- The backward decays in the order the scan takes them. -/
theorem back_decay (b : Fin 4) (q : Fin 4352) (j : Fin 1024) :
    A_main_v174 (F := Ideal) a0 a1 a2 a3 a4 a5 a6 a7 (ix3 b q j) = (pair (argsR a0 a1 a2 a3 a4 a5 a6 a7) 1 b (back q.val) j).1 := by
  pointwise [A_main_v174, A_main_v173, A_main_v172, A_main_v171, A_main_v170]
  have hq := q.isLt
  by_cases h : q.val < 256
  · rw [dif_pos h]
    have e : 256 - (q.val + 1) = back q.val := by unfold back; rw [if_pos h]; omega
    show A_main_v169 (F := Ideal) a0 a1 a2 a3 a4 a5 a6 a7 (ix3 b ⟨256 - (q.val + 1), by omega⟩ j) = _
    rw [decay1, ← e]
  · rw [dif_neg h]
    have e : 256 + (4096 - (q.val - 256 + 1)) = back q.val := by unfold back; rw [if_neg h]; omega
    show A_main_v169 (F := Ideal) a0 a1 a2 a3 a4 a5 a6 a7 (ix3 b ⟨256 + (4096 - (q.val - 256 + 1)), by omega⟩ j) = _
    rw [decay1, ← e]

/-- The backward inputs in the order the scan takes them. -/
theorem back_input (b : Fin 4) (q : Fin 4352) (j : Fin 1024) :
    A_main_v186 (F := Ideal) a0 a1 a2 a3 a4 a5 a6 a7 (ix3 b q j) = (pair (argsR a0 a1 a2 a3 a4 a5 a6 a7) 1 b (back q.val) j).2 := by
  pointwise [A_main_v186, A_main_v185, A_main_v184, A_main_v183, A_main_v182]
  have hq := q.isLt
  by_cases h : q.val < 256
  · rw [dif_pos h]
    have e : 256 - (q.val + 1) = back q.val := by unfold back; rw [if_pos h]; omega
    show A_main_v181 (F := Ideal) a0 a1 a2 a3 a4 a5 a6 a7 (ix3 b ⟨256 - (q.val + 1), by omega⟩ j) = _
    rw [input1, ← e]
  · rw [dif_neg h]
    have e : 256 + (4096 - (q.val - 256 + 1)) = back q.val := by unfold back; rw [if_neg h]; omega
    show A_main_v181 (F := Ideal) a0 a1 a2 a3 a4 a5 a6 a7 (ix3 b ⟨256 + (4096 - (q.val - 256 + 1)), by omega⟩ j) = _
    rw [input1, ← e]

/-- Both directions' decays. -/
theorem all_decay (q : Fin 4352) (d : Fin 2) (b : Fin 4) (j : Fin 1024) :
    A_main_v190 (F := Ideal) a0 a1 a2 a3 a4 a5 a6 a7 (ix4 q d b j) = (steps (argsR a0 a1 a2 a3 a4 a5 a6 a7) d b j q.val).1 := by
  pointwise [A_main_v190, A_main_v189, A_main_v188, A_main_v187]
  fin_cases d
  · show _ = (pair _ 0 b (if (0 : Fin 2) = 0 then q.val else back q.val) j).1
    rw [if_pos rfl, ← decay0]
    rfl
  · show _ = (pair _ 1 b (if (1 : Fin 2) = 0 then q.val else back q.val) j).1
    rw [if_neg (by decide), ← back_decay]
    rfl

/-- Both directions' inputs. -/
theorem all_input (q : Fin 4352) (d : Fin 2) (b : Fin 4) (j : Fin 1024) :
    A_main_v194 (F := Ideal) a0 a1 a2 a3 a4 a5 a6 a7 (ix4 q d b j) = (steps (argsR a0 a1 a2 a3 a4 a5 a6 a7) d b j q.val).2 := by
  pointwise [A_main_v194, A_main_v193, A_main_v192, A_main_v191]
  fin_cases d
  · show _ = (pair _ 0 b (if (0 : Fin 2) = 0 then q.val else back q.val) j).2
    rw [if_pos rfl, ← input0]
    rfl
  · show _ = (pair _ 1 b (if (1 : Fin 2) = 0 then q.val else back q.val) j).2
    rw [if_neg (by decide), ← back_input]
    rfl

end Cert.Lru.Ref

end
-- ==== Proof.Lru.RefIter.lean ====
/- The reference's recurrence over its steps: the state row and the rows it has stored after `n` steps, and the two
   results it makes of them. -/
module

public import proofs.«01_k».proof.Proof.Lru.RefSteps
public import Idealize.ShloMosaic.Lib.Pointwise

@[expose] public section

set_option maxRecDepth 16384

noncomputable section

namespace Cert.Lru.Ref

open Cert.ReferenceIdeal Cert.ReferenceIdeal.Gen Cert.ReferenceIdeal.Step Idealize.ShloMosaic

/-- A step's number, as the word that counts the steps holds it. -/
theorem word (n : ℕ) (h : n < 4352) : (BitVec.ofNat 32 n).toInt = (n : ℤ) := by
  rw [BitVec.toInt_eq_toNat_of_lt]
  · rw [BitVec.toNat_ofNat, Nat.mod_eq_of_lt (by omega)]
  · rw [BitVec.toNat_ofNat, Nat.mod_eq_of_lt (by omega)]; omega

/-- Where step `n` reads and writes: at row `n`, and at the beginning of every other axis. -/
theorem at_row (n : ℕ) (h : n < 4352) (hr : S1x2x4x1024.rank = S4352x2x4x1024.rank) :
    Host.clampedStart S4352x2x4x1024 S1x2x4x1024 hr (fun k => BitVec.toInt
      ((![constantI S_ 32 (BitVec.ofNat 32 n), constantI S_ 32 0#32, constantI S_ 32 0#32, constantI S_ 32 0#32]
        : Fin 4 → S_.Idx → BitVec 32) k (Shape.Idx.first h_S_))) 0 = n := by
  show (min (max (BitVec.ofNat 32 n).toInt 0) ((4352 - 1 : ℕ) : ℤ)).toNat = n
  rw [word n h]
  omega

theorem at_zero1 (n : ℕ) (hr : S1x2x4x1024.rank = S4352x2x4x1024.rank) :
    Host.clampedStart S4352x2x4x1024 S1x2x4x1024 hr (fun k => BitVec.toInt
      ((![constantI S_ 32 (BitVec.ofNat 32 n), constantI S_ 32 0#32, constantI S_ 32 0#32, constantI S_ 32 0#32]
        : Fin 4 → S_.Idx → BitVec 32) k (Shape.Idx.first h_S_))) 1 = 0 := by
  show (min (max (0#32).toInt 0) ((2 - 2 : ℕ) : ℤ)).toNat = 0
  simp

theorem at_zero2 (n : ℕ) (hr : S1x2x4x1024.rank = S4352x2x4x1024.rank) :
    Host.clampedStart S4352x2x4x1024 S1x2x4x1024 hr (fun k => BitVec.toInt
      ((![constantI S_ 32 (BitVec.ofNat 32 n), constantI S_ 32 0#32, constantI S_ 32 0#32, constantI S_ 32 0#32]
        : Fin 4 → S_.Idx → BitVec 32) k (Shape.Idx.first h_S_))) 2 = 0 := by
  show (min (max (0#32).toInt 0) ((4 - 4 : ℕ) : ℤ)).toNat = 0
  simp

theorem at_zero3 (n : ℕ) (hr : S1x2x4x1024.rank = S4352x2x4x1024.rank) :
    Host.clampedStart S4352x2x4x1024 S1x2x4x1024 hr (fun k => BitVec.toInt
      ((![constantI S_ 32 (BitVec.ofNat 32 n), constantI S_ 32 0#32, constantI S_ 32 0#32, constantI S_ 32 0#32]
        : Fin 4 → S_.Idx → BitVec 32) k (Shape.Idx.first h_S_))) 3 = 0 := by
  show (min (max (0#32).toInt 0) ((1024 - 1024 : ℕ) : ℤ)).toNat = 0
  simp

/-- The next state row: decay times state, plus input. -/
theorem row_next (s : State Ideal) (n : ℕ) (h : n < 4352) (d : Fin 2) (b : Fin 4) (j : Fin 1024) :
    (step n s).main_v197_3 (ix3 d b j) = s.main_v197_0 (ix4 ⟨n, h⟩ d b j) * s.main_v197_3 (ix3 d b j)
      + s.main_v197_1 (ix4 ⟨n, h⟩ d b j) := by
  rw [step_main_v197_3]
  pointwise [b11, b10, b9, b8, b7, b6, b5, b4, b3, b2, b1, b0]
  simp only [at_row n h, at_zero1, at_zero2, at_zero3, Nat.zero_add]

/-- The rows stored after a step: row `n` is the new state. -/
theorem rows_next (s : State Ideal) (n : ℕ) (h : n < 4352) (p : Fin 4352) (d : Fin 2) (b : Fin 4) (j : Fin 1024) :
    (step n s).main_v197_4 (ix4 p d b j) = if p.val = n then (step n s).main_v197_3 (ix3 d b j)
      else s.main_v197_4 (ix4 p d b j) := by
  rw [step_main_v197_4, step_main_v197_3]
  pointwise [b16, b15, b14, b13, b12]
  simp only [at_row n h, at_zero1, at_zero2, at_zero3, Nat.zero_add, Nat.sub_zero]
  have hd := d.isLt
  have hb := b.isLt
  have hj := j.isLt
  by_cases hp : p.val = n
  · rw [if_pos hp, dif_pos (by omega)]
  · rw [if_neg hp, dif_neg (fun g => hp (by have := g.1; omega))]

/-- The first result is the stored rows of the forward direction. -/
theorem result_fwd (s : State Ideal) (b : Fin 4) (p : Fin 4352) (j : Fin 1024) :
    R_main_v200 s (ix3 b p j) = s.main_v197_4 (ix4 p 0 b j) := by
  pointwise [R_main_v200]

/-- The second is those of the backward direction, each segment from its end. -/
theorem result_bwd (s : State Ideal) (b : Fin 4) (p : Fin 4352) (j : Fin 1024) :
    R_main_v207 s (ix3 b p j) = s.main_v197_4 (ix4 ⟨back p.val, (back_back p.val p.isLt).2⟩ 1 b j) := by
  pointwise [R_main_v207]
  have hp := p.isLt
  by_cases h : p.val < 256
  · rw [dif_pos h]
    have e : 256 - (p.val + 1) = back p.val := by unfold back; rw [if_pos h]; omega
    show s.main_v197_4 (ix4 ⟨256 - (p.val + 1), by omega⟩ 1 b j) = _
    exact congrArg (fun z => s.main_v197_4 (ix4 z 1 b j)) (Fin.ext e)
  · rw [dif_neg h]
    have e : 256 + (4096 - (p.val - 256 + 1)) = back p.val := by unfold back; rw [if_neg h]; omega
    show s.main_v197_4 (ix4 ⟨256 + (4096 - (p.val - 256 + 1)), by omega⟩ 1 b j) = _
    exact congrArg (fun z => s.main_v197_4 (ix4 z 1 b j)) (Fin.ext e)

variable (a0 : (⟨S4x4352x1024, .f32⟩ : BufTy).Contents (Elt Ideal)) (a1 : (⟨S1x4x1024, .f32⟩ : BufTy).Contents (Elt Ideal))
  (a2 : (⟨S1x1024, .f32⟩ : BufTy).Contents (Elt Ideal)) (a3 : (⟨S1x2x1024, .f32⟩ : BufTy).Contents (Elt Ideal))
  (a4 : (⟨S1x2x4x256x256, .f32⟩ : BufTy).Contents (Elt Ideal)) (a5 : (⟨S1x2x1024, .f32⟩ : BufTy).Contents (Elt Ideal))
  (a6 : (⟨S1x2x4x256x256, .f32⟩ : BufTy).Contents (Elt Ideal)) (a7 : (⟨S1x2x1024, .f32⟩ : BufTy).Contents (Elt Ideal))

/-- The state after `n` steps. -/
def iter (n : ℕ) : State Ideal := Nat.rec (init (F := Ideal) a0 a1 a2 a3 a4 a5 a6 a7) (fun k s => step k s) n

theorem iter_zero : iter a0 a1 a2 a3 a4 a5 a6 a7 0 = init (F := Ideal) a0 a1 a2 a3 a4 a5 a6 a7 := rfl

theorem iter_succ (n : ℕ) :
    iter a0 a1 a2 a3 a4 a5 a6 a7 (n + 1) = step n (iter a0 a1 a2 a3 a4 a5 a6 a7 n) := rfl

/-- No step changes the decays. -/
theorem iter_decay (n : ℕ) :
    (iter a0 a1 a2 a3 a4 a5 a6 a7 n).main_v197_0 = A_main_v190 (F := Ideal) a0 a1 a2 a3 a4 a5 a6 a7 := by
  induction n with
  | zero => rfl
  | succ n ih => rw [iter_succ]; exact ih

/-- No step changes the inputs. -/
theorem iter_input (n : ℕ) :
    (iter a0 a1 a2 a3 a4 a5 a6 a7 n).main_v197_1 = A_main_v194 (F := Ideal) a0 a1 a2 a3 a4 a5 a6 a7 := by
  induction n with
  | zero => rfl
  | succ n ih => rw [iter_succ]; exact ih

/-- The state row after `n` steps. -/
theorem iter_row (n : ℕ) (h : n ≤ 4352) (d : Fin 2) (b : Fin 4) (j : Fin 1024) :
    (iter a0 a1 a2 a3 a4 a5 a6 a7 n).main_v197_3 (ix3 d b j) = hid (argsR a0 a1 a2 a3 a4 a5 a6 a7) d b j n := by
  induction n with
  | zero =>
    show K_main_v195 (F := Ideal) (ix3 d b j) = 0
    pointwise [K_main_v195, K_main_cst_14]
  | succ n ih =>
    rw [iter_succ, row_next _ n (by omega), iter_decay, iter_input, all_decay, all_input, ih (by omega)]
    unfold hid
    rw [seq_succ]
    rfl

/-- The rows stored after `n` steps. -/
theorem iter_rows (n : ℕ) (h : n ≤ 4352) (p : Fin 4352) (hp : p.val < n) (d : Fin 2) (b : Fin 4) (j : Fin 1024) :
    (iter a0 a1 a2 a3 a4 a5 a6 a7 n).main_v197_4 (ix4 p d b j)
      = hid (argsR a0 a1 a2 a3 a4 a5 a6 a7) d b j (p.val + 1) := by
  induction n with
  | zero => omega
  | succ n ih =>
    rw [iter_succ, rows_next _ n (by omega)]
    by_cases e : p.val = n
    · rw [if_pos e, ← iter_succ, iter_row _ _ _ _ _ _ _ _ _ h, e]
    · rw [if_neg e, ih (by omega) (by omega)]

/-- The forward result of all steps. -/
theorem last_fwd (b : Fin 4) (p : Fin 4352) (j : Fin 1024) :
    R_main_v200 (iter a0 a1 a2 a3 a4 a5 a6 a7 4352) (ix3 b p j)
      = hid (argsR a0 a1 a2 a3 a4 a5 a6 a7) 0 b j (p.val + 1) := by
  rw [result_fwd, iter_rows _ _ _ _ _ _ _ _ _ (le_refl _) _ p.isLt]

/-- The backward result of all steps. -/
theorem last_bwd (b : Fin 4) (p : Fin 4352) (j : Fin 1024) :
    R_main_v207 (iter a0 a1 a2 a3 a4 a5 a6 a7 4352) (ix3 b p j)
      = hid (argsR a0 a1 a2 a3 a4 a5 a6 a7) 1 b j (back p.val + 1) := by
  rw [result_bwd, iter_rows _ _ _ _ _ _ _ _ _ (le_refl _) _ (back_back p.val p.isLt).2]

end Cert.Lru.Ref

end
-- ==== Proof.Lru.RefRun.lean ====
/- The reference's run, stated over the step of its scan: before the loop the buffers hold the initial state, one trip
   takes the state by `step`, and the two results are read from the state after the last trip. -/
module

public import proofs.«01_k».proof.Proof.Gen.ReferenceIdeal.Run
public import proofs.«01_k».proof.Proof.Gen.ReferenceIdeal.Step

@[expose] public section

noncomputable section

namespace Cert.Lru.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step

variable {F : FTy → Type} [FloatOps F]

/-- The buffers hold state `s` before trip `j`: the carried row, the stacked rows, the decays and inputs, the counter. -/
structure Holds (V : Valuation τ sig (Elt F)) (s : State F) (j : ℕ) : Prop where
  row : V (Proc.devRef .tc main_v197_3) = s.main_v197_3
  rows : V (Proc.devRef .tc main_v197_4) = s.main_v197_4
  decay : V (Proc.devRef .tc main_v197_0) = s.main_v197_0
  input : V (Proc.devRef .tc main_v197_1) = s.main_v197_1
  count : V (Proc.devRef .tc main_v197_2) = constantI S_ 32 (BitVec.ofNat 32 j)

variable {V : Valuation τ sig (Elt F)} {s : State F} {j : ℕ}

set_option maxRecDepth 8192 in
/-- The row one trip computes. -/
theorem row_eq (h : Holds V s j) : res_main_while0b_v211 V = b11 j s := by
  unfold res_main_while0b_v211 b11 b10 b9 b8 b4 b3
  rw [h.row, h.decay, h.input, h.count]
  rfl

theorem step_row (h : Holds V s j) : Value.step_main_v197_3 V = (step j s).main_v197_3 := row_eq h

set_option maxRecDepth 8192 in
theorem step_rows (h : Holds V s j) : Value.step_main_v197_4 V = (step j s).main_v197_4 := by
  unfold Value.step_main_v197_4
  rw [row_eq h, h.rows, h.count]
  rfl

theorem step_count (h : Holds V s j) : step_main_v197_2 V = constantI S_ 32 (BitVec.ofNat 32 (j + 1)) := by
  unfold step_main_v197_2
  rw [h.count]
  funext i
  show BitVec.ofNat 32 j + 1#32 = BitVec.ofNat 32 (j + 1)
  rw [BitVec.ofNat_add]

/-- One trip keeps the buffers holding the next state. -/
theorem Holds.next (h : Holds V s j) : Holds (STEP V) (step j s) (j + 1) where
  row := (STEP_main_v197_3 V).trans (step_row h)
  rows := (STEP_main_v197_4 V).trans (step_rows h)
  count := (STEP_main_v197_2 V).trans (step_count h)
  decay := (STEP_main_v197_0 V).trans h.decay
  input := (STEP_main_v197_1 V).trans h.input

set_option maxRecDepth 8192 in
theorem out_fwd (h : Holds V s j) : out_main_v200 V = R_main_v200 s := by
  unfold out_main_v200 R_main_v200
  rw [h.rows]
  try rfl

set_option maxRecDepth 8192 in
theorem out_bwd (h : Holds V s j) : out_main_v207 V = R_main_v207 s := by
  unfold out_main_v207 R_main_v207
  rw [h.rows]
  try rfl

/-- The state before the first trip, of the arguments in memory. -/
abbrev initState (m : (ℓ : Loc nD τ sig) → Buf (Elt F) ℓ) (c : Dev nD) : State F :=
  init (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))

/-- Two arrays one after the other along an axis, as a function of the two arrays. -/
def joined {α : Type} (s₁ s₂ t : Shape) (a : Fin t.rank) (h : Shape.Concatenates [s₁, s₂] t a) (x : s₁.Idx → α)
    (y : s₂.Idx → α) : t.Idx → α := concatenate t a [⟨s₁, x⟩, ⟨s₂, y⟩] h

theorem concatenate_joined {α : Type} {s₁ s₂ t : Shape} {a : Fin t.rank} (x : s₁.Idx → α) (y : s₂.Idx → α)
    (h : Shape.Concatenates [s₁, s₂] t a) : concatenate t a [⟨s₁, x⟩, ⟨s₂, y⟩] h = joined s₁ s₂ t a h x y := rfl

variable (m : (ℓ : Loc nD τ sig) → Buf (Elt F) ℓ) (c : Dev nD)

section
set_option maxRecDepth 65536
set_option maxHeartbeats 8000000

theorem entry_count :
    entryContents preI m c (Proc.devRef .tc main_v197_2) = constantI S_ 32 (BitVec.ofNat 32 0) := by
  simp only [entryContents, afterL_cons, afterL_nil]; after_reads_simp; rfl

theorem entry_row : entryContents preI m c (Proc.devRef .tc main_v197_3) = (initState m c).main_v197_3 := by
  simp only [entryContents, afterL_cons, afterL_nil]; after_reads_simp; rfl

theorem entry_rows : entryContents preI m c (Proc.devRef .tc main_v197_4) = (initState m c).main_v197_4 := by
  simp only [entryContents, afterL_cons, afterL_nil]; after_reads_simp; rfl

theorem entry_decay : entryContents preI m c (Proc.devRef .tc main_v197_0) = (initState m c).main_v197_0 := by
  simp only [entryContents, afterL_cons, afterL_nil]; after_reads_simp [concatenate_joined, unaryIndexed_result', binaryIndexed_result']; rfl

theorem entry_input : entryContents preI m c (Proc.devRef .tc main_v197_1) = (initState m c).main_v197_1 := by
  simp only [entryContents, afterL_cons, afterL_nil]; after_reads_simp [concatenate_joined, unaryIndexed_result', binaryIndexed_result']; rfl

end

/-- The operations before the loop leave the initial state. -/
theorem entry : Holds (entryContents preI m c) (initState m c) 0 :=
  ⟨entry_row m c, entry_rows m c, entry_decay m c, entry_input m c, entry_count m c⟩

/-- Before trip `k` the buffers hold the `k`-th state. -/
theorem holds_iter (it : ℕ → State F) (h0 : it 0 = initState m c) (hs : ∀ n, it (n + 1) = step n (it n)) :
    ∀ k, Holds (STEP^[k] (entryContents preI m c)) (it k) k
  | 0 => h0 ▸ entry m c
  | k + 1 => by
    rw [Function.iterate_succ_apply', hs k]
    exact (holds_iter it h0 hs k).next

/-- Every run of the reference ends with its results read from state number 4352 and its arguments as they were. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      (r.2.mem ((c.tc : Thread nD τ).loc main_v200) = R_main_v200 (it c 4352)
      ∧ r.2.mem ((c.tc : Thread nD τ).loc main_v207) = R_main_v207 (it c 4352))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    have hk := holds_iter m c (it c) (h0 c) (hs c) 4352
    ⟨⟨(h c).1.trans (out_fwd hk), (h c).2.1.trans (out_bwd hk)⟩, (h c).2.2⟩) (Value.run m ρ)

end Cert.Lru.RefRun

end
-- ==== Proof.Lru.Algebra.lean ====
/- The kernel's two results and the reference's are equal, element by element. -/
module

public import proofs.«01_k».proof.Defs
public import proofs.«01_k».proof.Proof.Lru.Final
public import proofs.«01_k».proof.Proof.Lru.Value
public import proofs.«01_k».proof.Proof.Lru.RefIter
public import proofs.«01_k».proof.Proof.Lru.RefRun

@[expose] public section

noncomputable section

namespace Cert.Lru

open Idealize.ShloMosaic Idealize.SL.Sem

/-- The steps of the reference from the arguments in memory. -/
def refIter (m' : (ℓ : Loc Cert.ReferenceIdeal.nD Cert.ReferenceIdeal.τ Cert.ReferenceIdeal.sig) → Buf (Elt Ideal) ℓ)
    (c : Dev Cert.ReferenceIdeal.nD) (n : ℕ) : Cert.ReferenceIdeal.Step.State Ideal :=
  Ref.iter
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7))
    n

/-- The reference runs, and leaves its arguments as they were. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (RefRun.run_iter (F := Ideal) m ρ (refIter m) (fun _ => rfl) (fun _ _ => rfl))

/-- An index of a result array, by its coordinates. -/
theorem index_eq (y : (⟨3, ![4, 4352, 1024]⟩ : Shape).Idx) : y = ix3 (y 0) (y 1) (y 2) := by
  funext a
  fin_cases a <;> rfl

/-- The kernel's results are the reference's. -/
theorem algebraic : Cert.algebraic_KernelIdeal_ReferenceIdeal := by
  intro m ρ m' ρ' _ hagree
  refine ⟨fun c => (Cert.KernelIdeal.Lru.dats m 0 c).arrAt 13 Cert.KernelIdeal.cfg0.N,
    fun c => (Cert.KernelIdeal.Lru.dats m 0 c).arrAt 14 Cert.KernelIdeal.cfg0.N,
    Cert.KernelIdeal.Lru.run_blocks (F := Ideal) m ρ, ?_⟩
  refine (θ_run Cert.ReferenceIdeal.defs _ _).mono (fun _ h c => ?_)
    (RefRun.run_iter (F := Ideal) m' ρ' (refIter m') (fun _ => rfl) (fun _ _ => rfl))
  obtain ⟨g0, g1, g2, g3, g4, g5, g6, g7⟩ := hagree c
  have e : Ref.argsR
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      = Cert.KernelIdeal.Lru.args m c := by
    unfold Cert.KernelIdeal.Lru.args Ref.argsR
    rw [g0, g1, g2, g3, g4, g5, g6, g7]
  refine ⟨(h c).1.1.trans ?_, (h c).1.2.trans ?_, (h c).2⟩
  · funext y
    obtain ⟨b, p, j, rfl⟩ : ∃ (b : Fin 4) (p : Fin 4352) (j : Fin 1024), y = ix3 b p j := ⟨y 0, y 1, y 2, index_eq y⟩
    refine (Ref.last_fwd _ _ _ _ _ _ _ _ b p j).trans ?_
    rw [e]
    exact (Cert.KernelIdeal.Lru.result_fwd m c b p j).symm
  · funext y
    obtain ⟨b, p, j, rfl⟩ : ∃ (b : Fin 4) (p : Fin 4352) (j : Fin 1024), y = ix3 b p j := ⟨y 0, y 1, y 2, index_eq y⟩
    refine (Ref.last_bwd _ _ _ _ _ _ _ _ b p j).trans ?_
    rw [e]
    exact (Cert.KernelIdeal.Lru.result_bwd m c b p j).symm

end Cert.Lru

end
-- ==== Proof.Ffn.Spec.lean ====
/- The feed-forward half-step of one token, as a function of its row of 1024 channels: the normalisation by the root of
   the mean square, the modulation, and the gated two-layer product. -/
module

public import Idealize.ShloMosaic.PureOps.Ideal
public import Idealize.ShloMosaic.Lib.IdealHost
public import Idealize.ShloMosaic.Lib.Pointwise

@[expose] public section

noncomputable section

namespace Cert.Ffn

open Idealize.ShloMosaic

/-- A row over the root of its mean square (with the small constant that keeps it from zero), times the gains. -/
def rms (h g : Fin 1024 → EReal) (j : Fin 1024) : EReal :=
  h j * Ideal.rsqrt (Ideal.div (∑ x, h x * h x) (Ideal.ofBits .f32 1149239296#32) + Ideal.ofBits .f32 897988541#32) * g j

/-- The normalised row, scaled by one plus `scale` and shifted. -/
def normed (h g shift scale : Fin 1024 → EReal) (j : Fin 1024) : EReal := rms h g j * (1 + scale j) + shift j

/-- A row through a matrix. -/
def through {a b : ℕ} (u : Fin a → EReal) (w : Fin a → Fin b → EReal) (f : Fin b) : EReal := ∑ x, u x * w x f

/-- The hidden row: the first product through `a · σ(a)`, times the second. -/
def hidden (u : Fin 1024 → EReal) (wg wu : Fin 1024 → Fin 2816 → EReal) (f : Fin 2816) : EReal :=
  through u wg f * Ideal.logistic (through u wg f) * through u wu f

/-- The half-step: the row plus half the gate times the feed-forward part of the modulated row. -/
def halfStep (h g shift scale gate : Fin 1024 → EReal) (wg wu : Fin 1024 → Fin 2816 → EReal)
    (wd : Fin 2816 → Fin 1024 → EReal) (j : Fin 1024) : EReal :=
  h j + Ideal.ofBits .f32 1056964608#32 * gate j * through (hidden (normed h g shift scale) wg wu) wd j

/-- The context's tokens come first: which of a sample's two sets of modulation rows a position takes. -/
def part (p : Fin 4352) : Fin 2 := if p.val < 256 then 0 else 1

/-- The row of a position: of the context, or of the latents after it. -/
def rowOf (a0 : (⟨3, ![4, 4096, 1024]⟩ : Shape).Idx → EReal) (a1 : (⟨3, ![4, 256, 1024]⟩ : Shape).Idx → EReal)
    (b : Fin 4) (p : Fin 4352) (j : Fin 1024) : EReal :=
  if h : p.val < 256 then a1 (ix3 b ⟨p, h⟩ j) else a0 (ix3 b ⟨p - 256, by omega⟩ j)

/-- The half-step of every position, from the call's arguments. -/
def allSteps (a0 : (⟨3, ![4, 4096, 1024]⟩ : Shape).Idx → EReal) (a1 : (⟨3, ![4, 256, 1024]⟩ : Shape).Idx → EReal)
    (a2 : (⟨4, ![4, 2, 9, 1024]⟩ : Shape).Idx → EReal) (a3 : (⟨2, ![1, 1024]⟩ : Shape).Idx → EReal)
    (a4 a5 : (⟨3, ![1, 1024, 2816]⟩ : Shape).Idx → EReal) (a6 : (⟨3, ![1, 2816, 1024]⟩ : Shape).Idx → EReal)
    (b : Fin 4) (p : Fin 4352) (j : Fin 1024) : EReal :=
  halfStep (rowOf a0 a1 b p) (fun j => a3 (ix2 0 j)) (fun j => a2 (ix4 b (part p) 0 j))
    (fun j => a2 (ix4 b (part p) 1 j)) (fun j => a2 (ix4 b (part p) 2 j)) (fun k f => a4 (ix3 0 k f))
    (fun k f => a5 (ix3 0 k f)) (fun f j => a6 (ix3 0 f j)) j

end Cert.Ffn

end
-- ==== Proof.Ffn.Tile.lean ====
/- One tile of 256 tokens: what the kernel's body computes of the blocks that it reads, at an index. -/
module

public import proofs.«01_k».proof.Proof.Gen.Kernel2Ideal.Frame
public import proofs.«01_k».proof.Proof.Lru.Scal
public import proofs.«01_k».proof.Proof.Ffn.Spec
public import Idealize.ShloMosaic.Lib.Pointwise

@[expose] public section

set_option maxRecDepth 16384

noncomputable section

namespace Cert.Ffn

open Cert.Kernel2Ideal Cert.Kernel2Ideal.Gen Idealize.ShloMosaic

variable (i : grid0.Coords) (x0 x1 : FVec Ideal S1x256x1024 .f32) (x2 : FVec Ideal S1x1x9x1024 .f32)
  (x3 : FVec Ideal S1x1024 .f32) (x4 x5 : FVec Ideal S1024x2816 .bf16) (x6 : FVec Ideal S2816x1024 .bf16)

/-- The row of the tile: of the context's block in the first tile, of the latents' block afterwards. -/
def tileRow (q : Fin 256) (j : Fin 1024) : EReal := if (i 1).val = 0 then x1 (ix3 0 q j) else x0 (ix3 0 q j)

/-- The kernel's test for the first tile. -/
theorem first_iff : ∀ n < 17, Scalar.cmpi .eq (BitVec.ofNat 32 n) 0#32 = 1#1 ↔ n = 0 := by decide

theorem pay2_apply (q : Fin 256) (j : Fin 1024) : k0_pay2 (F := Ideal) i x1 x0 (ix2 q j) = tileRow i x0 x1 q j := by
  pointwise [k0_pay2]
  have h := first_iff (i 1).val (i 1).isLt
  unfold tileRow Scalar.select
  by_cases h0 : (i 1).val = 0
  · exact (if_pos (h.2 h0)).trans (if_pos h0).symm
  · exact (if_neg fun e => h0 (h.1 e)).trans (if_neg h0).symm

/-- The modulated row. -/
theorem pay5_apply (q : Fin 256) (j : Fin 1024) :
    k0_pay5 (F := Ideal) i x1 x0 x2 x3 (ix2 q j)
      = normed (tileRow i x0 x1 q) (fun j => x3 (ix2 0 j)) (fun j => x2 (ix4 0 0 0 j)) (fun j => x2 (ix4 0 0 1 j)) j := by
  pointwise [k0_pay5, k0_pay3]
  simp only [pay2_apply]
  rfl

/-- The first product. -/
theorem pay6_apply (q : Fin 256) (f : Fin 2816) :
    k0_pay6 (F := Ideal) i x1 x0 x2 x3 x4 (ix2 q f)
      = through (normed (tileRow i x0 x1 q) (fun j => x3 (ix2 0 j)) (fun j => x2 (ix4 0 0 0 j))
          (fun j => x2 (ix4 0 0 1 j))) (fun k f => x4 (ix2 k f)) f := by
  pointwise [k0_pay6]
  simp only [pay5_apply]
  rfl

theorem pay4_apply (j : Fin 1024) : k0_pay4 (F := Ideal) x2 (ix2 0 j) = x2 (ix4 0 0 2 j) := by
  pointwise [k0_pay4, k0_pay3]

/-- What the body leaves in the output's block. -/
theorem out_apply (q : Fin 256) (j : Fin 1024) :
    k0_pay1 (F := Ideal) (k0_pay2 i x1 x0) (k0_pay4 x2) (k0_pay5 i x1 x0 x2 x3) (k0_pay6 i x1 x0 x2 x3 x4) x5 x6
        (ix3 0 q j)
      = halfStep (tileRow i x0 x1 q) (fun j => x3 (ix2 0 j)) (fun j => x2 (ix4 0 0 0 j)) (fun j => x2 (ix4 0 0 1 j))
          (fun j => x2 (ix4 0 0 2 j)) (fun k f => x4 (ix2 k f)) (fun k f => x5 (ix2 k f)) (fun f j => x6 (ix2 f j)) j := by
  pointwise [k0_pay1]
  simp only [pay2_apply, pay4_apply, pay5_apply, pay6_apply]
  unfold halfStep
  congr 2
  show _ = ∑ x, _
  refine Finset.sum_congr rfl fun f _ => ?_
  congr 1
  unfold hidden
  congr 1
  congr 1
  refine Eq.trans ?_ (Lru.tanh_half _)
  rw [Lru.bits_half]

end Cert.Ffn

end
-- ==== Proof.Ffn.Kernel.lean ====
/- What each window of the feed-forward kernel holds at a grid point, in the arguments, and the array that the kernel
   leaves: the half-step of every position. -/
module

public import proofs.«01_k».proof.Proof.Gen.Kernel2Ideal.Value
public import proofs.«01_k».proof.Proof.Ffn.Tile
public import Idealize.ShloMosaic.Lib.StableHlo.RunRead
public import Idealize.ShloMosaic.Lib.Pipeline.Value

@[expose] public section

set_option maxRecDepth 16384

noncomputable section

namespace Cert.Kernel2Ideal.Ffn

open Cert.Ffn Cert.Kernel2Ideal Cert.Kernel2Ideal.Gen Idealize.ShloMosaic Idealize.ShloMosaic.TcCoe Idealize.SL.Sem

variable (m : (ℓ : Loc nD τ sig) → Buf (Elt Ideal) ℓ) (c : Dev nD)

/- Where the blocks lie. -/
theorem index0 : ∀ t : Fin cfg0.N, win0_0.index t = ![t.val / 17, t.val % 17 - 1, 0] :=
  (by decide +kernel : ∀ t : Fin grid0.N, win0_0.index t = ![t.val / 17, t.val % 17 - 1, 0])
theorem index1 : ∀ t : Fin cfg0.N, win0_1.index t = ![t.val / 17, 0, 0] :=
  (by decide +kernel : ∀ t : Fin grid0.N, win0_1.index t = ![t.val / 17, 0, 0])
theorem index2 : ∀ t : Fin cfg0.N, win0_2.index t = ![t.val / 17, min (t.val % 17) 1, 0, 0] :=
  (by decide +kernel : ∀ t : Fin grid0.N, win0_2.index t = ![t.val / 17, min (t.val % 17) 1, 0, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![0, 0] := (by decide +kernel : ∀ t : Fin grid0.N, win0_6.index t = ![0, 0])
theorem index7 : ∀ t : Fin cfg0.N, win0_7.index t = ![t.val / 17, t.val % 17, 0] ∧ win0_7.flush t = true :=
  (by decide +kernel : ∀ t : Fin grid0.N, win0_7.index t = ![t.val / 17, t.val % 17, 0] ∧ win0_7.flush t = true)
theorem coords_tile : ∀ t : Fin cfg0.N, (grid0.coords t 1).val = t.val % 17 :=
  (by decide +kernel : ∀ t : Fin grid0.N, (grid0.coords t 1).val = t.val % 17)

/- What the host operations before the call leave. -/
theorem V_v1 (j : Fin 1024) : V m c main_v1 (ix2 0 j) = m ((c : Thread nD τ).loc main_arg3) (ix2 0 j) := by
  unfold V hostOps0
  after_reads_simp
  pointwise
theorem V_v3 (k : Fin 1024) (f : Fin 2816) : V m c main_v3 (ix2 k f) = m ((c : Thread nD τ).loc main_arg4) (ix3 0 k f) := by
  unfold V hostOps0
  after_reads_simp
  pointwise
theorem V_v5 (k : Fin 1024) (f : Fin 2816) : V m c main_v5 (ix2 k f) = m ((c : Thread nD τ).loc main_arg5) (ix3 0 k f) := by
  unfold V hostOps0
  after_reads_simp
  pointwise
theorem V_v7 (f : Fin 2816) (j : Fin 1024) : V m c main_v7 (ix2 f j) = m ((c : Thread nD τ).loc main_arg6) (ix3 0 f j) := by
  unfold V hostOps0
  after_reads_simp
  pointwise

variable (t : Fin cfg0.N)

/- A block's element in its array. -/
theorem in0 (q : Fin 256) (j : Fin 1024) (b : Fin 4) (hb : b.val = t.val / 17) (p : Fin 4096)
    (h0 : ¬t.val % 17 = 0) (hp : p.val + 256 = 256 * (t.val % 17) + q) :
    iblk m c 0 t (ix3 0 q j) = m ((c : Thread nD τ).loc main_arg0) (ix3 b p j) := by
  rw [← V_main_arg0 m c]
  show V m c main_arg0 ((win0_0.rect t).emb (ix3 0 q j)) = _
  congr 1
  funext a
  apply Fin.ext
  rw [Pipeline.Window.rect_emb_val win0_0 t (ix3 0 q j) a rfl, index0]
  fin_cases a
  · show t.val / 17 * 1 + 0 = b.val; omega
  · show (t.val % 17 - 1) * 256 + q.val = p.val; omega
  · show 0 * 1024 + j.val = j.val; omega

theorem in1 (q : Fin 256) (j : Fin 1024) (b : Fin 4) (hb : b.val = t.val / 17) :
    iblk m c 1 t (ix3 0 q j) = m ((c : Thread nD τ).loc main_arg1) (ix3 b q j) := by
  rw [← V_main_arg1 m c]
  show V m c main_arg1 ((win0_1.rect t).emb (ix3 0 q j)) = _
  congr 1
  funext a
  apply Fin.ext
  rw [Pipeline.Window.rect_emb_val win0_1 t (ix3 0 q j) a rfl, index1]
  fin_cases a
  · show t.val / 17 * 1 + 0 = b.val; omega
  · show 0 * 256 + q.val = q.val; omega
  · show 0 * 1024 + j.val = j.val; omega

theorem in2 (r : Fin 9) (j : Fin 1024) (b : Fin 4) (hb : b.val = t.val / 17) (s : Fin 2) (hs : s.val = min (t.val % 17) 1) :
    iblk m c 2 t (ix4 0 0 r j) = m ((c : Thread nD τ).loc main_arg2) (ix4 b s r j) := by
  rw [← V_main_arg2 m c]
  show V m c main_arg2 ((win0_2.rect t).emb (ix4 0 0 r j)) = _
  congr 1
  funext a
  apply Fin.ext
  rw [Pipeline.Window.rect_emb_val win0_2 t (ix4 0 0 r j) a rfl, index2]
  fin_cases a
  · show t.val / 17 * 1 + 0 = b.val; omega
  · show min (t.val % 17) 1 * 1 + 0 = s.val; omega
  · show 0 * 9 + r.val = r.val; omega
  · show 0 * 1024 + j.val = j.val; omega

theorem in3 (j : Fin 1024) : iblk m c 3 t (ix2 0 j) = m ((c : Thread nD τ).loc main_arg3) (ix2 0 j) := by
  rw [← V_v1 m c]
  show V m c main_v1 ((win0_3.rect t).emb (ix2 0 j)) = _
  congr 1
  funext a
  apply Fin.ext
  rw [Pipeline.Window.rect_emb_val win0_3 t (ix2 0 j) a rfl, index3]
  fin_cases a
  · show 0 * 1 + 0 = 0; omega
  · show 0 * 1024 + j.val = j.val; omega

theorem in4 (k : Fin 1024) (f : Fin 2816) : iblk m c 4 t (ix2 k f) = m ((c : Thread nD τ).loc main_arg4) (ix3 0 k f) := by
  rw [← V_v3 m c]
  show V m c main_v3 ((win0_4.rect t).emb (ix2 k f)) = _
  congr 1
  funext a
  apply Fin.ext
  rw [Pipeline.Window.rect_emb_val win0_4 t (ix2 k f) a rfl, index4]
  fin_cases a
  · show 0 * 1024 + k.val = k.val; omega
  · show 0 * 2816 + f.val = f.val; omega

theorem in5 (k : Fin 1024) (f : Fin 2816) : iblk m c 5 t (ix2 k f) = m ((c : Thread nD τ).loc main_arg5) (ix3 0 k f) := by
  rw [← V_v5 m c]
  show V m c main_v5 ((win0_5.rect t).emb (ix2 k f)) = _
  congr 1
  funext a
  apply Fin.ext
  rw [Pipeline.Window.rect_emb_val win0_5 t (ix2 k f) a rfl, index5]
  fin_cases a
  · show 0 * 1024 + k.val = k.val; omega
  · show 0 * 2816 + f.val = f.val; omega

theorem in6 (f : Fin 2816) (j : Fin 1024) : iblk m c 6 t (ix2 f j) = m ((c : Thread nD τ).loc main_arg6) (ix3 0 f j) := by
  rw [← V_v7 m c]
  show V m c main_v7 ((win0_6.rect t).emb (ix2 f j)) = _
  congr 1
  funext a
  apply Fin.ext
  rw [Pipeline.Window.rect_emb_val win0_6 t (ix2 f j) a rfl, index6]
  fin_cases a
  · show 0 * 2816 + f.val = f.val; omega
  · show 0 * 1024 + j.val = j.val; omega

/- The whole of a buffer, read from its corner. -/
theorem corner2 : (![0, 0] : Fin 2 → ℕ) = fun _ => 0 := by funext a; fin_cases a <;> rfl
theorem corner3 : (![0, 0, 0] : Fin 3 → ℕ) = fun _ => 0 := by funext a; fin_cases a <;> rfl
theorem corner4 : (![0, 0, 0, 0] : Fin 4 → ℕ) = fun _ => 0 := by funext a; fin_cases a <;> rfl

/-- What a grid point leaves in the output's block. -/
theorem block_apply (i : grid0.Coords) (x0 x1 : FVec Ideal S1x256x1024 .f32) (x2 : FVec Ideal S1x1x9x1024 .f32)
    (x3 : FVec Ideal S1x1024 .f32) (x4 x5 : FVec Ideal S1024x2816 .bf16) (x6 : FVec Ideal S2816x1024 .bf16)
    (q : Fin 256) (j : Fin 1024) :
    out0_7 (F := Ideal) i x0 x1 x2 x3 x4 x5 x6 (ix3 0 q j)
      = halfStep (tileRow i x0 x1 q) (fun j => x3 (ix2 0 j)) (fun j => x2 (ix4 0 0 0 j)) (fun j => x2 (ix4 0 0 1 j))
          (fun j => x2 (ix4 0 0 2 j)) (fun k f => x4 (ix2 k f)) (fun k f => x5 (ix2 k f)) (fun f j => x6 (ix2 f j)) j := by
  unfold out0_7
  rw [View.canon_cons_unit_zero corner3]
  rw [View.ld_unit_zero corner3, View.ld_unit_zero corner3, View.ld_unit_zero corner4, View.ld_unit_zero corner2,
    View.ld_unit_zero corner2, View.ld_unit_zero corner2, View.ld_unit_zero corner2]
  exact out_apply i x0 x1 x2 x3 x4 x5 x6 q j

/-- The result: the half-step of every position. -/
theorem result (b : Fin 4) (p : Fin 4352) (j : Fin 1024) :
    (dats m 0 c).arrAt 7 cfg0.N (ix3 b p j)
      = allSteps (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) b p j := by
  have hp := p.isLt
  have hb := b.isLt
  have hN : cfg0.N = 68 := N_0
  obtain ⟨t, ht⟩ : ∃ t : Fin cfg0.N, t.val = 17 * b.val + p.val / 256 := ⟨⟨_, by rw [hN]; omega⟩, rfl⟩
  obtain ⟨q, hq⟩ : ∃ q : Fin 256, q.val = p.val % 256 := ⟨⟨_, Nat.mod_lt _ (by decide)⟩, rfl⟩
  have hbt : b.val = t.val / 17 := by omega
  have e := congrFun (Value.blocks7 m c t (index7 t).2) (ix3 0 q j)
  rw [Value.flushed7] at e
  have hi : (win0_7.rect t).emb (ix3 0 q j) = ix3 b p j := by
    funext a
    apply Fin.ext
    rw [Pipeline.Window.rect_emb_val win0_7 t (ix3 0 q j) a rfl, (index7 t).1]
    fin_cases a
    · show t.val / 17 * 1 + 0 = b.val; omega
    · show t.val % 17 * 256 + q.val = p.val; omega
    · show 0 * 1024 + j.val = j.val; omega
  have e' : (dats m 0 c).arrAt 7 cfg0.N ((win0_7.rect t).emb (ix3 0 q j))
      = out0_7 (F := Ideal) (grid0.coords t) (iblk m c 0 t) (iblk m c 1 t) (iblk m c 2 t) (iblk m c 3 t) (iblk m c 4 t)
          (iblk m c 5 t) (iblk m c 6 t) (ix3 0 q j) := e
  rw [hi] at e'
  rw [e', block_apply]
  unfold allSteps
  have hs : (part p).val = min (t.val % 17) 1 := by
    unfold part
    split
    · show 0 = _; omega
    · show 1 = _; omega
  have hr : tileRow (grid0.coords t) (iblk m c 0 t) (iblk m c 1 t) q
      = rowOf (m ((c : Thread nD τ).loc main_arg0)) (m ((c : Thread nD τ).loc main_arg1)) b p := by
    funext k
    unfold tileRow rowOf
    rw [coords_tile]
    by_cases h : p.val < 256
    · rw [if_pos (by omega), dif_pos h, in1 m c t q k b hbt]
      congr 2
      exact Fin.ext (by dsimp only; omega)
    · rw [if_neg (by omega), dif_neg h]
      exact in0 m c t q k b hbt ⟨p - 256, by omega⟩ (by omega) (by dsimp only; omega)
  rw [hr]
  simp only [in2 m c t _ _ b hbt (part p) hs, in3, in4, in5, in6]

end Cert.Kernel2Ideal.Ffn

end
-- ==== Proof.Ffn.Ref.lean ====
/- The reference of the feed-forward half-step at an index: the context's part and the latents' part, whose shapes differ,
   and then the two one after the other. -/
module

public import proofs.«01_k».proof.Proof.Gen.Reference2Ideal.Run
public import proofs.«01_k».proof.Proof.Lru.Scal
public import proofs.«01_k».proof.Proof.Ffn.Spec
public import Idealize.ShloMosaic.Lib.Pointwise

@[expose] public section

set_option maxRecDepth 16384

noncomputable section

namespace Cert.Reference2Ideal.Ffn

open Cert.Ffn Cert.Reference2Ideal Cert.Reference2Ideal.Gen Idealize.ShloMosaic Idealize.ShloMosaic.TcCoe Idealize.SL.Sem

/-- The modulated rows of the context's tokens. -/
def normC (h : FVec Ideal S4x256x1024 .f32) (a2 : FVec Ideal S4x2x9x1024 .f32) (a3 : FVec Ideal S1x1024 .f32) :
    FVec Ideal S4x256x1024 .f32 :=
  addf (mulf (mulf (mulf h (broadcastInDim S4x256x1024 ![0, 1, 2] bcast_S4x256x1_S4x256x1024_0_1_2 (Host.rsqrt (addf
      (Host.divf (broadcastInDim S4x256x1 ![0, 1] bcast_S4x256_S4x256x1_0_1 (Host.reduceAdd (mulf h h)
        (constant S_ .f32 0x00000000#32) reducesTo_S4x256x1024_S4x256_d2 h_S_))
        (broadcastInDim S4x256x1 ![] bcast_S_S4x256x1 (constant S_ .f32 0x44800000#32)))
      (broadcastInDim S4x256x1 ![] bcast_S_S4x256x1 (constant S_ .f32 0x358637BD#32))))))
    (broadcastInDim S4x256x1024 ![0, 1, 2] bcast_S1x1x1024_S4x256x1024_0_1_2
      (broadcastInDim S1x1x1024 ![2] bcast_S1024_S1x1x1024_2 (shapeCast _ a3 shapeCasts_S1x1024_S1024))))
    (broadcastInDim S4x256x1024 ![0, 1, 2] bcast_S4x1x1024_S4x256x1024_0_1_2
      (addf (broadcastInDim S4x1x1024 ![] bcast_S_S4x1x1024 (constant S_ .f32 0x3F800000#32))
        (shapeCast _ (extractStridedSlice S4x1x1x1024 ![0, 0, 1, 0] a2 slices_S4x2x9x1024_S4x1x1x1024_0_0_1_0)
          shapeCasts_S4x1x1x1024_S4x1x1024))))
    (broadcastInDim S4x256x1024 ![0, 1, 2] bcast_S4x1x1024_S4x256x1024_0_1_2
      (shapeCast _ (extractStridedSlice S4x1x1x1024 ![0, 0, 0, 0] a2 slices_S4x2x9x1024_S4x1x1x1024_0_0_0_0)
        shapeCasts_S4x1x1x1024_S4x1x1024))

/-- Rows of the context's tokens through a matrix of the first layer. -/
def upC (u : FVec Ideal S4x256x1024 .f32) (w : FVec Ideal S1x1024x2816 .f32) : FVec Ideal S4x256x2816 .f32 :=
  Host.dotGeneral dot_S4x256x1024_S1024x2816_S4x256x2816_2_0_01_1_n_n none u
    (shapeCast _ w shapeCasts_S1x1024x2816_S1024x2816)

/-- `1 / (1 + e^(−v))` over the context's tokens. -/
def sigC (v : FVec Ideal S4x256x2816 .f32) : FVec Ideal S4x256x2816 .f32 :=
  Host.divf (broadcastInDim S4x256x2816 ![] bcast_S_S4x256x2816 (constant S_ .f32 0x3F800000#32))
    (addf (broadcastInDim S4x256x2816 ![] bcast_S_S4x256x2816 (constant S_ .f32 0x3F800000#32)) (Host.exp (Host.negf v)))

/-- The half-step over the context's tokens, from their hidden rows. -/
def downC (h : FVec Ideal S4x256x1024 .f32) (a2 : FVec Ideal S4x2x9x1024 .f32) (v : FVec Ideal S4x256x2816 .f32)
    (w : FVec Ideal S1x2816x1024 .f32) : FVec Ideal S4x256x1024 .f32 :=
  addf h (mulf (broadcastInDim S4x256x1024 ![0, 1, 2] bcast_S4x1x1024_S4x256x1024_0_1_2
      (mulf (broadcastInDim S4x1x1024 ![] bcast_S_S4x1x1024 (constant S_ .f32 0x3F000000#32))
        (shapeCast _ (extractStridedSlice S4x1x1x1024 ![0, 0, 2, 0] a2 slices_S4x2x9x1024_S4x1x1x1024_0_0_2_0)
          shapeCasts_S4x1x1x1024_S4x1x1024)))
    (Host.dotGeneral dot_S4x256x2816_S2816x1024_S4x256x1024_2_0_01_1_n_n none v
      (shapeCast _ w shapeCasts_S1x2816x1024_S2816x1024)))

/-- The half-step over the context's tokens. -/
def outC (h : FVec Ideal S4x256x1024 .f32) (a2 : FVec Ideal S4x2x9x1024 .f32) (a3 : FVec Ideal S1x1024 .f32)
    (a4 a5 : FVec Ideal S1x1024x2816 .f32) (a6 : FVec Ideal S1x2816x1024 .f32) : FVec Ideal S4x256x1024 .f32 :=
  downC h a2 (mulf (mulf (upC (normC h a2 a3) a4) (sigC (upC (normC h a2 a3) a4))) (upC (normC h a2 a3) a5)) a6

/-- The modulated rows of the latent tokens. -/
def normX (h : FVec Ideal S4x4096x1024 .f32) (a2 : FVec Ideal S4x2x9x1024 .f32) (a3 : FVec Ideal S1x1024 .f32) :
    FVec Ideal S4x4096x1024 .f32 :=
  addf (mulf (mulf (mulf h (broadcastInDim S4x4096x1024 ![0, 1, 2] bcast_S4x4096x1_S4x4096x1024_0_1_2 (Host.rsqrt (addf
      (Host.divf (broadcastInDim S4x4096x1 ![0, 1] bcast_S4x4096_S4x4096x1_0_1 (Host.reduceAdd (mulf h h)
        (constant S_ .f32 0x00000000#32) reducesTo_S4x4096x1024_S4x4096_d2 h_S_))
        (broadcastInDim S4x4096x1 ![] bcast_S_S4x4096x1 (constant S_ .f32 0x44800000#32)))
      (broadcastInDim S4x4096x1 ![] bcast_S_S4x4096x1 (constant S_ .f32 0x358637BD#32))))))
    (broadcastInDim S4x4096x1024 ![0, 1, 2] bcast_S1x1x1024_S4x4096x1024_0_1_2
      (broadcastInDim S1x1x1024 ![2] bcast_S1024_S1x1x1024_2 (shapeCast _ a3 shapeCasts_S1x1024_S1024))))
    (broadcastInDim S4x4096x1024 ![0, 1, 2] bcast_S4x1x1024_S4x4096x1024_0_1_2
      (addf (broadcastInDim S4x1x1024 ![] bcast_S_S4x1x1024 (constant S_ .f32 0x3F800000#32))
        (shapeCast _ (extractStridedSlice S4x1x1x1024 ![0, 1, 1, 0] a2 slices_S4x2x9x1024_S4x1x1x1024_0_1_1_0)
          shapeCasts_S4x1x1x1024_S4x1x1024))))
    (broadcastInDim S4x4096x1024 ![0, 1, 2] bcast_S4x1x1024_S4x4096x1024_0_1_2
      (shapeCast _ (extractStridedSlice S4x1x1x1024 ![0, 1, 0, 0] a2 slices_S4x2x9x1024_S4x1x1x1024_0_1_0_0)
        shapeCasts_S4x1x1x1024_S4x1x1024))

/-- Rows of the latent tokens through a matrix of the first layer. -/
def upX (u : FVec Ideal S4x4096x1024 .f32) (w : FVec Ideal S1x1024x2816 .f32) : FVec Ideal S4x4096x2816 .f32 :=
  Host.dotGeneral dot_S4x4096x1024_S1024x2816_S4x4096x2816_2_0_01_1_n_n none u
    (shapeCast _ w shapeCasts_S1x1024x2816_S1024x2816)

/-- `1 / (1 + e^(−v))` over the latent tokens. -/
def sigX (v : FVec Ideal S4x4096x2816 .f32) : FVec Ideal S4x4096x2816 .f32 :=
  Host.divf (broadcastInDim S4x4096x2816 ![] bcast_S_S4x4096x2816 (constant S_ .f32 0x3F800000#32))
    (addf (broadcastInDim S4x4096x2816 ![] bcast_S_S4x4096x2816 (constant S_ .f32 0x3F800000#32)) (Host.exp (Host.negf v)))

/-- The half-step over the latent tokens, from their hidden rows. -/
def downX (h : FVec Ideal S4x4096x1024 .f32) (a2 : FVec Ideal S4x2x9x1024 .f32) (v : FVec Ideal S4x4096x2816 .f32)
    (w : FVec Ideal S1x2816x1024 .f32) : FVec Ideal S4x4096x1024 .f32 :=
  addf h (mulf (broadcastInDim S4x4096x1024 ![0, 1, 2] bcast_S4x1x1024_S4x4096x1024_0_1_2
      (mulf (broadcastInDim S4x1x1024 ![] bcast_S_S4x1x1024 (constant S_ .f32 0x3F000000#32))
        (shapeCast _ (extractStridedSlice S4x1x1x1024 ![0, 1, 2, 0] a2 slices_S4x2x9x1024_S4x1x1x1024_0_1_2_0)
          shapeCasts_S4x1x1x1024_S4x1x1024)))
    (Host.dotGeneral dot_S4x4096x2816_S2816x1024_S4x4096x1024_2_0_01_1_n_n none v
      (shapeCast _ w shapeCasts_S1x2816x1024_S2816x1024)))

/-- The half-step over the latent tokens. -/
def outX (h : FVec Ideal S4x4096x1024 .f32) (a2 : FVec Ideal S4x2x9x1024 .f32) (a3 : FVec Ideal S1x1024 .f32)
    (a4 a5 : FVec Ideal S1x1024x2816 .f32) (a6 : FVec Ideal S1x2816x1024 .f32) : FVec Ideal S4x4096x1024 .f32 :=
  downX h a2 (mulf (mulf (upX (normX h a2 a3) a4) (sigX (upX (normX h a2 a3) a4))) (upX (normX h a2 a3) a5)) a6

variable (a2 : FVec Ideal S4x2x9x1024 .f32) (a3 : FVec Ideal S1x1024 .f32) (a4 a5 : FVec Ideal S1x1024x2816 .f32)
  (a6 : FVec Ideal S1x2816x1024 .f32)

theorem normC_apply (h : FVec Ideal S4x256x1024 .f32) (b : Fin 4) (q : Fin 256) (j : Fin 1024) :
    normC h a2 a3 (ix3 b q j) = normed (fun j => h (ix3 b q j)) (fun j => a3 (ix2 0 j)) (fun j => a2 (ix4 b 0 0 j))
      (fun j => a2 (ix4 b 0 1 j)) j := by
  pointwise [normC]
  rfl

theorem upC_apply (u : FVec Ideal S4x256x1024 .f32) (b : Fin 4) (q : Fin 256) (f : Fin 2816) :
    upC u a4 (ix3 b q f) = through (fun k => u (ix3 b q k)) (fun k f => a4 (ix3 0 k f)) f := by
  pointwise [upC]
  rfl

theorem sigC_apply (v : FVec Ideal S4x256x2816 .f32) (b : Fin 4) (q : Fin 256) (f : Fin 2816) :
    sigC v (ix3 b q f) = Ideal.logistic (v (ix3 b q f)) := by
  pointwise [sigC]
  rfl

theorem downC_apply (h : FVec Ideal S4x256x1024 .f32) (v : FVec Ideal S4x256x2816 .f32) (b : Fin 4) (q : Fin 256)
    (j : Fin 1024) :
    downC h a2 v a6 (ix3 b q j) = h (ix3 b q j) + Ideal.ofBits .f32 1056964608#32 * a2 (ix4 b 0 2 j)
      * through (fun f => v (ix3 b q f)) (fun f j => a6 (ix3 0 f j)) j := by
  pointwise [downC]
  rfl

/-- That part of the reference at an index. -/
theorem outC_apply (h : FVec Ideal S4x256x1024 .f32) (b : Fin 4) (q : Fin 256) (j : Fin 1024) :
    outC h a2 a3 a4 a5 a6 (ix3 b q j)
      = halfStep (fun j => h (ix3 b q j)) (fun j => a3 (ix2 0 j)) (fun j => a2 (ix4 b 0 0 j)) (fun j => a2 (ix4 b 0 1 j))
          (fun j => a2 (ix4 b 0 2 j)) (fun k f => a4 (ix3 0 k f)) (fun k f => a5 (ix3 0 k f)) (fun f j => a6 (ix3 0 f j)) j := by
  have e : (fun k => normC h a2 a3 (ix3 b q k)) = normed (fun j => h (ix3 b q j)) (fun j => a3 (ix2 0 j))
      (fun j => a2 (ix4 b 0 0 j)) (fun j => a2 (ix4 b 0 1 j)) := funext fun k => normC_apply _ _ h b q k
  unfold outC halfStep
  rw [downC_apply]
  congr 3
  funext f
  show upC (normC h a2 a3) a4 (ix3 b q f) * sigC (upC (normC h a2 a3) a4) (ix3 b q f)
    * upC (normC h a2 a3) a5 (ix3 b q f) = _
  rw [sigC_apply, upC_apply, upC_apply, e]
  rfl

theorem normX_apply (h : FVec Ideal S4x4096x1024 .f32) (b : Fin 4) (q : Fin 4096) (j : Fin 1024) :
    normX h a2 a3 (ix3 b q j) = normed (fun j => h (ix3 b q j)) (fun j => a3 (ix2 0 j)) (fun j => a2 (ix4 b 1 0 j))
      (fun j => a2 (ix4 b 1 1 j)) j := by
  pointwise [normX]
  rfl

theorem upX_apply (u : FVec Ideal S4x4096x1024 .f32) (b : Fin 4) (q : Fin 4096) (f : Fin 2816) :
    upX u a4 (ix3 b q f) = through (fun k => u (ix3 b q k)) (fun k f => a4 (ix3 0 k f)) f := by
  pointwise [upX]
  rfl

theorem sigX_apply (v : FVec Ideal S4x4096x2816 .f32) (b : Fin 4) (q : Fin 4096) (f : Fin 2816) :
    sigX v (ix3 b q f) = Ideal.logistic (v (ix3 b q f)) := by
  pointwise [sigX]
  rfl

theorem downX_apply (h : FVec Ideal S4x4096x1024 .f32) (v : FVec Ideal S4x4096x2816 .f32) (b : Fin 4) (q : Fin 4096)
    (j : Fin 1024) :
    downX h a2 v a6 (ix3 b q j) = h (ix3 b q j) + Ideal.ofBits .f32 1056964608#32 * a2 (ix4 b 1 2 j)
      * through (fun f => v (ix3 b q f)) (fun f j => a6 (ix3 0 f j)) j := by
  pointwise [downX]
  rfl

/-- That part of the reference at an index. -/
theorem outX_apply (h : FVec Ideal S4x4096x1024 .f32) (b : Fin 4) (q : Fin 4096) (j : Fin 1024) :
    outX h a2 a3 a4 a5 a6 (ix3 b q j)
      = halfStep (fun j => h (ix3 b q j)) (fun j => a3 (ix2 0 j)) (fun j => a2 (ix4 b 1 0 j)) (fun j => a2 (ix4 b 1 1 j))
          (fun j => a2 (ix4 b 1 2 j)) (fun k f => a4 (ix3 0 k f)) (fun k f => a5 (ix3 0 k f)) (fun f j => a6 (ix3 0 f j)) j := by
  have e : (fun k => normX h a2 a3 (ix3 b q k)) = normed (fun j => h (ix3 b q j)) (fun j => a3 (ix2 0 j))
      (fun j => a2 (ix4 b 1 0 j)) (fun j => a2 (ix4 b 1 1 j)) := funext fun k => normX_apply _ _ h b q k
  unfold outX halfStep
  rw [downX_apply]
  congr 3
  funext f
  show upX (normX h a2 a3) a4 (ix3 b q f) * sigX (upX (normX h a2 a3) a4) (ix3 b q f)
    * upX (normX h a2 a3) a5 (ix3 b q f) = _
  rw [sigX_apply, upX_apply, upX_apply, e]
  rfl

variable (m : (ℓ : Loc nD τ sig) → Buf (Elt Ideal) ℓ) (c : Dev nD)

/-- The reference's result, of its two parts. -/
theorem result_eq : Value.res_main_v74 m c
    = concatenate S4x4352x1024 1
        [⟨S4x256x1024, outC (m ((c.tc : Thread nD τ).loc main_arg1)) (m ((c.tc : Thread nD τ).loc main_arg2))
            (m ((c.tc : Thread nD τ).loc main_arg3)) (m ((c.tc : Thread nD τ).loc main_arg4))
            (m ((c.tc : Thread nD τ).loc main_arg5)) (m ((c.tc : Thread nD τ).loc main_arg6))⟩,
          ⟨S4x4096x1024, outX (m ((c.tc : Thread nD τ).loc main_arg0)) (m ((c.tc : Thread nD τ).loc main_arg2))
            (m ((c.tc : Thread nD τ).loc main_arg3)) (m ((c.tc : Thread nD τ).loc main_arg4))
            (m ((c.tc : Thread nD τ).loc main_arg5)) (m ((c.tc : Thread nD τ).loc main_arg6))⟩]
        concatenates_S4x256x1024_S4x4096x1024_S4x4352x1024_d1 := rfl

/-- One array after the other, at an index. -/
theorem join_apply (u : FVec Ideal S4x256x1024 .f32) (v : FVec Ideal S4x4096x1024 .f32) (b : Fin 4) (p : Fin 4352)
    (j : Fin 1024) :
    concatenate S4x4352x1024 1 [⟨S4x256x1024, u⟩, ⟨S4x4096x1024, v⟩] concatenates_S4x256x1024_S4x4096x1024_S4x4352x1024_d1
        (ix3 b p j)
      = if h : p.val < 256 then u (ix3 b ⟨p, h⟩ j) else v (ix3 b ⟨p - 256, by omega⟩ j) := by
  pointwise

/-- The reference's result is the half-step of every position. -/
theorem result (b : Fin 4) (p : Fin 4352) (j : Fin 1024) :
    Value.res_main_v74 m c (ix3 b p j)
      = allSteps (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) b p j := by
  rw [result_eq, join_apply]
  unfold allSteps part
  by_cases h : p.val < 256
  · rw [dif_pos h, outC_apply, if_pos h]
    congr 1
    funext k
    unfold rowOf
    rw [dif_pos h]
  · rw [dif_neg h, outX_apply, if_neg h]
    congr 1
    funext k
    unfold rowOf
    rw [dif_neg h]

end Cert.Reference2Ideal.Ffn

end
-- ==== Proof.Ffn.Algebra.lean ====
/- The claims of the feed-forward half-step: the reference runs and leaves its arguments alone, and the kernel's result is
   the reference's. -/
module

public import proofs.«01_k».proof.Defs
public import proofs.«01_k».proof.Proof.Ffn.Kernel
public import proofs.«01_k».proof.Proof.Ffn.Ref

@[expose] public section

noncomputable section

namespace Cert.Ffn

open Idealize.ShloMosaic Idealize.ShloMosaic.TcCoe Idealize.SL.Sem

/-- The reference runs, and leaves its arguments as they were. -/
theorem frame_reference : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- An index of the result, by its coordinates. -/
theorem index_eq (y : (⟨3, ![4, 4352, 1024]⟩ : Shape).Idx) : y = ix3 (y 0) (y 1) (y 2) := by
  funext a
  fin_cases a <;> rfl

/-- The kernel's result is the reference's. -/
theorem algebraic : Cert.algebraic_Kernel2Ideal_Reference2Ideal := by
  intro m ρ m' ρ' _ hagree
  refine ⟨fun c => (Cert.Kernel2Ideal.Gen.dats m 0 c).arrAt 7 Cert.Kernel2Ideal.cfg0.N,
    Cert.Kernel2Ideal.Value.run_blocks (F := Ideal) m ρ, ?_⟩
  refine (θ_run Cert.Reference2Ideal.defs _ _).mono (fun _ h c => ?_)
    (Cert.Reference2Ideal.Value.run (F := Ideal) m' ρ')
  obtain ⟨g0, g1, g2, g3, g4, g5, g6⟩ := hagree c
  refine ⟨(h c).1.trans ?_, (h c).2⟩
  funext y
  obtain ⟨b, p, j, rfl⟩ : ∃ (b : Fin 4) (p : Fin 4352) (j : Fin 1024), y = ix3 b p j := ⟨y 0, y 1, y 2, index_eq y⟩
  refine (Cert.Reference2Ideal.Ffn.result m' c b p j).trans ?_
  rw [g0, g1, g2, g3, g4, g5, g6]
  exact (Cert.Kernel2Ideal.Ffn.result m c b p j).symm

end Cert.Ffn

end
-- ==== Proof.Mix.Spec.lean ====
/- What the layer makes of one token after its scans, as functions of the token's rows: the end of the RWKV branch over
   heads of 64 channels, the end of the RG-LRU branch, the merge of the two, the second feed-forward half-step and the last
   normalisation. -/
module

public import proofs.«01_k».proof.Proof.Ffn.Spec

@[expose] public section

noncomputable section

namespace Cert.Mix

open Cert.Ffn Idealize.ShloMosaic

/-- A channel of the head that `j` belongs to. -/
def lane (j : Fin 1024) (l : Fin 64) : Fin 1024 := ⟨j.val / 64 * 64 + l.val, by omega⟩

/-- The sum over the channels of `j`'s head. -/
def headSum (u : Fin 1024 → EReal) (j : Fin 1024) : EReal := ∑ l, u (lane j l)

/-- The mean over the channels of `j`'s head. -/
def headMean (u : Fin 1024 → EReal) (j : Fin 1024) : EReal := Ideal.div (headSum u j) (Ideal.ofBits .f32 1115684864#32)

/-- A row less the mean of each head. -/
def centred (y : Fin 1024 → EReal) (j : Fin 1024) : EReal := y j - headMean y j

/-- A row with each head normalised, times the gains, plus the offsets. -/
def headNorm (y w b : Fin 1024 → EReal) (j : Fin 1024) : EReal :=
  centred y j * Ideal.rsqrt (headMean (fun x => centred y x * centred y x) j + Ideal.ofBits .f32 975685036#32) * w j + b j

/-- The bonus that the current token adds. -/
def bonus (r k v u : Fin 1024 → EReal) (j : Fin 1024) : EReal := headSum (fun x => r x * k x * u x) j * v j

/-- The end of the RWKV branch. -/
def rwkv (y r k v u w b : Fin 1024 → EReal) (gd : Fin 128 → EReal) (gup : Fin 128 → Fin 1024 → EReal) (j : Fin 1024) :
    EReal :=
  (headNorm y w b j + bonus r k v u j) * through (fun x => Ideal.logistic (gd x)) gup j

/-- The Gaussian error unit in its form with a hyperbolic tangent. -/
def gelu (x : EReal) : EReal :=
  x * (Ideal.ofBits .f32 1056964608#32 * (1 + Ideal.tanh (Ideal.ofBits .f32 1061962282#32
    * (x + Ideal.ofBits .f32 1027024659#32 * (x * x * x)))))

/-- The two branches, each through its matrix and its gate, added. -/
def merged (y1 y2 g1 g2 : Fin 1024 → EReal) (w1 w2 : Fin 1024 → Fin 1024 → EReal) (j : Fin 1024) : EReal :=
  Ideal.logistic (g1 j) * through y1 w1 j + Ideal.logistic (g2 j) * through y2 w2 j

/-- The mixer's contribution added to the token's row. -/
def mixed (h gate mix : Fin 1024 → EReal) (w : Fin 1024 → Fin 1024 → EReal) (j : Fin 1024) : EReal :=
  h j + gate j * through mix w j

/-- The rows that the layer reads for one token, the parameters with them. -/
structure Token where
  /-- the two scans' readings -/
  (y1 y2 : Fin 1024 → EReal)
  /-- receptance, key and value, and the bonus's weights -/
  (r k v u : Fin 1024 → EReal)
  /-- the gains and offsets of the normalisation over heads -/
  (w b : Fin 1024 → EReal)
  /-- the RWKV gate's row and its matrix -/
  (gd : Fin 128 → EReal)
  (gup : Fin 128 → Fin 1024 → EReal)
  /-- the two recurrences' states and their gate -/
  (s1 s2 lg : Fin 1024 → EReal)
  /-- the merge's gates and matrices -/
  (g1 g2 : Fin 1024 → EReal)
  (w1 w2 wout : Fin 1024 → Fin 1024 → EReal)
  /-- the token's row, and the modulation's last four -/
  (h gate shift scale gate' : Fin 1024 → EReal)
  /-- the feed-forward step's gains and matrices -/
  (g : Fin 1024 → EReal)
  (wg wu : Fin 1024 → Fin 2816 → EReal)
  (wd : Fin 2816 → Fin 1024 → EReal)
  /-- the last normalisation's gains -/
  (gf : Fin 1024 → EReal)

variable (T : Token)

/-- The two scans' readings added. -/
def Token.y (j : Fin 1024) : EReal := T.y1 j + T.y2 j

/-- The RWKV branch. -/
def Token.rwkv : Fin 1024 → EReal := Mix.rwkv T.y T.r T.k T.v T.u T.w T.b T.gd T.gup

/-- The RG-LRU branch. -/
def Token.lru (j : Fin 1024) : EReal := (T.s1 j + T.s2 j) * gelu (T.lg j)

/-- The row after the mixer. -/
def Token.mixed : Fin 1024 → EReal :=
  Mix.mixed T.h T.gate (merged T.rwkv T.lru T.g1 T.g2 T.w1 T.w2) T.wout

/-- The row after the feed-forward step. -/
def Token.stepped : Fin 1024 → EReal := halfStep T.mixed T.g T.shift T.scale T.gate' T.wg T.wu T.wd

/-- The layer's row. -/
def Token.out : Fin 1024 → EReal := rms T.stepped T.gf

/-- The place of a latent token, after the context's 256. -/
def pos (p : Fin 4096) : Fin 4352 := ⟨256 + p.val, by omega⟩

/-- A token's rows, from the call's arguments. -/
def token (a0 a1 : (⟨3, ![4, 4352, 1024]⟩ : Shape).Idx → EReal) (a2 : (⟨3, ![4, 4352, 3456]⟩ : Shape).Idx → EReal)
    (a3 a4 a5 : (⟨3, ![4, 4352, 1024]⟩ : Shape).Idx → EReal) (a6 : (⟨3, ![4, 4352, 2048]⟩ : Shape).Idx → EReal)
    (a7 : (⟨3, ![4, 4352, 1024]⟩ : Shape).Idx → EReal) (a8 : (⟨4, ![4, 2, 9, 1024]⟩ : Shape).Idx → EReal)
    (a9 : (⟨3, ![1, 16, 64]⟩ : Shape).Idx → EReal) (a10 a11 : (⟨2, ![1, 1024]⟩ : Shape).Idx → EReal)
    (a12 : (⟨3, ![1, 128, 1024]⟩ : Shape).Idx → EReal) (a13 a14 a15 : (⟨3, ![1, 1024, 1024]⟩ : Shape).Idx → EReal)
    (a16 : (⟨2, ![1, 1024]⟩ : Shape).Idx → EReal) (a17 a18 : (⟨3, ![1, 1024, 2816]⟩ : Shape).Idx → EReal)
    (a19 : (⟨3, ![1, 2816, 1024]⟩ : Shape).Idx → EReal) (a20 : (⟨1, ![1024]⟩ : Shape).Idx → EReal)
    (b : Fin 4) (p : Fin 4096) : Token where
  y1 j := a0 (ix3 b (pos p) j)
  y2 j := a1 (ix3 b (pos p) j)
  r j := a2 (ix3 b (pos p) ⟨j.val, by omega⟩)
  k j := a2 (ix3 b (pos p) ⟨1024 + j.val, by omega⟩)
  v j := a2 (ix3 b (pos p) ⟨2048 + j.val, by omega⟩)
  u j := a9 (ix3 0 ⟨j.val / 64, by omega⟩ ⟨j.val % 64, by omega⟩)
  w j := a10 (ix2 0 j)
  b j := a11 (ix2 0 j)
  gd x := a2 (ix3 b (pos p) ⟨3328 + x.val, by omega⟩)
  gup x j := a12 (ix3 0 x j)
  s1 j := a3 (ix3 b (pos p) j)
  s2 j := a4 (ix3 b (pos p) j)
  lg j := a5 (ix3 b (pos p) j)
  g1 j := a6 (ix3 b (pos p) ⟨j.val, by omega⟩)
  g2 j := a6 (ix3 b (pos p) ⟨1024 + j.val, by omega⟩)
  w1 x j := a13 (ix3 0 x j)
  w2 x j := a14 (ix3 0 x j)
  wout x j := a15 (ix3 0 x j)
  h j := a7 (ix3 b (pos p) j)
  gate j := a8 (ix4 b 1 5 j)
  shift j := a8 (ix4 b 1 6 j)
  scale j := a8 (ix4 b 1 7 j)
  gate' j := a8 (ix4 b 1 8 j)
  g j := a16 (ix2 0 j)
  wg x f := a17 (ix3 0 x f)
  wu x f := a18 (ix3 0 x f)
  wd f j := a19 (ix3 0 f j)
  gf j := a20 (ix1 j)

end Cert.Mix

end
-- ==== Proof.Mix.Heads.lean ====
/- The sums over heads as the kernel forms them: a row times a matrix of noughts and ones that sends each channel to its
   head's lane, and back; each factor split into a rounded part and what is left of it. Of finite numbers nothing is left. -/
module

public import proofs.«01_k».proof.Proof.Mix.Spec

@[expose] public section

noncomputable section

namespace Cert.Mix

open Idealize.ShloMosaic

/-- The number is finite. -/
def IsFin (x : EReal) : Prop := ∃ r : ℝ, x = (r : EReal)

theorem IsFin.add {x y : EReal} : IsFin x → IsFin y → IsFin (x + y)
  | ⟨a, ha⟩, ⟨b, hb⟩ => ⟨a + b, by rw [ha, hb, EReal.coe_add]⟩
theorem IsFin.sub {x y : EReal} : IsFin x → IsFin y → IsFin (x - y)
  | ⟨a, ha⟩, ⟨b, hb⟩ => ⟨a - b, by rw [ha, hb, EReal.coe_sub]⟩
theorem IsFin.mul {x y : EReal} : IsFin x → IsFin y → IsFin (x * y)
  | ⟨a, ha⟩, ⟨b, hb⟩ => ⟨a * b, by rw [ha, hb, EReal.coe_mul]⟩
theorem IsFin.sum {n : ℕ} {u : Fin n → EReal} (h : ∀ i, IsFin (u i)) : IsFin (∑ i, u i) :=
  Finset.sum_induction _ IsFin (fun _ _ => IsFin.add) ⟨0, rfl⟩ fun i _ => h i
theorem IsFin.left {x : EReal} : IsFin x → x - x = 0
  | ⟨a, ha⟩ => by rw [ha, ← EReal.coe_sub, sub_self, EReal.coe_zero]

/-- Channel `k` goes to lane `c`: the lane of its head, or one of its two copies. -/
def pick (k : Fin 1024) (c : Fin 128) : EReal := if k.val / 64 = c.val % 16 ∧ c.val < 48 then 1 else 0

/-- The row's sum over each head, in the head's lanes. -/
def reduce (u : Fin 1024 → EReal) (c : Fin 128) : EReal := ∑ k, u k * pick k c + ∑ k, (u k - u k) * pick k c

/-- The three parts that a lane's number is split into, one in each copy of the lane. -/
def parts (s : Fin 128 → EReal) (c : Fin 128) : EReal :=
  if c.val < 16 then s c else if c.val < 32 then s c - s c else s c - s c - (s c - s c)

/-- Each channel's number: its head's three parts added. -/
def expand (s : Fin 128 → EReal) (j : Fin 1024) : EReal := ∑ c, parts s c * pick j c

/-- The lane of a channel's head. -/
def headLane (j : Fin 1024) : Fin 128 := ⟨j.val / 64, by omega⟩

theorem lane_lane (j : Fin 1024) (l l' : Fin 64) : lane (lane j l) l' = lane j l' := by
  apply Fin.ext
  show (j.val / 64 * 64 + l.val) / 64 * 64 + l'.val = j.val / 64 * 64 + l'.val
  omega

theorem lane_self (j : Fin 1024) : lane j ⟨j.val % 64, by omega⟩ = j := Fin.ext (by show j.val / 64 * 64 + j.val % 64 = j.val; omega)

theorem pick_fin (k : Fin 1024) (c : Fin 128) : IsFin (pick k c) := by
  unfold pick
  split
  · exact ⟨1, rfl⟩
  · exact ⟨0, rfl⟩

theorem reduce_fin {u : Fin 1024 → EReal} (h : ∀ k, IsFin (u k)) (c : Fin 128) : IsFin (reduce u c) :=
  (IsFin.sum fun k => (h k).mul (pick_fin k c)).add (IsFin.sum fun k => ((h k).sub (h k)).mul (pick_fin k c))

theorem reduce_eq {u : Fin 1024 → EReal} (h : ∀ k, IsFin (u k)) (j : Fin 1024) :
    reduce u (headLane j) = headSum u j := by
  have z : ∑ k, (u k - u k) * pick k (headLane j) = 0 :=
    Finset.sum_eq_zero fun k _ => by rw [(h k).left, zero_mul]
  unfold reduce headSum
  rw [z, add_zero]
  have e : ∀ k, u k * pick k (headLane j) = if k.val / 64 = j.val / 64 then u k else 0 := by
    intro k
    have hj : (headLane j).val = j.val / 64 := rfl
    have := j.isLt
    unfold pick
    by_cases hk : k.val / 64 = j.val / 64
    · rw [if_pos (by omega), if_pos hk, mul_one]
    · rw [if_neg (by omega), if_neg hk, mul_zero]
  simp only [e]
  rw [← Finset.sum_filter]
  symm
  refine Finset.sum_bij (fun l _ => lane j l) ?_ ?_ ?_ fun _ _ => rfl
  · intro l _
    have := l.isLt
    simp only [Finset.mem_filter, Finset.mem_univ, true_and]
    show (j.val / 64 * 64 + l.val) / 64 = j.val / 64
    omega
  · intro l _ l' _ hl
    have := congrArg Fin.val hl
    apply Fin.ext
    change j.val / 64 * 64 + l.val = j.val / 64 * 64 + l'.val at this
    omega
  · intro k hk
    simp only [Finset.mem_filter, Finset.mem_univ, true_and] at hk
    refine ⟨⟨k.val % 64, Nat.mod_lt _ (by decide)⟩, Finset.mem_univ _, Fin.ext ?_⟩
    show j.val / 64 * 64 + k.val % 64 = k.val
    omega

theorem expand_eq {s : Fin 128 → EReal} (h : ∀ c, IsFin (s c)) (j : Fin 1024) : expand s j = s (headLane j) := by
  have hj := j.isLt
  have hv : (headLane j).val = j.val / 64 := rfl
  unfold expand
  rw [Finset.sum_eq_single (headLane j)]
  · unfold parts pick
    rw [if_pos (by omega), if_pos (by omega), mul_one]
  · intro c _ hc
    have hne : c.val ≠ j.val / 64 := fun e => hc (Fin.ext e)
    unfold parts pick
    by_cases h1 : c.val < 16
    · have hn : ¬(j.val / 64 = c.val % 16 ∧ c.val < 48) := by omega
      rw [if_neg hn, mul_zero]
    · rw [if_neg h1, (h c).left, sub_zero, ite_self, zero_mul]
  · intro hn
    exact absurd (Finset.mem_univ _) hn

end Cert.Mix

end
-- ==== Proof.Mix.Words.lean ====
/- The kernel's matrices that sum over heads and send the sums back, at an index: their words, computed from the numbers of
   the channel and of the lane, are one where the channel's head is the lane's. -/
module

public import proofs.«01_k».proof.Proof.Gen.Kernel3Ideal.Frame
public import proofs.«01_k».proof.Proof.Mix.Heads
public import Idealize.ShloMosaic.Lib.Pointwise

@[expose] public section

set_option maxRecDepth 16384

noncomputable section

namespace Cert.Mix

open Cert.Kernel3Ideal Cert.Kernel3Ideal.Gen Idealize.ShloMosaic

/-- The signed quotient by 64, rounded down, of a small number. -/
def headWord (n : ℕ) : BitVec 32 :=
  Scalar.select
        (IntOp.andi
          (IntOp.cmpi CmpIPredicate.ne
            (IntOp.subi (BitVec.setWidth 32 (IntOp.cmpi CmpIPredicate.sgt (BitVec.ofNat 32 n) 0#32))
              (BitVec.setWidth 32 (IntOp.cmpi CmpIPredicate.slt (BitVec.ofNat 32 n) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 n) 64#32) 0#32))
        (IntOp.subi (IntOp.divsi ArithUnit.vector (BitVec.ofNat 32 n) 64#32) 1#32)
        (IntOp.divsi ArithUnit.vector (BitVec.ofNat 32 n) 64#32)

theorem headWord_eq : ∀ n < 1024, headWord n = BitVec.ofNat 32 (n / 64) := by decide +kernel

/-- The remainder by 16 of a small number. -/
def copyWord (n : ℕ) : BitVec 32 :=
      (Scalar.select
        (IntOp.andi
          (IntOp.xori
            (IntOp.cmpi CmpIPredicate.slt
              (IntOp.remsi ArithUnit.vector (BitVec.ofNat 32 n)
                (Scalar.select (Scalar.cmpi CmpIPredicate.eq 16#32 0#32) 1#32 16#32))
              0#32)
            (Scalar.cmpi CmpIPredicate.slt (Scalar.select (Scalar.cmpi CmpIPredicate.eq 16#32 0#32) 1#32 16#32) 0#32))
          (IntOp.cmpi CmpIPredicate.ne
            (IntOp.remsi ArithUnit.vector (BitVec.ofNat 32 n)
              (Scalar.select (Scalar.cmpi CmpIPredicate.eq 16#32 0#32) 1#32 16#32))
            0#32))
        (IntOp.addi
          (IntOp.remsi ArithUnit.vector (BitVec.ofNat 32 n)
            (Scalar.select (Scalar.cmpi CmpIPredicate.eq 16#32 0#32) 1#32 16#32))
          (Scalar.select (Scalar.cmpi CmpIPredicate.eq 16#32 0#32) 1#32 16#32))
        (IntOp.remsi ArithUnit.vector (BitVec.ofNat 32 n)
          (Scalar.select (Scalar.cmpi CmpIPredicate.eq 16#32 0#32) 1#32 16#32)))

theorem copyWord_eq : ∀ n < 128, copyWord n = BitVec.ofNat 32 (n % 16) := by decide +kernel

/- The kernel's comparisons of small numbers. -/
theorem head_test : ∀ a < 16, ∀ c < 16,
    IntOp.cmpi CmpIPredicate.eq (BitVec.ofNat 32 a) (BitVec.ofNat 32 c) = if a = c then 1#1 else 0#1 := by decide +kernel
theorem lane_test : ∀ c < 128,
    IntOp.cmpi CmpIPredicate.slt (BitVec.ofNat 32 c) 48#32 = if c < 48 then 1#1 else 0#1 := by decide +kernel
theorem lane_test16 : ∀ c < 128,
    IntOp.cmpi CmpIPredicate.slt (BitVec.ofNat 32 c) 16#32 = if c < 16 then 1#1 else 0#1 := by decide +kernel
theorem lane_test32 : ∀ c < 128,
    IntOp.cmpi CmpIPredicate.slt (BitVec.ofNat 32 c) 32#32 = if c < 32 then 1#1 else 0#1 := by decide +kernel

theorem pay2_apply (k : Fin 1024) (c : Fin 128) :
   k0_pay2 (ix2 k c) = if k.val / 64 = c.val % 16 then 1#1 else 0#1 := by
  pointwise [k0_pay2]
  refine Eq.trans (congrArg₂ (IntOp.cmpi CmpIPredicate.eq) (headWord_eq k.val k.isLt) (copyWord_eq c.val c.isLt)) ?_
  exact head_test _ (by omega) _ (by omega)

theorem word_one : ((FloatOps.sitofp FTy.f32 (BitVec.setWidth 32 (1#1)) : Ideal .f32) : EReal) = 1 := by
  show (((1 : ℤ) : ℝ) : EReal) = 1
  norm_num
theorem word_zero : ((FloatOps.sitofp FTy.f32 (BitVec.setWidth 32 (0#1)) : Ideal .f32) : EReal) = 0 := by
  show (((0 : ℤ) : ℝ) : EReal) = 0
  norm_num

/-- The matrix's number: one where the two tests hold. -/
theorem word_pick (k : Fin 1024) (c : Fin 128) :
    ((FloatOps.sitofp FTy.f32 (BitVec.setWidth 32 (IntOp.andi (if k.val / 64 = c.val % 16 then 1#1 else 0#1)
      (if c.val < 48 then 1#1 else 0#1))) : Ideal .f32) : EReal) = pick k c := by
  unfold pick
  by_cases h1 : k.val / 64 = c.val % 16 <;> by_cases h2 : c.val < 48
  · rw [if_pos h1, if_pos h2, if_pos ⟨h1, h2⟩]; exact word_one
  · rw [if_pos h1, if_neg h2, if_neg fun h => h2 h.2]; exact word_zero
  · rw [if_neg h1, if_pos h2, if_neg fun h => h1 h.1]; exact word_zero
  · rw [if_neg h1, if_neg h2, if_neg fun h => h1 h.1]; exact word_zero

/-- The matrix that sums over heads. -/
theorem e_apply (k : Fin 1024) (c : Fin 128) :
    k0_pay4 (F := Ideal) (iota .tc S1024x128 32 [1] iota_S1024x128_d1_w32) k0_pay2 k0_pay3 (ix2 k c) = pick k c := by
  pointwise [k0_pay4, k0_pay3]
  rw [pay2_apply, lane_test _ c.isLt]
  exact word_pick k c

/-- Channel `j`'s head, and lane `c`'s, in the matrix that sends the sums back. -/
theorem pay5_apply (c : Fin 128) (j : Fin 1024) : k0_pay5 (ix2 c j) = BitVec.ofNat 32 (j.val / 64) := by
  pointwise [k0_pay5]
  exact headWord_eq j.val j.isLt
theorem pay6_apply (c : Fin 128) (j : Fin 1024) : k0_pay6 (ix2 c j) = BitVec.ofNat 32 (c.val % 16) := by
  pointwise [k0_pay6]
  exact copyWord_eq c.val c.isLt

theorem et_apply (c : Fin 128) (j : Fin 1024) :
    k0_pay7 (F := Ideal) (iota .tc S128x1024 32 [0] iota_S128x1024_d0_w32) k0_pay5 k0_pay6 (ix2 c j) = pick j c := by
  pointwise [k0_pay7]
  rw [pay5_apply, pay6_apply, head_test _ (by omega) _ (by omega), lane_test _ c.isLt]
  exact word_pick j c

/-- The three copies of a lane, as the kernel's comparisons of lane numbers choose them. -/
theorem select_parts (s : Fin 128 → EReal) (c : Fin 128) :
    Scalar.select (IntOp.cmpi CmpIPredicate.slt (BitVec.ofNat 32 c.val) 16#32) (s c)
        (Scalar.select (IntOp.cmpi CmpIPredicate.slt (BitVec.ofNat 32 c.val) 32#32) (s c - s c) (s c - s c - (s c - s c)))
      = parts s c := by
  rw [lane_test16 _ c.isLt, lane_test32 _ c.isLt]
  unfold parts Scalar.select
  by_cases h1 : c.val < 16 <;> by_cases h2 : c.val < 32 <;> simp [h1, h2]

end Cert.Mix

end
-- ==== Proof.Mix.Tile.lean ====
/- One tile of 256 tokens: what the kernel's body computes of the blocks that it reads, at an index. -/
module

public import proofs.«01_k».proof.Proof.Mix.Words
public import proofs.«01_k».proof.Proof.Lru.Scal
public import Idealize.ShloMosaic.Lib.Pipeline.Value

@[expose] public section

set_option maxRecDepth 16384

noncomputable section

namespace Cert.Mix

open Cert.Ffn Cert.Kernel3Ideal Cert.Kernel3Ideal.Gen Idealize.ShloMosaic

/-- The f32 pattern of a sixty-fourth. -/
theorem bits_inv : Ideal.ofBits .f32 1015021568#32 = (((1 : ℝ) / 64 : ℝ) : EReal) := by
  simp [Ideal.ofBits, Ideal.ieee, -EReal.coe_mul]; norm_num

/-- The f32 pattern of sixty-four. -/
theorem bits_64 : Ideal.ofBits .f32 1115684864#32 = ((64 : ℝ) : EReal) := by
  simp [Ideal.ofBits, Ideal.ieee, -EReal.coe_mul]; norm_num

/-- A sum over a head, times a sixty-fourth: the mean. -/
theorem mean_scale (x : EReal) :
    x * Ideal.ofBits .f32 1015021568#32 = Ideal.div x (Ideal.ofBits .f32 1115684864#32) := by
  rw [bits_inv, bits_64]
  unfold Ideal.div
  rw [if_neg (by norm_num), ← EReal.coe_inv, one_div]

theorem mean_eq {u : Fin 1024 → EReal} (h : ∀ k, IsFin (u k)) (j : Fin 1024) :
    expand (fun c => reduce u c * Ideal.ofBits .f32 1015021568#32) j = headMean u j := by
  rw [expand_eq fun c => (reduce_fin h c).mul ⟨_, bits_inv⟩, reduce_eq h, mean_scale]
  rfl

theorem sum_eq {u : Fin 1024 → EReal} (h : ∀ k, IsFin (u k)) (j : Fin 1024) : expand (reduce u) j = headSum u j := by
  rw [expand_eq (reduce_fin h), reduce_eq h]

theorem mean_fin {u : Fin 1024 → EReal} (h : ∀ k, IsFin (u k)) (j : Fin 1024) : IsFin (headMean u j) := by
  rw [← mean_eq h, expand_eq fun c => (reduce_fin h c).mul ⟨_, bits_inv⟩]
  exact (reduce_fin h _).mul ⟨_, bits_inv⟩

theorem centred_fin {u : Fin 1024 → EReal} (h : ∀ k, IsFin (u k)) (j : Fin 1024) : IsFin (centred u j) :=
  (h j).sub (mean_fin h j)

/-- The kernel's sigmoid. -/
theorem sigmoid_eq (x : EReal) : Ideal.ofBits .f32 1056964608#32 * Ideal.tanh (Ideal.ofBits .f32 1056964608#32 * x)
    + Ideal.ofBits .f32 1056964608#32 = Ideal.logistic x := by
  rw [Lru.bits_half]
  exact Lru.tanh_half x

variable (q : Fin 256) (j : Fin 1024)

section Heads

variable (v98 v101 : FVec Ideal S1x256x1024 .bf16)

/-- The matrices, as the body names them. -/
abbrev em : FVec Ideal S1024x128 .bf16 := k0_pay4 (F := Ideal) (iota .tc S1024x128 32 [1] iota_S1024x128_d1_w32) k0_pay2 k0_pay3
abbrev rowNo : IVec S128x1024 32 := iota .tc S128x1024 32 [0] iota_S128x1024_d0_w32

/-- The two scans' readings added. -/
def sumRow (x : Fin 1024) : EReal := v98 (ix3 0 q x) + v101 (ix3 0 q x)

variable (hy : ∀ x, IsFin (sumRow q v98 v101 x))
include hy

theorem pay8_apply : k0_pay8 (F := Ideal) em rowNo k0_pay5 k0_pay6 v98 v101 (ix2 q j) = centred (sumRow q v98 v101) j := by
  pointwise [k0_pay8]
  simp only [e_apply, et_apply]
  unfold centred
  rw [← mean_eq hy]
  refine congrArg (_ - ·) (Finset.sum_congr rfl fun c _ => ?_)
  rw [← select_parts]
  rfl

/-- The row with each head normalised. -/
theorem pay13_apply (v159 v163 : FVec Ideal S1x1024 .f32) :
    k0_pay13 (F := Ideal) em (k0_pay7 rowNo k0_pay5 k0_pay6) (k0_pay8 em rowNo k0_pay5 k0_pay6 v98 v101)
        (k0_pay11 em rowNo k0_pay5 k0_pay6 v98 v101) (k0_pay12 em rowNo k0_pay5 k0_pay6 v98 v101)
        (constant S256x128 .f32 0x00000000#32) v159 v163 (ix2 q j)
      = headNorm (sumRow q v98 v101) (fun x => v159 (ix2 0 x)) (fun x => v163 (ix2 0 x)) j := by
  have hc : ∀ x, IsFin (centred (sumRow q v98 v101) x * centred (sumRow q v98 v101) x) :=
    fun x => (centred_fin hy x).mul (centred_fin hy x)
  pointwise [k0_pay13, k0_pay12, k0_pay11, k0_pay10, k0_pay9]
  simp only [e_apply, et_apply, pay8_apply q _ v98 v101 hy]
  unfold headNorm
  rw [← mean_eq hc]
  refine congrArg (fun s => _ * Ideal.rsqrt (s + _) * _ + _) (Finset.sum_congr rfl fun c _ => ?_)
  rw [← select_parts]
  rfl

end Heads

/-- The bonus added to that, and the gate. -/
theorem pay16_apply (v166 : FVec Ideal S256x1024 .f32) (r k v : FVec Ideal S1x256x1024 .bf16) (u : FVec Ideal S1x1024 .f32)
    (gd : FVec Ideal S1x256x128 .bf16) (gup : FVec Ideal S128x1024 .bf16) {r' k' v' : Fin 1024 → EReal}
    {gd' : Fin 128 → EReal} (hr : ∀ x, r (ix3 0 q x) = r' x) (hk : ∀ x, k (ix3 0 q x) = k' x)
    (hv : ∀ x, v (ix3 0 q x) = v' x) (hg : ∀ x, gd (ix3 0 q x) = gd' x) (h : ∀ x, IsFin (r' x * k' x * u (ix2 0 x))) :
    k0_pay16 (F := Ideal) em (k0_pay7 rowNo k0_pay5 k0_pay6) v166 (k0_pay14 v) (k0_pay15 r k) u gd gup (ix2 q j)
      = (v166 (ix2 q j) + bonus r' k' v' (fun x => u (ix2 0 x)) j)
          * through (fun x => Ideal.logistic (gd' x)) (fun x j => gup (ix2 x j)) j := by
  pointwise [k0_pay16, k0_pay15, k0_pay14]
  simp only [e_apply, et_apply, sigmoid_eq, hr, hk, hv, hg]
  unfold bonus
  rw [← sum_eq h]
  refine congrArg (fun s => (_ + s * _) * _) (Finset.sum_congr rfl fun c _ => ?_)
  rw [← select_parts]
  rfl

theorem pay17_apply (v220 : FVec Ideal S1x256x1024 .bf16) (v236 v238 : FVec Ideal S1x256x1024 .f32) :
    k0_pay17 (F := Ideal) v220 v236 v238 (ix2 q j)
      = (v236 (ix3 0 q j) + v238 (ix3 0 q j)) * gelu (v220 (ix3 0 q j)) := by
  pointwise [k0_pay17]
  rfl

theorem pay19_apply (v219 : FVec Ideal S256x1024 .f32) (v242 : FVec Ideal S1x256x2048 .bf16)
    (v253 : FVec Ideal S1024x1024 .bf16) :
    k0_pay19 (F := Ideal) v219 v242 v253 (ix2 q j)
      = Ideal.logistic (v242 (ix3 0 q ⟨j.val, by omega⟩))
          * through (fun x => v219 (ix2 q x)) (fun x j => v253 (ix2 x j)) j := by
  pointwise [k0_pay19, k0_pay18]
  rw [sigmoid_eq]
  rfl

/-- The row after the mixer. -/
theorem pay22_apply (v241 v257 : FVec Ideal S256x1024 .f32) (v242 : FVec Ideal S1x256x2048 .bf16)
    (v266 : FVec Ideal S1024x1024 .bf16) (v272 : FVec Ideal S1x1x9x1024 .f32) (v274 : FVec Ideal S1x256x1024 .f32)
    (v277 : FVec Ideal S1024x1024 .bf16) :
    k0_pay22 (F := Ideal) v241 v257 (k0_pay20 v242) (Scalar.ofBits .f32 0x3F000000#32) v266 v272 v274 v277 (ix2 q j)
      = Mix.mixed (fun x => v274 (ix3 0 q x)) (fun x => v272 (ix4 0 0 5 x))
          (fun x => v257 (ix2 q x) + Ideal.logistic (v242 (ix3 0 q ⟨1024 + x.val, by omega⟩))
            * through (fun y => v241 (ix2 q y)) (fun y j => v266 (ix2 y j)) x) (fun x j => v277 (ix2 x j)) j := by
  pointwise [k0_pay22, k0_pay21, k0_pay20, k0_pay18]
  simp only [sigmoid_eq]
  rfl

/-- That row's part over the root of its mean square. -/
theorem pay27_apply (v241 v257 v258 : FVec Ideal S256x1024 .f32) (half : Ideal .f32) (v266 : FVec Ideal S1024x1024 .bf16)
    (v272 : FVec Ideal S1x1x9x1024 .f32) (v274 : FVec Ideal S1x256x1024 .f32) (v277 : FVec Ideal S1024x1024 .bf16)
    {y : Fin 1024 → EReal} (h : ∀ x, k0_pay22 (F := Ideal) v241 v257 v258 half v266 v272 v274 v277 (ix2 q x) = y x)
    (g : EReal) {g' : Fin 1024 → EReal} (hg : g = g' j) :
    k0_pay27 (F := Ideal) v241 v257 v258 half v266 v272 v274 v277 (ix2 q j) * g = rms y g' j := by
  pointwise [k0_pay27]
  simp only [h, hg]
  rfl

/-- The feed-forward step, from the row and its part over the root of its mean square. -/
theorem pay28_apply (v283 : FVec Ideal S256x1024 .f32) (v285 v286 v287 v288 : FVec Ideal S1x1024 .f32)
    (v298 : FVec Ideal S256x1024 .f32) (wg wu : FVec Ideal S1024x2816 .bf16) (wd : FVec Ideal S2816x1024 .bf16)
    (h : ∀ x, v298 (ix2 q x) * v285 (ix2 0 x) = rms (fun x => v283 (ix2 q x)) (fun x => v285 (ix2 0 x)) x) :
    k0_pay28 (F := Ideal) v283 v285 v286 v287 v288 v298 wg wu wd (ix2 q j)
      = halfStep (fun x => v283 (ix2 q x)) (fun x => v285 (ix2 0 x)) (fun x => v286 (ix2 0 x)) (fun x => v287 (ix2 0 x))
          (fun x => v288 (ix2 0 x)) (fun x f => wg (ix2 x f)) (fun x f => wu (ix2 x f)) (fun f j => wd (ix2 f j)) j := by
  pointwise [k0_pay28]
  simp only [sigmoid_eq, h]
  rfl

/-- The last normalisation. -/
theorem pay1_apply (v331 : FVec Ideal S256x1024 .f32) (v333 : FVec Ideal S1x1024 .f32) (v338 v339 : FVec Ideal S256x1 .f32) :
    k0_pay1 (F := Ideal) v331 v333 v338 v339 (ix3 0 q j)
      = v331 (ix2 q j) * Ideal.rsqrt (v338 (ix2 q 0) + v339 (ix2 q 0)) * v333 (ix2 0 j) := by
  pointwise [k0_pay1]

end Cert.Mix

end
-- ==== Proof.Mix.Block.lean ====
/- A tile's block of the result: each token's row of the layer, from the rows of the blocks that the body reads. -/
module

public import proofs.«01_k».proof.Proof.Mix.Tile
public import proofs.«01_k».proof.Proof.Ffn.Kernel
public import Idealize.ShloMosaic.Lib.Pipeline.ValueKit.Tiles

@[expose] public section

set_option maxRecDepth 16384

noncomputable section

namespace Cert.Mix

open Cert.Ffn Cert.Kernel3Ideal Cert.Kernel3Ideal.Gen Idealize.ShloMosaic
open Cert.Kernel2Ideal.Ffn (corner2 corner3 corner4)

variable (x0 x1 : FVec Ideal S1x256x1024 .bf16) (x2 : FVec Ideal S1x256x3456 .bf16)
    (x3 x4 : FVec Ideal S1x256x1024 .f32) (x5 : FVec Ideal S1x256x1024 .bf16) (x6 : FVec Ideal S1x256x2048 .bf16)
    (x7 : FVec Ideal S1x256x1024 .f32) (x8 : FVec Ideal S1x1x9x1024 .f32) (x9 x10 x11 : FVec Ideal S1x1024 .f32)
    (x12 : FVec Ideal S128x1024 .bf16) (x13 x14 x15 : FVec Ideal S1024x1024 .bf16) (x16 : FVec Ideal S1x1024 .f32)
    (x17 x18 : FVec Ideal S1024x2816 .bf16) (x19 : FVec Ideal S2816x1024 .bf16) (x20 : FVec Ideal S1x1024 .f32)
variable (q : Fin 256)

/-- A token's rows, from the blocks. -/
def tile : Token where
  y1 j := x0 (ix3 0 q j)
  y2 j := x1 (ix3 0 q j)
  r j := x2 (ix3 0 q ⟨j.val, by omega⟩)
  k j := x2 (ix3 0 q ⟨1024 + j.val, by omega⟩)
  v j := x2 (ix3 0 q ⟨2048 + j.val, by omega⟩)
  u j := x9 (ix2 0 j)
  w j := x10 (ix2 0 j)
  b j := x11 (ix2 0 j)
  gd x := x2 (ix3 0 q ⟨3328 + x.val, by omega⟩)
  gup x j := x12 (ix2 x j)
  s1 j := x3 (ix3 0 q j)
  s2 j := x4 (ix3 0 q j)
  lg j := x5 (ix3 0 q j)
  g1 j := x6 (ix3 0 q ⟨j.val, by omega⟩)
  g2 j := x6 (ix3 0 q ⟨1024 + j.val, by omega⟩)
  w1 x j := x13 (ix2 x j)
  w2 x j := x14 (ix2 x j)
  wout x j := x15 (ix2 x j)
  h j := x7 (ix3 0 q j)
  gate j := x8 (ix4 0 0 5 j)
  shift j := x8 (ix4 0 0 6 j)
  scale j := x8 (ix4 0 0 7 j)
  gate' j := x8 (ix4 0 0 8 j)
  g j := x16 (ix2 0 j)
  wg x f := x17 (ix2 x f)
  wu x f := x18 (ix2 x f)
  wd f j := x19 (ix2 f j)
  gf j := x20 (ix2 0 j)

/-- What the sums over heads need of a token: that they sum real numbers. -/
structure Token.Real (T : Token) : Prop where
  /-- the scans' readings -/
  y : ∀ j, IsFin (T.y j)
  /-- the bonus's products -/
  u : ∀ j, IsFin (T.r j * T.k j * T.u j)

/- The parts of the branch's block. -/
theorem part_r (j : Fin 1024) : View.ld (Val := Elt Ideal) (e' := .bf16) x2 r0_2 (ix3 0 q j) = x2 (ix3 0 q ⟨j.val, by omega⟩) :=
  View.ld_unit_apply_of (Val := Elt Ideal) (e := .bf16) x2 _ _ _ _ _ fun a => by fin_cases a <;> dsimp <;> omega
theorem part_k (j : Fin 1024) : View.ld (Val := Elt Ideal) (e' := .bf16) x2 r0_3 (ix3 0 q j) = x2 (ix3 0 q ⟨1024 + j.val, by omega⟩) :=
  View.ld_unit_apply_of (Val := Elt Ideal) (e := .bf16) x2 _ _ _ _ _ fun a => by fin_cases a <;> dsimp <;> omega
theorem part_v (j : Fin 1024) : View.ld (Val := Elt Ideal) (e' := .bf16) x2 r0_4 (ix3 0 q j) = x2 (ix3 0 q ⟨2048 + j.val, by omega⟩) :=
  View.ld_unit_apply_of (Val := Elt Ideal) (e := .bf16) x2 _ _ _ _ _ fun a => by fin_cases a <;> dsimp <;> omega
theorem part_g (j : Fin 128) : View.ld (Val := Elt Ideal) (e' := .bf16) x2 r0_5 (ix3 0 q j) = x2 (ix3 0 q ⟨3328 + j.val, by omega⟩) :=
  View.ld_unit_apply_of (Val := Elt Ideal) (e := .bf16) x2 _ _ _ _ _ fun a => by fin_cases a <;> dsimp <;> omega

/-- The RG-LRU branch. -/
theorem row_lru (j : Fin 1024) : k0_pay37 (F := Ideal) x0 x1 x2 x3 x4 x5 x6 x7 x8 x9 x10 x11 x12 x13 x14 x15 x16 x17 x18 x19 x20 (ix2 q j) = (tile x0 x1 x2 x3 x4 x5 x6 x7 x8 x9 x10 x11 x12 x13 x14 x15 x16 x17 x18 x19 x20 q).lru j := by
  unfold k0_pay37
  rw [View.ld_unit_zero corner3, View.ld_unit_zero corner3, View.ld_unit_zero corner3, pay17_apply]
  rfl

variable (h : (tile x0 x1 x2 x3 x4 x5 x6 x7 x8 x9 x10 x11 x12 x13 x14 x15 x16 x17 x18 x19 x20 q).Real)
include h

/-- The RWKV branch through its matrix and its gate. -/
theorem row_rwkv (j : Fin 1024) : k0_pay38 (F := Ideal) x0 x1 x2 x3 x4 x5 x6 x7 x8 x9 x10 x11 x12 x13 x14 x15 x16 x17 x18 x19 x20 (ix2 q j)
    = Ideal.logistic ((tile x0 x1 x2 x3 x4 x5 x6 x7 x8 x9 x10 x11 x12 x13 x14 x15 x16 x17 x18 x19 x20 q).g1 j) * through (tile x0 x1 x2 x3 x4 x5 x6 x7 x8 x9 x10 x11 x12 x13 x14 x15 x16 x17 x18 x19 x20 q).rwkv (tile x0 x1 x2 x3 x4 x5 x6 x7 x8 x9 x10 x11 x12 x13 x14 x15 x16 x17 x18 x19 x20 q).w1 j := by
  unfold k0_pay38 k0_pay36 k0_pay35 k0_pay34 k0_pay33 k0_pay32
  rw [pay19_apply, View.ld_unit_zero corner3, View.ld_unit_zero corner3, View.ld_unit_zero corner3,
    View.ld_unit_zero corner2, View.ld_unit_zero corner2, View.ld_unit_zero corner2, View.ld_unit_zero corner2,
    View.ld_unit_zero corner2]
  have e : ∀ x, k0_pay16 (F := Ideal) em (k0_pay7 rowNo k0_pay5 k0_pay6)
      (k0_pay13 em (k0_pay7 rowNo k0_pay5 k0_pay6) (k0_pay8 em rowNo k0_pay5 k0_pay6 x0 x1)
        (k0_pay11 em rowNo k0_pay5 k0_pay6 x0 x1) (k0_pay12 em rowNo k0_pay5 k0_pay6 x0 x1)
        (constant S256x128 .f32 0x00000000#32) x10 x11)
      (k0_pay14 (View.ld x2 r0_4)) (k0_pay15 (View.ld x2 r0_2) (View.ld x2 r0_3)) x9 (View.ld x2 r0_5) x12 (ix2 q x)
      = (tile x0 x1 x2 x3 x4 x5 x6 x7 x8 x9 x10 x11 x12 x13 x14 x15 x16 x17 x18 x19 x20 q).rwkv x := fun x => by
    rw [pay16_apply q x _ _ _ _ _ _ _ (part_r x2 q) (part_k x2 q) (part_v x2 q) (part_g x2 q) h.u,
      pay13_apply q x x0 x1 h.y]
    rfl
  refine congrArg (_ * ·) (congrArg (fun y => through y _ j) ?_)
  funext x
  exact e x

/-- The row after the mixer. -/
theorem row_mixed (j : Fin 1024) : k0_pay40 (F := Ideal) x0 x1 x2 x3 x4 x5 x6 x7 x8 x9 x10 x11 x12 x13 x14 x15 x16 x17 x18 x19 x20 (ix2 q j) = (tile x0 x1 x2 x3 x4 x5 x6 x7 x8 x9 x10 x11 x12 x13 x14 x15 x16 x17 x18 x19 x20 q).mixed j := by
  unfold k0_pay40 k0_pay39
  rw [pay22_apply]
  rw [View.ld_unit_zero (S := S1x256x1024) corner3, View.ld_unit_zero (S := S1x1x9x1024) corner4,
    View.ld_unit_zero (S := S1x256x2048) corner3, View.ld_unit_zero (S := S1024x1024) corner2,
    View.ld_unit_zero (S := S1024x1024) corner2]
  simp only [row_rwkv _ _ _ _ _ _ _ _ _ _ _ _ _ _ _ _ _ _ _ _ _ q h, row_lru]
  rfl

/-- Its part over the root of its mean square, with the gains. -/
theorem row_rms (j : Fin 1024) : k0_pay45 (F := Ideal) x0 x1 x2 x3 x4 x5 x6 x7 x8 x9 x10 x11 x12 x13 x14 x15 x16 x17 x18 x19 x20 (ix2 q j) * k0_pay41 (F := Ideal) x0 x1 x2 x3 x4 x5 x6 x7 x8 x9 x10 x11 x12 x13 x14 x15 x16 x17 x18 x19 x20 (ix2 0 j)
    = rms (tile x0 x1 x2 x3 x4 x5 x6 x7 x8 x9 x10 x11 x12 x13 x14 x15 x16 x17 x18 x19 x20 q).mixed (tile x0 x1 x2 x3 x4 x5 x6 x7 x8 x9 x10 x11 x12 x13 x14 x15 x16 x17 x18 x19 x20 q).g j := by
  have e : ∀ x, k0_pay40 (F := Ideal) x0 x1 x2 x3 x4 x5 x6 x7 x8 x9 x10 x11 x12 x13 x14 x15 x16 x17 x18 x19 x20 (ix2 q x) = _ := row_mixed x0 x1 x2 x3 x4 x5 x6 x7 x8 x9 x10 x11 x12 x13 x14 x15 x16 x17 x18 x19 x20 q h
  unfold k0_pay45 k0_pay41
  refine pay27_apply q j _ _ _ _ _ _ _ _ e _ ?_
  rw [View.ld_unit_zero corner2]
  pointwise [k0_pay23]
  rfl

/-- The row after the feed-forward step. -/
theorem row_step (j : Fin 1024) :
    k0_pay28 (F := Ideal) (k0_pay40 x0 x1 x2 x3 x4 x5 x6 x7 x8 x9 x10 x11 x12 x13 x14 x15 x16 x17 x18 x19 x20) (k0_pay41 x0 x1 x2 x3 x4 x5 x6 x7 x8 x9 x10 x11 x12 x13 x14 x15 x16 x17 x18 x19 x20)
        (k0_pay42 x0 x1 x2 x3 x4 x5 x6 x7 x8 x9 x10 x11 x12 x13 x14 x15 x16 x17 x18 x19 x20)
        (k0_pay43 x0 x1 x2 x3 x4 x5 x6 x7 x8 x9 x10 x11 x12 x13 x14 x15 x16 x17 x18 x19 x20)
        (k0_pay44 x0 x1 x2 x3 x4 x5 x6 x7 x8 x9 x10 x11 x12 x13 x14 x15 x16 x17 x18 x19 x20)
        (k0_pay45 x0 x1 x2 x3 x4 x5 x6 x7 x8 x9 x10 x11 x12 x13 x14 x15 x16 x17 x18 x19 x20) x17 x18 x19 (ix2 q j)
      = (tile x0 x1 x2 x3 x4 x5 x6 x7 x8 x9 x10 x11 x12 x13 x14 x15 x16 x17 x18 x19 x20 q).stepped j := by
  have e := row_mixed x0 x1 x2 x3 x4 x5 x6 x7 x8 x9 x10 x11 x12 x13 x14 x15 x16 x17 x18 x19 x20 q h
  rw [pay28_apply]
  · simp only [e]
    unfold k0_pay41 k0_pay42 k0_pay43 k0_pay44
    rw [View.ld_unit_zero corner2, View.ld_unit_zero corner4]
    pointwise [k0_pay23, k0_pay24, k0_pay25, k0_pay26, k0_pay21]
    rfl
  · intro x
    simp only [e]
    refine (row_rms x0 x1 x2 x3 x4 x5 x6 x7 x8 x9 x10 x11 x12 x13 x14 x15 x16 x17 x18 x19 x20 q h x).trans ?_
    unfold k0_pay41
    rw [View.ld_unit_zero corner2]
    pointwise [k0_pay23]
    rfl

/-- What a grid point leaves in the output's block. -/
theorem block_apply (j : Fin 1024) : out0_21 (F := Ideal) x0 x1 x2 x3 x4 x5 x6 x7 x8 x9 x10 x11 x12 x13 x14 x15 x16 x17 x18 x19 x20 (ix3 0 q j) = (tile x0 x1 x2 x3 x4 x5 x6 x7 x8 x9 x10 x11 x12 x13 x14 x15 x16 x17 x18 x19 x20 q).out j := by
  have e := row_step x0 x1 x2 x3 x4 x5 x6 x7 x8 x9 x10 x11 x12 x13 x14 x15 x16 x17 x18 x19 x20 q h
  unfold out0_21
  rw [View.canon_cons_unit_zero corner3, View.ld_unit_zero corner2, View.ld_unit_zero corner2,
    View.ld_unit_zero corner2, View.ld_unit_zero corner2, pay1_apply]
  pointwise [k0_pay29, k0_pay30, k0_pay31]
  simp only [e]
  rfl

end Cert.Mix

end
-- ==== Proof.Mix.Kernel.lean ====
/- What each window of the mixer's kernel holds at a grid point, in the arguments, and the array that the kernel leaves: the
   layer's row of every latent token. -/
module

public import proofs.«01_k».proof.Proof.Gen.Kernel3Ideal.Value
public import proofs.«01_k».proof.Proof.Mix.Block
public import Idealize.ShloMosaic.Lib.StableHlo.RunRead
public import Idealize.ShloMosaic.Lib.Pipeline.Value

@[expose] public section

set_option maxRecDepth 16384

noncomputable section

namespace Cert.Kernel3Ideal.Mix

open Cert.Mix Cert.Kernel3Ideal Cert.Kernel3Ideal.Gen Idealize.ShloMosaic Idealize.ShloMosaic.TcCoe Idealize.SL.Sem

variable (m : (ℓ : Loc nD τ sig) → Buf (Elt Ideal) ℓ) (c : Dev nD)

/- Where the blocks lie. -/
theorem index0 : ∀ t : Fin cfg0.N, win0_0.index t = ![t.val / 16, t.val % 16 + 1, 0] :=
  (by decide +kernel : ∀ t : Fin grid0.N, win0_0.index t = ![t.val / 16, t.val % 16 + 1, 0])
theorem index1 : ∀ t : Fin cfg0.N, win0_1.index t = ![t.val / 16, t.val % 16 + 1, 0] :=
  (by decide +kernel : ∀ t : Fin grid0.N, win0_1.index t = ![t.val / 16, t.val % 16 + 1, 0])
theorem index2 : ∀ t : Fin cfg0.N, win0_2.index t = ![t.val / 16, t.val % 16 + 1, 0] :=
  (by decide +kernel : ∀ t : Fin grid0.N, win0_2.index t = ![t.val / 16, t.val % 16 + 1, 0])
theorem index3 : ∀ t : Fin cfg0.N, win0_3.index t = ![t.val / 16, t.val % 16 + 1, 0] :=
  (by decide +kernel : ∀ t : Fin grid0.N, win0_3.index t = ![t.val / 16, t.val % 16 + 1, 0])
theorem index4 : ∀ t : Fin cfg0.N, win0_4.index t = ![t.val / 16, t.val % 16 + 1, 0] :=
  (by decide +kernel : ∀ t : Fin grid0.N, win0_4.index t = ![t.val / 16, t.val % 16 + 1, 0])
theorem index5 : ∀ t : Fin cfg0.N, win0_5.index t = ![t.val / 16, t.val % 16 + 1, 0] :=
  (by decide +kernel : ∀ t : Fin grid0.N, win0_5.index t = ![t.val / 16, t.val % 16 + 1, 0])
theorem index6 : ∀ t : Fin cfg0.N, win0_6.index t = ![t.val / 16, t.val % 16 + 1, 0] :=
  (by decide +kernel : ∀ t : Fin grid0.N, win0_6.index t = ![t.val / 16, t.val % 16 + 1, 0])
theorem index7 : ∀ t : Fin cfg0.N, win0_7.index t = ![t.val / 16, t.val % 16 + 1, 0] :=
  (by decide +kernel : ∀ t : Fin grid0.N, win0_7.index t = ![t.val / 16, t.val % 16 + 1, 0])
theorem index8 : ∀ t : Fin cfg0.N, win0_8.index t = ![t.val / 16, 1, 0, 0] :=
  (by decide +kernel : ∀ t : Fin grid0.N, win0_8.index t = ![t.val / 16, 1, 0, 0])
theorem index9 : ∀ t : Fin cfg0.N, win0_9.index t = ![0, 0] :=
  (by decide +kernel : ∀ t : Fin grid0.N, win0_9.index t = ![0, 0])
theorem index10 : ∀ t : Fin cfg0.N, win0_10.index t = ![0, 0] :=
  (by decide +kernel : ∀ t : Fin grid0.N, win0_10.index t = ![0, 0])
theorem index11 : ∀ t : Fin cfg0.N, win0_11.index t = ![0, 0] :=
  (by decide +kernel : ∀ t : Fin grid0.N, win0_11.index t = ![0, 0])
theorem index12 : ∀ t : Fin cfg0.N, win0_12.index t = ![0, 0] :=
  (by decide +kernel : ∀ t : Fin grid0.N, win0_12.index t = ![0, 0])
theorem index13 : ∀ t : Fin cfg0.N, win0_13.index t = ![0, 0] :=
  (by decide +kernel : ∀ t : Fin grid0.N, win0_13.index t = ![0, 0])
theorem index14 : ∀ t : Fin cfg0.N, win0_14.index t = ![0, 0] :=
  (by decide +kernel : ∀ t : Fin grid0.N, win0_14.index t = ![0, 0])
theorem index15 : ∀ t : Fin cfg0.N, win0_15.index t = ![0, 0] :=
  (by decide +kernel : ∀ t : Fin grid0.N, win0_15.index t = ![0, 0])
theorem index16 : ∀ t : Fin cfg0.N, win0_16.index t = ![0, 0] :=
  (by decide +kernel : ∀ t : Fin grid0.N, win0_16.index t = ![0, 0])
theorem index17 : ∀ t : Fin cfg0.N, win0_17.index t = ![0, 0] :=
  (by decide +kernel : ∀ t : Fin grid0.N, win0_17.index t = ![0, 0])
theorem index18 : ∀ t : Fin cfg0.N, win0_18.index t = ![0, 0] :=
  (by decide +kernel : ∀ t : Fin grid0.N, win0_18.index t = ![0, 0])
theorem index19 : ∀ t : Fin cfg0.N, win0_19.index t = ![0, 0] :=
  (by decide +kernel : ∀ t : Fin grid0.N, win0_19.index t = ![0, 0])
theorem index20 : ∀ t : Fin cfg0.N, win0_20.index t = ![0, 0] :=
  (by decide +kernel : ∀ t : Fin grid0.N, win0_20.index t = ![0, 0])
theorem index21 : ∀ t : Fin cfg0.N, win0_21.index t = ![t.val / 16, t.val % 16, 0] ∧ win0_21.flush t = true :=
  (by decide +kernel : ∀ t : Fin grid0.N, win0_21.index t = ![t.val / 16, t.val % 16, 0] ∧ win0_21.flush t = true)

/- What the host operations before the call leave. -/
theorem V_v1 (j : Fin 1024) : V m c main_v1 (ix2 0 j)
    = m ((c : Thread nD τ).loc main_arg9) (ix3 0 ⟨j.val / 64, by omega⟩ ⟨j.val % 64, by omega⟩) := by
  unfold V hostOps0
  after_reads_simp
  pointwise
theorem V_v3 (j : Fin 1024) : V m c main_v3 (ix2 0 j)
    = m ((c : Thread nD τ).loc main_arg10) (ix2 0 j) := by
  unfold V hostOps0
  after_reads_simp
  pointwise
theorem V_v5 (j : Fin 1024) : V m c main_v5 (ix2 0 j)
    = m ((c : Thread nD τ).loc main_arg11) (ix2 0 j) := by
  unfold V hostOps0
  after_reads_simp
  pointwise
theorem V_v7 (x : Fin 128) (j : Fin 1024) : V m c main_v7 (ix2 x j)
    = m ((c : Thread nD τ).loc main_arg12) (ix3 0 x j) := by
  unfold V hostOps0
  after_reads_simp
  pointwise
theorem V_v9 (x : Fin 1024) (j : Fin 1024) : V m c main_v9 (ix2 x j)
    = m ((c : Thread nD τ).loc main_arg13) (ix3 0 x j) := by
  unfold V hostOps0
  after_reads_simp
  pointwise
theorem V_v11 (x : Fin 1024) (j : Fin 1024) : V m c main_v11 (ix2 x j)
    = m ((c : Thread nD τ).loc main_arg14) (ix3 0 x j) := by
  unfold V hostOps0
  after_reads_simp
  pointwise
theorem V_v13 (x : Fin 1024) (j : Fin 1024) : V m c main_v13 (ix2 x j)
    = m ((c : Thread nD τ).loc main_arg15) (ix3 0 x j) := by
  unfold V hostOps0
  after_reads_simp
  pointwise
theorem V_v15 (j : Fin 1024) : V m c main_v15 (ix2 0 j)
    = m ((c : Thread nD τ).loc main_arg16) (ix2 0 j) := by
  unfold V hostOps0
  after_reads_simp
  pointwise
theorem V_v17 (x : Fin 1024) (j : Fin 2816) : V m c main_v17 (ix2 x j)
    = m ((c : Thread nD τ).loc main_arg17) (ix3 0 x j) := by
  unfold V hostOps0
  after_reads_simp
  pointwise
theorem V_v19 (x : Fin 1024) (j : Fin 2816) : V m c main_v19 (ix2 x j)
    = m ((c : Thread nD τ).loc main_arg18) (ix3 0 x j) := by
  unfold V hostOps0
  after_reads_simp
  pointwise
theorem V_v21 (x : Fin 2816) (j : Fin 1024) : V m c main_v21 (ix2 x j)
    = m ((c : Thread nD τ).loc main_arg19) (ix3 0 x j) := by
  unfold V hostOps0
  after_reads_simp
  pointwise
theorem V_v22 (j : Fin 1024) : V m c main_v22 (ix2 0 j)
    = m ((c : Thread nD τ).loc main_arg20) (ix1 j) := by
  unfold V hostOps0
  after_reads_simp
  pointwise

variable (t : Fin cfg0.N)

/- A block's element in its array. -/
theorem in0 (q : Fin 256) (j : Fin 1024) (b : Fin 4) (hb : b.val = t.val / 16) (p : Fin 4096)
    (hp : p.val = 256 * (t.val % 16) + q) :
    iblk m c 0 t (ix3 0 q j) = m ((c : Thread nD τ).loc main_arg0) (ix3 b (pos p) j) := by
  rw [← V_main_arg0 m c]
  show V m c main_arg0 ((win0_0.rect t).emb (ix3 0 q j)) = _
  congr 1
  funext a
  apply Fin.ext
  rw [Pipeline.Window.rect_emb_val win0_0 t (ix3 0 q j) a rfl, index0]
  fin_cases a
  · show t.val / 16 * 1 + 0 = b.val; omega
  · show (t.val % 16 + 1) * 256 + q.val = 256 + p.val; omega
  · show 0 * 1024 + j.val = j.val; omega

theorem in1 (q : Fin 256) (j : Fin 1024) (b : Fin 4) (hb : b.val = t.val / 16) (p : Fin 4096)
    (hp : p.val = 256 * (t.val % 16) + q) :
    iblk m c 1 t (ix3 0 q j) = m ((c : Thread nD τ).loc main_arg1) (ix3 b (pos p) j) := by
  rw [← V_main_arg1 m c]
  show V m c main_arg1 ((win0_1.rect t).emb (ix3 0 q j)) = _
  congr 1
  funext a
  apply Fin.ext
  rw [Pipeline.Window.rect_emb_val win0_1 t (ix3 0 q j) a rfl, index1]
  fin_cases a
  · show t.val / 16 * 1 + 0 = b.val; omega
  · show (t.val % 16 + 1) * 256 + q.val = 256 + p.val; omega
  · show 0 * 1024 + j.val = j.val; omega

theorem in2 (q : Fin 256) (j : Fin 3456) (b : Fin 4) (hb : b.val = t.val / 16) (p : Fin 4096)
    (hp : p.val = 256 * (t.val % 16) + q) :
    iblk m c 2 t (ix3 0 q j) = m ((c : Thread nD τ).loc main_arg2) (ix3 b (pos p) j) := by
  rw [← V_main_arg2 m c]
  show V m c main_arg2 ((win0_2.rect t).emb (ix3 0 q j)) = _
  congr 1
  funext a
  apply Fin.ext
  rw [Pipeline.Window.rect_emb_val win0_2 t (ix3 0 q j) a rfl, index2]
  fin_cases a
  · show t.val / 16 * 1 + 0 = b.val; omega
  · show (t.val % 16 + 1) * 256 + q.val = 256 + p.val; omega
  · show 0 * 3456 + j.val = j.val; omega

theorem in3 (q : Fin 256) (j : Fin 1024) (b : Fin 4) (hb : b.val = t.val / 16) (p : Fin 4096)
    (hp : p.val = 256 * (t.val % 16) + q) :
    iblk m c 3 t (ix3 0 q j) = m ((c : Thread nD τ).loc main_arg3) (ix3 b (pos p) j) := by
  rw [← V_main_arg3 m c]
  show V m c main_arg3 ((win0_3.rect t).emb (ix3 0 q j)) = _
  congr 1
  funext a
  apply Fin.ext
  rw [Pipeline.Window.rect_emb_val win0_3 t (ix3 0 q j) a rfl, index3]
  fin_cases a
  · show t.val / 16 * 1 + 0 = b.val; omega
  · show (t.val % 16 + 1) * 256 + q.val = 256 + p.val; omega
  · show 0 * 1024 + j.val = j.val; omega

theorem in4 (q : Fin 256) (j : Fin 1024) (b : Fin 4) (hb : b.val = t.val / 16) (p : Fin 4096)
    (hp : p.val = 256 * (t.val % 16) + q) :
    iblk m c 4 t (ix3 0 q j) = m ((c : Thread nD τ).loc main_arg4) (ix3 b (pos p) j) := by
  rw [← V_main_arg4 m c]
  show V m c main_arg4 ((win0_4.rect t).emb (ix3 0 q j)) = _
  congr 1
  funext a
  apply Fin.ext
  rw [Pipeline.Window.rect_emb_val win0_4 t (ix3 0 q j) a rfl, index4]
  fin_cases a
  · show t.val / 16 * 1 + 0 = b.val; omega
  · show (t.val % 16 + 1) * 256 + q.val = 256 + p.val; omega
  · show 0 * 1024 + j.val = j.val; omega

theorem in5 (q : Fin 256) (j : Fin 1024) (b : Fin 4) (hb : b.val = t.val / 16) (p : Fin 4096)
    (hp : p.val = 256 * (t.val % 16) + q) :
    iblk m c 5 t (ix3 0 q j) = m ((c : Thread nD τ).loc main_arg5) (ix3 b (pos p) j) := by
  rw [← V_main_arg5 m c]
  show V m c main_arg5 ((win0_5.rect t).emb (ix3 0 q j)) = _
  congr 1
  funext a
  apply Fin.ext
  rw [Pipeline.Window.rect_emb_val win0_5 t (ix3 0 q j) a rfl, index5]
  fin_cases a
  · show t.val / 16 * 1 + 0 = b.val; omega
  · show (t.val % 16 + 1) * 256 + q.val = 256 + p.val; omega
  · show 0 * 1024 + j.val = j.val; omega

theorem in6 (q : Fin 256) (j : Fin 2048) (b : Fin 4) (hb : b.val = t.val / 16) (p : Fin 4096)
    (hp : p.val = 256 * (t.val % 16) + q) :
    iblk m c 6 t (ix3 0 q j) = m ((c : Thread nD τ).loc main_arg6) (ix3 b (pos p) j) := by
  rw [← V_main_arg6 m c]
  show V m c main_arg6 ((win0_6.rect t).emb (ix3 0 q j)) = _
  congr 1
  funext a
  apply Fin.ext
  rw [Pipeline.Window.rect_emb_val win0_6 t (ix3 0 q j) a rfl, index6]
  fin_cases a
  · show t.val / 16 * 1 + 0 = b.val; omega
  · show (t.val % 16 + 1) * 256 + q.val = 256 + p.val; omega
  · show 0 * 2048 + j.val = j.val; omega

theorem in7 (q : Fin 256) (j : Fin 1024) (b : Fin 4) (hb : b.val = t.val / 16) (p : Fin 4096)
    (hp : p.val = 256 * (t.val % 16) + q) :
    iblk m c 7 t (ix3 0 q j) = m ((c : Thread nD τ).loc main_arg7) (ix3 b (pos p) j) := by
  rw [← V_main_arg7 m c]
  show V m c main_arg7 ((win0_7.rect t).emb (ix3 0 q j)) = _
  congr 1
  funext a
  apply Fin.ext
  rw [Pipeline.Window.rect_emb_val win0_7 t (ix3 0 q j) a rfl, index7]
  fin_cases a
  · show t.val / 16 * 1 + 0 = b.val; omega
  · show (t.val % 16 + 1) * 256 + q.val = 256 + p.val; omega
  · show 0 * 1024 + j.val = j.val; omega

theorem in8 (r : Fin 9) (j : Fin 1024) (b : Fin 4) (hb : b.val = t.val / 16) :
    iblk m c 8 t (ix4 0 0 r j) = m ((c : Thread nD τ).loc main_arg8) (ix4 b 1 r j) := by
  rw [← V_main_arg8 m c]
  show V m c main_arg8 ((win0_8.rect t).emb (ix4 0 0 r j)) = _
  congr 1
  funext a
  apply Fin.ext
  rw [Pipeline.Window.rect_emb_val win0_8 t (ix4 0 0 r j) a rfl, index8]
  fin_cases a
  · show t.val / 16 * 1 + 0 = b.val; omega
  · show 1 * 1 + 0 = 1; omega
  · show 0 * 9 + r.val = r.val; omega
  · show 0 * 1024 + j.val = j.val; omega

theorem in9 (j : Fin 1024) : iblk m c 9 t (ix2 0 j)
    = m ((c : Thread nD τ).loc main_arg9) (ix3 0 ⟨j.val / 64, by omega⟩ ⟨j.val % 64, by omega⟩) := by
  rw [← V_v1 m c]
  show V m c main_v1 ((win0_9.rect t).emb (ix2 0 j)) = _
  congr 1
  funext a
  apply Fin.ext
  rw [Pipeline.Window.rect_emb_val win0_9 t (ix2 0 j) a rfl, index9]
  fin_cases a
  · show 0 * 1 + 0 = 0; omega
  · show 0 * 1024 + j.val = j.val; omega

theorem in10 (j : Fin 1024) : iblk m c 10 t (ix2 0 j)
    = m ((c : Thread nD τ).loc main_arg10) (ix2 0 j) := by
  rw [← V_v3 m c]
  show V m c main_v3 ((win0_10.rect t).emb (ix2 0 j)) = _
  congr 1
  funext a
  apply Fin.ext
  rw [Pipeline.Window.rect_emb_val win0_10 t (ix2 0 j) a rfl, index10]
  fin_cases a
  · show 0 * 1 + 0 = 0; omega
  · show 0 * 1024 + j.val = j.val; omega

theorem in11 (j : Fin 1024) : iblk m c 11 t (ix2 0 j)
    = m ((c : Thread nD τ).loc main_arg11) (ix2 0 j) := by
  rw [← V_v5 m c]
  show V m c main_v5 ((win0_11.rect t).emb (ix2 0 j)) = _
  congr 1
  funext a
  apply Fin.ext
  rw [Pipeline.Window.rect_emb_val win0_11 t (ix2 0 j) a rfl, index11]
  fin_cases a
  · show 0 * 1 + 0 = 0; omega
  · show 0 * 1024 + j.val = j.val; omega

theorem in12 (x : Fin 128) (j : Fin 1024) : iblk m c 12 t (ix2 x j)
    = m ((c : Thread nD τ).loc main_arg12) (ix3 0 x j) := by
  rw [← V_v7 m c]
  show V m c main_v7 ((win0_12.rect t).emb (ix2 x j)) = _
  congr 1
  funext a
  apply Fin.ext
  rw [Pipeline.Window.rect_emb_val win0_12 t (ix2 x j) a rfl, index12]
  fin_cases a
  · show 0 * 128 + x.val = x.val; omega
  · show 0 * 1024 + j.val = j.val; omega

theorem in13 (x : Fin 1024) (j : Fin 1024) : iblk m c 13 t (ix2 x j)
    = m ((c : Thread nD τ).loc main_arg13) (ix3 0 x j) := by
  rw [← V_v9 m c]
  show V m c main_v9 ((win0_13.rect t).emb (ix2 x j)) = _
  congr 1
  funext a
  apply Fin.ext
  rw [Pipeline.Window.rect_emb_val win0_13 t (ix2 x j) a rfl, index13]
  fin_cases a
  · show 0 * 1024 + x.val = x.val; omega
  · show 0 * 1024 + j.val = j.val; omega

theorem in14 (x : Fin 1024) (j : Fin 1024) : iblk m c 14 t (ix2 x j)
    = m ((c : Thread nD τ).loc main_arg14) (ix3 0 x j) := by
  rw [← V_v11 m c]
  show V m c main_v11 ((win0_14.rect t).emb (ix2 x j)) = _
  congr 1
  funext a
  apply Fin.ext
  rw [Pipeline.Window.rect_emb_val win0_14 t (ix2 x j) a rfl, index14]
  fin_cases a
  · show 0 * 1024 + x.val = x.val; omega
  · show 0 * 1024 + j.val = j.val; omega

theorem in15 (x : Fin 1024) (j : Fin 1024) : iblk m c 15 t (ix2 x j)
    = m ((c : Thread nD τ).loc main_arg15) (ix3 0 x j) := by
  rw [← V_v13 m c]
  show V m c main_v13 ((win0_15.rect t).emb (ix2 x j)) = _
  congr 1
  funext a
  apply Fin.ext
  rw [Pipeline.Window.rect_emb_val win0_15 t (ix2 x j) a rfl, index15]
  fin_cases a
  · show 0 * 1024 + x.val = x.val; omega
  · show 0 * 1024 + j.val = j.val; omega

theorem in16 (j : Fin 1024) : iblk m c 16 t (ix2 0 j)
    = m ((c : Thread nD τ).loc main_arg16) (ix2 0 j) := by
  rw [← V_v15 m c]
  show V m c main_v15 ((win0_16.rect t).emb (ix2 0 j)) = _
  congr 1
  funext a
  apply Fin.ext
  rw [Pipeline.Window.rect_emb_val win0_16 t (ix2 0 j) a rfl, index16]
  fin_cases a
  · show 0 * 1 + 0 = 0; omega
  · show 0 * 1024 + j.val = j.val; omega

theorem in17 (x : Fin 1024) (j : Fin 2816) : iblk m c 17 t (ix2 x j)
    = m ((c : Thread nD τ).loc main_arg17) (ix3 0 x j) := by
  rw [← V_v17 m c]
  show V m c main_v17 ((win0_17.rect t).emb (ix2 x j)) = _
  congr 1
  funext a
  apply Fin.ext
  rw [Pipeline.Window.rect_emb_val win0_17 t (ix2 x j) a rfl, index17]
  fin_cases a
  · show 0 * 1024 + x.val = x.val; omega
  · show 0 * 2816 + j.val = j.val; omega

theorem in18 (x : Fin 1024) (j : Fin 2816) : iblk m c 18 t (ix2 x j)
    = m ((c : Thread nD τ).loc main_arg18) (ix3 0 x j) := by
  rw [← V_v19 m c]
  show V m c main_v19 ((win0_18.rect t).emb (ix2 x j)) = _
  congr 1
  funext a
  apply Fin.ext
  rw [Pipeline.Window.rect_emb_val win0_18 t (ix2 x j) a rfl, index18]
  fin_cases a
  · show 0 * 1024 + x.val = x.val; omega
  · show 0 * 2816 + j.val = j.val; omega

theorem in19 (x : Fin 2816) (j : Fin 1024) : iblk m c 19 t (ix2 x j)
    = m ((c : Thread nD τ).loc main_arg19) (ix3 0 x j) := by
  rw [← V_v21 m c]
  show V m c main_v21 ((win0_19.rect t).emb (ix2 x j)) = _
  congr 1
  funext a
  apply Fin.ext
  rw [Pipeline.Window.rect_emb_val win0_19 t (ix2 x j) a rfl, index19]
  fin_cases a
  · show 0 * 2816 + x.val = x.val; omega
  · show 0 * 1024 + j.val = j.val; omega

theorem in20 (j : Fin 1024) : iblk m c 20 t (ix2 0 j)
    = m ((c : Thread nD τ).loc main_arg20) (ix1 j) := by
  rw [← V_v22 m c]
  show V m c main_v22 ((win0_20.rect t).emb (ix2 0 j)) = _
  congr 1
  funext a
  apply Fin.ext
  rw [Pipeline.Window.rect_emb_val win0_20 t (ix2 0 j) a rfl, index20]
  fin_cases a
  · show 0 * 1 + 0 = 0; omega
  · show 0 * 1024 + j.val = j.val; omega

/-- A token's rows, in the arguments. -/
def arg (b : Fin 4) (p : Fin 4096) : Token :=
  token (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))
    (m ((c : Thread nD τ).loc main_arg11)) (m ((c : Thread nD τ).loc main_arg12))
    (m ((c : Thread nD τ).loc main_arg13)) (m ((c : Thread nD τ).loc main_arg14))
    (m ((c : Thread nD τ).loc main_arg15)) (m ((c : Thread nD τ).loc main_arg16))
    (m ((c : Thread nD τ).loc main_arg17)) (m ((c : Thread nD τ).loc main_arg18))
    (m ((c : Thread nD τ).loc main_arg19)) (m ((c : Thread nD τ).loc main_arg20)) b p

/-- A tile's tokens are the arguments'. -/
theorem tile_eq (q : Fin 256) (b : Fin 4) (hb : b.val = t.val / 16) (p : Fin 4096) (hp : p.val = 256 * (t.val % 16) + q) :
    tile (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (iblk m c 15 t) (iblk m c 16 t) (iblk m c 17 t) (iblk m c 18 t) (iblk m c 19 t) (iblk m c 20 t) q = arg m c b p := by
  unfold arg tile token
  simp only [in0 m c t q _ b hb p hp, in1 m c t q _ b hb p hp, in2 m c t q _ b hb p hp, in3 m c t q _ b hb p hp,
    in4 m c t q _ b hb p hp, in5 m c t q _ b hb p hp, in6 m c t q _ b hb p hp, in7 m c t q _ b hb p hp,
    in8 m c t _ _ b hb, in9, in10, in11, in12, in13, in14, in15, in16, in17, in18, in19, in20]

/-- The result: the layer's row of every latent token. -/
theorem result (h : ∀ b p, (arg m c b p).Real) (b : Fin 4) (p : Fin 4096) (j : Fin 1024) :
    (dats m 0 c).arrAt 21 cfg0.N (ix3 b p j) = (arg m c b p).out j := by
  have hp := p.isLt
  have hb := b.isLt
  have hN : cfg0.N = 64 := N_0
  obtain ⟨t, ht⟩ : ∃ t : Fin cfg0.N, t.val = 16 * b.val + p.val / 256 := ⟨⟨_, by rw [hN]; omega⟩, rfl⟩
  obtain ⟨q, hq⟩ : ∃ q : Fin 256, q.val = p.val % 256 := ⟨⟨_, Nat.mod_lt _ (by decide)⟩, rfl⟩
  have et := tile_eq m c t q b (by omega) p (by omega)
  have e := congrFun (Value.blocks21 m c t (index21 t).2) (ix3 0 q j)
  rw [Value.flushed21] at e
  have hi : (win0_21.rect t).emb (ix3 0 q j) = ix3 b p j := by
    funext a
    apply Fin.ext
    rw [Pipeline.Window.rect_emb_val win0_21 t (ix3 0 q j) a rfl, (index21 t).1]
    fin_cases a
    · show t.val / 16 * 1 + 0 = b.val; omega
    · show t.val % 16 * 256 + q.val = p.val; omega
    · show 0 * 1024 + j.val = j.val; omega
  have e' : (dats m 0 c).arrAt 21 cfg0.N ((win0_21.rect t).emb (ix3 0 q j))
      = out0_21 (F := Ideal) (iblk m c 0 t) (iblk m c 1 t) (iblk m c 2 t) (iblk m c 3 t) (iblk m c 4 t) (iblk m c 5 t) (iblk m c 6 t)
          (iblk m c 7 t) (iblk m c 8 t) (iblk m c 9 t) (iblk m c 10 t) (iblk m c 11 t) (iblk m c 12 t) (iblk m c 13 t)
          (iblk m c 14 t) (iblk m c 15 t) (iblk m c 16 t) (iblk m c 17 t) (iblk m c 18 t) (iblk m c 19 t)
          (iblk m c 20 t) (ix3 0 q j) := e
  rw [hi] at e'
  rw [e', block_apply _ _ _ _ _ _ _ _ _ _ _ _ _ _ _ _ _ _ _ _ _ q (by rw [et]; exact h b p), et]

end Cert.Kernel3Ideal.Mix

end
-- ==== Proof.Mix.Pre.lean ====
/- What the precondition says of a token: the numbers that are summed over a head are finite. -/
module

public import proofs.«01_k».proof.Proof.Gen.Pre_heads_finite
public import proofs.«01_k».proof.Proof.Mix.Block

@[expose] public section

noncomputable section

namespace Cert.Mix

open Cert.Pre_heads_finite Idealize.ShloMosaic

/-- The f32 pattern of infinity. -/
theorem bits_inf : Ideal.ofBits .f32 2139095040#32 = ⊤ := by
  simp [Ideal.ofBits, Ideal.ieee]

/-- A number whose absolute value is below infinity is real. -/
theorem fin_of_abs {x : EReal} (h : max x (-x) < Ideal.ofBits .f32 2139095040#32) : IsFin x := by
  rw [bits_inf] at h
  induction x using EReal.rec with
  | bot => exact absurd h (by simp)
  | top => exact absurd h (by simp)
  | coe r => exact ⟨r, rfl⟩

theorem and_one {x y : BitVec 1} (h : IntOp.andi x y = 1#1) : x = 1#1 ∧ y = 1#1 := by
  revert x y
  decide

theorem fin_of_test {x : EReal}
    (h : BitVec.ofBool (decide (max x (-x) < Ideal.ofBits .f32 2139095040#32)) = 1#1) : IsFin x := by
  by_cases hx : max x (-x) < Ideal.ofBits .f32 2139095040#32
  · exact fin_of_abs hx
  · rw [decide_eq_false hx] at h
    exact absurd h (by decide)

/-- What the precondition says of a token. -/
theorem real_of_pre (a0 a1 : FVec Ideal S4x4352x1024 .bf16) (a2 : FVec Ideal S4x4352x3456 .bf16)
    (a3 a4 : FVec Ideal S4x4352x1024 .f32) (a5 : FVec Ideal S4x4352x1024 .bf16) (a6 : FVec Ideal S4x4352x2048 .bf16)
    (a7 : FVec Ideal S4x4352x1024 .f32) (a8 : FVec Ideal S4x2x9x1024 .f32) (a9 : FVec Ideal S1x16x64 .f32)
    (a10 a11 : FVec Ideal S1x1024 .f32) (a12 : FVec Ideal S1x128x1024 .f32)
    (a13 a14 a15 : FVec Ideal S1x1024x1024 .f32) (a16 : FVec Ideal S1x1024 .f32)
    (a17 a18 : FVec Ideal S1x1024x2816 .f32) (a19 : FVec Ideal S1x2816x1024 .f32) (a20 : FVec Ideal S1024 .f32)
    (h : Cert.Pre_heads_finite.fn (F := Ideal) a0 a1 a2 a3 a4 a5 a6 a7 a8 a9 a10 a11 a12 a13 a14 a15 a16 a17 a18 a19 a20
      = fun _ => 1#1) (b : Fin 4) (p : Fin 4096) :
    (token a0 a1 a2 a3 a4 a5 a6 a7 a8 a9 a10 a11 a12 a13 a14 a15 a16 a17 a18 a19 a20 b p).Real := by
  have e : ∀ j : Fin 1024, IsFin (a0 (ix3 b (pos p) j)) ∧ IsFin (a1 (ix3 b (pos p) j))
      ∧ IsFin (a2 (ix3 b (pos p) ⟨j.val, by omega⟩)) ∧ IsFin (a2 (ix3 b (pos p) ⟨1024 + j.val, by omega⟩))
      ∧ IsFin (a9 (ix3 0 ⟨j.val / 64, by omega⟩ ⟨j.val % 64, by omega⟩)) := fun j => by
    have hj : Cert.Pre_heads_finite.fn (F := Ideal) a0 a1 a2 a3 a4 a5 a6 a7 a8 a9 a10 a11 a12 a13 a14 a15 a16 a17 a18 a19 a20 (ix3 b p j) = 1#1 := congrFun h _
    have hf : Cert.Pre_heads_finite.fn (F := Ideal) a0 a1 a2 a3 a4 a5 a6 a7 a8 a9 a10 a11 a12 a13 a14 a15 a16 a17 a18 a19 a20 (ix3 b p j)
        = IntOp.andi (IntOp.andi (IntOp.andi (IntOp.andi
            (BitVec.ofBool (decide (FloatOps.absf (F := Ideal) (φ := .f32) (a0 (ix3 b (pos p) j)) < Ideal.ofBits .f32 2139095040#32)))
            (BitVec.ofBool (decide (FloatOps.absf (F := Ideal) (φ := .f32) (a1 (ix3 b (pos p) j)) < Ideal.ofBits .f32 2139095040#32))))
            (BitVec.ofBool (decide (FloatOps.absf (F := Ideal) (φ := .f32) (a2 (ix3 b (pos p) ⟨j.val, by omega⟩))
              < Ideal.ofBits .f32 2139095040#32))))
            (BitVec.ofBool (decide (FloatOps.absf (F := Ideal) (φ := .f32) (a2 (ix3 b (pos p) ⟨1024 + j.val, by omega⟩))
              < Ideal.ofBits .f32 2139095040#32))))
            (BitVec.ofBool (decide (FloatOps.absf (F := Ideal) (φ := .f32) (a9 (ix3 0 ⟨j.val / 64, by omega⟩ ⟨j.val % 64, by omega⟩))
              < Ideal.ofBits .f32 2139095040#32))) := by
      pointwise [Cert.Pre_heads_finite.fn, Cert.Pre_heads_finite.fn_part1]
      rfl
    rw [hf] at hj
    obtain ⟨h4, hu⟩ := and_one hj
    obtain ⟨h3, hk⟩ := and_one h4
    obtain ⟨h2, hr⟩ := and_one h3
    obtain ⟨h0, h1⟩ := and_one h2
    exact ⟨fin_of_test h0, fin_of_test h1, fin_of_test hr, fin_of_test hk, fin_of_test hu⟩
  exact ⟨fun j => (e j).1.add (e j).2.1, fun j => ((e j).2.2.1.mul (e j).2.2.2.1).mul (e j).2.2.2.2⟩

end Cert.Mix

end
-- ==== Proof.Mix.Ref.lean ====
/- The reference of the last call at an index, piece by piece: every token's row is the layer's. -/
module

public import proofs.«01_k».proof.Proof.Gen.Reference3Ideal.Run
public import proofs.«01_k».proof.Proof.Mix.Heads
public import Idealize.ShloMosaic.Lib.Pointwise

@[expose] public section

set_option maxRecDepth 16384

noncomputable section

namespace Cert.Reference3Ideal.Mix

open Cert.Mix Cert.Ffn Cert.Reference3Ideal Cert.Reference3Ideal.Gen Idealize.ShloMosaic Idealize.ShloMosaic.TcCoe Idealize.SL.Sem

variable (V0 : Valuation τ sig (Elt Ideal)) (b : Fin 4) (p : Fin 4096)

/-- A token's rows, from what the buffers hold. -/
def rows : Token := token (V0 (Proc.devRef .tc main_arg0)) (V0 (Proc.devRef .tc main_arg1)) (V0 (Proc.devRef .tc main_arg2))
  (V0 (Proc.devRef .tc main_arg3)) (V0 (Proc.devRef .tc main_arg4)) (V0 (Proc.devRef .tc main_arg5))
  (V0 (Proc.devRef .tc main_arg6)) (V0 (Proc.devRef .tc main_arg7)) (V0 (Proc.devRef .tc main_arg8))
  (V0 (Proc.devRef .tc main_arg9)) (V0 (Proc.devRef .tc main_arg10)) (V0 (Proc.devRef .tc main_arg11))
  (V0 (Proc.devRef .tc main_arg12)) (V0 (Proc.devRef .tc main_arg13)) (V0 (Proc.devRef .tc main_arg14))
  (V0 (Proc.devRef .tc main_arg15)) (V0 (Proc.devRef .tc main_arg16)) (V0 (Proc.devRef .tc main_arg17))
  (V0 (Proc.devRef .tc main_arg18)) (V0 (Proc.devRef .tc main_arg19)) (V0 (Proc.devRef .tc main_arg20)) b p

/-- The head of a channel. -/
def head (j : Fin 1024) : Fin 16 := ⟨j.val / 64, by omega⟩

theorem v5_apply (x : Fin 3456) :
    Value.res_main_v5 V0 (ix3 b p x) = V0 (Proc.devRef .tc main_arg2) (ix3 b (pos p) x) := by
  pointwise [Value.res_main_v5]
  rfl

theorem v9_apply (j : Fin 1024) : Value.res_main_v9 V0 (ix3 b p j) = (rows V0 b p).lg j := by
  pointwise [Value.res_main_v9]
  rfl

theorem v11_apply (x : Fin 2048) :
    Value.res_main_v11 V0 (ix3 b p x) = V0 (Proc.devRef .tc main_arg6) (ix3 b (pos p) x) := by
  pointwise [Value.res_main_v11]
  rfl

/-- The scans' readings, at a channel of a head. -/
theorem v37_apply (j : Fin 1024) (l : Fin 64) :
    Value.res_main_v37 V0 (ix4 b p (head j) l) = (rows V0 b p).y (lane j l) := by
  pointwise [Value.res_main_v37]
  rfl

theorem v41_apply (j : Fin 1024) :
    Value.res_main_v41 V0 (ix4 b p (head j) 0) = headMean (rows V0 b p).y j := by
  pointwise [Value.res_main_v41]
  simp only [v37_apply]
  rfl

theorem headMean_lane (u : Fin 1024 → EReal) (j : Fin 1024) (l : Fin 64) : headMean u (lane j l) = headMean u j := by
  unfold headMean headSum
  simp only [lane_lane]

theorem v43_apply (j : Fin 1024) (l : Fin 64) :
    Value.res_main_v43 V0 (ix4 b p (head j) l) = centred (rows V0 b p).y (lane j l) := by
  pointwise [Value.res_main_v43]
  rw [v37_apply, v41_apply]
  unfold centred
  rw [headMean_lane]

/-- The bonus's weights, at a channel of a head. -/
theorem weight_apply (j : Fin 1024) (l : Fin 64) :
    V0 (Proc.devRef .tc main_arg9) (ix3 0 (head j) l) = (rows V0 b p).u (lane j l) := by
  show _ = V0 (Proc.devRef .tc main_arg9) (ix3 0 _ _)
  congr 2
  · apply Fin.ext
    show j.val / 64 = (j.val / 64 * 64 + l.val) / 64
    omega
  · apply Fin.ext
    show l.val = (j.val / 64 * 64 + l.val) % 64
    omega

/-- The two branches, merged. -/
theorem v123_apply (j : Fin 1024) :
    Value.res_main_v123 V0 (ix3 b p j)
      = merged (rows V0 b p).rwkv (rows V0 b p).lru (rows V0 b p).g1 (rows V0 b p).g2 (rows V0 b p).w1 (rows V0 b p).w2 j := by
  pointwise [Value.res_main_v123]
  have e : ∀ x : Fin 1024, Value.res_main_v37 V0 (ix4 b p (head x) ⟨x.val % 64, Nat.mod_lt _ (by decide)⟩)
      = (rows V0 b p).y x := fun x => (v37_apply V0 b p x _).trans (congrArg _ (lane_self x))
  have e1 := v41_apply V0 b p
  have e2 := v43_apply V0 b p
  have e3 := weight_apply V0 b p
  unfold head at e e1 e2 e3
  simp only [e, e1, e2, e3, v5_apply, v9_apply, v11_apply]
  rfl

theorem v128_apply (j : Fin 1024) : Value.res_main_v128 V0 (ix3 b p j) = (rows V0 b p).mixed j := by
  pointwise [Value.res_main_v128]
  simp only [v123_apply]
  rfl

theorem v151_apply (j : Fin 1024) :
    Value.res_main_v151 V0 (ix3 b p j)
      = normed (rows V0 b p).mixed (rows V0 b p).g (rows V0 b p).shift (rows V0 b p).scale j := by
  pointwise [Value.res_main_v151]
  simp only [v128_apply]
  rfl

theorem v154_apply (f : Fin 2816) :
    Value.res_main_v154 V0 (ix3 b p f)
      = through (normed (rows V0 b p).mixed (rows V0 b p).g (rows V0 b p).shift (rows V0 b p).scale) (rows V0 b p).wg f := by
  pointwise [Value.res_main_v154]
  simp only [v151_apply]
  rfl

theorem v161_apply (j : Fin 1024) : Value.res_main_v161 V0 (ix3 b p j) = (rows V0 b p).stepped j := by
  pointwise [Value.res_main_v161]
  simp only [v128_apply, v154_apply, v151_apply]
  rfl

/-- The reference's result. -/
def result : FVec Ideal S4x4096x1024 .f32 :=
  mulf (mulf (Value.res_main_v161 V0) (broadcastInDim S4x4096x1024 ![0, 1, 2] bcast_S4x4096x1_S4x4096x1024_0_1_2 (Host.rsqrt
    (addf (Host.divf (broadcastInDim S4x4096x1 ![0, 1] bcast_S4x4096_S4x4096x1_0_1 (Host.reduceAdd
        (mulf (Value.res_main_v161 V0) (Value.res_main_v161 V0)) (constant S_ .f32 0x00000000#32)
        reducesTo_S4x4096x1024_S4x4096_d2 h_S_)) (broadcastInDim S4x4096x1 ![] bcast_S_S4x4096x1 (constant S_ .f32 0x44800000#32)))
      (broadcastInDim S4x4096x1 ![] bcast_S_S4x4096x1 (constant S_ .f32 0x358637BD#32))))))
    (broadcastInDim S4x4096x1024 ![0, 1, 2] bcast_S1x1x1024_S4x4096x1024_0_1_2
      (broadcastInDim S1x1x1024 ![2] bcast_S1024_S1x1x1024_2 (V0 (Proc.devRef .tc main_arg20))))

theorem result_apply (j : Fin 1024) : result V0 (ix3 b p j) = (rows V0 b p).out j := by
  pointwise [result]
  simp only [v161_apply]
  rfl

end Cert.Reference3Ideal.Mix

end
-- ==== Proof.Mix.Algebra.lean ====
/- The claims of the mixer's call: the reference runs and leaves its arguments alone, and where what is summed over the
   heads is finite the kernel's result is the reference's. -/
module

public import proofs.«01_k».proof.Defs
public import proofs.«01_k».proof.Proof.Mix.Kernel
public import proofs.«01_k».proof.Proof.Mix.Pre
public import proofs.«01_k».proof.Proof.Mix.Ref

@[expose] public section

noncomputable section

namespace Cert.Mix

open Idealize.ShloMosaic Idealize.ShloMosaic.TcCoe Idealize.SL.Sem

/-- The reference runs, and leaves its arguments as they were. -/
theorem frame_reference : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- An index of the result, by its coordinates. -/
theorem index_eq (y : (⟨3, ![4, 4096, 1024]⟩ : Shape).Idx) : y = ix3 (y 0) (y 1) (y 2) := by
  funext a
  fin_cases a <;> rfl

/-- The kernel's result is the reference's. -/
theorem algebraic : Cert.algebraic_Kernel3Ideal_Reference3Ideal_pre_heads_finite := by
  intro m ρ m' ρ' hpre hagree
  refine ⟨fun c => (Cert.Kernel3Ideal.Gen.dats m 0 c).arrAt 21 Cert.Kernel3Ideal.cfg0.N,
    Cert.Kernel3Ideal.Value.run_blocks (F := Ideal) m ρ, ?_⟩
  refine (θ_run Cert.Reference3Ideal.defs _ _).mono (fun _ h c => ?_)
    (Cert.Reference3Ideal.Value.run (F := Ideal) m' ρ')
  obtain ⟨g0, g1, g2, g3, g4, g5, g6, g7, g8, g9, g10, g11, g12, g13, g14, g15, g16, g17, g18, g19, g20⟩ := hagree c
  refine ⟨(h c).1.trans ?_, (h c).2⟩
  funext y
  obtain ⟨b, p, j, rfl⟩ : ∃ (b : Fin 4) (p : Fin 4096) (j : Fin 1024), y = ix3 b p j := ⟨y 0, y 1, y 2, index_eq y⟩
  have hr : Cert.Reference3Ideal.Mix.rows (StableHlo.launchContents m' c) b p
      = Cert.Kernel3Ideal.Mix.arg m c b p := by
    unfold Cert.Kernel3Ideal.Mix.arg
    rw [← g0, ← g1, ← g2, ← g3, ← g4, ← g5, ← g6, ← g7, ← g8, ← g9, ← g10, ← g11, ← g12, ← g13, ← g14, ← g15, ← g16,
      ← g17, ← g18, ← g19, ← g20]
    rfl
  refine (Cert.Reference3Ideal.Mix.result_apply (StableHlo.launchContents m' c) b p j).trans ?_
  rw [hr]
  exact (Cert.Kernel3Ideal.Mix.result m c (fun b p => real_of_pre _ _ _ _ _ _ _ _ _ _ _ _ _ _ _ _ _ _ _ _ _ (hpre c) b p)
    b p j).symm

end Cert.Mix

end
-- ==== Proof.Proj.Spec.lean ====
/- The input projection of every token: its normalised and modulated row through the matrix; the first 3456 columns mixed
   with the neighbouring tokens' (before and after in the context, on the four sides in the grid of the latents), and 1024
   of them, weighted, over their root sum of squares in each head. -/
module

public import proofs.«01_k».proof.Proof.Ffn.Spec
public import proofs.«01_k».proof.Proof.Mix.Heads

@[expose] public section

noncomputable section

namespace Cert.Proj

open Cert.Ffn Idealize.ShloMosaic

/- A token's neighbours: tokens 0 … 255 are the context, the others the latents in rows of 64. Off the edge is nought. -/
def up (u : Fin 4352 → EReal) (p : Fin 4352) : EReal := if h : p.val < 320 then 0 else u ⟨p - 64, by omega⟩
def down (u : Fin 4352 → EReal) (p : Fin 4352) : EReal :=
  if h : p.val < 256 ∨ 4288 ≤ p.val then 0 else u ⟨p + 64, by omega⟩
def left (u : Fin 4352 → EReal) (p : Fin 4352) : EReal :=
  if p.val = 0 ∨ 256 ≤ p.val ∧ p.val % 64 = 0 then 0 else u ⟨p - 1, by omega⟩
def right (u : Fin 4352 → EReal) (p : Fin 4352) : EReal :=
  if h : p.val = 255 ∨ 256 ≤ p.val ∧ p.val % 64 = 63 then 0 else u ⟨p + 1, by omega⟩

/-- The weight of the neighbours: a half of two, a quarter of four. -/
def weight (p : Fin 4352) : EReal := if p.val < 256 then Ideal.ofBits .f32 1056964608#32 else Ideal.ofBits .f32 1048576000#32

/-- A number moved by `mu` of the way towards its neighbours' mean. -/
def lerp (w u d l r x mu : EReal) : EReal := x + (w * (u + d + l + r) - x) * mu

/-- A column mixed with the neighbours'. -/
def mixed (u : Fin 4352 → EReal) (mu : EReal) (p : Fin 4352) : EReal :=
  lerp (weight p) (up u p) (down u p) (left u p) (right u p) (u p) mu

/-- A row over its root sum of squares in each head. -/
def unit (k : Fin 1024 → EReal) (j : Fin 1024) : EReal :=
  Ideal.div (k j) (max (Ideal.sqrt (Mix.headSum (fun x => k x * k x) j)) (Ideal.ofBits .f32 730643660#32))

/-- The call's arguments. -/
structure Args where
  a0 : (⟨3, ![4, 4352, 1024]⟩ : Shape).Idx → EReal
  a1 : (⟨4, ![4, 2, 9, 1024]⟩ : Shape).Idx → EReal
  a2 : (⟨2, ![1, 1024]⟩ : Shape).Idx → EReal
  a3 : (⟨3, ![1, 1024, 7552]⟩ : Shape).Idx → EReal
  a4 : (⟨2, ![1, 3456]⟩ : Shape).Idx → EReal
  a5 : (⟨2, ![1, 1024]⟩ : Shape).Idx → EReal

namespace Args

variable (A : Args) (b : Fin 4) (p : Fin 4352)

/-- The modulated row. -/
def row : Fin 1024 → EReal :=
  normed (fun j => A.a0 (ix3 b p j)) (fun j => A.a2 (ix2 0 j)) (fun j => A.a1 (ix4 b (part p) 3 j))
    (fun j => A.a1 (ix4 b (part p) 4 j))

/-- The row through the matrix. -/
def proj (f : Fin 7552) : EReal := through (A.row b p) (fun k f => A.a3 (ix3 0 k f)) f

/-- Its mixed columns. -/
def z (f : Fin 3456) : EReal := mixed (fun p => A.proj b p ⟨f, by omega⟩) (A.a4 (ix2 0 f)) p

/-- The weighted columns that are normalised by heads. -/
def key (j : Fin 1024) : EReal := A.z b p ⟨j + 1024, by omega⟩ * A.a5 (ix2 0 j)

/-- All arguments are finite. -/
def Finite : Prop := (∀ i, Mix.IsFin (A.a0 i)) ∧ (∀ i, Mix.IsFin (A.a1 i)) ∧ (∀ i, Mix.IsFin (A.a2 i)) ∧
  (∀ i, Mix.IsFin (A.a3 i)) ∧ (∀ i, Mix.IsFin (A.a4 i)) ∧ ∀ i, Mix.IsFin (A.a5 i)

end Args

end Cert.Proj

end
-- ==== Proof.Proj.Tile.lean ====
/- One tile of 256 tokens and the 64 after it: what the kernel's body computes of the blocks that it reads, at an index. -/
module

public import proofs.«01_k».proof.Proof.Gen.Kernel4Ideal.Skeleton
public import proofs.«01_k».proof.Proof.Mix.Words
public import proofs.«01_k».proof.Proof.Proj.Spec
public import Idealize.ShloMosaic.Lib.Pointwise

@[expose] public section

set_option maxRecDepth 16384

noncomputable section

namespace Cert.Proj

open Cert.Ffn Cert.Kernel4Ideal Cert.Kernel4Ideal.Gen Idealize.ShloMosaic

/- The kernel's words for tile `T` of a sample, and its row numbers. -/
abbrev tileNo (T : Fin 17) : BitVec 32 := BitVec.ofNat 32 T.val
abbrev isCtx (T : Fin 17) : BitVec 1 := Scalar.cmpi .eq (tileNo T) 0#32
abbrev rowNo : IVec S256x1 32 := iota .tc S256x1 32 [0] iota_S256x1_d0_w32

/- Where a row has no neighbour. -/
def noLeft (T : Fin 17) (q : Fin 256) : Prop := if T.val = 0 then q.val = 0 else q.val % 64 = 0
def noRight (T : Fin 17) (q : Fin 256) : Prop := if T.val = 0 then q.val = 255 else q.val % 64 = 63
def noUp (T : Fin 17) (q : Fin 256) : Prop := T.val = 0 ∨ q.val < 64 ∧ T.val ≤ 1
def noDown (T : Fin 17) (q : Fin 256) : Prop := T.val = 0 ∨ 192 ≤ q.val ∧ T.val = 16
instance (T : Fin 17) (q : Fin 256) : Decidable (noLeft T q) := inferInstanceAs (Decidable (ite _ _ _))
instance (T : Fin 17) (q : Fin 256) : Decidable (noRight T q) := inferInstanceAs (Decidable (ite _ _ _))
instance (T : Fin 17) (q : Fin 256) : Decidable (noUp T q) := inferInstanceAs (Decidable (_ ∨ _))
instance (T : Fin 17) (q : Fin 256) : Decidable (noDown T q) := inferInstanceAs (Decidable (_ ∨ _))

/-- The row number within its row of neighbours. -/
def colWord (c : BitVec 1) (q : ℕ) : BitVec 32 :=
  Scalar.select (IntOp.cmpi CmpIPredicate.sge (BitVec.ofNat 32 q) (Scalar.select c 256#32 64#32))
        (Scalar.select
          (IntOp.andi
            (IntOp.xori
              (IntOp.cmpi CmpIPredicate.slt
                (IntOp.remsi ArithUnit.vector (BitVec.ofNat 32 q)
                  (Scalar.select (Scalar.cmpi CmpIPredicate.eq 64#32 0#32) 1#32 64#32))
                0#32)
              (Scalar.cmpi CmpIPredicate.slt (Scalar.select (Scalar.cmpi CmpIPredicate.eq 64#32 0#32) 1#32 64#32) 0#32))
            (IntOp.cmpi CmpIPredicate.ne
              (IntOp.remsi ArithUnit.vector (BitVec.ofNat 32 q)
                (Scalar.select (Scalar.cmpi CmpIPredicate.eq 64#32 0#32) 1#32 64#32))
              0#32))
          (IntOp.addi
            (IntOp.remsi ArithUnit.vector (BitVec.ofNat 32 q)
              (Scalar.select (Scalar.cmpi CmpIPredicate.eq 64#32 0#32) 1#32 64#32))
            (Scalar.select (Scalar.cmpi CmpIPredicate.eq 64#32 0#32) 1#32 64#32))
          (IntOp.remsi ArithUnit.vector (BitVec.ofNat 32 q)
            (Scalar.select (Scalar.cmpi CmpIPredicate.eq 64#32 0#32) 1#32 64#32)))
        (BitVec.ofNat 32 q)

theorem ctx_eq : ∀ T : Fin 17, isCtx T = if T.val = 0 then 1#1 else 0#1 := by decide
theorem colWord_one : ∀ q < 256, colWord 1#1 q = BitVec.ofNat 32 q := by decide +kernel
theorem colWord_zero : ∀ q < 256, colWord 0#1 q = BitVec.ofNat 32 (q % 64) := by decide +kernel
theorem eq_words : ∀ a < 256, ∀ b < 256, IntOp.cmpi CmpIPredicate.eq (BitVec.ofNat 32 a) (BitVec.ofNat 32 b) = 1#1 ↔ a = b := by
  decide +kernel

theorem left_word (T : Fin 17) (q : Fin 256) : k0_pay5 (isCtx T) rowNo 256#32 (ix2 q 0) = 1#1 ↔ noLeft T q := by
  pointwise [k0_pay5, k0_pay4]
  change IntOp.cmpi CmpIPredicate.eq (colWord (isCtx T) q.val) (BitVec.ofNat 32 0) = 1#1 ↔ _
  rw [ctx_eq]
  unfold noLeft
  split
  · rw [colWord_one _ q.isLt, eq_words _ q.isLt _ (by omega)]
  · rw [colWord_zero _ q.isLt, eq_words _ (by omega) _ (by omega)]

theorem right_word (T : Fin 17) (q : Fin 256) : k0_pay6 (isCtx T) rowNo 256#32 (ix2 q 0) = 1#1 ↔ noRight T q := by
  pointwise [k0_pay6, k0_pay4]
  change IntOp.cmpi CmpIPredicate.eq (colWord (isCtx T) q.val) (Scalar.subi (Scalar.select (isCtx T) 256#32 64#32) 1#32) = 1#1 ↔ _
  rw [ctx_eq]
  unfold noRight
  split
  · rw [colWord_one _ q.isLt]
    exact eq_words _ q.isLt 255 (by omega)
  · rw [colWord_zero _ q.isLt]
    exact eq_words _ (by omega) 63 (by omega)

theorem up_word (T : Fin 17) (q : Fin 256) : k0_pay7 (tileNo T) (isCtx T) rowNo (ix2 q 0) = 1#1 ↔ noUp T q := by
  pointwise [k0_pay7]
  revert T q
  decide +kernel

theorem down_word (T : Fin 17) (q : Fin 256) : k0_pay8 (tileNo T) (isCtx T) rowNo (ix2 q 0) = 1#1 ↔ noDown T q := by
  pointwise [k0_pay8]
  revert T q
  decide +kernel

/-- The tile's weight of the neighbours. -/
def tileWeight (T : Fin 17) : EReal :=
  if T.val = 0 then Ideal.ofBits .f32 1056964608#32 else Ideal.ofBits .f32 1048576000#32

theorem weight_word (T : Fin 17) : k0_pay9 (F := Ideal) (isCtx T) = tileWeight T := by
  show Scalar.select (isCtx T) (Ideal.ofBits FTy.f32 1056964608#32) (Ideal.ofBits FTy.f32 1048576000#32) = _
  rw [ctx_eq]
  unfold tileWeight Scalar.select
  by_cases h : T.val = 0 <;> simp [h]

/-- A column of the tile (and of the 64 rows after it) mixed with the neighbours', the 64 rows before the tile given. -/
def tileMixed (T : Fin 17) (u : Fin 320 → EReal) (above : Fin 64 → EReal) (mu : EReal) (q : Fin 256) : EReal :=
  lerp (tileWeight T)
    (if noUp T q then 0 else if h : q.val < 64 then above ⟨q, h⟩ else u ⟨q - 64, by omega⟩)
    (if noDown T q then 0 else u ⟨64 + q, by omega⟩)
    (if noLeft T q then 0 else u ⟨(q + 256 - 1) % 256, by omega⟩)
    (if noRight T q then 0 else u ⟨(q + 256 - 255) % 256, by omega⟩) (u ⟨q, by omega⟩) mu

theorem select_iff {c : BitVec 1} {P : Prop} [Decidable P] (h : c = 1#1 ↔ P) (x y : EReal) :
    Scalar.select c x y = if P then x else y := by
  unfold Scalar.select
  by_cases hp : P
  · rw [if_pos hp]; exact if_pos (h.2 hp)
  · rw [if_neg hp]; exact if_neg fun e => hp (h.1 e)

/-- The modulated rows. -/
theorem pay2_apply (v5 : FVec Ideal S1x1x9x1024 .f32) (v7 : FVec Ideal S1x256x1024 .f32) (v9 : FVec Ideal S1x64x1024 .f32)
    (v12 : FVec Ideal S1x1024 .f32) (r : Fin 320) (j : Fin 1024) :
    k0_pay2 (F := Ideal) v5 v7 v9 v12 (ix2 r j)
      = normed (fun j => if h : r.val < 256 then v7 (ix3 0 ⟨r, h⟩ j) else v9 (ix3 0 ⟨r - 256, by omega⟩ j))
          (fun j => v12 (ix2 0 j)) (fun j => v5 (ix4 0 0 3 j)) (fun j => v5 (ix4 0 0 4 j)) j := by
  pointwise [k0_pay2]
  rfl

theorem pay3_apply (v5 : FVec Ideal S1x1x9x1024 .f32) (v7 : FVec Ideal S1x256x1024 .f32) (v9 : FVec Ideal S1x64x1024 .f32)
    (v12 : FVec Ideal S1x1024 .f32) (q : Fin 256) (j : Fin 1024) :
    k0_pay3 (F := Ideal) v5 v7 v9 v12 (ix2 q j) = k0_pay2 (F := Ideal) v5 v7 v9 v12 (ix2 ⟨q, by omega⟩ j) := by
  pointwise [k0_pay3]

variable (T : Fin 17) (v34 : FVec Ideal S320x1024 .bf16) (q : Fin 256)

/- The three pieces of the mixed columns. -/
theorem mixA_apply (v77 : FVec Ideal S1024x1280 .bf16) (v91 : FVec Ideal S64x1280 .f32) (v113 : FVec Ideal S1x1280 .f32)
    (f : Fin 1280) :
    k0_pay14 (F := Ideal) v34 (k0_pay5 (isCtx T) rowNo 256#32) (k0_pay6 (isCtx T) rowNo 256#32)
        (k0_pay7 (tileNo T) (isCtx T) rowNo) (k0_pay8 (tileNo T) (isCtx T) rowNo) (k0_pay9 (isCtx T)) (k0_pay10 v77)
        (constant S320x1280 .f32 0x00000000#32) v91 v113 (ix2 q f)
      = tileMixed T (fun r => ∑ x, v34 (ix2 r x) * v77 (ix2 x f)) (fun r => v91 (ix2 r f)) (v113 (ix2 0 f)) q := by
  pointwise [k0_pay14, k0_pay12, k0_pay11, k0_pay10]
  rw [select_iff (up_word T q), select_iff (down_word T q), select_iff (left_word T q), select_iff (right_word T q),
    weight_word]
  rfl

theorem mixB_apply (v132 : FVec Ideal S1024x1280 .bf16) (v146 : FVec Ideal S64x1280 .f32) (v168 : FVec Ideal S1x1280 .f32)
    (f : Fin 1280) :
    k0_pay26 (F := Ideal) (k0_pay9 (isCtx T)) (k0_pay19 v34 v132) (k0_pay20 v34 (k0_pay5 (isCtx T) rowNo 256#32) v132)
        (k0_pay21 v34 (k0_pay6 (isCtx T) rowNo 256#32) v132) (k0_pay22 v34 (k0_pay7 (tileNo T) (isCtx T) rowNo) v132 v146)
        (k0_pay23 v34 (k0_pay8 (tileNo T) (isCtx T) rowNo) v132) v168 (ix2 q f)
      = tileMixed T (fun r => ∑ x, v34 (ix2 r x) * v132 (ix2 x f)) (fun r => v146 (ix2 r f)) (v168 (ix2 0 f)) q := by
  pointwise [k0_pay26, k0_pay19, k0_pay20, k0_pay21, k0_pay22, k0_pay23, k0_pay18]
  rw [select_iff (up_word T q), select_iff (down_word T q), select_iff (left_word T q), select_iff (right_word T q),
    weight_word]
  rfl

theorem mixC_apply (v188 : FVec Ideal S1024x896 .bf16) (v202 : FVec Ideal S64x896 .f32) (v224 : FVec Ideal S1x896 .f32)
    (f : Fin 896) :
    k0_pay34 (F := Ideal) (k0_pay6 (isCtx T) rowNo 256#32) (k0_pay7 (tileNo T) (isCtx T) rowNo)
        (k0_pay8 (tileNo T) (isCtx T) rowNo) (k0_pay9 (isCtx T)) (k0_pay30 v34 v188) (k0_pay31 v34 v188)
        (k0_pay32 v34 (k0_pay5 (isCtx T) rowNo 256#32) v188) v202 v224 (ix3 0 q f)
      = tileMixed T (fun r => ∑ x, v34 (ix2 r x) * v188 (ix2 x f)) (fun r => v202 (ix2 r f)) (v224 (ix2 0 f)) q := by
  pointwise [k0_pay34, k0_pay32, k0_pay31, k0_pay30]
  rw [select_iff (up_word T q), select_iff (down_word T q), select_iff (left_word T q), select_iff (right_word T q),
    weight_word]
  rfl

/- The pieces as they are stored. -/
theorem storeA_apply (v58 v61 v68 v75 : IVec S256x1 1) (v76 : Ideal .f32) (v78 : FVec Ideal S1024x1280 .bf16)
    (z : FVec Ideal S320x1280 .f32) (v91 : FVec Ideal S64x1280 .f32) (v113 : FVec Ideal S1x1280 .f32) (f : Fin 1280) :
    k0_pay15 (F := Ideal) v34 v58 v61 v68 v75 v76 v78 z v91 v113 (ix3 0 q f)
      = k0_pay14 (F := Ideal) v34 v58 v61 v68 v75 v76 v78 z v91 v113 (ix2 q f) := by
  pointwise [k0_pay15]
theorem keyA_apply (v117 : FVec Ideal S256x1280 .f32) (f : Fin 256) :
    k0_pay16 (F := Ideal) v117 (ix2 q f) = v117 (ix2 q ⟨1024 + f, by omega⟩) := by
  pointwise [k0_pay16]
theorem storeB_apply (v76 : Ideal .f32) (a b c d e : FVec Ideal S256x1280 .f32) (v168 : FVec Ideal S1x1280 .f32)
    (f : Fin 1280) :
    k0_pay27 (F := Ideal) v76 a b c d e v168 (ix3 0 q f) = k0_pay26 (F := Ideal) v76 a b c d e v168 (ix2 q f) := by
  pointwise [k0_pay27]
theorem keyB_apply (v76 : Ideal .f32) (a b c d e : FVec Ideal S256x1280 .f32) (v168 : FVec Ideal S1x1280 .f32)
    (f : Fin 768) :
    k0_pay28 (F := Ideal) v76 a b c d e v168 (ix2 q f) = k0_pay26 (F := Ideal) v76 a b c d e v168 (ix2 q ⟨f, by omega⟩) := by
  pointwise [k0_pay28]

/- The last 64 rows of the tile, kept for the next one. -/
theorem keepA_apply (v77 : FVec Ideal S1024x1280 .bf16) (r : Fin 64) (f : Fin 1280) :
    k0_pay13 (F := Ideal) v34 (k0_pay10 v77) (constant S320x1280 .f32 0x00000000#32) (ix2 r f)
      = ∑ x, v34 (ix2 ⟨192 + r, by omega⟩ x) * v77 (ix2 x f) := by
  pointwise [k0_pay13, k0_pay12, k0_pay11, k0_pay10]
theorem keepB_apply (v132 : FVec Ideal S1024x1280 .bf16) (r : Fin 64) (f : Fin 1280) :
    k0_pay25 (F := Ideal) (k0_pay24 v34 v132) (ix2 r f) = ∑ x, v34 (ix2 ⟨192 + r, by omega⟩ x) * v132 (ix2 x f) := by
  pointwise [k0_pay25, k0_pay24, k0_pay19, k0_pay18]
theorem keepC_apply (v188 : FVec Ideal S1024x896 .bf16) (r : Fin 64) (f : Fin 896) :
    k0_pay33 (F := Ideal) (k0_pay31 v34 v188) (ix2 r f) = ∑ x, v34 (ix2 ⟨192 + r, by omega⟩ x) * v188 (ix2 x f) := by
  pointwise [k0_pay33, k0_pay31, k0_pay30]

/- The columns that are only projected. -/
theorem plainA_apply (v35 : FVec Ideal S256x1024 .bf16) (w : FVec Ideal S1024x1024 .bf16) (f : Fin 1024) :
    k0_pay17 (F := Ideal) v35 w (ix3 0 q f) = ∑ x, v35 (ix2 q x) * w (ix2 x f) := by
  pointwise [k0_pay17]
theorem plainB_apply (v35 : FVec Ideal S256x1024 .bf16) (w : FVec Ideal S1024x1024 .bf16) (f : Fin 1024) :
    k0_pay29 (F := Ideal) v35 w (ix3 0 q f) = ∑ x, v35 (ix2 q x) * w (ix2 x f) := by
  pointwise [k0_pay29]
theorem plainC_apply (v35 : FVec Ideal S256x1024 .bf16) (w : FVec Ideal S1024x2048 .bf16) (f : Fin 2048) :
    k0_pay36 (F := Ideal) (k0_pay35 v35 w) (ix3 0 q f) = ∑ x, v35 (ix2 q x) * w (ix2 x f) := by
  pointwise [k0_pay36, k0_pay35]

/- The root of a sum of squares, at least a little. -/
theorem bits_eps : ∃ r : ℝ, Ideal.ofBits .f32 730643660#32 = (r : EReal) := by
  simp [Ideal.ofBits, Ideal.ieee, -EReal.coe_mul]
theorem root_fin {x : EReal} (h : Mix.IsFin x) : Mix.IsFin (max (Ideal.sqrt x) (Ideal.ofBits .f32 730643660#32)) := by
  obtain ⟨r, rfl⟩ := h
  obtain ⟨e, he⟩ := bits_eps
  rw [he]
  show Mix.IsFin (max (if r < 0 then ⊥ else (Real.sqrt r : EReal)) _)
  split
  · exact ⟨e, max_eq_right bot_le⟩
  · exact ⟨max (Real.sqrt r) e, (EReal.coe_strictMono.monotone.map_max).symm⟩

/- The matrices that sum over heads and send the sums back. -/
theorem e_apply (k : Fin 1024) (c : Fin 128) :
    k0_pay39 (F := Ideal) k0_pay37 (iota .tc S1024x128 32 [1] iota_S1024x128_d1_w32) k0_pay38 (ix2 k c) = Mix.pick k c := by
  pointwise [k0_pay39, k0_pay37, k0_pay38]
  rw [Mix.lane_test _ c.isLt]
  refine Eq.trans ?_ (Mix.word_pick k c)
  congr 3
  refine Eq.trans (congrArg₂ (IntOp.cmpi CmpIPredicate.eq) (Mix.headWord_eq k.val k.isLt) (Mix.copyWord_eq c.val c.isLt)) ?_
  exact Mix.head_test _ (by omega) _ (by omega)

theorem et_apply (c : Fin 128) (j : Fin 1024) :
    ((FloatOps.sitofp FTy.f32 (BitVec.setWidth 32 (IntOp.andi (IntOp.cmpi CmpIPredicate.eq (k0_pay40 (ix2 c j))
        (Scalar.select (k0_pay42 (ix2 c j)) (IntOp.addi (k0_pay41 (ix2 c j)) 16#32) (k0_pay41 (ix2 c j))))
      (IntOp.cmpi CmpIPredicate.slt (BitVec.ofNat 32 c.val) 48#32))) : Ideal .f32) : EReal) = Mix.pick j c := by
  pointwise [k0_pay40, k0_pay41, k0_pay42]
  rw [Mix.lane_test _ c.isLt]
  refine Eq.trans ?_ (Mix.word_pick j c)
  congr 3
  refine Eq.trans (congrArg₂ (IntOp.cmpi CmpIPredicate.eq) (Mix.headWord_eq j.val j.isLt) (Mix.copyWord_eq c.val c.isLt)) ?_
  exact Mix.head_test _ (by omega) _ (by omega)

/-- The normalised columns. -/
theorem unit_apply (v338 : FVec Ideal S256x1024 .f32) (v339 : FVec Ideal S1x1024 .f32) (j : Fin 1024) {k : Fin 1024 → EReal}
    (hk : ∀ x, v338 (ix2 q x) * v339 (ix2 0 x) = k x) (h : ∀ x, Mix.IsFin (k x)) :
    k0_pay43 (F := Ideal) (k0_pay39 k0_pay37 (iota .tc S1024x128 32 [1] iota_S1024x128_d1_w32) k0_pay38)
        (iota .tc S128x1024 32 [0] iota_S128x1024_d0_w32) k0_pay40 16#32 k0_pay41 k0_pay42 v338 v339 (ix3 0 q j)
      = unit k j := by
  have hs : ∀ x, Mix.IsFin (k x * k x) := fun x => (h x).mul (h x)
  have he := e_apply
  generalize k0_pay39 (F := Ideal) k0_pay37 (iota .tc S1024x128 32 [1] iota_S1024x128_d1_w32) k0_pay38 = em at he ⊢
  pointwise [k0_pay43]
  simp only [he, et_apply, hk]
  unfold unit
  rw [← Mix.reduce_eq hs, ← Mix.expand_eq (s := fun c => max (Ideal.sqrt (Mix.reduce (fun x => k x * k x) c)) _)
    fun c => root_fin (Mix.reduce_fin hs c)]
  refine congrArg (Ideal.div _) (Finset.sum_congr rfl fun c _ => ?_)
  rw [← Mix.select_parts]
  rfl

end Cert.Proj

end
-- ==== Proof.Proj.Pieces.lean ====
/- What the kernel's body stores at a grid point, as one function of the blocks: the pieces of each store joined. -/
module

public import proofs.«01_k».proof.Proof.Gen.Kernel4Ideal.Value
public import proofs.«01_k».proof.Proof.Proj.Tile
public import Idealize.ShloMosaic.Lib.Pipeline.ValueKit
public import Idealize.ShloMosaic.Lib.WholeRead

@[expose] public section

set_option maxRecDepth 16384

noncomputable section

namespace Cert.Proj

open Cert.Ffn Cert.Kernel4Ideal Cert.Kernel4Ideal.Gen Idealize.ShloMosaic Idealize.ShloMosaic.TcCoe Idealize.SL.Sem

/- A whole buffer read through a rectangle. -/
theorem read2 {n0 n1 : ℕ} {e : EltTy} {m : Memref sig .tc .vmem ⟨2, ![n0, n1]⟩ e} (h : m.IsWhole)
    (X : Vec Ideal ⟨2, ![n0, n1]⟩ e) (o0 o1 k0 k1 : ℕ) (inb) (p : Fin k0) (q : Fin k1) (i : Fin n0) (j : Fin n1)
    (hi : i.val = o0 + p) (hj : j.val = o1 + q) :
    View.readAt (Elt Ideal) m.view (Rect.unit (s := ⟨2, ![n0, n1]⟩) ![o0, o1] ![k0, k1] inb).toLoadRect (h.unread X) (ix2 p q)
      = X (ix2 i j) := by
  refine (h.readAt_unread X _ _).trans (congrArg X ?_)
  funext a
  apply Fin.ext
  fin_cases a
  · show o0 + 1 * p.val = i.val; omega
  · show o1 + 1 * q.val = j.val; omega

theorem read3 {n0 n1 n2 : ℕ} {e : EltTy} {m : Memref sig .tc .vmem ⟨3, ![n0, n1, n2]⟩ e} (h : m.IsWhole)
    (X : Vec Ideal ⟨3, ![n0, n1, n2]⟩ e) (inb) (a : Fin n0) (p : Fin n1) (q : Fin n2) :
    View.readAt (Elt Ideal) m.view (Rect.unit (s := ⟨3, ![n0, n1, n2]⟩) ![0, 0, 0] ![n0, n1, n2] inb).toLoadRect (h.unread X)
      (ix3 a p q) = X (ix3 a p q) := by
  refine (h.readAt_unread X _ _).trans (congrArg X ?_)
  funext b
  apply Fin.ext
  fin_cases b
  · show 0 + 1 * a.val = a.val; omega
  · show 0 + 1 * p.val = p.val; omega
  · show 0 + 1 * q.val = q.val; omega

theorem read4 {n0 n1 n2 n3 : ℕ} {e : EltTy} {m : Memref sig .tc .vmem ⟨4, ![n0, n1, n2, n3]⟩ e} (h : m.IsWhole)
    (X : Vec Ideal ⟨4, ![n0, n1, n2, n3]⟩ e) (inb) (a : Fin n0) (c : Fin n1) (p : Fin n2) (q : Fin n3) :
    View.readAt (Elt Ideal) m.view (Rect.unit (s := ⟨4, ![n0, n1, n2, n3]⟩) ![0, 0, 0, 0] ![n0, n1, n2, n3] inb).toLoadRect
      (h.unread X) (ix4 a c p q) = X (ix4 a c p q) := by
  refine (h.readAt_unread X _ _).trans (congrArg X ?_)
  funext b
  apply Fin.ext
  fin_cases b
  · show 0 + 1 * a.val = a.val; omega
  · show 0 + 1 * c.val = c.val; omega
  · show 0 + 1 * p.val = p.val; omega
  · show 0 + 1 * q.val = q.val; omega

/-- The tile's rows (and the 64 after it) through the matrix. -/
def tileProj (x0 : FVec Ideal S1x256x1024 .f32) (x1 : FVec Ideal S1x64x1024 .f32) (x2 : FVec Ideal S1x1x9x1024 .f32)
    (x3 : FVec Ideal S1x1024 .f32) (x4 : FVec Ideal S1024x7552 .bf16) (f : Fin 7552) (r : Fin 320) : EReal :=
  through (normed (fun j => if h : r.val < 256 then x0 (ix3 0 ⟨r, h⟩ j) else x1 (ix3 0 ⟨r - 256, by omega⟩ j))
    (fun j => x3 (ix2 0 j)) (fun j => x2 (ix4 0 0 3 j)) (fun j => x2 (ix4 0 0 4 j))) (fun k f => x4 (ix2 k f)) f

/- Columns within their arrays. -/
theorem ltA (f : Fin 1280) : f.val < 7552 := by omega
theorem ltB (f : Fin 1280) : 1280 + f.val < 7552 := by omega
theorem ltC (f : Fin 896) : 2560 + f.val < 7552 := by omega
theorem ltA' (f : Fin 1280) : f.val < 3456 := by omega
theorem ltB' (f : Fin 1280) : 1280 + f.val < 3456 := by omega
theorem ltC' (f : Fin 896) : 2560 + f.val < 3456 := by omega
theorem ltZ (f : Fin 3456) : f.val < 7552 := by omega
theorem ltK (j : Fin 1024) : j.val + 1024 < 7552 := by omega
theorem ltK' (j : Fin 1024) : j.val + 1024 < 3456 := by omega
theorem ltR (r : Fin 64) : 192 + r.val < 320 := by omega

section Joined

variable (T : Fin 17) {v34 : FVec Ideal S320x1024 .bf16} {wA wB : FVec Ideal S1024x1280 .bf16} {wC : FVec Ideal S1024x896 .bf16}
  {aA aB : FVec Ideal S64x1280 .f32} {aC : FVec Ideal S64x896 .f32} {mA mB : FVec Ideal S1x1280 .f32}
  {mC : FVec Ideal S1x896 .f32} {u : Fin 7552 → Fin 320 → EReal} {above : Fin 64 → Fin 3456 → EReal} {mu : Fin 3456 → EReal}
  (hA : ∀ r (f : Fin 1280), ∑ x, v34 (ix2 r x) * wA (ix2 x f) = u ⟨f, ltA f⟩ r)
  (hB : ∀ r (f : Fin 1280), ∑ x, v34 (ix2 r x) * wB (ix2 x f) = u ⟨1280 + f, ltB f⟩ r)
  (hC : ∀ r (f : Fin 896), ∑ x, v34 (ix2 r x) * wC (ix2 x f) = u ⟨2560 + f, ltC f⟩ r)
  (bA : ∀ r (f : Fin 1280), aA (ix2 r f) = above r ⟨f, ltA' f⟩)
  (bB : ∀ r (f : Fin 1280), aB (ix2 r f) = above r ⟨1280 + f, ltB' f⟩)
  (bC : ∀ r (f : Fin 896), aC (ix2 r f) = above r ⟨2560 + f, ltC' f⟩)
  (cA : ∀ f : Fin 1280, mA (ix2 0 f) = mu ⟨f, ltA' f⟩) (cB : ∀ f : Fin 1280, mB (ix2 0 f) = mu ⟨1280 + f, ltB' f⟩)
  (cC : ∀ f : Fin 896, mC (ix2 0 f) = mu ⟨2560 + f, ltC' f⟩) (q : Fin 256)

include hA hB hC bA bB bC cA cB cC in
/-- The mixed columns. -/
theorem join7 (f : Fin 3456) (i1 i2 i3) :
    View.canon (Val := Elt Ideal) (s := S1x256x3456) (e := .bf16)
      [⟨Rect.unit ![0, 0, 2560] ![1, 256, 896] i1,
        k0_pay34 (F := Ideal) (k0_pay6 (isCtx T) rowNo 256#32) (k0_pay7 (tileNo T) (isCtx T) rowNo)
          (k0_pay8 (tileNo T) (isCtx T) rowNo) (k0_pay9 (isCtx T)) (k0_pay30 v34 wC) (k0_pay31 v34 wC)
          (k0_pay32 v34 (k0_pay5 (isCtx T) rowNo 256#32) wC) aC mC⟩,
       ⟨Rect.unit ![0, 0, 1280] ![1, 256, 1280] i2,
        k0_pay27 (F := Ideal) (k0_pay9 (isCtx T)) (k0_pay19 v34 wB) (k0_pay20 v34 (k0_pay5 (isCtx T) rowNo 256#32) wB)
          (k0_pay21 v34 (k0_pay6 (isCtx T) rowNo 256#32) wB) (k0_pay22 v34 (k0_pay7 (tileNo T) (isCtx T) rowNo) wB aB)
          (k0_pay23 v34 (k0_pay8 (tileNo T) (isCtx T) rowNo) wB) mB⟩,
       ⟨Rect.unit ![0, 0, 0] ![1, 256, 1280] i3,
        k0_pay15 (F := Ideal) v34 (k0_pay5 (isCtx T) rowNo 256#32) (k0_pay6 (isCtx T) rowNo 256#32)
          (k0_pay7 (tileNo T) (isCtx T) rowNo) (k0_pay8 (tileNo T) (isCtx T) rowNo) (k0_pay9 (isCtx T)) (k0_pay10 wA)
          (constant S320x1280 .f32 0x00000000#32) aA mA⟩] (ix3 0 q f)
      = tileMixed T (u ⟨f, ltZ f⟩) (fun r => above r f) (mu f) q := by
  refine View.canon_eq_of_allAt _ _ _ ?_ ?_
  · by_cases h1 : f.val < 1280
    · refine ⟨_, .tail _ (.tail _ (.head _)), (?_ : _ ∈ (Rect.unit _ _ i3).set)⟩
      rw [Rect.mem_set_unit]
      intro a
      fin_cases a
      · show 0 ≤ 0 ∧ 0 < 0 + 1; omega
      · show 0 ≤ q.val ∧ q.val < 0 + 256; omega
      · show 0 ≤ f.val ∧ f.val < 0 + 1280; omega
    by_cases h2 : f.val < 2560
    · refine ⟨_, .tail _ (.head _), (?_ : _ ∈ (Rect.unit _ _ i2).set)⟩
      rw [Rect.mem_set_unit]
      intro a
      fin_cases a
      · show 0 ≤ 0 ∧ 0 < 0 + 1; omega
      · show 0 ≤ q.val ∧ q.val < 0 + 256; omega
      · show 1280 ≤ f.val ∧ f.val < 1280 + 1280; omega
    · refine ⟨_, .head _, (?_ : _ ∈ (Rect.unit _ _ i1).set)⟩
      rw [Rect.mem_set_unit]
      intro a
      fin_cases a
      · show 0 ≤ 0 ∧ 0 < 0 + 1; omega
      · show 0 ≤ q.val ∧ q.val < 0 + 256; omega
      · show 2560 ≤ f.val ∧ f.val < 2560 + 896; omega
  refine View.allAt_cons_unit _ _ _ _ _ ?_ (View.allAt_cons_unit _ _ _ _ _ ?_ (View.allAt_cons_unit _ _ _ _ _ ?_ (View.allAt_nil _ _)))
  · intro x hx
    obtain ⟨a, p, g, rfl⟩ : ∃ (a : Fin 1) (p : Fin 256) (g : Fin 896), x = ix3 a p g := ⟨x 0, x 1, x 2, (ix3_eta x).symm⟩
    obtain rfl : a = 0 := Subsingleton.elim _ _
    obtain rfl : q = p := Fin.ext (by have h : q.val = 0 + p.val := hx 1; omega)
    obtain rfl : f = ⟨2560 + g, by omega⟩ := Fin.ext (by have h : f.val = 2560 + g.val := hx 2; show f.val = 2560 + g.val; omega)
    refine (mixC_apply T v34 q wC aC mC g).trans ?_
    simp only [hC, bC, cC]
  · intro x hx
    obtain ⟨a, p, g, rfl⟩ : ∃ (a : Fin 1) (p : Fin 256) (g : Fin 1280), x = ix3 a p g := ⟨x 0, x 1, x 2, (ix3_eta x).symm⟩
    obtain rfl : a = 0 := Subsingleton.elim _ _
    obtain rfl : q = p := Fin.ext (by have h : q.val = 0 + p.val := hx 1; omega)
    obtain rfl : f = ⟨1280 + g, by omega⟩ := Fin.ext (by have h : f.val = 1280 + g.val := hx 2; show f.val = 1280 + g.val; omega)
    refine (storeB_apply q _ _ _ _ _ _ _ g).trans ((mixB_apply T v34 q wB aB mB g).trans ?_)
    simp only [hB, bB, cB]
  · intro x hx
    obtain ⟨a, p, g, rfl⟩ : ∃ (a : Fin 1) (p : Fin 256) (g : Fin 1280), x = ix3 a p g := ⟨x 0, x 1, x 2, (ix3_eta x).symm⟩
    obtain rfl : a = 0 := Subsingleton.elim _ _
    obtain rfl : q = p := Fin.ext (by have h : q.val = 0 + p.val := hx 1; omega)
    obtain rfl : f = ⟨g, by omega⟩ := Fin.ext (by have h : f.val = 0 + g.val := hx 2; show f.val = g.val; omega)
    refine (storeA_apply v34 q _ _ _ _ _ _ _ _ _ g).trans ((mixA_apply T v34 q wA aA mA g).trans ?_)
    simp only [hA, bA, cA]

include hA hB bA bB cA cB in
/-- Those of them that are normalised, joined. -/
theorem join8 (j : Fin 1024) (i1 i2) :
    View.canon (Val := Elt Ideal) (s := S256x1024) (e := .f32)
      [⟨Rect.unit ![0, 256] ![256, 768] i1,
        k0_pay28 (F := Ideal) (k0_pay9 (isCtx T)) (k0_pay19 v34 wB) (k0_pay20 v34 (k0_pay5 (isCtx T) rowNo 256#32) wB)
          (k0_pay21 v34 (k0_pay6 (isCtx T) rowNo 256#32) wB) (k0_pay22 v34 (k0_pay7 (tileNo T) (isCtx T) rowNo) wB aB)
          (k0_pay23 v34 (k0_pay8 (tileNo T) (isCtx T) rowNo) wB) mB⟩,
       ⟨Rect.unit ![0, 0] ![256, 256] i2,
        k0_pay16 (F := Ideal) (k0_pay14 v34 (k0_pay5 (isCtx T) rowNo 256#32) (k0_pay6 (isCtx T) rowNo 256#32)
          (k0_pay7 (tileNo T) (isCtx T) rowNo) (k0_pay8 (tileNo T) (isCtx T) rowNo) (k0_pay9 (isCtx T)) (k0_pay10 wA)
          (constant S320x1280 .f32 0x00000000#32) aA mA)⟩] (ix2 q j)
      = tileMixed T (u ⟨j + 1024, ltK j⟩) (fun r => above r ⟨j + 1024, ltK' j⟩) (mu ⟨j + 1024, ltK' j⟩) q := by
  refine View.canon_eq_of_allAt _ _ _ ?_ ?_
  · by_cases h1 : j.val < 256
    · refine ⟨_, .tail _ (.head _), (?_ : _ ∈ (Rect.unit _ _ i2).set)⟩
      rw [Rect.mem_set_unit]
      intro a
      fin_cases a
      · show 0 ≤ q.val ∧ q.val < 0 + 256; omega
      · show 0 ≤ j.val ∧ j.val < 0 + 256; omega
    · refine ⟨_, .head _, (?_ : _ ∈ (Rect.unit _ _ i1).set)⟩
      rw [Rect.mem_set_unit]
      intro a
      fin_cases a
      · show 0 ≤ q.val ∧ q.val < 0 + 256; omega
      · show 256 ≤ j.val ∧ j.val < 256 + 768; omega
  refine View.allAt_cons_unit _ _ _ _ _ ?_ (View.allAt_cons_unit _ _ _ _ _ ?_ (View.allAt_nil _ _))
  · intro x hx
    obtain ⟨p, g, rfl⟩ : ∃ (p : Fin 256) (g : Fin 768), x = ix2 p g := ⟨x 0, x 1, (ix2_eta x).symm⟩
    obtain rfl : q = p := Fin.ext (by have h : q.val = 0 + p.val := hx 0; omega)
    have h : j.val = 256 + g.val := hx 1
    have e : j.val + 1024 = 1280 + g.val := by omega
    refine (keyB_apply q _ _ _ _ _ _ _ g).trans ((mixB_apply T v34 q wB aB mB ⟨g, by omega⟩).trans ?_)
    simp only [hB, bB, cB, e]
  · intro x hx
    obtain ⟨p, g, rfl⟩ : ∃ (p : Fin 256) (g : Fin 256), x = ix2 p g := ⟨x 0, x 1, (ix2_eta x).symm⟩
    obtain rfl : q = p := Fin.ext (by have h : q.val = 0 + p.val := hx 0; omega)
    have h : j.val = 0 + g.val := hx 1
    have e : j.val + 1024 = 1024 + g.val := by omega
    refine (keyA_apply q _ g).trans ((mixA_apply T v34 q wA aA mA ⟨1024 + g, by omega⟩).trans ?_)
    simp only [hA, bA, cA, e]

include hA hB hC in
/-- What is kept for the next tile: its last 64 rows. -/
theorem joinKept (r : Fin 64) (f : Fin 3456) (i1 i2 i3) :
    View.canon (Val := Elt Ideal) (s := S64x3456) (e := .f32)
      [⟨Rect.unit ![0, 2560] ![64, 896] i1, k0_pay33 (F := Ideal) (k0_pay31 v34 wC)⟩,
       ⟨Rect.unit ![0, 1280] ![64, 1280] i2, k0_pay25 (F := Ideal) (k0_pay24 v34 wB)⟩,
       ⟨Rect.unit ![0, 0] ![64, 1280] i3,
        k0_pay13 (F := Ideal) v34 (k0_pay10 wA) (constant S320x1280 .f32 0x00000000#32)⟩] (ix2 r f)
      = u ⟨f, ltZ f⟩ ⟨192 + r, ltR r⟩ := by
  refine View.canon_eq_of_allAt _ _ _ ?_ ?_
  · by_cases h1 : f.val < 1280
    · refine ⟨_, .tail _ (.tail _ (.head _)), (?_ : _ ∈ (Rect.unit _ _ i3).set)⟩
      rw [Rect.mem_set_unit]
      intro a
      fin_cases a
      · show 0 ≤ r.val ∧ r.val < 0 + 64; omega
      · show 0 ≤ f.val ∧ f.val < 0 + 1280; omega
    by_cases h2 : f.val < 2560
    · refine ⟨_, .tail _ (.head _), (?_ : _ ∈ (Rect.unit _ _ i2).set)⟩
      rw [Rect.mem_set_unit]
      intro a
      fin_cases a
      · show 0 ≤ r.val ∧ r.val < 0 + 64; omega
      · show 1280 ≤ f.val ∧ f.val < 1280 + 1280; omega
    · refine ⟨_, .head _, (?_ : _ ∈ (Rect.unit _ _ i1).set)⟩
      rw [Rect.mem_set_unit]
      intro a
      fin_cases a
      · show 0 ≤ r.val ∧ r.val < 0 + 64; omega
      · show 2560 ≤ f.val ∧ f.val < 2560 + 896; omega
  refine View.allAt_cons_unit _ _ _ _ _ ?_ (View.allAt_cons_unit _ _ _ _ _ ?_ (View.allAt_cons_unit _ _ _ _ _ ?_ (View.allAt_nil _ _)))
  · intro x hx
    obtain ⟨p, g, rfl⟩ : ∃ (p : Fin 64) (g : Fin 896), x = ix2 p g := ⟨x 0, x 1, (ix2_eta x).symm⟩
    obtain rfl : r = p := Fin.ext (by have h : r.val = 0 + p.val := hx 0; omega)
    have e : f.val = 2560 + g.val := hx 1
    refine (keepC_apply v34 wC r g).trans ((hC _ g).trans ?_)
    simp only [e]
  · intro x hx
    obtain ⟨p, g, rfl⟩ : ∃ (p : Fin 64) (g : Fin 1280), x = ix2 p g := ⟨x 0, x 1, (ix2_eta x).symm⟩
    obtain rfl : r = p := Fin.ext (by have h : r.val = 0 + p.val := hx 0; omega)
    have e : f.val = 1280 + g.val := hx 1
    refine (keepB_apply v34 wB r g).trans ((hB _ g).trans ?_)
    simp only [e]
  · intro x hx
    obtain ⟨p, g, rfl⟩ : ∃ (p : Fin 64) (g : Fin 1280), x = ix2 p g := ⟨x 0, x 1, (ix2_eta x).symm⟩
    obtain rfl : r = p := Fin.ext (by have h : r.val = 0 + p.val := hx 0; omega)
    have e : f.val = g.val := (hx 1).trans (Nat.zero_add _)
    refine (keepA_apply v34 wA r g).trans ((hA _ g).trans ?_)
    simp only [e]

end Joined

end Cert.Proj

end
-- ==== Proof.Proj.Block.lean ====
/- What the kernel's body leaves at a grid point, in the point's blocks. -/
module

public import proofs.«01_k».proof.Proof.Proj.Pieces

@[expose] public section

set_option maxRecDepth 16384

noncomputable section

namespace Cert.Proj

open Cert.Ffn Cert.Kernel4Ideal Cert.Kernel4Ideal.Gen Idealize.ShloMosaic Idealize.ShloMosaic.TcCoe Idealize.SL.Sem

theorem corner3 : (![0, 0, 0] : Fin 3 → ℕ) = fun _ => 0 := by funext a; fin_cases a <;> rfl

/-- A row of what the blocks hold, through a column. -/
theorem sum_eq {x0 : FVec Ideal S1x256x1024 .f32} {x1 : FVec Ideal S1x64x1024 .f32} {x2 : FVec Ideal S1x1x9x1024 .f32}
    {x3 : FVec Ideal S1x1024 .f32} {x4 : FVec Ideal S1024x7552 .bf16} {v5 : FVec Ideal S1x1x9x1024 .f32}
    {v7 : FVec Ideal S1x256x1024 .f32} {v9 : FVec Ideal S1x64x1024 .f32} {v12 : FVec Ideal S1x1024 .f32}
    (e5 : ∀ s j, v5 (ix4 0 0 s j) = x2 (ix4 0 0 s j)) (e7 : ∀ p j, v7 (ix3 0 p j) = x0 (ix3 0 p j))
    (e9 : ∀ p j, v9 (ix3 0 p j) = x1 (ix3 0 p j)) (e12 : ∀ j, v12 (ix2 0 j) = x3 (ix2 0 j)) {k : ℕ}
    {w : FVec Ideal ⟨2, ![1024, k]⟩ .bf16} {f : Fin k} {g : Fin 7552} (hw : ∀ x, w (ix2 x f) = x4 (ix2 x g)) (r : Fin 320) :
    ∑ x, k0_pay2 (F := Ideal) v5 v7 v9 v12 (ix2 r x) * w (ix2 x f) = tileProj x0 x1 x2 x3 x4 g r := by
  unfold tileProj through
  refine Finset.sum_congr rfl fun x _ => ?_
  rw [pay2_apply]
  simp only [e5, e7, e9, e12, hw]

/- The three parts of the rows above, side by side. -/
def glue (aA aB : FVec Ideal S64x1280 .f32) (aC : FVec Ideal S64x896 .f32) (r : Fin 64) (f : Fin 3456) : EReal :=
  if h : f.val < 1280 then aA (ix2 r ⟨f, h⟩) else if h : f.val < 2560 then aB (ix2 r ⟨f - 1280, by omega⟩)
    else aC (ix2 r ⟨f - 2560, by omega⟩)
section
variable (aA aB : FVec Ideal S64x1280 .f32) (aC : FVec Ideal S64x896 .f32) (r : Fin 64)
theorem glueA (f : Fin 1280) : aA (ix2 r f) = glue aA aB aC r ⟨f, by omega⟩ := by
  unfold glue
  rw [dif_pos (show (⟨f, by omega⟩ : Fin 3456).val < 1280 from f.isLt)]
theorem glueB (f : Fin 1280) : aB (ix2 r f) = glue aA aB aC r ⟨1280 + f, by omega⟩ := by
  unfold glue
  rw [dif_neg (by dsimp only; omega), dif_pos (by dsimp only; omega)]
  exact congrArg (fun g => aB (ix2 r g)) (Fin.ext (by dsimp only; omega))
theorem glueC (f : Fin 896) : aC (ix2 r f) = glue aA aB aC r ⟨2560 + f, by omega⟩ := by
  unfold glue
  rw [dif_neg (by dsimp only; omega), dif_neg (by dsimp only; omega)]
  exact congrArg (fun g => aC (ix2 r g)) (Fin.ext (by dsimp only; omega))
end

/-- In the context's tile the rows above do not matter. -/
theorem tileMixed_first (T : Fin 17) (hT : T.val = 0) (u : Fin 320 → EReal) (a a' : Fin 64 → EReal) (mu : EReal) (q : Fin 256) :
    tileMixed T u a mu q = tileMixed T u a' mu q := by
  unfold tileMixed
  rw [if_pos (show noUp T q from Or.inl hT), if_pos (show noUp T q from Or.inl hT)]

/-- A store of several pieces, read whole. -/
theorem read_pieces (v : View sig .tc .vmem S256x1024 .f32) (L : List (View.Piece (Elt Ideal) S256x1024 .f32)) (inb)
    (q : Fin 256) (x : Fin 1024) :
    v.readCov L (Rect.unit (s := S256x1024) ![0, 0] S256x1024.size inb).toLoadRect (ix2 q x) = View.canon L (ix2 q x) := by
  refine (congrFun (View.readCov_eq_canon' v L (Rect.unit (s := S256x1024) ![0, 0] S256x1024.size inb).toLoadRect) (ix2 q x)).trans (congrArg (View.canon L) ?_)
  funext a
  apply Fin.ext
  fin_cases a
  · show 0 + 1 * q.val = q.val; omega
  · show 0 + 1 * x.val = x.val; omega

/-- The tile of a grid point. -/
def tileOf (i : grid0.Coords) : Fin 17 := ⟨(i 1).val, (i 1).isLt⟩

variable {c : Dev nD} {i : grid0.Coords}
  {a2 : Memref sig .tc .vmem S1x256x1024 .f32} {h2 : a2.IsWhole}
  {a3 : Memref sig .tc .vmem S1x64x1024 .f32} {h3 : a3.IsWhole}
  {a4 : Memref sig .tc .vmem S1x1x9x1024 .f32} {h4 : a4.IsWhole}
  {a5 : Memref sig .tc .vmem S1x1024 .f32} {h5 : a5.IsWhole}
  {a6 : Memref sig .tc .vmem S1024x7552 .bf16} {h6 : a6.IsWhole}
  {a7 : Memref sig .tc .vmem S1x3456 .f32} {h7 : a7.IsWhole}
  {a8 : Memref sig .tc .vmem S1x1024 .f32} {h8 : a8.IsWhole}
  {a9 : Memref sig .tc .vmem S1x256x3456 .bf16} {h9 : a9.IsWhole}
  {a10 : Memref sig .tc .vmem S1x256x1024 .f32} {h10 : a10.IsWhole}
  {a11 : Memref sig .tc .vmem S1x256x1024 .f32} {h11 : a11.IsWhole}
  {a12 : Memref sig .tc .vmem S1x256x1024 .bf16} {h12 : a12.IsWhole}
  {a13 : Memref sig .tc .vmem S1x256x2048 .bf16} {h13 : a13.IsWhole}
  {a14 : Memref sig .tc .vmem S64x3456 .f32} {h14 : a14.IsWhole}
  {a15 : Memref sig .tc .vmem S256x1024 .f32} {h15 : a15.IsWhole}
  {x0 : FVec Ideal S1x256x1024 .f32} {x1 : FVec Ideal S1x64x1024 .f32} {x2 : FVec Ideal S1x1x9x1024 .f32}
  {x3 : FVec Ideal S1x1024 .f32} {x4 : FVec Ideal S1024x7552 .bf16} {x5 : FVec Ideal S1x3456 .f32}
  {x6 : FVec Ideal S1x1024 .f32}
  {xs : FVec Ideal S64x3456 .f32}

/-- The same, of the blocks' reads. -/
theorem sum_read {k : ℕ} (o : ℕ) (b4 b2 b3 b5 b6) (f : Fin k) (g : Fin 7552) (hg : g.val = o + f) (r : Fin 320) :
    ∑ x, k0_pay2 (F := Ideal)
        (View.readAt (Elt Ideal) a4.view (Rect.unit (s := S1x1x9x1024) ![0, 0, 0, 0] ![1, 1, 9, 1024] b4).toLoadRect (h4.unread x2))
        (View.readAt (Elt Ideal) a2.view (Rect.unit (s := S1x256x1024) ![0, 0, 0] ![1, 256, 1024] b2).toLoadRect (h2.unread x0))
        (View.readAt (Elt Ideal) a3.view (Rect.unit (s := S1x64x1024) ![0, 0, 0] ![1, 64, 1024] b3).toLoadRect (h3.unread x1))
        (View.readAt (Elt Ideal) a5.view (Rect.unit (s := S1x1024) ![0, 0] ![1, 1024] b5).toLoadRect (h5.unread x3)) (ix2 r x)
        * View.readAt (Elt Ideal) a6.view (Rect.unit (s := S1024x7552) ![0, o] ![1024, k] b6).toLoadRect (h6.unread x4) (ix2 x f)
      = tileProj x0 x1 x2 x3 x4 g r :=
  sum_eq (fun s j => read4 h4 x2 _ 0 0 s j) (fun p j => read3 h2 x0 _ 0 p j) (fun p j => read3 h3 x1 _ 0 p j)
    (fun j => read2 h5 x3 0 0 1 1024 _ 0 j 0 j rfl (by omega)) (fun x => read2 h6 x4 0 o 1024 k _ x f x g (by omega) hg) r

/- What a point leaves, where nothing is kept above. -/
theorem out7_A (hc : cond0_0 i) (hT : (tileOf i).val = 0) (q : Fin 256) (f : Fin 3456) : out0_A_7 (F := Ideal) c i
      a2 h2 a3 h3 a4 h4 a5 h5 a6 h6 a7 h7 a8 h8 a9 h9 a10 h10 a11 h11 a12 h12 a13 h13 a14 h14 a15 h15 hc
      x0 x1 x2 x3 x4 x5 x6 (ix3 0 q f)
    = tileMixed (tileOf i) (tileProj x0 x1 x2 x3 x4 ⟨f, by omega⟩) (fun _ => 0) (x5 (ix2 0 f)) q := by
  unfold out0_A_7 kernelRun0_A
  dsimp only
  rw [View.read_writes_junk_apply_eq_canon]
  refine (join7 (u := tileProj x0 x1 x2 x3 x4) (above := glue _ _ _) (mu := fun f => x5 (ix2 0 f)) (tileOf i) ?_ ?_ ?_ (glueA _ _ _) (glueB _ _ _)
    (glueC _ _ _) ?_ ?_ ?_
    q f _ _ _).trans (tileMixed_first _ hT _ _ _ _ _)
  · intro r f
    exact sum_read 0 _ _ _ _ _ f ⟨f, by omega⟩ (by dsimp only; omega) r
  · intro r f
    exact sum_read 1280 _ _ _ _ _ f ⟨1280 + f, by omega⟩ rfl r
  · intro r f
    exact sum_read 2560 _ _ _ _ _ f ⟨2560 + f, by omega⟩ rfl r
  · intro f
    exact read2 h7 x5 0 0 1 1280 _ 0 f 0 ⟨f, by omega⟩ rfl (by dsimp only; omega)
  · intro f
    exact read2 h7 x5 0 1280 1 1280 _ 0 f 0 ⟨1280 + f, by omega⟩ rfl rfl
  · intro f
    exact read2 h7 x5 0 2560 1 896 _ 0 f 0 ⟨2560 + f, by omega⟩ rfl rfl
theorem out9_A (hc : cond0_0 i) (q : Fin 256) (f : Fin 1024) : out0_A_9 (F := Ideal) c i
      a2 h2 a3 h3 a4 h4 a5 h5 a6 h6 a7 h7 a8 h8 a9 h9 a10 h10 a11 h11 a12 h12 a13 h13 a14 h14 a15 h15 hc
      x0 x1 x2 x3 x4 x5 x6 (ix3 0 q f)
    = tileProj x0 x1 x2 x3 x4 ⟨3456 + f, by omega⟩ ⟨q, by omega⟩ := by
  unfold out0_A_9 kernelRun0_A
  dsimp only
  rw [View.read_writes_junk_apply_eq_canon]
  refine (congrFun (View.canon_cons_unit_zero corner3 _ _ _) _).trans ((plainA_apply q _ _ f).trans ?_)
  refine (Finset.sum_congr rfl fun x _ => congrArg (· * _) (pay3_apply _ _ _ _ q x)).trans ?_
  exact sum_read 3456 _ _ _ _ _ f ⟨3456 + f, by omega⟩ rfl _
theorem out10_A (hc : cond0_0 i) (q : Fin 256) (f : Fin 1024) : out0_A_10 (F := Ideal) c i
      a2 h2 a3 h3 a4 h4 a5 h5 a6 h6 a7 h7 a8 h8 a9 h9 a10 h10 a11 h11 a12 h12 a13 h13 a14 h14 a15 h15 hc
      x0 x1 x2 x3 x4 x5 x6 (ix3 0 q f)
    = tileProj x0 x1 x2 x3 x4 ⟨4480 + f, by omega⟩ ⟨q, by omega⟩ := by
  unfold out0_A_10 kernelRun0_A
  dsimp only
  rw [View.read_writes_junk_apply_eq_canon]
  refine (congrFun (View.canon_cons_unit_zero corner3 _ _ _) _).trans ((plainB_apply q _ _ f).trans ?_)
  refine (Finset.sum_congr rfl fun x _ => congrArg (· * _) (pay3_apply _ _ _ _ q x)).trans ?_
  exact sum_read 4480 _ _ _ _ _ f ⟨4480 + f, by omega⟩ rfl _
theorem out11_A (hc : cond0_0 i) (q : Fin 256) (f : Fin 2048) : out0_A_11 (F := Ideal) c i
      a2 h2 a3 h3 a4 h4 a5 h5 a6 h6 a7 h7 a8 h8 a9 h9 a10 h10 a11 h11 a12 h12 a13 h13 a14 h14 a15 h15 hc
      x0 x1 x2 x3 x4 x5 x6 (ix3 0 q f)
    = tileProj x0 x1 x2 x3 x4 ⟨5504 + f, by omega⟩ ⟨q, by omega⟩ := by
  unfold out0_A_11 kernelRun0_A
  dsimp only
  rw [View.read_writes_junk_apply_eq_canon]
  refine (congrFun (View.canon_cons_unit_zero corner3 _ _ _) _).trans ((plainC_apply q _ _ f).trans ?_)
  refine (Finset.sum_congr rfl fun x _ => congrArg (· * _) (pay3_apply _ _ _ _ q x)).trans ?_
  exact sum_read 5504 _ _ _ _ _ f ⟨5504 + f, by omega⟩ rfl _
theorem out8_A (hc : cond0_0 i) (hT : (tileOf i).val = 0) (q : Fin 256) (j : Fin 1024) {k : Fin 1024 → EReal}
    (hk : ∀ x : Fin 1024, tileMixed (tileOf i) (tileProj x0 x1 x2 x3 x4 ⟨x + 1024, by omega⟩) (fun _ => 0)
      (x5 (ix2 0 ⟨x + 1024, by omega⟩)) q * x6 (ix2 0 x) = k x)
    (h : ∀ x, Mix.IsFin (k x)) : out0_A_8 (F := Ideal) c i
      a2 h2 a3 h3 a4 h4 a5 h5 a6 h6 a7 h7 a8 h8 a9 h9 a10 h10 a11 h11 a12 h12 a13 h13 a14 h14 a15 h15 hc
      x0 x1 x2 x3 x4 x5 x6 (ix3 0 q j) = unit k j := by
  unfold out0_A_8 kernelRun0_A
  dsimp only
  rw [View.read_writes_junk_apply_eq_canon]
  refine (congrFun (View.canon_cons_unit_zero corner3 _ _ _) _).trans (unit_apply q _ _ j (fun x => ?_) h)
  refine Eq.trans (congrArg₂ (fun a b : EReal => a * b) ((read_pieces _ _ _ q x).trans ?_)
    (read2 h8 x6 0 0 1 1024 _ 0 x 0 x rfl (by omega))) (hk x)
  refine (join8 (u := tileProj x0 x1 x2 x3 x4) (above := glue _ _ (fun _ => 0)) (mu := fun f => x5 (ix2 0 f)) (tileOf i) ?_ ?_ (glueA _ _ _)
    (glueB _ _ _) ?_ ?_ q x _ _).trans
    (tileMixed_first _ hT _ _ _ _ _)
  · intro r f
    exact sum_read 0 _ _ _ _ _ f ⟨f, by omega⟩ (by dsimp only; omega) r
  · intro r f
    exact sum_read 1280 _ _ _ _ _ f ⟨1280 + f, by omega⟩ rfl r
  · intro f
    exact read2 h7 x5 0 0 1 1280 _ 0 f 0 ⟨f, by omega⟩ rfl (by dsimp only; omega)
  · intro f
    exact read2 h7 x5 0 1280 1 1280 _ 0 f 0 ⟨1280 + f, by omega⟩ rfl rfl
/- What a point leaves, with rows kept above. -/
theorem out7_B (hc : ¬cond0_0 i) (q : Fin 256) (f : Fin 3456) : out0_B_7 (F := Ideal) c i
      a2 h2 a3 h3 a4 h4 a5 h5 a6 h6 a7 h7 a8 h8 a9 h9 a10 h10 a11 h11 a12 h12 a13 h13 a14 h14 a15 h15 hc
      x0 x1 x2 x3 x4 x5 x6 xs (ix3 0 q f)
    = tileMixed (tileOf i) (tileProj x0 x1 x2 x3 x4 ⟨f, by omega⟩) (fun r => xs (ix2 r f)) (x5 (ix2 0 f)) q := by
  unfold out0_B_7 kernelRun0_B
  dsimp only
  rw [View.read_writes_junk_apply_eq_canon]
  refine join7 (u := tileProj x0 x1 x2 x3 x4) (above := fun r f => xs (ix2 r f)) (mu := fun f => x5 (ix2 0 f)) (tileOf i) ?_ ?_ ?_ ?_ ?_ ?_ ?_ ?_ ?_
    q f _ _ _
  · intro r f
    exact sum_read 0 _ _ _ _ _ f ⟨f, by omega⟩ (by dsimp only; omega) r
  · intro r f
    exact sum_read 1280 _ _ _ _ _ f ⟨1280 + f, by omega⟩ rfl r
  · intro r f
    exact sum_read 2560 _ _ _ _ _ f ⟨2560 + f, by omega⟩ rfl r
  · intro r f
    exact read2 h14 xs 0 0 64 1280 _ r f r ⟨f, by omega⟩ (by omega) (by dsimp only; omega)
  · intro r f
    exact read2 h14 xs 0 1280 64 1280 _ r f r ⟨1280 + f, by omega⟩ (by omega) rfl
  · intro r f
    exact read2 h14 xs 0 2560 64 896 _ r f r ⟨2560 + f, by omega⟩ (by omega) rfl
  · intro f
    exact read2 h7 x5 0 0 1 1280 _ 0 f 0 ⟨f, by omega⟩ rfl (by dsimp only; omega)
  · intro f
    exact read2 h7 x5 0 1280 1 1280 _ 0 f 0 ⟨1280 + f, by omega⟩ rfl rfl
  · intro f
    exact read2 h7 x5 0 2560 1 896 _ 0 f 0 ⟨2560 + f, by omega⟩ rfl rfl
theorem out9_B (hc : ¬cond0_0 i) (q : Fin 256) (f : Fin 1024) : out0_B_9 (F := Ideal) c i
      a2 h2 a3 h3 a4 h4 a5 h5 a6 h6 a7 h7 a8 h8 a9 h9 a10 h10 a11 h11 a12 h12 a13 h13 a14 h14 a15 h15 hc
      x0 x1 x2 x3 x4 x5 x6 xs (ix3 0 q f)
    = tileProj x0 x1 x2 x3 x4 ⟨3456 + f, by omega⟩ ⟨q, by omega⟩ := by
  unfold out0_B_9 kernelRun0_B
  dsimp only
  rw [View.read_writes_junk_apply_eq_canon]
  refine (congrFun (View.canon_cons_unit_zero corner3 _ _ _) _).trans ((plainA_apply q _ _ f).trans ?_)
  refine (Finset.sum_congr rfl fun x _ => congrArg (· * _) (pay3_apply _ _ _ _ q x)).trans ?_
  exact sum_read 3456 _ _ _ _ _ f ⟨3456 + f, by omega⟩ rfl _
theorem out10_B (hc : ¬cond0_0 i) (q : Fin 256) (f : Fin 1024) : out0_B_10 (F := Ideal) c i
      a2 h2 a3 h3 a4 h4 a5 h5 a6 h6 a7 h7 a8 h8 a9 h9 a10 h10 a11 h11 a12 h12 a13 h13 a14 h14 a15 h15 hc
      x0 x1 x2 x3 x4 x5 x6 xs (ix3 0 q f)
    = tileProj x0 x1 x2 x3 x4 ⟨4480 + f, by omega⟩ ⟨q, by omega⟩ := by
  unfold out0_B_10 kernelRun0_B
  dsimp only
  rw [View.read_writes_junk_apply_eq_canon]
  refine (congrFun (View.canon_cons_unit_zero corner3 _ _ _) _).trans ((plainB_apply q _ _ f).trans ?_)
  refine (Finset.sum_congr rfl fun x _ => congrArg (· * _) (pay3_apply _ _ _ _ q x)).trans ?_
  exact sum_read 4480 _ _ _ _ _ f ⟨4480 + f, by omega⟩ rfl _
theorem out11_B (hc : ¬cond0_0 i) (q : Fin 256) (f : Fin 2048) : out0_B_11 (F := Ideal) c i
      a2 h2 a3 h3 a4 h4 a5 h5 a6 h6 a7 h7 a8 h8 a9 h9 a10 h10 a11 h11 a12 h12 a13 h13 a14 h14 a15 h15 hc
      x0 x1 x2 x3 x4 x5 x6 xs (ix3 0 q f)
    = tileProj x0 x1 x2 x3 x4 ⟨5504 + f, by omega⟩ ⟨q, by omega⟩ := by
  unfold out0_B_11 kernelRun0_B
  dsimp only
  rw [View.read_writes_junk_apply_eq_canon]
  refine (congrFun (View.canon_cons_unit_zero corner3 _ _ _) _).trans ((plainC_apply q _ _ f).trans ?_)
  refine (Finset.sum_congr rfl fun x _ => congrArg (· * _) (pay3_apply _ _ _ _ q x)).trans ?_
  exact sum_read 5504 _ _ _ _ _ f ⟨5504 + f, by omega⟩ rfl _
theorem out8_B (hc : ¬cond0_0 i) (q : Fin 256) (j : Fin 1024) {k : Fin 1024 → EReal}
    (hk : ∀ x : Fin 1024, tileMixed (tileOf i) (tileProj x0 x1 x2 x3 x4 ⟨x + 1024, by omega⟩) (fun r => xs (ix2 r ⟨x + 1024, by omega⟩))
      (x5 (ix2 0 ⟨x + 1024, by omega⟩)) q * x6 (ix2 0 x) = k x)
    (h : ∀ x, Mix.IsFin (k x)) : out0_B_8 (F := Ideal) c i
      a2 h2 a3 h3 a4 h4 a5 h5 a6 h6 a7 h7 a8 h8 a9 h9 a10 h10 a11 h11 a12 h12 a13 h13 a14 h14 a15 h15 hc
      x0 x1 x2 x3 x4 x5 x6 xs (ix3 0 q j) = unit k j := by
  unfold out0_B_8 kernelRun0_B
  dsimp only
  rw [View.read_writes_junk_apply_eq_canon]
  refine (congrFun (View.canon_cons_unit_zero corner3 _ _ _) _).trans (unit_apply q _ _ j (fun x => ?_) h)
  refine Eq.trans (congrArg₂ (fun a b : EReal => a * b) ((read_pieces _ _ _ q x).trans ?_)
    (read2 h8 x6 0 0 1 1024 _ 0 x 0 x rfl (by omega))) (hk x)
  refine join8 (u := tileProj x0 x1 x2 x3 x4) (above := fun r f => xs (ix2 r f)) (mu := fun f => x5 (ix2 0 f)) (tileOf i) ?_ ?_ ?_ ?_ ?_ ?_ q x _ _
  · intro r f
    exact sum_read 0 _ _ _ _ _ f ⟨f, by omega⟩ (by dsimp only; omega) r
  · intro r f
    exact sum_read 1280 _ _ _ _ _ f ⟨1280 + f, by omega⟩ rfl r
  · intro r f
    exact read2 h14 xs 0 0 64 1280 _ r f r ⟨f, by omega⟩ (by omega) (by dsimp only; omega)
  · intro r f
    exact read2 h14 xs 0 1280 64 1280 _ r f r ⟨1280 + f, by omega⟩ (by omega) rfl
  · intro f
    exact read2 h7 x5 0 0 1 1280 _ 0 f 0 ⟨f, by omega⟩ rfl (by dsimp only; omega)
  · intro f
    exact read2 h7 x5 0 1280 1 1280 _ 0 f 0 ⟨1280 + f, by omega⟩ rfl rfl
/-- What a point keeps for the next one: its tile's last 64 rows. -/
theorem kept_B (hc : ¬cond0_0 i) (r : Fin 64) (f : Fin 3456) : sout0_B_0 (F := Ideal) c i
      a2 h2 a3 h3 a4 h4 a5 h5 a6 h6 a7 h7 a8 h8 a9 h9 a10 h10 a11 h11 a12 h12 a13 h13 a14 h14 a15 h15 hc
      x0 x1 x2 x3 x4 x5 x6 xs (ix2 r f)
    = tileProj x0 x1 x2 x3 x4 ⟨f, by omega⟩ ⟨192 + r, by omega⟩ := by
  unfold sout0_B_0 kernelRun0_B
  dsimp only
  rw [View.read_writes_junk_apply_eq_canon]
  refine joinKept (u := tileProj x0 x1 x2 x3 x4) ?_ ?_ ?_ r f _ _ _
  · intro r f
    exact sum_read 0 _ _ _ _ _ f ⟨f, by omega⟩ (by dsimp only; omega) r
  · intro r f
    exact sum_read 1280 _ _ _ _ _ f ⟨1280 + f, by omega⟩ rfl r
  · intro r f
    exact sum_read 2560 _ _ _ _ _ f ⟨2560 + f, by omega⟩ rfl r

end Cert.Proj

end
-- ==== Proof.Proj.Kernel.lean ====
/- What each window of the input projection holds at a grid point, in the arguments, and the arrays that the kernel
   leaves. -/
module

public import proofs.«01_k».proof.Proof.Proj.Block
public import Idealize.ShloMosaic.Lib.StableHlo.RunRead
public import Idealize.ShloMosaic.Lib.Pipeline.Value

@[expose] public section

set_option maxRecDepth 16384

noncomputable section

namespace Cert.Kernel4Ideal.Proj

open Cert.Proj Cert.Ffn Cert.Kernel4Ideal Cert.Kernel4Ideal.Gen Idealize.ShloMosaic Idealize.ShloMosaic.TcCoe Idealize.SL.Sem

/-- A tile's mixed columns are the tokens' own, where its rows are the tokens' and the rows above it the tile's before. -/
theorem tile_mixed (T : Fin 17) (q : Fin 256) (p : Fin 4352) (hp : p.val = 256 * T.val + q.val) {u : Fin 320 → EReal}
    {above : Fin 64 → EReal} {w : Fin 4352 → EReal} (mu : EReal)
    (hu : ∀ (r : Fin 320) (s : Fin 4352), s.val = 256 * T.val + r.val → (r.val < 256 ∨ 1 ≤ T.val) → u r = w s)
    (ha : ∀ (r : Fin 64) (s : Fin 4352), 2 ≤ T.val → s.val + 64 = 256 * T.val + r.val → above r = w s) :
    tileMixed T u above mu q = mixed w mu p := by
  have hq := q.isLt
  have hT := T.isLt
  have e1 : tileWeight T = weight p := by
    unfold tileWeight weight
    by_cases h : T.val = 0
    · rw [if_pos h, if_pos (by omega)]
    · rw [if_neg h, if_neg (by omega)]
  have e2 : (if noUp T q then 0 else if h : q.val < 64 then above ⟨q, h⟩ else u ⟨q - 64, by omega⟩) = up w p := by
    unfold up
    by_cases h : p.val < 320
    · rw [if_pos (show noUp T q by unfold noUp; omega), dif_pos h]
    · rw [if_neg (show ¬noUp T q by unfold noUp; omega), dif_neg h]
      split
      · exact ha _ _ (by omega) (by dsimp only; omega)
      · exact hu _ _ (by dsimp only; omega) (by dsimp only; omega)
  have e3 : (if noDown T q then 0 else u ⟨64 + q, by omega⟩) = down w p := by
    unfold down
    by_cases h : p.val < 256 ∨ 4288 ≤ p.val
    · rw [if_pos (show noDown T q by unfold noDown; omega), dif_pos h]
    · rw [if_neg (show ¬noDown T q by unfold noDown; omega), dif_neg h]
      exact hu _ _ (by dsimp only; omega) (by dsimp only; omega)
  have e4 : (if noLeft T q then 0 else u ⟨(q + 256 - 1) % 256, by omega⟩) = left w p := by
    unfold left
    by_cases h : p.val = 0 ∨ 256 ≤ p.val ∧ p.val % 64 = 0
    · rw [if_pos (show noLeft T q by unfold noLeft; split <;> omega), if_pos h]
    · have h' : ¬noLeft T q := by unfold noLeft; split <;> omega
      have h0 : q.val ≠ 0 := fun h0 => h (by omega)
      rw [if_neg h', if_neg h]
      exact hu _ _ (by dsimp only; omega) (by dsimp only; omega)
  have e5 : (if noRight T q then 0 else u ⟨(q + 256 - 255) % 256, by omega⟩) = right w p := by
    unfold right
    by_cases h : p.val = 255 ∨ 256 ≤ p.val ∧ p.val % 64 = 63
    · rw [if_pos (show noRight T q by unfold noRight; split <;> omega), dif_pos h]
    · have h' : ¬noRight T q := by unfold noRight; split <;> omega
      have h0 : q.val ≠ 255 := fun h0 => h (by omega)
      rw [if_neg h', dif_neg h]
      exact hu _ _ (by dsimp only; omega) (by dsimp only; omega)
  unfold tileMixed mixed
  rw [e1, e2, e3, e4, e5, hu ⟨q, by omega⟩ p hp (Or.inl hq)]

variable (m : (ℓ : Loc nD τ sig) → Buf (Elt Ideal) ℓ) (c : Dev nD)

/-- The arguments. -/
def args : Args := ⟨m ((c : Thread nD τ).loc main_arg0), m ((c : Thread nD τ).loc main_arg1), m ((c : Thread nD τ).loc main_arg2),
  m ((c : Thread nD τ).loc main_arg3), m ((c : Thread nD τ).loc main_arg4), m ((c : Thread nD τ).loc main_arg5)⟩

/- Where the blocks lie. -/
theorem index0 : ∀ t : Fin cfg0.N, win0_0.index t = ![t.val / 17, t.val % 17, 0] :=
  (by decide +kernel : ∀ t : Fin grid0.N, win0_0.index t = ![t.val / 17, t.val % 17, 0])
theorem index1 : ∀ t : Fin cfg0.N, win0_1.index t = ![t.val / 17, min (4 * (t.val % 17 + 1)) 67, 0] :=
  (by decide +kernel : ∀ t : Fin grid0.N, win0_1.index t = ![t.val / 17, min (4 * (t.val % 17 + 1)) 67, 0])
theorem index2 : ∀ t : Fin cfg0.N, win0_2.index t = ![t.val / 17, min (t.val % 17) 1, 0, 0] :=
  (by decide +kernel : ∀ t : Fin grid0.N, win0_2.index t = ![t.val / 17, min (t.val % 17) 1, 0, 0])
theorem index3 : ∀ t : Fin cfg0.N, win0_3.index t = ![0, 0] :=
  (by decide +kernel : ∀ t : Fin grid0.N, win0_3.index t = ![0, 0])
theorem index4 : ∀ t : Fin cfg0.N, win0_4.index t = ![0, 0] :=
  (by decide +kernel : ∀ t : Fin grid0.N, win0_4.index t = ![0, 0])
theorem index5 : ∀ t : Fin cfg0.N, win0_5.index t = ![0, 0] :=
  (by decide +kernel : ∀ t : Fin grid0.N, win0_5.index t = ![0, 0])
theorem index6 : ∀ t : Fin cfg0.N, win0_6.index t = ![0, 0] :=
  (by decide +kernel : ∀ t : Fin grid0.N, win0_6.index t = ![0, 0])
theorem index7 : ∀ t : Fin cfg0.N, win0_7.index t = ![t.val / 17, t.val % 17, 0] ∧ win0_7.flush t = true :=
  (by decide +kernel : ∀ t : Fin grid0.N, win0_7.index t = ![t.val / 17, t.val % 17, 0] ∧ win0_7.flush t = true)
theorem index8 : ∀ t : Fin cfg0.N, win0_8.index t = ![t.val / 17, t.val % 17, 0] ∧ win0_8.flush t = true :=
  (by decide +kernel : ∀ t : Fin grid0.N, win0_8.index t = ![t.val / 17, t.val % 17, 0] ∧ win0_8.flush t = true)
theorem index9 : ∀ t : Fin cfg0.N, win0_9.index t = ![t.val / 17, t.val % 17, 0] ∧ win0_9.flush t = true :=
  (by decide +kernel : ∀ t : Fin grid0.N, win0_9.index t = ![t.val / 17, t.val % 17, 0] ∧ win0_9.flush t = true)
theorem index10 : ∀ t : Fin cfg0.N, win0_10.index t = ![t.val / 17, t.val % 17, 0] ∧ win0_10.flush t = true :=
  (by decide +kernel : ∀ t : Fin grid0.N, win0_10.index t = ![t.val / 17, t.val % 17, 0] ∧ win0_10.flush t = true)
theorem index11 : ∀ t : Fin cfg0.N, win0_11.index t = ![t.val / 17, t.val % 17, 0] ∧ win0_11.flush t = true :=
  (by decide +kernel : ∀ t : Fin grid0.N, win0_11.index t = ![t.val / 17, t.val % 17, 0] ∧ win0_11.flush t = true)
theorem coords_tile : ∀ t : Fin cfg0.N, (tileOf (grid0.coords t)).val = t.val % 17 :=
  (by decide +kernel : ∀ t : Fin grid0.N, (tileOf (grid0.coords t)).val = t.val % 17)

/- What the host operations before the call leave. -/
theorem V_v1 (j : Fin 1024) : V m c main_v1 (ix2 0 j) = (args m c).a2 (ix2 0 j) := by
  unfold V hostOps0
  after_reads_simp
  pointwise
  rfl
theorem V_v5 (j : Fin 3456) : V m c main_v5 (ix2 0 j) = (args m c).a4 (ix2 0 j) := by
  unfold V hostOps0
  after_reads_simp
  pointwise
  rfl
theorem V_v7 (j : Fin 1024) : V m c main_v7 (ix2 0 j) = (args m c).a5 (ix2 0 j) := by
  unfold V hostOps0
  after_reads_simp
  pointwise
  rfl
theorem V_v3 (k : Fin 1024) (f : Fin 7552) : V m c main_v3 (ix2 k f) = (args m c).a3 (ix3 0 k f) := by
  unfold V hostOps0
  after_reads_simp
  pointwise
  rfl

section

variable (t : Fin cfg0.N) (b : Fin 4) (hb : b.val = t.val / 17)

/- A block's element in its array. -/
include hb in
theorem in0 (q : Fin 256) (j : Fin 1024) (p : Fin 4352) (hp : p.val = 256 * (t.val % 17) + q) :
    iblk m c 0 t (ix3 0 q j) = (args m c).a0 (ix3 b p j) := by
  rw [show (args m c).a0 = V m c main_arg0 from (V_main_arg0 m c).symm]
  show V m c main_arg0 ((win0_0.rect t).emb (ix3 0 q j)) = _
  congr 1
  funext a
  apply Fin.ext
  rw [Pipeline.Window.rect_emb_val win0_0 t (ix3 0 q j) a rfl, index0]
  fin_cases a
  · show t.val / 17 * 1 + 0 = b.val; omega
  · show t.val % 17 * 256 + q.val = p.val; omega
  · show 0 * 1024 + j.val = j.val; omega
include hb in
theorem in1 (q : Fin 64) (j : Fin 1024) (p : Fin 4352) (hp : p.val = 256 * (t.val % 17 + 1) + q) :
    iblk m c 1 t (ix3 0 q j) = (args m c).a0 (ix3 b p j) := by
  rw [show (args m c).a0 = V m c main_arg0 from (V_main_arg0 m c).symm]
  show V m c main_arg0 ((win0_1.rect t).emb (ix3 0 q j)) = _
  congr 1
  funext a
  apply Fin.ext
  rw [Pipeline.Window.rect_emb_val win0_1 t (ix3 0 q j) a rfl, index1]
  fin_cases a
  · show t.val / 17 * 1 + 0 = b.val; omega
  · show min (4 * (t.val % 17 + 1)) 67 * 64 + q.val = p.val; omega
  · show 0 * 1024 + j.val = j.val; omega
include hb in
theorem in2 (r : Fin 9) (j : Fin 1024) (s : Fin 2) (hs : s.val = min (t.val % 17) 1) :
    iblk m c 2 t (ix4 0 0 r j) = (args m c).a1 (ix4 b s r j) := by
  rw [show (args m c).a1 = V m c main_arg1 from (V_main_arg1 m c).symm]
  show V m c main_arg1 ((win0_2.rect t).emb (ix4 0 0 r j)) = _
  congr 1
  funext a
  apply Fin.ext
  rw [Pipeline.Window.rect_emb_val win0_2 t (ix4 0 0 r j) a rfl, index2]
  fin_cases a
  · show t.val / 17 * 1 + 0 = b.val; omega
  · show min (t.val % 17) 1 * 1 + 0 = s.val; omega
  · show 0 * 9 + r.val = r.val; omega
  · show 0 * 1024 + j.val = j.val; omega
theorem in3 (j : Fin 1024) :
    iblk m c 3 t (ix2 0 j) = (args m c).a2 (ix2 0 j) := by
  rw [← V_v1 m c]
  show V m c main_v1 ((win0_3.rect t).emb (ix2 0 j)) = _
  congr 1
  funext a
  apply Fin.ext
  rw [Pipeline.Window.rect_emb_val win0_3 t (ix2 0 j) a rfl, index3]
  fin_cases a
  · show 0 * 1 + 0 = 0; omega
  · show 0 * 1024 + j.val = j.val; omega
theorem in4 (k : Fin 1024) (f : Fin 7552) :
    iblk m c 4 t (ix2 k f) = (args m c).a3 (ix3 0 k f) := by
  rw [← V_v3 m c]
  show V m c main_v3 ((win0_4.rect t).emb (ix2 k f)) = _
  congr 1
  funext a
  apply Fin.ext
  rw [Pipeline.Window.rect_emb_val win0_4 t (ix2 k f) a rfl, index4]
  fin_cases a
  · show 0 * 1024 + k.val = k.val; omega
  · show 0 * 7552 + f.val = f.val; omega
theorem in5 (j : Fin 3456) :
    iblk m c 5 t (ix2 0 j) = (args m c).a4 (ix2 0 j) := by
  rw [← V_v5 m c]
  show V m c main_v5 ((win0_5.rect t).emb (ix2 0 j)) = _
  congr 1
  funext a
  apply Fin.ext
  rw [Pipeline.Window.rect_emb_val win0_5 t (ix2 0 j) a rfl, index5]
  fin_cases a
  · show 0 * 1 + 0 = 0; omega
  · show 0 * 3456 + j.val = j.val; omega
theorem in6 (j : Fin 1024) :
    iblk m c 6 t (ix2 0 j) = (args m c).a5 (ix2 0 j) := by
  rw [← V_v7 m c]
  show V m c main_v7 ((win0_6.rect t).emb (ix2 0 j)) = _
  congr 1
  funext a
  apply Fin.ext
  rw [Pipeline.Window.rect_emb_val win0_6 t (ix2 0 j) a rfl, index6]
  fin_cases a
  · show 0 * 1 + 0 = 0; omega
  · show 0 * 1024 + j.val = j.val; omega

include hb in
/-- A tile's row through the matrix is its token's. -/
theorem tile_proj (f : Fin 7552) (r : Fin 320) (p : Fin 4352) (hp : p.val = 256 * (t.val % 17) + r)
    (hr : r.val < 256 ∨ 1 ≤ t.val % 17) :
    tileProj (iblk m c 0 t) (iblk m c 1 t) (iblk m c 2 t) (iblk m c 3 t) (iblk m c 4 t) f r = (args m c).proj b p f := by
  have hs : (part p).val = min (t.val % 17) 1 := by
    unfold part
    split
    · show 0 = _; omega
    · show 1 = _; omega
  have e : (fun j : Fin 1024 => if h : r.val < 256 then iblk m c 0 t (ix3 0 ⟨r, h⟩ j) else iblk m c 1 t (ix3 0 ⟨r - 256, by omega⟩ j))
      = fun j => (args m c).a0 (ix3 b p j) := by
    funext j
    split
    · exact in0 m c t b hb _ j p hp
    · exact in1 m c t b hb _ j p (by dsimp only; omega)
  unfold tileProj Args.proj Args.row
  rw [e]
  simp only [in2 m c t b hb _ _ (part p) hs, in3, in4]

include hb in
/-- The rows above a tile of the latents, but the first, are the last of the tile before. -/
theorem above_apply (r : Fin 64) (f : Fin 3456) (p : Fin 4352) (h : 2 ≤ t.val % 17) (hp : p.val + 64 = 256 * (t.val % 17) + r) :
    (outsAt0 m c (t.val - 1) (Nat.lt_of_le_of_lt (Nat.sub_le _ _) t.isLt)).2.2.2.2.2 (ix2 r f)
      = (args m c).proj b p ⟨f, by omega⟩ := by
  have ht : t.val - 1 < cfg0.N := Nat.lt_of_le_of_lt (Nat.sub_le _ _) t.isLt
  rw [show outsAt0 m c (t.val - 1) ht = _ from outsAt0_B m c ⟨t.val - 1, ht⟩ (by dsimp only; omega)]
  dsimp only
  refine (kept_B _ r f).trans ?_
  exact tile_proj m c ⟨t.val - 1, ht⟩ b (by dsimp only; omega) _ _ p (by dsimp only; omega) (Or.inl (by dsimp only; omega))

variable (p : Fin 4352) (q : Fin 256) (hp : p.val = 256 * (t.val % 17) + q)

/- A tile's mixed columns, in either case. -/
include hb hp in
theorem mixed_first (f : Fin 3456) (h : t.val % 17 = 0) :
    tileMixed (tileOf (grid0.coords t)) (tileProj (iblk m c 0 t) (iblk m c 1 t) (iblk m c 2 t) (iblk m c 3 t) (iblk m c 4 t) ⟨f, by omega⟩) (fun _ => 0) (iblk m c 5 t (ix2 0 f)) q
      = (args m c).z b p f := by
  rw [in5]
  exact tile_mixed _ q p (by rw [coords_tile]; exact hp) _
    (fun r s h1 h2 => tile_proj m c t b hb _ r s (by rw [← coords_tile]; exact h1) (by rw [← coords_tile]; exact h2))
    (fun r s h1 _ => absurd h1 (by rw [coords_tile]; omega))
include hb hp in
theorem mixed_next (f : Fin 3456) :
    tileMixed (tileOf (grid0.coords t)) (tileProj (iblk m c 0 t) (iblk m c 1 t) (iblk m c 2 t) (iblk m c 3 t) (iblk m c 4 t) ⟨f, by omega⟩)
        (fun r => (outsAt0 m c (t.val - 1) (Nat.lt_of_le_of_lt (Nat.sub_le _ _) t.isLt)).2.2.2.2.2 (ix2 r f))
        (iblk m c 5 t (ix2 0 f)) q
      = (args m c).z b p f := by
  rw [in5]
  exact tile_mixed _ q p (by rw [coords_tile]; exact hp) _
    (fun r s h1 h2 => tile_proj m c t b hb _ r s (by rw [← coords_tile]; exact h1) (by rw [← coords_tile]; exact h2))
    (fun r s h1 h2 => above_apply m c t b hb r f s (by rw [← coords_tile]; exact h1) (by rw [← coords_tile]; exact h2))

include hb hp in
theorem key_first (x : Fin 1024) (h : t.val % 17 = 0) :
    tileMixed (tileOf (grid0.coords t)) (tileProj (iblk m c 0 t) (iblk m c 1 t) (iblk m c 2 t) (iblk m c 3 t) (iblk m c 4 t) ⟨x + 1024, by omega⟩) (fun _ => 0)
        (iblk m c 5 t (ix2 0 ⟨x + 1024, by omega⟩)) q * (iblk m c 6 t (ix2 0 x) : EReal)
      = (args m c).key b p x := by
  rw [mixed_first m c t b hb p q hp ⟨x + 1024, by omega⟩ h, in6]
  rfl
include hb hp in
theorem key_next (x : Fin 1024) :
    tileMixed (tileOf (grid0.coords t)) (tileProj (iblk m c 0 t) (iblk m c 1 t) (iblk m c 2 t) (iblk m c 3 t) (iblk m c 4 t) ⟨x + 1024, by omega⟩)
        (fun r => (outsAt0 m c (t.val - 1) (Nat.lt_of_le_of_lt (Nat.sub_le _ _) t.isLt)).2.2.2.2.2 (ix2 r ⟨x + 1024, by omega⟩))
        (iblk m c 5 t (ix2 0 ⟨x + 1024, by omega⟩)) q * (iblk m c 6 t (ix2 0 x) : EReal)
      = (args m c).key b p x := by
  rw [mixed_next m c t b hb p q hp ⟨x + 1024, by omega⟩, in6]
  rfl

end

/-- A token's place: its tile's step and its row in the tile. -/
theorem place (b : Fin 4) (p : Fin 4352) :
    ∃ (t : Fin cfg0.N) (q : Fin 256), b.val = t.val / 17 ∧ p.val = 256 * (t.val % 17) + q := by
  have hp := p.isLt
  have hb := b.isLt
  have hN : cfg0.N = 68 := N_0
  refine ⟨⟨17 * b.val + p.val / 256, by rw [hN]; omega⟩, ⟨p.val % 256, Nat.mod_lt _ (by decide)⟩, ?_, ?_⟩
  · dsimp only; omega
  · dsimp only; omega

/-- The mixed columns of every token. -/
theorem result7 (b : Fin 4) (p : Fin 4352) (f : Fin 3456) :
    (dats m 0 c).arrAt 7 cfg0.N (ix3 b p f) = (args m c).z b p f := by
  obtain ⟨t, q, hbt, hpt⟩ := place b p
  have e := congrFun (Value.blocks7 m c t (index7 t).2) (ix3 0 q f)
  have hi : (win0_7.rect t).emb (ix3 0 q f) = ix3 b p f := by
    funext a
    apply Fin.ext
    rw [Pipeline.Window.rect_emb_val win0_7 t (ix3 0 q f) a rfl, (index7 t).1]
    fin_cases a
    · show t.val / 17 * 1 + 0 = b.val; omega
    · show t.val % 17 * 256 + q.val = p.val; omega
    · show 0 * 3456 + f.val = f.val; omega
  rw [← hi]
  by_cases h0 : t.val % 68 = 0
  · rw [Value.flushed7_A m c t h0] at e
    refine Eq.trans e ?_
    exact (out7_A _ (by rw [coords_tile]; omega) q f).trans (mixed_first m c t b hbt p q hpt f (by omega))
  · rw [Value.flushed7_B m c t h0] at e
    refine Eq.trans e ?_
    exact (out7_B _ q f).trans (mixed_next m c t b hbt p q hpt f)

/-- Those that are normalised, where they are finite. -/
theorem result8 (b : Fin 4) (p : Fin 4352) (f : Fin 1024) (h : ∀ x, Mix.IsFin ((args m c).key b p x)) :
    (dats m 0 c).arrAt 8 cfg0.N (ix3 b p f) = unit ((args m c).key b p) f := by
  obtain ⟨t, q, hbt, hpt⟩ := place b p
  have e := congrFun (Value.blocks8 m c t (index8 t).2) (ix3 0 q f)
  have hi : (win0_8.rect t).emb (ix3 0 q f) = ix3 b p f := by
    funext a
    apply Fin.ext
    rw [Pipeline.Window.rect_emb_val win0_8 t (ix3 0 q f) a rfl, (index8 t).1]
    fin_cases a
    · show t.val / 17 * 1 + 0 = b.val; omega
    · show t.val % 17 * 256 + q.val = p.val; omega
    · show 0 * 1024 + f.val = f.val; omega
  rw [← hi]
  by_cases h0 : t.val % 68 = 0
  · rw [Value.flushed8_A m c t h0] at e
    refine Eq.trans e ?_
    exact out8_A _ (by rw [coords_tile]; omega) q f (k := (args m c).key b p)
      (fun x => key_first m c t b hbt p q hpt x (by omega)) h
  · rw [Value.flushed8_B m c t h0] at e
    refine Eq.trans e ?_
    exact out8_B _ q f (k := (args m c).key b p) (fun x => key_next m c t b hbt p q hpt x) h

/-- The other columns of every token. -/
theorem result9 (b : Fin 4) (p : Fin 4352) (f : Fin 1024) :
    (dats m 0 c).arrAt 9 cfg0.N (ix3 b p f) = (args m c).proj b p ⟨3456 + f, by omega⟩ := by
  obtain ⟨t, q, hbt, hpt⟩ := place b p
  have e := congrFun (Value.blocks9 m c t (index9 t).2) (ix3 0 q f)
  have hi : (win0_9.rect t).emb (ix3 0 q f) = ix3 b p f := by
    funext a
    apply Fin.ext
    rw [Pipeline.Window.rect_emb_val win0_9 t (ix3 0 q f) a rfl, (index9 t).1]
    fin_cases a
    · show t.val / 17 * 1 + 0 = b.val; omega
    · show t.val % 17 * 256 + q.val = p.val; omega
    · show 0 * 1024 + f.val = f.val; omega
  rw [← hi]
  by_cases h0 : t.val % 68 = 0
  · rw [Value.flushed9_A m c t h0] at e
    refine Eq.trans e ?_
    exact (out9_A _ q f).trans (tile_proj m c t b hbt _ _ p hpt (Or.inl q.isLt))
  · rw [Value.flushed9_B m c t h0] at e
    refine Eq.trans e ?_
    exact (out9_B _ q f).trans (tile_proj m c t b hbt _ _ p hpt (Or.inl q.isLt))

/-- The other columns of every token. -/
theorem result10 (b : Fin 4) (p : Fin 4352) (f : Fin 1024) :
    (dats m 0 c).arrAt 10 cfg0.N (ix3 b p f) = (args m c).proj b p ⟨4480 + f, by omega⟩ := by
  obtain ⟨t, q, hbt, hpt⟩ := place b p
  have e := congrFun (Value.blocks10 m c t (index10 t).2) (ix3 0 q f)
  have hi : (win0_10.rect t).emb (ix3 0 q f) = ix3 b p f := by
    funext a
    apply Fin.ext
    rw [Pipeline.Window.rect_emb_val win0_10 t (ix3 0 q f) a rfl, (index10 t).1]
    fin_cases a
    · show t.val / 17 * 1 + 0 = b.val; omega
    · show t.val % 17 * 256 + q.val = p.val; omega
    · show 0 * 1024 + f.val = f.val; omega
  rw [← hi]
  by_cases h0 : t.val % 68 = 0
  · rw [Value.flushed10_A m c t h0] at e
    refine Eq.trans e ?_
    exact (out10_A _ q f).trans (tile_proj m c t b hbt _ _ p hpt (Or.inl q.isLt))
  · rw [Value.flushed10_B m c t h0] at e
    refine Eq.trans e ?_
    exact (out10_B _ q f).trans (tile_proj m c t b hbt _ _ p hpt (Or.inl q.isLt))

/-- The other columns of every token. -/
theorem result11 (b : Fin 4) (p : Fin 4352) (f : Fin 2048) :
    (dats m 0 c).arrAt 11 cfg0.N (ix3 b p f) = (args m c).proj b p ⟨5504 + f, by omega⟩ := by
  obtain ⟨t, q, hbt, hpt⟩ := place b p
  have e := congrFun (Value.blocks11 m c t (index11 t).2) (ix3 0 q f)
  have hi : (win0_11.rect t).emb (ix3 0 q f) = ix3 b p f := by
    funext a
    apply Fin.ext
    rw [Pipeline.Window.rect_emb_val win0_11 t (ix3 0 q f) a rfl, (index11 t).1]
    fin_cases a
    · show t.val / 17 * 1 + 0 = b.val; omega
    · show t.val % 17 * 256 + q.val = p.val; omega
    · show 0 * 2048 + f.val = f.val; omega
  rw [← hi]
  by_cases h0 : t.val % 68 = 0
  · rw [Value.flushed11_A m c t h0] at e
    refine Eq.trans e ?_
    exact (out11_A _ q f).trans (tile_proj m c t b hbt _ _ p hpt (Or.inl q.isLt))
  · rw [Value.flushed11_B m c t h0] at e
    refine Eq.trans e ?_
    exact (out11_B _ q f).trans (tile_proj m c t b hbt _ _ p hpt (Or.inl q.isLt))

end Cert.Kernel4Ideal.Proj

end
-- ==== Proof.Proj.Pre.lean ====
/- What the precondition says: every argument is finite, and so is every weighted column. -/
module

public import proofs.«01_k».proof.Proof.Gen.Pre_inputs_finite
public import proofs.«01_k».proof.Proof.Mix.Pre
public import proofs.«01_k».proof.Proof.Proj.Tile

@[expose] public section

noncomputable section

namespace Cert.Proj

open Cert.Ffn Cert.Mix Cert.Pre_inputs_finite Idealize.ShloMosaic

/-- An and of bits is one only of ones. -/
theorem fold_one {α : Type} (f : α → BitVec 1) (L : List α) : ∀ r : BitVec 1,
    L.foldl (fun r n => IntOp.andi r (f n)) r = 1#1 → r = 1#1 ∧ ∀ n ∈ L, f n = 1#1 := by
  induction L with
  | nil => exact fun r h => ⟨h, fun n hn => absurd hn (List.not_mem_nil)⟩
  | cons a L ih =>
    intro r h
    obtain ⟨h1, h2⟩ := ih _ h
    obtain ⟨h3, h4⟩ := and_one h1
    refine ⟨h3, fun n hn => ?_⟩
    rcases List.mem_cons.mp hn with rfl | hn
    · exact h4
    · exact h2 n hn

/-- The and over all of an array. -/
theorem ones {s : Shape} {axes : List (Fin s.rank)} (x : IVec s 1) (v : IVec S_ 1) (h : s.ReducesTo axes S_)
    (hu : 0 < S_.numel) (j : S_.Idx) (e : Host.reduce IntOp.andi x v h hu j = 1#1) (i : s.Idx) : x i = 1#1 := by
  have := (fold_one (fun n => x (s.rowMajor.symm n)) _ _ e).2 (s.rowMajor i)
    (List.mem_filter.mpr ⟨List.mem_finRange _, decide_eq_true (funext fun a => a.elim0)⟩)
  simpa using this

/-- An array whose elements all pass the test is finite. -/
theorem fin_of_ones {s : Shape} {axes : List (Fin s.rank)} (x : FVec Ideal s .f32) (v : IVec S_ 1) (hb : S_.BroadcastsInDim s ![])
    (h : s.ReducesTo axes S_) (hu : 0 < S_.numel) (j : S_.Idx)
    (e : Host.reduce IntOp.andi (cmpf .olt (Host.absf x) (broadcastInDim s ![] hb (constant S_ .f32 0x7F800000#32))) v h hu j = 1#1)
    (i : s.Idx) : IsFin (x i) := fin_of_test (ones _ v h hu j e i)

/-- What the precondition says of the arguments. -/
theorem finite_of_pre (A : Args) (h : Cert.Pre_inputs_finite.fn (F := Ideal) A.a0 A.a1 A.a2 A.a3 A.a4 A.a5 = fun _ => 1#1) :
    A.Finite := by
  have h5 := congrFun h (fun a => a.elim0)
  obtain ⟨h4, e5⟩ := and_one h5
  obtain ⟨h3, e4⟩ := and_one h4
  obtain ⟨h2, e3⟩ := and_one h3
  obtain ⟨h1, e2⟩ := and_one h2
  obtain ⟨e0, e1⟩ := and_one h1
  exact ⟨fin_of_ones _ _ _ _ _ _ e0, fin_of_ones _ _ _ _ _ _ e1, fin_of_ones _ _ _ _ _ _ e2, fin_of_ones _ _ _ _ _ _ e3,
    fin_of_ones _ _ _ _ _ _ e4, fin_of_ones _ _ _ _ _ _ e5⟩

theorem fin_zero : IsFin 0 := ⟨0, rfl⟩
theorem fin_one : IsFin 1 := ⟨1, rfl⟩

/-- The reciprocal root of a mean of squares and something more is real. -/
theorem rsqrt_fin {u : Fin 1024 → EReal} (h : ∀ j, IsFin (u j)) :
    IsFin (Ideal.rsqrt (Ideal.div (∑ x, u x * u x) (Ideal.ofBits .f32 1149239296#32) + Ideal.ofBits .f32 897988541#32)) := by
  obtain ⟨e, he, hp⟩ : ∃ e : ℝ, Ideal.ofBits .f32 897988541#32 = (e : EReal) ∧ 0 < e := by
    refine ⟨_, by simp [Ideal.ofBits, Ideal.ieee]; rfl, ?_⟩
    positivity
  obtain ⟨n, hn, hn0⟩ : ∃ n : ℝ, Ideal.ofBits .f32 1149239296#32 = (n : EReal) ∧ 0 < n := by
    refine ⟨_, by simp [Ideal.ofBits, Ideal.ieee]; rfl, ?_⟩
    positivity
  obtain ⟨r, hr⟩ := IsFin.sum fun x => (h x).mul (h x)
  have h0 : 0 ≤ r := by
    have : (0 : EReal) ≤ ∑ x, u x * u x := Finset.sum_nonneg fun x _ => by
      obtain ⟨v, hv⟩ := h x
      rw [hv, ← EReal.coe_mul]
      exact_mod_cast mul_self_nonneg v
    rw [hr] at this
    exact_mod_cast this
  have hd : Ideal.div (r : EReal) (n : EReal) + (e : EReal) = ((r * n⁻¹ + e : ℝ) : EReal) := by
    unfold Ideal.div
    rw [if_neg (by exact_mod_cast hn0.ne'), ← EReal.coe_inv, ← EReal.coe_mul, ← EReal.coe_add]
  rw [he, hn, hr, hd]
  have hq : 0 < r * n⁻¹ + e := by positivity
  refine ⟨(Real.sqrt (r * n⁻¹ + e))⁻¹, ?_⟩
  show (if _ < _ then _ else if _ = _ then _ else _) = _
  rw [if_neg (not_lt.mpr hq.le), if_neg hq.ne']

theorem weight_fin (p : Fin 4352) : IsFin (weight p) := by
  unfold weight
  split
  · exact ⟨_, by simp [Ideal.ofBits, Ideal.ieee]; rfl⟩
  · exact ⟨_, by simp [Ideal.ofBits, Ideal.ieee]; rfl⟩

/-- What is finite in every token is finite when it is mixed. -/
theorem mixed_fin {u : Fin 4352 → EReal} (h : ∀ p, IsFin (u p)) {mu : EReal} (hm : IsFin mu) (p : Fin 4352) :
    IsFin (mixed u mu p) := by
  have hu : IsFin (up u p) := by unfold up; split; exacts [fin_zero, h _]
  have hd : IsFin (down u p) := by unfold down; split; exacts [fin_zero, h _]
  have hl : IsFin (left u p) := by unfold left; split; exacts [fin_zero, h _]
  have hr : IsFin (right u p) := by unfold right; split; exacts [fin_zero, h _]
  exact (h p).add ((((weight_fin p).mul (((hu.add hd).add hl).add hr)).sub (h p)).mul hm)

/-- The weighted columns of finite arguments are finite. -/
theorem key_fin {A : Args} (h : A.Finite) (b : Fin 4) (p : Fin 4352) (j : Fin 1024) : IsFin (A.key b p j) := by
  obtain ⟨h0, h1, h2, h3, h4, h5⟩ := h
  have hrow : ∀ p j, IsFin (A.row b p j) := fun p j => by
    unfold Args.row normed rms
    exact ((((h0 _).mul (rsqrt_fin fun j => h0 _)).mul (h2 _)).mul (fin_one.add (h1 _))).add (h1 _)
  have hproj : ∀ p f, IsFin (A.proj b p f) := fun p f => by
    unfold Args.proj through
    exact IsFin.sum fun k => (hrow p k).mul (h3 _)
  unfold Args.key Args.z
  exact (mixed_fin (fun p => hproj p _) (h4 _) p).mul (h5 _)

end Cert.Proj

end
-- ==== Proof.Proj.Ref.lean ====
/- The reference of the input projection at an index: of every token, the mixed columns, the normalised ones and the others. -/
module

public import proofs.«01_k».proof.Proof.Gen.Reference4Ideal.Run
public import proofs.«01_k».proof.Proof.Proj.Spec
public import Idealize.ShloMosaic.Lib.Pointwise

@[expose] public section

set_option maxRecDepth 16384

noncomputable section

namespace Cert.Reference4Ideal.Proj

open Cert.Proj Cert.Ffn Cert.Reference4Ideal Cert.Reference4Ideal.Gen Idealize.ShloMosaic Idealize.ShloMosaic.TcCoe Idealize.SL.Sem

variable (V0 : Valuation τ sig (Elt Ideal)) (b : Fin 4)

/-- The arguments, from what the buffers hold. -/
def args : Args := ⟨V0 (Proc.devRef .tc main_arg0), V0 (Proc.devRef .tc main_arg1), V0 (Proc.devRef .tc main_arg2),
  V0 (Proc.devRef .tc main_arg3), V0 (Proc.devRef .tc main_arg4), V0 (Proc.devRef .tc main_arg5)⟩

/- A token of the context, and of the latents. -/
def inC (p : Fin 256) : Fin 4352 := ⟨p, by omega⟩
def inX (p : Fin 4096) : Fin 4352 := ⟨256 + p, by omega⟩
theorem part_inC (p : Fin 256) : part (inC p) = 0 := if_pos p.isLt
theorem part_inX (p : Fin 4096) : part (inX p) = 1 := if_neg (by show ¬256 + p.val < 256; omega)

/- A column padded with nought. -/
theorem zero_word : (FloatOps.sitofp FTy.f32 0#32 : Ideal .f32) = (0 : EReal) := by
  show ((((0#32).toInt : ℝ)) : EReal) = 0
  simp
theorem padC (u : FVec Ideal S4x256x3456 .f32) (p : Fin 258) (f : Fin 3456) :
    pad S4x258x3456 ![0, 1, 0] ![0, 1, 0] ![0, 0, 0] u (sitofp .f32 (constantI S_ 32 0#32))
        pads_S4x256x3456_S4x258x3456_000_110_000 h_S_ (ix3 b p f)
      = if h : 1 ≤ p.val ∧ p.val - 1 < 256 then u (ix3 b ⟨p.val - 1, h.2⟩ f) else 0 := by
  pointwise
  rw [zero_word]
theorem padX (u : FVec Ideal S4x64x64x3456 .f32) (p q : Fin 66) (f : Fin 3456) :
    pad S4x66x66x3456 ![0, 1, 1, 0] ![0, 1, 1, 0] ![0, 0, 0, 0] u (sitofp .f32 (constantI S_ 32 0#32))
        pads_S4x64x64x3456_S4x66x66x3456_000_110_110_000 h_S_ (ix4 b p q f)
      = if h : (1 ≤ p.val ∧ p.val - 1 < 64) ∧ 1 ≤ q.val ∧ q.val - 1 < 64
          then u (ix4 b ⟨p.val - 1, h.1.2⟩ ⟨q.val - 1, h.2.2⟩ f) else 0 := by
  pointwise
  rw [zero_word]

theorem v61_apply (p : Fin 256) (f : Fin 7552) : Value.res_main_v61 V0 (ix3 b p f) = (args V0).proj b (inC p) f := by
  pointwise [Value.res_main_v61, Value.res_main_v0]
  unfold Args.proj Args.row
  rw [part_inC]
  rfl
theorem v123_apply (p : Fin 4096) (f : Fin 7552) : Value.res_main_v123 V0 (ix3 b p f) = (args V0).proj b (inX p) f := by
  pointwise [Value.res_main_v123, Value.res_main_v1]
  unfold Args.proj Args.row
  rw [part_inX]
  rfl

theorem v62_apply (p : Fin 256) (f : Fin 3456) :
    Value.res_main_v62 V0 (ix3 b p f) = (args V0).proj b (inC p) ⟨f, by omega⟩ := by
  refine Eq.trans ?_ (v61_apply V0 b p _)
  pointwise [Value.res_main_v62]
theorem v124_apply (p : Fin 4096) (f : Fin 3456) :
    Value.res_main_v124 V0 (ix3 b p f) = (args V0).proj b (inX p) ⟨f, by omega⟩ := by
  refine Eq.trans ?_ (v123_apply V0 b p _)
  pointwise [Value.res_main_v124]
theorem v67_apply (p : Fin 258) (f : Fin 3456) :
    Value.res_main_v67 V0 (ix3 b p f)
      = if h : 1 ≤ p.val ∧ p.val - 1 < 256 then (args V0).proj b (inC ⟨p.val - 1, h.2⟩) ⟨f, by omega⟩ else 0 := by
  refine (padC b (Value.res_main_v62 V0) p f).trans ?_
  simp only [v62_apply]
/-- The grid's rows and columns. -/
theorem grid_apply (u : FVec Ideal S4x4096x3456 .f32) (p q : Fin 64) (f : Fin 3456) :
    shapeCast S4x64x64x3456 u shapeCasts_S4x4096x3456_S4x64x64x3456 (ix4 b p q f) = u (ix3 b ⟨p * 64 + q, by omega⟩ f) := by
  pointwise
theorem v130_apply (p q : Fin 66) (f : Fin 3456) :
    Value.res_main_v130 V0 (ix4 b p q f)
      = if h : (1 ≤ p.val ∧ p.val - 1 < 64) ∧ 1 ≤ q.val ∧ q.val - 1 < 64
          then (args V0).proj b (inX ⟨(p.val - 1) * 64 + (q.val - 1), by omega⟩) ⟨f, by omega⟩ else 0 := by
  refine (padX b _ p q f).trans ?_
  split
  · exact (grid_apply b _ _ _ f).trans (v124_apply V0 b _ f)
  · rfl

/- The mixed columns. -/
theorem v77_apply (p : Fin 256) (f : Fin 3456) : Value.res_main_v77 V0 (ix3 b p f) = (args V0).z b (inC p) f := by
  have hp := p.isLt
  pointwise [Value.res_main_v77]
  rw [v62_apply, v67_apply, v67_apply]
  generalize hu : (fun p => (args V0).proj b p ⟨f, by omega⟩) = u
  have e : ∀ p, (args V0).proj b p ⟨f, by omega⟩ = u p := fun p => congrFun hu p
  unfold Args.z
  rw [hu]
  simp only [e]
  have h1 : up u (inC p) = 0 := dif_pos (by show p.val < 320; omega)
  have h2 : down u (inC p) = 0 := dif_pos (Or.inl hp)
  have h3 : weight (inC p) = Ideal.ofBits .f32 1056964608#32 := if_pos hp
  have h4 : left u (inC p) = if h : 1 ≤ p.val ∧ p.val - 1 < 256 then u (inC ⟨p.val - 1, h.2⟩) else 0 := by
    unfold left
    by_cases h : p.val = 0
    · rw [if_pos (show (inC p).val = 0 ∨ _ from Or.inl h), dif_neg (by omega)]
    · rw [if_neg (by show ¬(p.val = 0 ∨ 256 ≤ p.val ∧ _); omega), dif_pos (by omega)]
      rfl
  have h5 : right u (inC p)
      = if h : 1 ≤ 2 + p.val ∧ 2 + p.val - 1 < 256 then u (inC ⟨2 + p.val - 1, h.2⟩) else 0 := by
    unfold right
    by_cases h : p.val = 255
    · rw [dif_pos (show (inC p).val = 255 ∨ _ from Or.inl h), dif_neg (by omega)]
    · rw [dif_neg (by show ¬(p.val = 255 ∨ 256 ≤ p.val ∧ _); omega), dif_pos (by omega)]
      exact congrArg u (Fin.ext (by show p.val + 1 = 2 + p.val - 1; omega))
  unfold mixed lerp
  rw [h1, h2, h3, h4, h5, add_zero, zero_add]
  rfl

/- A latent's four neighbours, in the padded grid. -/
variable (u : Fin 4352 → EReal) (p : Fin 4096)
theorem up_inX : up u (inX p) = if h : (1 ≤ p.val / 64 ∧ p.val / 64 - 1 < 64) ∧ 1 ≤ 1 + p.val % 64 ∧ 1 + p.val % 64 - 1 < 64
    then u (inX ⟨(p.val / 64 - 1) * 64 + (1 + p.val % 64 - 1), by omega⟩) else 0 := by
  have hp := p.isLt
  unfold up
  by_cases h : p.val < 64
  · rw [dif_pos (show (inX p).val < 320 by show 256 + p.val < 320; omega), dif_neg (by omega)]
  · rw [dif_neg (show ¬(inX p).val < 320 by show ¬256 + p.val < 320; omega), dif_pos (by omega)]
    exact congrArg u (Fin.ext (by show 256 + p.val - 64 = 256 + ((p.val / 64 - 1) * 64 + (1 + p.val % 64 - 1)); omega))
theorem down_inX : down u (inX p)
    = if h : (1 ≤ 2 + p.val / 64 ∧ 2 + p.val / 64 - 1 < 64) ∧ 1 ≤ 1 + p.val % 64 ∧ 1 + p.val % 64 - 1 < 64
    then u (inX ⟨(2 + p.val / 64 - 1) * 64 + (1 + p.val % 64 - 1), by omega⟩) else 0 := by
  have hp := p.isLt
  unfold down
  by_cases h : 4032 ≤ p.val
  · rw [dif_pos (show (inX p).val < 256 ∨ 4288 ≤ (inX p).val from Or.inr (by show 4288 ≤ 256 + p.val; omega)), dif_neg (by omega)]
  · rw [dif_neg (show ¬((inX p).val < 256 ∨ 4288 ≤ (inX p).val) by show ¬(256 + p.val < 256 ∨ 4288 ≤ 256 + p.val); omega),
      dif_pos (by omega)]
    exact congrArg u (Fin.ext (by show 256 + p.val + 64 = 256 + ((2 + p.val / 64 - 1) * 64 + (1 + p.val % 64 - 1)); omega))
theorem left_inX : left u (inX p)
    = if h : (1 ≤ 1 + p.val / 64 ∧ 1 + p.val / 64 - 1 < 64) ∧ 1 ≤ p.val % 64 ∧ p.val % 64 - 1 < 64
    then u (inX ⟨(1 + p.val / 64 - 1) * 64 + (p.val % 64 - 1), by omega⟩) else 0 := by
  have hp := p.isLt
  unfold left
  by_cases h : p.val % 64 = 0
  · rw [if_pos (show (inX p).val = 0 ∨ 256 ≤ (inX p).val ∧ (inX p).val % 64 = 0 by
      show 256 + p.val = 0 ∨ 256 ≤ 256 + p.val ∧ (256 + p.val) % 64 = 0; omega), dif_neg (by omega)]
  · rw [if_neg (show ¬((inX p).val = 0 ∨ 256 ≤ (inX p).val ∧ (inX p).val % 64 = 0) by
      show ¬(256 + p.val = 0 ∨ 256 ≤ 256 + p.val ∧ (256 + p.val) % 64 = 0); omega), dif_pos (by omega)]
    exact congrArg u (Fin.ext (by show 256 + p.val - 1 = 256 + ((1 + p.val / 64 - 1) * 64 + (p.val % 64 - 1)); omega))
theorem right_inX : right u (inX p)
    = if h : (1 ≤ 1 + p.val / 64 ∧ 1 + p.val / 64 - 1 < 64) ∧ 1 ≤ 2 + p.val % 64 ∧ 2 + p.val % 64 - 1 < 64
    then u (inX ⟨(1 + p.val / 64 - 1) * 64 + (2 + p.val % 64 - 1), by omega⟩) else 0 := by
  have hp := p.isLt
  unfold right
  by_cases h : p.val % 64 = 63
  · rw [dif_pos (show (inX p).val = 255 ∨ 256 ≤ (inX p).val ∧ (inX p).val % 64 = 63 by
      show 256 + p.val = 255 ∨ 256 ≤ 256 + p.val ∧ (256 + p.val) % 64 = 63; omega), dif_neg (by omega)]
  · rw [dif_neg (show ¬((inX p).val = 255 ∨ 256 ≤ (inX p).val ∧ (inX p).val % 64 = 63) by
      show ¬(256 + p.val = 255 ∨ 256 ≤ 256 + p.val ∧ (256 + p.val) % 64 = 63); omega), dif_pos (by omega)]
    exact congrArg u (Fin.ext (by show 256 + p.val + 1 = 256 + ((1 + p.val / 64 - 1) * 64 + (2 + p.val % 64 - 1)); omega))

/- The latents' step, over any columns and padded columns. -/
theorem ungrid_apply (w : FVec Ideal S4x64x64x3456 .f32) (f : Fin 3456) :
    shapeCast S4x4096x3456 w shapeCasts_S4x64x64x3456_S4x4096x3456 (ix3 b p f)
      = w (ix4 b ⟨p / 64, by omega⟩ ⟨p % 64, by omega⟩ f) := by
  pointwise
theorem sum_apply (w : FVec Ideal S4x66x66x3456 .f32) (i j : Fin 64) (f : Fin 3456) :
    mulf (broadcastInDim S4x64x64x3456 ![] bcast_S_S4x64x64x3456 (constant S_ .f32 0x3E800000#32)) (addf (addf (addf
        (extractStridedSlice S4x64x64x3456 ![0, 0, 1, 0] w slices_S4x66x66x3456_S4x64x64x3456_0_0_1_0)
        (extractStridedSlice S4x64x64x3456 ![0, 2, 1, 0] w slices_S4x66x66x3456_S4x64x64x3456_0_2_1_0))
        (extractStridedSlice S4x64x64x3456 ![0, 1, 0, 0] w slices_S4x66x66x3456_S4x64x64x3456_0_1_0_0))
        (extractStridedSlice S4x64x64x3456 ![0, 1, 2, 0] w slices_S4x66x66x3456_S4x64x64x3456_0_1_2_0)) (ix4 b i j f)
      = Ideal.ofBits .f32 1048576000#32 * (w (ix4 b ⟨i, by omega⟩ ⟨1 + j, by omega⟩ f) + w (ix4 b ⟨2 + i, by omega⟩ ⟨1 + j, by omega⟩ f)
          + w (ix4 b ⟨1 + i, by omega⟩ ⟨j, by omega⟩ f) + w (ix4 b ⟨1 + i, by omega⟩ ⟨2 + j, by omega⟩ f)) := by
  pointwise
def stepTo (u s mu : EReal) : EReal := u + (s - u) * mu
theorem step_apply (u s : FVec Ideal S4x4096x3456 .f32) (mu : FVec Ideal S1x3456 .f32) (f : Fin 3456) :
    addf u (mulf (subf s u) (broadcastInDim S4x4096x3456 ![0, 1, 2] bcast_S1x1x3456_S4x4096x3456_0_1_2
        (broadcastInDim S1x1x3456 ![2] bcast_S3456_S1x1x3456_2 (shapeCast S3456 mu shapeCasts_S1x3456_S3456)))) (ix3 b p f)
      = stepTo (u (ix3 b p f)) (s (ix3 b p f)) (mu (ix2 0 f)) := by
  unfold stepTo
  pointwise

theorem v145_apply (p : Fin 4096) (f : Fin 3456) : Value.res_main_v145 V0 (ix3 b p f) = (args V0).z b (inX p) f := by
  have hp := p.isLt
  refine (step_apply b p (Value.res_main_v124 V0) _ (V0 (Proc.devRef .tc main_arg4)) f).trans ?_
  refine (congrArg (fun s => stepTo (Value.res_main_v124 V0 (ix3 b p f)) s (V0 (Proc.devRef .tc main_arg4) (ix2 0 f)))
    ((ungrid_apply b p _ f).trans (sum_apply b (Value.res_main_v130 V0) _ _ f))).trans ?_
  unfold stepTo
  rw [v124_apply, v130_apply, v130_apply, v130_apply, v130_apply]
  generalize hu : (fun p => (args V0).proj b p ⟨f, by omega⟩) = u
  have e : ∀ p, (args V0).proj b p ⟨f, by omega⟩ = u p := fun p => congrFun hu p
  unfold Args.z
  rw [hu]
  simp only [e]
  have h3 : weight (inX p) = Ideal.ofBits .f32 1048576000#32 := if_neg (by show ¬256 + p.val < 256; omega)
  unfold mixed lerp
  rw [h3, up_inX, down_inX, left_inX, right_inX]
  rfl

/-- The head of a channel. -/
def head (j : Fin 1024) : Fin 16 := ⟨j.val / 64, by omega⟩

/- The weighted columns, at a channel of a head. -/
theorem v89_apply (p : Fin 256) (j : Fin 1024) (l : Fin 64) :
    Value.res_main_v89 V0 (ix4 b p (head j) l) = (args V0).key b (inC p) (Mix.lane j l) := by
  pointwise [Value.res_main_v89]
  rw [v77_apply]
  unfold Args.key
  refine congrArg₂ _ (congrArg _ (Fin.ext ?_)) rfl
  show 1024 + (j.val / 64 * 64 + l.val) = j.val / 64 * 64 + l.val + 1024
  omega
theorem v157_apply (p : Fin 4096) (j : Fin 1024) (l : Fin 64) :
    Value.res_main_v157 V0 (ix4 b p (head j) l) = (args V0).key b (inX p) (Mix.lane j l) := by
  pointwise [Value.res_main_v157]
  rw [v145_apply]
  unfold Args.key
  refine congrArg₂ _ (congrArg _ (Fin.ext ?_)) rfl
  show 1024 + (j.val / 64 * 64 + l.val) = j.val / 64 * 64 + l.val + 1024
  omega

end Cert.Reference4Ideal.Proj

end
-- ==== Proof.Proj.RefOut.lean ====
/- The reference's results at an index. -/
module

public import proofs.«01_k».proof.Proof.Proj.Ref

@[expose] public section

set_option maxRecDepth 16384

noncomputable section

namespace Cert.Reference4Ideal.Proj

open Cert.Proj Cert.Ffn Cert.Reference4Ideal Cert.Reference4Ideal.Gen Idealize.ShloMosaic Idealize.ShloMosaic.TcCoe Idealize.SL.Sem

/-- A token is of the context or a latent. -/
theorem tokens {P : Fin 4352 → Prop} (hc : ∀ p, P (inC p)) (hx : ∀ p, P (inX p)) (p : Fin 4352) : P p := by
  by_cases h : p.val < 256
  · exact hc ⟨p, h⟩
  · have e : p = inX ⟨p - 256, by omega⟩ := Fin.ext (by show p.val = 256 + (p.val - 256); omega)
    rw [e]
    exact hx _

variable (V0 : Valuation τ sig (Elt Ideal)) (b : Fin 4)

/-- The two parts of the tokens, one after the other. -/
theorem cat {n : ℕ} (x : FVec Ideal ⟨3, ![4, 256, n]⟩ .f32) (y : FVec Ideal ⟨3, ![4, 4096, n]⟩ .f32) (hcat) {g : Fin 4352 → EReal}
    (f : Fin n) (hx : ∀ p, x (ix3 b p f) = g (inC p)) (hy : ∀ p, y (ix3 b p f) = g (inX p)) (p : Fin 4352) :
    concatenate ⟨3, ![4, 4352, n]⟩ 1 [⟨⟨3, ![4, 256, n]⟩, x⟩, ⟨⟨3, ![4, 4096, n]⟩, y⟩] hcat (ix3 b p f) = g p := by
  pointwise
  revert p
  refine tokens (fun p => ?_) fun p => ?_
  · refine (dif_pos p.isLt).trans (Eq.trans (congrArg x ?_) (hx p))
    funext a
    fin_cases a <;> rfl
  · refine (dif_neg (show ¬256 + p.val < 256 by omega)).trans (Eq.trans (congrArg y ?_) (hy p))
    funext a
    apply Fin.ext
    fin_cases a
    · rfl
    · show 256 + p.val - 256 = p.val; omega
    · rfl
/-- Two halves of 1024 columns, side by side. -/
theorem pair {n : ℕ} (x y : FVec Ideal ⟨3, ![4, n, 1024]⟩ .f32) (hcat) {g : Fin 2048 → EReal} (p : Fin n)
    (hx : ∀ f : Fin 1024, x (ix3 b p f) = g ⟨f, by omega⟩) (hy : ∀ f : Fin 1024, y (ix3 b p f) = g ⟨1024 + f, by omega⟩)
    (f : Fin 2048) :
    concatenate ⟨3, ![4, n, 2048]⟩ 2 [⟨⟨3, ![4, n, 1024]⟩, x⟩, ⟨⟨3, ![4, n, 1024]⟩, y⟩] hcat (ix3 b p f) = g f := by
  pointwise
  split
  · refine Eq.trans (congrArg x ?_) (hx ⟨f, by assumption⟩)
    funext a
    fin_cases a <;> rfl
  · refine Eq.trans (congrArg y ?_) ((hy ⟨f - 1024, by omega⟩).trans (congrArg g (Fin.ext (by dsimp only; omega))))
    funext a
    fin_cases a <;> rfl
/-- A group of 1024 columns. -/
theorem cols {n : ℕ} (o : ℕ) (u : FVec Ideal ⟨3, ![4, n, 7552]⟩ .f32) (hs) (p : Fin n) (f : Fin 1024) (g : Fin 7552)
    (hg : g.val = o + f) :
    extractStridedSlice ⟨3, ![4, n, 1024]⟩ ![0, 0, o] u hs (ix3 b p f) = u (ix3 b p g) := by
  pointwise
  refine congrArg u ?_
  funext a
  apply Fin.ext
  fin_cases a
  · exact Nat.zero_add _
  · exact Nat.zero_add _
  · exact hg.symm
/- A row over its root sum of squares in each head. -/
theorem unit256 (u : FVec Ideal S4x256x16x64 .f32) {k : Fin 1024 → EReal} (p : Fin 256) (j : Fin 1024)
    (hk : ∀ l, u (ix4 b p (head j) l) = k (Mix.lane j l)) :
    shapeCast S4x256x1024 (Host.divf u (broadcastInDim S4x256x16x64 ![0, 1, 2, 3] bcast_S4x256x16x1_S4x256x16x64_0_1_2_3
        (maximumf (Host.sqrt (broadcastInDim S4x256x16x1 ![0, 1, 2] bcast_S4x256x16_S4x256x16x1_0_1_2
          (Host.reduceAdd (mulf u u) (constant S_ .f32 0x00000000#32) reducesTo_S4x256x16x64_S4x256x16_d3 h_S_)))
          (broadcastInDim S4x256x16x1 ![] bcast_S_S4x256x16x1 (constant S_ .f32 0x2B8CBCCC#32)))))
        shapeCasts_S4x256x16x64_S4x256x1024 (ix3 b p j) = unit k j := by
  pointwise
  have h0 : ∀ l : Fin 64, u (ix4 b p ⟨j.val / 64, by omega⟩ l) = k (Mix.lane j l) := hk
  simp only [h0]
  unfold unit Mix.headSum
  rw [Mix.lane_self]
theorem unit4096 (u : FVec Ideal S4x4096x16x64 .f32) {k : Fin 1024 → EReal} (p : Fin 4096) (j : Fin 1024)
    (hk : ∀ l, u (ix4 b p (head j) l) = k (Mix.lane j l)) :
    shapeCast S4x4096x1024 (Host.divf u (broadcastInDim S4x4096x16x64 ![0, 1, 2, 3] bcast_S4x4096x16x1_S4x4096x16x64_0_1_2_3
        (maximumf (Host.sqrt (broadcastInDim S4x4096x16x1 ![0, 1, 2] bcast_S4x4096x16_S4x4096x16x1_0_1_2
          (Host.reduceAdd (mulf u u) (constant S_ .f32 0x00000000#32) reducesTo_S4x4096x16x64_S4x4096x16_d3 h_S_)))
          (broadcastInDim S4x4096x16x1 ![] bcast_S_S4x4096x16x1 (constant S_ .f32 0x2B8CBCCC#32)))))
        shapeCasts_S4x4096x16x64_S4x4096x1024 (ix3 b p j) = unit k j := by
  pointwise
  have h0 : ∀ l : Fin 64, u (ix4 b p ⟨j.val / 64, by omega⟩ l) = k (Mix.lane j l) := hk
  simp only [h0]
  unfold unit Mix.headSum
  rw [Mix.lane_self]

end Cert.Reference4Ideal.Proj

end
-- ==== Proof.Proj.Algebra.lean ====
/- The claims of the input projection's call: the reference runs and leaves its arguments alone, and of finite arguments the
   kernel's five results are the reference's. -/
module

public import proofs.«01_k».proof.Defs
public import proofs.«01_k».proof.Proof.Gen.Kernel4Ideal.Value
public import proofs.«01_k».proof.Proof.Gen.Reference4Ideal.Run
public import proofs.«01_k».proof.Proof.Proj.Kernel
public import proofs.«01_k».proof.Proof.Proj.Pre
public import proofs.«01_k».proof.Proof.Proj.RefOut

@[expose] public section

set_option maxRecDepth 16384

noncomputable section

namespace Cert.Proj

open Idealize.ShloMosaic Idealize.ShloMosaic.TcCoe Idealize.SL.Sem
open Cert.Reference4Ideal.Proj

/-- The reference runs, and leaves its arguments as they were. -/
theorem frame_reference : Cert.quiescent_Reference4Ideal := fun m ρ _ =>
  (θ_run Cert.Reference4Ideal.defs _ _).mono (fun r h => ⟨fun c => (h c).2.2.2.2.2,
      Idealize.ShloMosaic.sem_eq_zero_of_no_sems (by decide) r.2⟩)
    (Cert.Reference4Ideal.Value.run (F := Ideal) m ρ)

/-- An index of a result, by its coordinates. -/
theorem index_eq {n : ℕ} (y : (⟨3, ![4, 4352, n]⟩ : Shape).Idx) : y = ix3 (y 0) (y 1) (y 2) := by
  funext a
  fin_cases a <;> rfl

/-- Two arrays that agree at every sample, token and column are one. -/
theorem ext3 {n : ℕ} {x y : (⟨3, ![4, 4352, n]⟩ : Shape).Idx → EReal} (h : ∀ b p f, x (ix3 b p f) = y (ix3 b p f)) : x = y :=
  funext fun i => by
    rw [index_eq i]
    exact h _ _ _

/-- A change of float format changes no number. -/
theorem trunc_apply {s : Shape} (x : FVec Ideal s .f32) (h : FTy.bits .bf16 < FTy.bits .f32) (i : s.Idx) :
    truncf .bf16 x h i = x i := rfl

/-- The kernel's results are the reference's. -/
theorem algebraic : Cert.algebraic_Kernel4Ideal_Reference4Ideal_pre_inputs_finite := by
  intro m ρ m' ρ' hpre hagree
  refine ⟨fun c => (Cert.Kernel4Ideal.Gen.dats m 0 c).arrAt 7 Cert.Kernel4Ideal.cfg0.N,
    fun c => (Cert.Kernel4Ideal.Gen.dats m 0 c).arrAt 8 Cert.Kernel4Ideal.cfg0.N,
    fun c => (Cert.Kernel4Ideal.Gen.dats m 0 c).arrAt 9 Cert.Kernel4Ideal.cfg0.N,
    fun c => (Cert.Kernel4Ideal.Gen.dats m 0 c).arrAt 10 Cert.Kernel4Ideal.cfg0.N,
    fun c => (Cert.Kernel4Ideal.Gen.dats m 0 c).arrAt 11 Cert.Kernel4Ideal.cfg0.N,
    Cert.Kernel4Ideal.Value.run_blocks (F := Ideal) m ρ, ?_⟩
  refine (θ_run Cert.Reference4Ideal.defs _ _).mono (fun _ h c => ?_)
    (Cert.Reference4Ideal.Value.run (F := Ideal) m' ρ')
  obtain ⟨g0, g1, g2, g3, g4, g5⟩ := hagree c
  obtain ⟨h0, h1, h2, h3, h4, hargs⟩ := h c
  have hr : Cert.Reference4Ideal.Proj.args (StableHlo.launchContents m' c) = Cert.Kernel4Ideal.Proj.args m c := by
    unfold Cert.Kernel4Ideal.Proj.args
    rw [← g0, ← g1, ← g2, ← g3, ← g4, ← g5]
    rfl
  have hfin : (Cert.Kernel4Ideal.Proj.args m c).Finite := finite_of_pre _ (hpre c)
  refine ⟨h0.trans (ext3 fun b p f => ?_), h1.trans (ext3 fun b p f => ?_), h2.trans (ext3 fun b p f => ?_),
    h3.trans (ext3 fun b p f => ?_), h4.trans (ext3 fun b p f => ?_), hargs⟩
  · refine (trunc_apply _ _ _).trans ((cat b _ _ _ (g := fun p => (args (StableHlo.launchContents m' c)).z b p f) f
      (fun p => v77_apply _ b p f) (fun p => v145_apply _ b p f) p).trans ?_)
    dsimp only
    rw [hr]
    exact (Cert.Kernel4Ideal.Proj.result7 m c b p f).symm
  · refine (cat b _ _ _ (g := fun p => unit ((args (StableHlo.launchContents m' c)).key b p) f) f
      (fun p => unit256 b _ p f fun l => v89_apply _ b p f l) (fun p => unit4096 b _ p f fun l => v157_apply _ b p f l) p).trans ?_
    dsimp only
    rw [hr]
    exact (Cert.Kernel4Ideal.Proj.result8 m c b p f fun x => key_fin hfin b p x).symm
  · refine (cat b _ _ _ (g := fun p => (args (StableHlo.launchContents m' c)).proj b p ⟨3456 + f, by omega⟩) f
      (fun p => (cols b 3456 _ _ p f ⟨3456 + f, by omega⟩ rfl).trans (v61_apply _ b p _))
      (fun p => (cols b 3456 _ _ p f ⟨3456 + f, by omega⟩ rfl).trans (v123_apply _ b p _)) p).trans ?_
    dsimp only
    rw [hr]
    exact (Cert.Kernel4Ideal.Proj.result9 m c b p f).symm
  · refine (trunc_apply _ _ _).trans ((cat b _ _ _
      (g := fun p => (args (StableHlo.launchContents m' c)).proj b p ⟨4480 + f, by omega⟩) f
      (fun p => (cols b 4480 _ _ p f ⟨4480 + f, by omega⟩ rfl).trans (v61_apply _ b p _))
      (fun p => (cols b 4480 _ _ p f ⟨4480 + f, by omega⟩ rfl).trans (v123_apply _ b p _)) p).trans ?_)
    dsimp only
    rw [hr]
    exact (Cert.Kernel4Ideal.Proj.result10 m c b p f).symm
  · refine (trunc_apply _ _ _).trans ((cat b _ _ _
      (g := fun p => (args (StableHlo.launchContents m' c)).proj b p ⟨5504 + f, by omega⟩) f
      (fun p => pair b _ _ _ (g := fun f => (args (StableHlo.launchContents m' c)).proj b (inC p) ⟨5504 + f, by omega⟩) p
        (fun f => (cols b 5504 _ _ p f ⟨5504 + f, by omega⟩ rfl).trans (v61_apply _ b p _))
        (fun f => (cols b 6528 _ _ p f ⟨5504 + (1024 + f), by omega⟩ (by dsimp only; omega)).trans (v61_apply _ b p _)) f)
      (fun p => pair b _ _ _ (g := fun f => (args (StableHlo.launchContents m' c)).proj b (inX p) ⟨5504 + f, by omega⟩) p
        (fun f => (cols b 5504 _ _ p f ⟨5504 + f, by omega⟩ rfl).trans (v123_apply _ b p _))
        (fun f => (cols b 6528 _ _ p f ⟨5504 + (1024 + f), by omega⟩ (by dsimp only; omega)).trans (v123_apply _ b p _)) f) p).trans ?_)
    dsimp only
    rw [hr]
    exact (Cert.Kernel4Ideal.Proj.result11 m c b p f).symm

end Cert.Proj

end
-- ==== Proof.lean ====
/- The claims, for the recurrence's call, for the first feed-forward call, for the last call and for the input projection's:
   the kernel, its reading over the extended reals and the reference each run to the end and leave their arguments alone;
   the reading is the kernel's own text; and over the extended reals the kernel's results are the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Pre_heads_finite
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Pre_inputs_finite
public import proofs.«01_k».proof.Proof.Bits.Frame
public import proofs.«01_k».proof.Proof.Lru.Frame
public import proofs.«01_k».proof.Proof.Lru.Algebra
public import proofs.«01_k».proof.Proof.Ffn.Algebra
public import proofs.«01_k».proof.Proof.Mix.Algebra
public import proofs.«01_k».proof.Proof.Proj.Algebra

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Pre_heads_finite.Gen.facts, Cert.Pre_inputs_finite.Gen.facts,
    fun m ρ _ => Cert.Kernel.Lru.frame m ρ,
    fun m ρ _ => Cert.KernelIdeal.Lru.frame m ρ,
    Cert.Lru.frame_reference,
    fun m ρ _ => Cert.Kernel2.Gen.frame m ρ,
    fun m ρ _ => Cert.Kernel2Ideal.Gen.frame m ρ,
    Cert.Ffn.frame_reference,
    fun m ρ _ => Cert.Kernel3.Gen.frame m ρ,
    fun m ρ _ => Cert.Kernel3Ideal.Gen.frame m ρ,
    fun m ρ _ => Cert.Kernel3Ideal.Gen.frame m ρ,
    Cert.Mix.frame_reference,
    fun m ρ _ => Cert.Mix.frame_reference m ρ trivial,
    fun m ρ _ => Cert.Kernel4.Gen.frame m ρ,
    fun m ρ _ => Cert.Kernel4Ideal.Gen.frame m ρ,
    fun m ρ _ => Cert.Kernel4Ideal.Gen.frame m ρ,
    Cert.Proj.frame_reference,
    fun m ρ _ => Cert.Proj.frame_reference m ρ trivial,
    trivial,
    Cert.Lru.algebraic,
    trivial,
    Cert.Ffn.algebraic,
    trivial,
    Cert.Mix.algebraic,
    trivial,
    Cert.Proj.algebraic⟩

end Cert.Proof

end
